-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Encoder (m : (ℓ : Loc Cert.Encoder.nD Cert.Encoder.τ Cert.Encoder.sig) → Buf (Elt Bits) ℓ) : Prop :=
  True

def Pre_EncoderIdeal (m : (ℓ : Loc Cert.EncoderIdeal.nD Cert.EncoderIdeal.τ Cert.EncoderIdeal.sig) → Buf (Elt Ideal) ℓ) : Prop :=
  True

def Pre_EncoderReferenceIdeal (m : (ℓ : Loc Cert.EncoderReferenceIdeal.nD Cert.EncoderReferenceIdeal.τ Cert.EncoderReferenceIdeal.sig) → Buf (Elt Ideal) ℓ) : Prop :=
  True

def Pre_Fusion (m : (ℓ : Loc Cert.Fusion.nD Cert.Fusion.τ Cert.Fusion.sig) → Buf (Elt Bits) ℓ) : Prop :=
  True

def Pre_FusionIdeal (m : (ℓ : Loc Cert.FusionIdeal.nD Cert.FusionIdeal.τ Cert.FusionIdeal.sig) → Buf (Elt Ideal) ℓ) : Prop :=
  True

def Pre_FusionReferenceIdeal (m : (ℓ : Loc Cert.FusionReferenceIdeal.nD Cert.FusionReferenceIdeal.τ Cert.FusionReferenceIdeal.sig) → Buf (Elt Ideal) ℓ) : Prop :=
  True

def Pre_Recurrence (m : (ℓ : Loc Cert.Recurrence.nD Cert.Recurrence.τ Cert.Recurrence.sig) → Buf (Elt Bits) ℓ) : Prop :=
  True

def Pre_RecurrenceIdeal (m : (ℓ : Loc Cert.RecurrenceIdeal.nD Cert.RecurrenceIdeal.τ Cert.RecurrenceIdeal.sig) → Buf (Elt Ideal) ℓ) : Prop :=
  True

def Pre_RecurrenceReferenceIdeal (m : (ℓ : Loc Cert.RecurrenceReferenceIdeal.nD Cert.RecurrenceReferenceIdeal.τ Cert.RecurrenceReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35))
      ∧ r.2.sem = fun _ => 0)

def quiescent_Encoder [hEncoder : Cert.Encoder.Facts] : Prop :=
  ∀ (m : (ℓ : Loc Cert.Encoder.nD Cert.Encoder.τ Cert.Encoder.sig) → Buf (Elt Bits) ℓ) (g : Dev Cert.Encoder.nD → PrngReg), Pre_Encoder m →
    θ_run (Cert.Encoder.defs (F := Bits)) (onTc (τ := Cert.Encoder.τ) (Cert.Encoder.main (F := Bits))) ⟨m, fun _ => 0, g⟩ (fun r => (∀ c : Dev Cert.Encoder.nD,
      r.2.mem ((c.tc : Thread Cert.Encoder.nD Cert.Encoder.τ).loc Cert.Encoder.main_arg0) = m ((c.tc : Thread Cert.Encoder.nD Cert.Encoder.τ).loc Cert.Encoder.main_arg0)
      ∧ r.2.mem ((c.tc : Thread Cert.Encoder.nD Cert.Encoder.τ).loc Cert.Encoder.main_arg1) = m ((c.tc : Thread Cert.Encoder.nD Cert.Encoder.τ).loc Cert.Encoder.main_arg1)
      ∧ r.2.mem ((c.tc : Thread Cert.Encoder.nD Cert.Encoder.τ).loc Cert.Encoder.main_arg2) = m ((c.tc : Thread Cert.Encoder.nD Cert.Encoder.τ).loc Cert.Encoder.main_arg2)
      ∧ r.2.mem ((c.tc : Thread Cert.Encoder.nD Cert.Encoder.τ).loc Cert.Encoder.main_arg3) = m ((c.tc : Thread Cert.Encoder.nD Cert.Encoder.τ).loc Cert.Encoder.main_arg3)
      ∧ r.2.mem ((c.tc : Thread Cert.Encoder.nD Cert.Encoder.τ).loc Cert.Encoder.main_arg4) = m ((c.tc : Thread Cert.Encoder.nD Cert.Encoder.τ).loc Cert.Encoder.main_arg4)
      ∧ r.2.mem ((c.tc : Thread Cert.Encoder.nD Cert.Encoder.τ).loc Cert.Encoder.main_arg5) = m ((c.tc : Thread Cert.Encoder.nD Cert.Encoder.τ).loc Cert.Encoder.main_arg5)
      ∧ r.2.mem ((c.tc : Thread Cert.Encoder.nD Cert.Encoder.τ).loc Cert.Encoder.main_arg6) = m ((c.tc : Thread Cert.Encoder.nD Cert.Encoder.τ).loc Cert.Encoder.main_arg6)
      ∧ r.2.mem ((c.tc : Thread Cert.Encoder.nD Cert.Encoder.τ).loc Cert.Encoder.main_arg7) = m ((c.tc : Thread Cert.Encoder.nD Cert.Encoder.τ).loc Cert.Encoder.main_arg7)
      ∧ r.2.mem ((c.tc : Thread Cert.Encoder.nD Cert.Encoder.τ).loc Cert.Encoder.main_arg8) = m ((c.tc : Thread Cert.Encoder.nD Cert.Encoder.τ).loc Cert.Encoder.main_arg8)
      ∧ r.2.mem ((c.tc : Thread Cert.Encoder.nD Cert.Encoder.τ).loc Cert.Encoder.main_arg9) = m ((c.tc : Thread Cert.Encoder.nD Cert.Encoder.τ).loc Cert.Encoder.main_arg9))
      ∧ r.2.sem = fun _ => 0)

def quiescent_EncoderIdeal [hEncoderIdeal : Cert.EncoderIdeal.Facts] : Prop :=
  ∀ (m : (ℓ : Loc Cert.EncoderIdeal.nD Cert.EncoderIdeal.τ Cert.EncoderIdeal.sig) → Buf (Elt Ideal) ℓ) (g : Dev Cert.EncoderIdeal.nD → PrngReg), Pre_EncoderIdeal m →
    θ_run (Cert.EncoderIdeal.defs (F := Ideal)) (onTc (τ := Cert.EncoderIdeal.τ) (Cert.EncoderIdeal.main (F := Ideal))) ⟨m, fun _ => 0, g⟩ (fun r => (∀ c : Dev Cert.EncoderIdeal.nD,
      r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
      ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
      ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
      ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
      ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
      ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
      ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
      ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7)
      ∧ r.2.mem ((c.tc : Thread Cert.EncoderIdeal.nD Cert.EncoderIdeal.τ).loc Cert.EncoderIdeal.main_arg8) = m ((c.tc : Thread Cert.EncoderIdeal.nD Cert.EncoderIdeal.τ).loc Cert.EncoderIdeal.main_arg8)
      ∧ r.2.mem ((c.tc : Thread Cert.EncoderIdeal.nD Cert.EncoderIdeal.τ).loc Cert.EncoderIdeal.main_arg9) = m ((c.tc : Thread Cert.EncoderIdeal.nD Cert.EncoderIdeal.τ).loc Cert.EncoderIdeal.main_arg9))
      ∧ r.2.sem = fun _ => 0)

def quiescent_EncoderReferenceIdeal [hEncoderReferenceIdeal : Cert.EncoderReferenceIdeal.Facts] : Prop :=
  ∀ (m : (ℓ : Loc Cert.EncoderReferenceIdeal.nD Cert.EncoderReferenceIdeal.τ Cert.EncoderReferenceIdeal.sig) → Buf (Elt Ideal) ℓ) (g : Dev Cert.EncoderReferenceIdeal.nD → PrngReg), Pre_EncoderReferenceIdeal m →
    θ_run (Cert.EncoderReferenceIdeal.defs (F := Ideal)) (onTc (τ := Cert.EncoderReferenceIdeal.τ) (Cert.EncoderReferenceIdeal.main (F := Ideal))) ⟨m, fun _ => 0, g⟩ (fun r => (∀ c : Dev Cert.EncoderReferenceIdeal.nD,
      r.2.mem ((c.tc : Thread Cert.EncoderReferenceIdeal.nD Cert.EncoderReferenceIdeal.τ).loc Cert.EncoderReferenceIdeal.main_arg0) = m ((c.tc : Thread Cert.EncoderReferenceIdeal.nD Cert.EncoderReferenceIdeal.τ).loc Cert.EncoderReferenceIdeal.main_arg0)
      ∧ r.2.mem ((c.tc : Thread Cert.EncoderReferenceIdeal.nD Cert.EncoderReferenceIdeal.τ).loc Cert.EncoderReferenceIdeal.main_arg1) = m ((c.tc : Thread Cert.EncoderReferenceIdeal.nD Cert.EncoderReferenceIdeal.τ).loc Cert.EncoderReferenceIdeal.main_arg1)
      ∧ r.2.mem ((c.tc : Thread Cert.EncoderReferenceIdeal.nD Cert.EncoderReferenceIdeal.τ).loc Cert.EncoderReferenceIdeal.main_arg2) = m ((c.tc : Thread Cert.EncoderReferenceIdeal.nD Cert.EncoderReferenceIdeal.τ).loc Cert.EncoderReferenceIdeal.main_arg2)
      ∧ r.2.mem ((c.tc : Thread Cert.EncoderReferenceIdeal.nD Cert.EncoderReferenceIdeal.τ).loc Cert.EncoderReferenceIdeal.main_arg3) = m ((c.tc : Thread Cert.EncoderReferenceIdeal.nD Cert.EncoderReferenceIdeal.τ).loc Cert.EncoderReferenceIdeal.main_arg3)
      ∧ r.2.mem ((c.tc : Thread Cert.EncoderReferenceIdeal.nD Cert.EncoderReferenceIdeal.τ).loc Cert.EncoderReferenceIdeal.main_arg4) = m ((c.tc : Thread Cert.EncoderReferenceIdeal.nD Cert.EncoderReferenceIdeal.τ).loc Cert.EncoderReferenceIdeal.main_arg4)
      ∧ r.2.mem ((c.tc : Thread Cert.EncoderReferenceIdeal.nD Cert.EncoderReferenceIdeal.τ).loc Cert.EncoderReferenceIdeal.main_arg5) = m ((c.tc : Thread Cert.EncoderReferenceIdeal.nD Cert.EncoderReferenceIdeal.τ).loc Cert.EncoderReferenceIdeal.main_arg5)
      ∧ r.2.mem ((c.tc : Thread Cert.EncoderReferenceIdeal.nD Cert.EncoderReferenceIdeal.τ).loc Cert.EncoderReferenceIdeal.main_arg6) = m ((c.tc : Thread Cert.EncoderReferenceIdeal.nD Cert.EncoderReferenceIdeal.τ).loc Cert.EncoderReferenceIdeal.main_arg6)
      ∧ r.2.mem ((c.tc : Thread Cert.EncoderReferenceIdeal.nD Cert.EncoderReferenceIdeal.τ).loc Cert.EncoderReferenceIdeal.main_arg7) = m ((c.tc : Thread Cert.EncoderReferenceIdeal.nD Cert.EncoderReferenceIdeal.τ).loc Cert.EncoderReferenceIdeal.main_arg7)
      ∧ r.2.mem ((c.tc : Thread Cert.EncoderReferenceIdeal.nD Cert.EncoderReferenceIdeal.τ).loc Cert.EncoderReferenceIdeal.main_arg8) = m ((c.tc : Thread Cert.EncoderReferenceIdeal.nD Cert.EncoderReferenceIdeal.τ).loc Cert.EncoderReferenceIdeal.main_arg8)
      ∧ r.2.mem ((c.tc : Thread Cert.EncoderReferenceIdeal.nD Cert.EncoderReferenceIdeal.τ).loc Cert.EncoderReferenceIdeal.main_arg9) = m ((c.tc : Thread Cert.EncoderReferenceIdeal.nD Cert.EncoderReferenceIdeal.τ).loc Cert.EncoderReferenceIdeal.main_arg9))
      ∧ r.2.sem = fun _ => 0)

def quiescent_Fusion [hFusion : Cert.Fusion.Facts] : Prop :=
  ∀ (m : (ℓ : Loc Cert.Fusion.nD Cert.Fusion.τ Cert.Fusion.sig) → Buf (Elt Bits) ℓ) (g : Dev Cert.Fusion.nD → PrngReg), Pre_Fusion m →
    θ_run (Cert.Fusion.defs (F := Bits)) (onTc (τ := Cert.Fusion.τ) (Cert.Fusion.main (F := Bits))) ⟨m, fun _ => 0, g⟩ (fun r => (∀ c : Dev Cert.Fusion.nD,
      r.2.mem ((c.tc : Thread Cert.Fusion.nD Cert.Fusion.τ).loc Cert.Fusion.main_arg0) = m ((c.tc : Thread Cert.Fusion.nD Cert.Fusion.τ).loc Cert.Fusion.main_arg0)
      ∧ r.2.mem ((c.tc : Thread Cert.Fusion.nD Cert.Fusion.τ).loc Cert.Fusion.main_arg1) = m ((c.tc : Thread Cert.Fusion.nD Cert.Fusion.τ).loc Cert.Fusion.main_arg1)
      ∧ r.2.mem ((c.tc : Thread Cert.Fusion.nD Cert.Fusion.τ).loc Cert.Fusion.main_arg2) = m ((c.tc : Thread Cert.Fusion.nD Cert.Fusion.τ).loc Cert.Fusion.main_arg2)
      ∧ r.2.mem ((c.tc : Thread Cert.Fusion.nD Cert.Fusion.τ).loc Cert.Fusion.main_arg3) = m ((c.tc : Thread Cert.Fusion.nD Cert.Fusion.τ).loc Cert.Fusion.main_arg3)
      ∧ r.2.mem ((c.tc : Thread Cert.Fusion.nD Cert.Fusion.τ).loc Cert.Fusion.main_arg4) = m ((c.tc : Thread Cert.Fusion.nD Cert.Fusion.τ).loc Cert.Fusion.main_arg4)
      ∧ r.2.mem ((c.tc : Thread Cert.Fusion.nD Cert.Fusion.τ).loc Cert.Fusion.main_arg5) = m ((c.tc : Thread Cert.Fusion.nD Cert.Fusion.τ).loc Cert.Fusion.main_arg5)
      ∧ r.2.mem ((c.tc : Thread Cert.Fusion.nD Cert.Fusion.τ).loc Cert.Fusion.main_arg6) = m ((c.tc : Thread Cert.Fusion.nD Cert.Fusion.τ).loc Cert.Fusion.main_arg6)
      ∧ r.2.mem ((c.tc : Thread Cert.Fusion.nD Cert.Fusion.τ).loc Cert.Fusion.main_arg7) = m ((c.tc : Thread Cert.Fusion.nD Cert.Fusion.τ).loc Cert.Fusion.main_arg7)
      ∧ r.2.mem ((c.tc : Thread Cert.Fusion.nD Cert.Fusion.τ).loc Cert.Fusion.main_arg8) = m ((c.tc : Thread Cert.Fusion.nD Cert.Fusion.τ).loc Cert.Fusion.main_arg8))
      ∧ r.2.sem = fun _ => 0)

def quiescent_FusionIdeal [hFusionIdeal : Cert.FusionIdeal.Facts] : Prop :=
  ∀ (m : (ℓ : Loc Cert.FusionIdeal.nD Cert.FusionIdeal.τ Cert.FusionIdeal.sig) → Buf (Elt Ideal) ℓ) (g : Dev Cert.FusionIdeal.nD → PrngReg), Pre_FusionIdeal m →
    θ_run (Cert.FusionIdeal.defs (F := Ideal)) (onTc (τ := Cert.FusionIdeal.τ) (Cert.FusionIdeal.main (F := Ideal))) ⟨m, fun _ => 0, g⟩ (fun r => (∀ c : Dev Cert.FusionIdeal.nD,
      r.2.mem ((c.tc : Thread Cert.FusionIdeal.nD Cert.FusionIdeal.τ).loc Cert.FusionIdeal.main_arg0) = m ((c.tc : Thread Cert.FusionIdeal.nD Cert.FusionIdeal.τ).loc Cert.FusionIdeal.main_arg0)
      ∧ r.2.mem ((c.tc : Thread Cert.FusionIdeal.nD Cert.FusionIdeal.τ).loc Cert.FusionIdeal.main_arg1) = m ((c.tc : Thread Cert.FusionIdeal.nD Cert.FusionIdeal.τ).loc Cert.FusionIdeal.main_arg1)
      ∧ r.2.mem ((c.tc : Thread Cert.FusionIdeal.nD Cert.FusionIdeal.τ).loc Cert.FusionIdeal.main_arg2) = m ((c.tc : Thread Cert.FusionIdeal.nD Cert.FusionIdeal.τ).loc Cert.FusionIdeal.main_arg2)
      ∧ r.2.mem ((c.tc : Thread Cert.FusionIdeal.nD Cert.FusionIdeal.τ).loc Cert.FusionIdeal.main_arg3) = m ((c.tc : Thread Cert.FusionIdeal.nD Cert.FusionIdeal.τ).loc Cert.FusionIdeal.main_arg3)
      ∧ r.2.mem ((c.tc : Thread Cert.FusionIdeal.nD Cert.FusionIdeal.τ).loc Cert.FusionIdeal.main_arg4) = m ((c.tc : Thread Cert.FusionIdeal.nD Cert.FusionIdeal.τ).loc Cert.FusionIdeal.main_arg4)
      ∧ r.2.mem ((c.tc : Thread Cert.FusionIdeal.nD Cert.FusionIdeal.τ).loc Cert.FusionIdeal.main_arg5) = m ((c.tc : Thread Cert.FusionIdeal.nD Cert.FusionIdeal.τ).loc Cert.FusionIdeal.main_arg5)
      ∧ r.2.mem ((c.tc : Thread Cert.FusionIdeal.nD Cert.FusionIdeal.τ).loc Cert.FusionIdeal.main_arg6) = m ((c.tc : Thread Cert.FusionIdeal.nD Cert.FusionIdeal.τ).loc Cert.FusionIdeal.main_arg6)
      ∧ r.2.mem ((c.tc : Thread Cert.FusionIdeal.nD Cert.FusionIdeal.τ).loc Cert.FusionIdeal.main_arg7) = m ((c.tc : Thread Cert.FusionIdeal.nD Cert.FusionIdeal.τ).loc Cert.FusionIdeal.main_arg7)
      ∧ r.2.mem ((c.tc : Thread Cert.FusionIdeal.nD Cert.FusionIdeal.τ).loc Cert.FusionIdeal.main_arg8) = m ((c.tc : Thread Cert.FusionIdeal.nD Cert.FusionIdeal.τ).loc Cert.FusionIdeal.main_arg8))
      ∧ r.2.sem = fun _ => 0)

def quiescent_FusionReferenceIdeal [hFusionReferenceIdeal : Cert.FusionReferenceIdeal.Facts] : Prop :=
  ∀ (m : (ℓ : Loc Cert.FusionReferenceIdeal.nD Cert.FusionReferenceIdeal.τ Cert.FusionReferenceIdeal.sig) → Buf (Elt Ideal) ℓ) (g : Dev Cert.FusionReferenceIdeal.nD → PrngReg), Pre_FusionReferenceIdeal m →
    θ_run (Cert.FusionReferenceIdeal.defs (F := Ideal)) (onTc (τ := Cert.FusionReferenceIdeal.τ) (Cert.FusionReferenceIdeal.main (F := Ideal))) ⟨m, fun _ => 0, g⟩ (fun r => (∀ c : Dev Cert.FusionReferenceIdeal.nD,
      r.2.mem ((c.tc : Thread Cert.FusionReferenceIdeal.nD Cert.FusionReferenceIdeal.τ).loc Cert.FusionReferenceIdeal.main_arg0) = m ((c.tc : Thread Cert.FusionReferenceIdeal.nD Cert.FusionReferenceIdeal.τ).loc Cert.FusionReferenceIdeal.main_arg0)
      ∧ r.2.mem ((c.tc : Thread Cert.FusionReferenceIdeal.nD Cert.FusionReferenceIdeal.τ).loc Cert.FusionReferenceIdeal.main_arg1) = m ((c.tc : Thread Cert.FusionReferenceIdeal.nD Cert.FusionReferenceIdeal.τ).loc Cert.FusionReferenceIdeal.main_arg1)
      ∧ r.2.mem ((c.tc : Thread Cert.FusionReferenceIdeal.nD Cert.FusionReferenceIdeal.τ).loc Cert.FusionReferenceIdeal.main_arg2) = m ((c.tc : Thread Cert.FusionReferenceIdeal.nD Cert.FusionReferenceIdeal.τ).loc Cert.FusionReferenceIdeal.main_arg2)
      ∧ r.2.mem ((c.tc : Thread Cert.FusionReferenceIdeal.nD Cert.FusionReferenceIdeal.τ).loc Cert.FusionReferenceIdeal.main_arg3) = m ((c.tc : Thread Cert.FusionReferenceIdeal.nD Cert.FusionReferenceIdeal.τ).loc Cert.FusionReferenceIdeal.main_arg3)
      ∧ r.2.mem ((c.tc : Thread Cert.FusionReferenceIdeal.nD Cert.FusionReferenceIdeal.τ).loc Cert.FusionReferenceIdeal.main_arg4) = m ((c.tc : Thread Cert.FusionReferenceIdeal.nD Cert.FusionReferenceIdeal.τ).loc Cert.FusionReferenceIdeal.main_arg4)
      ∧ r.2.mem ((c.tc : Thread Cert.FusionReferenceIdeal.nD Cert.FusionReferenceIdeal.τ).loc Cert.FusionReferenceIdeal.main_arg5) = m ((c.tc : Thread Cert.FusionReferenceIdeal.nD Cert.FusionReferenceIdeal.τ).loc Cert.FusionReferenceIdeal.main_arg5)
      ∧ r.2.mem ((c.tc : Thread Cert.FusionReferenceIdeal.nD Cert.FusionReferenceIdeal.τ).loc Cert.FusionReferenceIdeal.main_arg6) = m ((c.tc : Thread Cert.FusionReferenceIdeal.nD Cert.FusionReferenceIdeal.τ).loc Cert.FusionReferenceIdeal.main_arg6)
      ∧ r.2.mem ((c.tc : Thread Cert.FusionReferenceIdeal.nD Cert.FusionReferenceIdeal.τ).loc Cert.FusionReferenceIdeal.main_arg7) = m ((c.tc : Thread Cert.FusionReferenceIdeal.nD Cert.FusionReferenceIdeal.τ).loc Cert.FusionReferenceIdeal.main_arg7)
      ∧ r.2.mem ((c.tc : Thread Cert.FusionReferenceIdeal.nD Cert.FusionReferenceIdeal.τ).loc Cert.FusionReferenceIdeal.main_arg8) = m ((c.tc : Thread Cert.FusionReferenceIdeal.nD Cert.FusionReferenceIdeal.τ).loc Cert.FusionReferenceIdeal.main_arg8))
      ∧ r.2.sem = fun _ => 0)

def quiescent_Recurrence [hRecurrence : Cert.Recurrence.Facts] : Prop :=
  ∀ (m : (ℓ : Loc Cert.Recurrence.nD Cert.Recurrence.τ Cert.Recurrence.sig) → Buf (Elt Bits) ℓ) (g : Dev Cert.Recurrence.nD → PrngReg), Pre_Recurrence m →
    θ_run (Cert.Recurrence.defs (F := Bits)) (onTc (τ := Cert.Recurrence.τ) (Cert.Recurrence.main (F := Bits))) ⟨m, fun _ => 0, g⟩ (fun r => (∀ c : Dev Cert.Recurrence.nD,
      r.2.mem ((c.tc : Thread Cert.Recurrence.nD Cert.Recurrence.τ).loc Cert.Recurrence.main_arg0) = m ((c.tc : Thread Cert.Recurrence.nD Cert.Recurrence.τ).loc Cert.Recurrence.main_arg0)
      ∧ r.2.mem ((c.tc : Thread Cert.Recurrence.nD Cert.Recurrence.τ).loc Cert.Recurrence.main_arg1) = m ((c.tc : Thread Cert.Recurrence.nD Cert.Recurrence.τ).loc Cert.Recurrence.main_arg1)
      ∧ r.2.mem ((c.tc : Thread Cert.Recurrence.nD Cert.Recurrence.τ).loc Cert.Recurrence.main_arg2) = m ((c.tc : Thread Cert.Recurrence.nD Cert.Recurrence.τ).loc Cert.Recurrence.main_arg2)
      ∧ r.2.mem ((c.tc : Thread Cert.Recurrence.nD Cert.Recurrence.τ).loc Cert.Recurrence.main_arg3) = m ((c.tc : Thread Cert.Recurrence.nD Cert.Recurrence.τ).loc Cert.Recurrence.main_arg3)
      ∧ r.2.mem ((c.tc : Thread Cert.Recurrence.nD Cert.Recurrence.τ).loc Cert.Recurrence.main_arg4) = m ((c.tc : Thread Cert.Recurrence.nD Cert.Recurrence.τ).loc Cert.Recurrence.main_arg4)
      ∧ r.2.mem ((c.tc : Thread Cert.Recurrence.nD Cert.Recurrence.τ).loc Cert.Recurrence.main_arg5) = m ((c.tc : Thread Cert.Recurrence.nD Cert.Recurrence.τ).loc Cert.Recurrence.main_arg5)
      ∧ r.2.mem ((c.tc : Thread Cert.Recurrence.nD Cert.Recurrence.τ).loc Cert.Recurrence.main_arg6) = m ((c.tc : Thread Cert.Recurrence.nD Cert.Recurrence.τ).loc Cert.Recurrence.main_arg6))
      ∧ r.2.sem = fun _ => 0)

def quiescent_RecurrenceIdeal [hRecurrenceIdeal : Cert.RecurrenceIdeal.Facts] : Prop :=
  ∀ (m : (ℓ : Loc Cert.RecurrenceIdeal.nD Cert.RecurrenceIdeal.τ Cert.RecurrenceIdeal.sig) → Buf (Elt Ideal) ℓ) (g : Dev Cert.RecurrenceIdeal.nD → PrngReg), Pre_RecurrenceIdeal m →
    θ_run (Cert.RecurrenceIdeal.defs (F := Ideal)) (onTc (τ := Cert.RecurrenceIdeal.τ) (Cert.RecurrenceIdeal.main (F := Ideal))) ⟨m, fun _ => 0, g⟩ (fun r => (∀ c : Dev Cert.RecurrenceIdeal.nD,
      r.2.mem ((c.tc : Thread Cert.RecurrenceIdeal.nD Cert.RecurrenceIdeal.τ).loc Cert.RecurrenceIdeal.main_arg0) = m ((c.tc : Thread Cert.RecurrenceIdeal.nD Cert.RecurrenceIdeal.τ).loc Cert.RecurrenceIdeal.main_arg0)
      ∧ r.2.mem ((c.tc : Thread Cert.RecurrenceIdeal.nD Cert.RecurrenceIdeal.τ).loc Cert.RecurrenceIdeal.main_arg1) = m ((c.tc : Thread Cert.RecurrenceIdeal.nD Cert.RecurrenceIdeal.τ).loc Cert.RecurrenceIdeal.main_arg1)
      ∧ r.2.mem ((c.tc : Thread Cert.RecurrenceIdeal.nD Cert.RecurrenceIdeal.τ).loc Cert.RecurrenceIdeal.main_arg2) = m ((c.tc : Thread Cert.RecurrenceIdeal.nD Cert.RecurrenceIdeal.τ).loc Cert.RecurrenceIdeal.main_arg2)
      ∧ r.2.mem ((c.tc : Thread Cert.RecurrenceIdeal.nD Cert.RecurrenceIdeal.τ).loc Cert.RecurrenceIdeal.main_arg3) = m ((c.tc : Thread Cert.RecurrenceIdeal.nD Cert.RecurrenceIdeal.τ).loc Cert.RecurrenceIdeal.main_arg3)
      ∧ r.2.mem ((c.tc : Thread Cert.RecurrenceIdeal.nD Cert.RecurrenceIdeal.τ).loc Cert.RecurrenceIdeal.main_arg4) = m ((c.tc : Thread Cert.RecurrenceIdeal.nD Cert.RecurrenceIdeal.τ).loc Cert.RecurrenceIdeal.main_arg4)
      ∧ r.2.mem ((c.tc : Thread Cert.RecurrenceIdeal.nD Cert.RecurrenceIdeal.τ).loc Cert.RecurrenceIdeal.main_arg5) = m ((c.tc : Thread Cert.RecurrenceIdeal.nD Cert.RecurrenceIdeal.τ).loc Cert.RecurrenceIdeal.main_arg5)
      ∧ r.2.mem ((c.tc : Thread Cert.RecurrenceIdeal.nD Cert.RecurrenceIdeal.τ).loc Cert.RecurrenceIdeal.main_arg6) = m ((c.tc : Thread Cert.RecurrenceIdeal.nD Cert.RecurrenceIdeal.τ).loc Cert.RecurrenceIdeal.main_arg6))
      ∧ r.2.sem = fun _ => 0)

def quiescent_RecurrenceReferenceIdeal [hRecurrenceReferenceIdeal : Cert.RecurrenceReferenceIdeal.Facts] : Prop :=
  ∀ (m : (ℓ : Loc Cert.RecurrenceReferenceIdeal.nD Cert.RecurrenceReferenceIdeal.τ Cert.RecurrenceReferenceIdeal.sig) → Buf (Elt Ideal) ℓ) (g : Dev Cert.RecurrenceReferenceIdeal.nD → PrngReg), Pre_RecurrenceReferenceIdeal m →
    θ_run (Cert.RecurrenceReferenceIdeal.defs (F := Ideal)) (onTc (τ := Cert.RecurrenceReferenceIdeal.τ) (Cert.RecurrenceReferenceIdeal.main (F := Ideal))) ⟨m, fun _ => 0, g⟩ (fun r => (∀ c : Dev Cert.RecurrenceReferenceIdeal.nD,
      r.2.mem ((c.tc : Thread Cert.RecurrenceReferenceIdeal.nD Cert.RecurrenceReferenceIdeal.τ).loc Cert.RecurrenceReferenceIdeal.main_arg0) = m ((c.tc : Thread Cert.RecurrenceReferenceIdeal.nD Cert.RecurrenceReferenceIdeal.τ).loc Cert.RecurrenceReferenceIdeal.main_arg0)
      ∧ r.2.mem ((c.tc : Thread Cert.RecurrenceReferenceIdeal.nD Cert.RecurrenceReferenceIdeal.τ).loc Cert.RecurrenceReferenceIdeal.main_arg1) = m ((c.tc : Thread Cert.RecurrenceReferenceIdeal.nD Cert.RecurrenceReferenceIdeal.τ).loc Cert.RecurrenceReferenceIdeal.main_arg1)
      ∧ r.2.mem ((c.tc : Thread Cert.RecurrenceReferenceIdeal.nD Cert.RecurrenceReferenceIdeal.τ).loc Cert.RecurrenceReferenceIdeal.main_arg2) = m ((c.tc : Thread Cert.RecurrenceReferenceIdeal.nD Cert.RecurrenceReferenceIdeal.τ).loc Cert.RecurrenceReferenceIdeal.main_arg2)
      ∧ r.2.mem ((c.tc : Thread Cert.RecurrenceReferenceIdeal.nD Cert.RecurrenceReferenceIdeal.τ).loc Cert.RecurrenceReferenceIdeal.main_arg3) = m ((c.tc : Thread Cert.RecurrenceReferenceIdeal.nD Cert.RecurrenceReferenceIdeal.τ).loc Cert.RecurrenceReferenceIdeal.main_arg3)
      ∧ r.2.mem ((c.tc : Thread Cert.RecurrenceReferenceIdeal.nD Cert.RecurrenceReferenceIdeal.τ).loc Cert.RecurrenceReferenceIdeal.main_arg4) = m ((c.tc : Thread Cert.RecurrenceReferenceIdeal.nD Cert.RecurrenceReferenceIdeal.τ).loc Cert.RecurrenceReferenceIdeal.main_arg4)
      ∧ r.2.mem ((c.tc : Thread Cert.RecurrenceReferenceIdeal.nD Cert.RecurrenceReferenceIdeal.τ).loc Cert.RecurrenceReferenceIdeal.main_arg5) = m ((c.tc : Thread Cert.RecurrenceReferenceIdeal.nD Cert.RecurrenceReferenceIdeal.τ).loc Cert.RecurrenceReferenceIdeal.main_arg5)
      ∧ r.2.mem ((c.tc : Thread Cert.RecurrenceReferenceIdeal.nD Cert.RecurrenceReferenceIdeal.τ).loc Cert.RecurrenceReferenceIdeal.main_arg6) = m ((c.tc : Thread Cert.RecurrenceReferenceIdeal.nD Cert.RecurrenceReferenceIdeal.τ).loc Cert.RecurrenceReferenceIdeal.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "tenth" .f32 0x3DCCCCCD#32 ((10⁻¹ : ℝ) : EReal)

def preserves_Encoder_EncoderIdeal : Prop :=
  True

def algebraic_EncoderIdeal_EncoderReferenceIdeal [hEncoderIdeal : Cert.EncoderIdeal.Facts] [hEncoderReferenceIdeal : Cert.EncoderReferenceIdeal.Facts] : Prop :=
  ∀ (m : (ℓ : Loc Cert.EncoderIdeal.nD Cert.EncoderIdeal.τ Cert.EncoderIdeal.sig) → Buf (Elt Ideal) ℓ) (g : Dev Cert.EncoderIdeal.nD → PrngReg)
    (m' : (ℓ : Loc Cert.EncoderReferenceIdeal.nD Cert.EncoderReferenceIdeal.τ Cert.EncoderReferenceIdeal.sig) → Buf (Elt Ideal) ℓ) (g' : Dev Cert.EncoderReferenceIdeal.nD → PrngReg), Pre_EncoderIdeal m →
    (∀ c : Dev Cert.EncoderIdeal.nD,
      m' ((c.tc : Thread Cert.EncoderReferenceIdeal.nD Cert.EncoderReferenceIdeal.τ).loc Cert.EncoderReferenceIdeal.main_arg0) = m ((c.tc : Thread Cert.EncoderIdeal.nD Cert.EncoderIdeal.τ).loc Cert.EncoderIdeal.main_arg0)
      ∧ m' ((c.tc : Thread Cert.EncoderReferenceIdeal.nD Cert.EncoderReferenceIdeal.τ).loc Cert.EncoderReferenceIdeal.main_arg1) = m ((c.tc : Thread Cert.EncoderIdeal.nD Cert.EncoderIdeal.τ).loc Cert.EncoderIdeal.main_arg1)
      ∧ m' ((c.tc : Thread Cert.EncoderReferenceIdeal.nD Cert.EncoderReferenceIdeal.τ).loc Cert.EncoderReferenceIdeal.main_arg2) = m ((c.tc : Thread Cert.EncoderIdeal.nD Cert.EncoderIdeal.τ).loc Cert.EncoderIdeal.main_arg2)
      ∧ m' ((c.tc : Thread Cert.EncoderReferenceIdeal.nD Cert.EncoderReferenceIdeal.τ).loc Cert.EncoderReferenceIdeal.main_arg3) = m ((c.tc : Thread Cert.EncoderIdeal.nD Cert.EncoderIdeal.τ).loc Cert.EncoderIdeal.main_arg3)
      ∧ m' ((c.tc : Thread Cert.EncoderReferenceIdeal.nD Cert.EncoderReferenceIdeal.τ).loc Cert.EncoderReferenceIdeal.main_arg4) = m ((c.tc : Thread Cert.EncoderIdeal.nD Cert.EncoderIdeal.τ).loc Cert.EncoderIdeal.main_arg4)
      ∧ m' ((c.tc : Thread Cert.EncoderReferenceIdeal.nD Cert.EncoderReferenceIdeal.τ).loc Cert.EncoderReferenceIdeal.main_arg5) = m ((c.tc : Thread Cert.EncoderIdeal.nD Cert.EncoderIdeal.τ).loc Cert.EncoderIdeal.main_arg5)
      ∧ m' ((c.tc : Thread Cert.EncoderReferenceIdeal.nD Cert.EncoderReferenceIdeal.τ).loc Cert.EncoderReferenceIdeal.main_arg6) = m ((c.tc : Thread Cert.EncoderIdeal.nD Cert.EncoderIdeal.τ).loc Cert.EncoderIdeal.main_arg6)
      ∧ m' ((c.tc : Thread Cert.EncoderReferenceIdeal.nD Cert.EncoderReferenceIdeal.τ).loc Cert.EncoderReferenceIdeal.main_arg7) = m ((c.tc : Thread Cert.EncoderIdeal.nD Cert.EncoderIdeal.τ).loc Cert.EncoderIdeal.main_arg7)
      ∧ m' ((c.tc : Thread Cert.EncoderReferenceIdeal.nD Cert.EncoderReferenceIdeal.τ).loc Cert.EncoderReferenceIdeal.main_arg8) = m ((c.tc : Thread Cert.EncoderIdeal.nD Cert.EncoderIdeal.τ).loc Cert.EncoderIdeal.main_arg8)
      ∧ m' ((c.tc : Thread Cert.EncoderReferenceIdeal.nD Cert.EncoderReferenceIdeal.τ).loc Cert.EncoderReferenceIdeal.main_arg9) = m ((c.tc : Thread Cert.EncoderIdeal.nD Cert.EncoderIdeal.τ).loc Cert.EncoderIdeal.main_arg9)) →
    ∃ (v0 : (c : Dev Cert.EncoderIdeal.nD) → Buf (Elt Ideal) ((c.tc : Thread Cert.EncoderIdeal.nD Cert.EncoderIdeal.τ).loc Cert.EncoderIdeal.main_v9)),
      θ_run (Cert.EncoderIdeal.defs (F := Ideal)) (onTc (τ := Cert.EncoderIdeal.τ) (Cert.EncoderIdeal.main (F := Ideal))) ⟨m, fun _ => 0, g⟩ (fun r => ∀ c : Dev Cert.EncoderIdeal.nD,
          r.2.mem ((c.tc : Thread Cert.EncoderIdeal.nD Cert.EncoderIdeal.τ).loc Cert.EncoderIdeal.main_v9) = v0 c
          ∧ r.2.mem ((c.tc : Thread Cert.EncoderIdeal.nD Cert.EncoderIdeal.τ).loc Cert.EncoderIdeal.main_arg0) = m ((c.tc : Thread Cert.EncoderIdeal.nD Cert.EncoderIdeal.τ).loc Cert.EncoderIdeal.main_arg0)
          ∧ r.2.mem ((c.tc : Thread Cert.EncoderIdeal.nD Cert.EncoderIdeal.τ).loc Cert.EncoderIdeal.main_arg1) = m ((c.tc : Thread Cert.EncoderIdeal.nD Cert.EncoderIdeal.τ).loc Cert.EncoderIdeal.main_arg1)
          ∧ r.2.mem ((c.tc : Thread Cert.EncoderIdeal.nD Cert.EncoderIdeal.τ).loc Cert.EncoderIdeal.main_arg2) = m ((c.tc : Thread Cert.EncoderIdeal.nD Cert.EncoderIdeal.τ).loc Cert.EncoderIdeal.main_arg2)
          ∧ r.2.mem ((c.tc : Thread Cert.EncoderIdeal.nD Cert.EncoderIdeal.τ).loc Cert.EncoderIdeal.main_arg3) = m ((c.tc : Thread Cert.EncoderIdeal.nD Cert.EncoderIdeal.τ).loc Cert.EncoderIdeal.main_arg3)
          ∧ r.2.mem ((c.tc : Thread Cert.EncoderIdeal.nD Cert.EncoderIdeal.τ).loc Cert.EncoderIdeal.main_arg4) = m ((c.tc : Thread Cert.EncoderIdeal.nD Cert.EncoderIdeal.τ).loc Cert.EncoderIdeal.main_arg4)
          ∧ r.2.mem ((c.tc : Thread Cert.EncoderIdeal.nD Cert.EncoderIdeal.τ).loc Cert.EncoderIdeal.main_arg5) = m ((c.tc : Thread Cert.EncoderIdeal.nD Cert.EncoderIdeal.τ).loc Cert.EncoderIdeal.main_arg5)
          ∧ r.2.mem ((c.tc : Thread Cert.EncoderIdeal.nD Cert.EncoderIdeal.τ).loc Cert.EncoderIdeal.main_arg6) = m ((c.tc : Thread Cert.EncoderIdeal.nD Cert.EncoderIdeal.τ).loc Cert.EncoderIdeal.main_arg6)
          ∧ r.2.mem ((c.tc : Thread Cert.EncoderIdeal.nD Cert.EncoderIdeal.τ).loc Cert.EncoderIdeal.main_arg7) = m ((c.tc : Thread Cert.EncoderIdeal.nD Cert.EncoderIdeal.τ).loc Cert.EncoderIdeal.main_arg7)
          ∧ r.2.mem ((c.tc : Thread Cert.EncoderIdeal.nD Cert.EncoderIdeal.τ).loc Cert.EncoderIdeal.main_arg8) = m ((c.tc : Thread Cert.EncoderIdeal.nD Cert.EncoderIdeal.τ).loc Cert.EncoderIdeal.main_arg8)
          ∧ r.2.mem ((c.tc : Thread Cert.EncoderIdeal.nD Cert.EncoderIdeal.τ).loc Cert.EncoderIdeal.main_arg9) = m ((c.tc : Thread Cert.EncoderIdeal.nD Cert.EncoderIdeal.τ).loc Cert.EncoderIdeal.main_arg9))
      ∧ θ_run (Cert.EncoderReferenceIdeal.defs (F := Ideal)) (onTc (τ := Cert.EncoderReferenceIdeal.τ) (Cert.EncoderReferenceIdeal.main (F := Ideal))) ⟨m', fun _ => 0, g'⟩ (fun r => ∀ c : Dev Cert.EncoderReferenceIdeal.nD,
          r.2.mem ((c.tc : Thread Cert.EncoderReferenceIdeal.nD Cert.EncoderReferenceIdeal.τ).loc Cert.EncoderReferenceIdeal.main_v33) = v0 c
          ∧ r.2.mem ((c.tc : Thread Cert.EncoderReferenceIdeal.nD Cert.EncoderReferenceIdeal.τ).loc Cert.EncoderReferenceIdeal.main_arg0) = m' ((c.tc : Thread Cert.EncoderReferenceIdeal.nD Cert.EncoderReferenceIdeal.τ).loc Cert.EncoderReferenceIdeal.main_arg0)
          ∧ r.2.mem ((c.tc : Thread Cert.EncoderReferenceIdeal.nD Cert.EncoderReferenceIdeal.τ).loc Cert.EncoderReferenceIdeal.main_arg1) = m' ((c.tc : Thread Cert.EncoderReferenceIdeal.nD Cert.EncoderReferenceIdeal.τ).loc Cert.EncoderReferenceIdeal.main_arg1)
          ∧ r.2.mem ((c.tc : Thread Cert.EncoderReferenceIdeal.nD Cert.EncoderReferenceIdeal.τ).loc Cert.EncoderReferenceIdeal.main_arg2) = m' ((c.tc : Thread Cert.EncoderReferenceIdeal.nD Cert.EncoderReferenceIdeal.τ).loc Cert.EncoderReferenceIdeal.main_arg2)
          ∧ r.2.mem ((c.tc : Thread Cert.EncoderReferenceIdeal.nD Cert.EncoderReferenceIdeal.τ).loc Cert.EncoderReferenceIdeal.main_arg3) = m' ((c.tc : Thread Cert.EncoderReferenceIdeal.nD Cert.EncoderReferenceIdeal.τ).loc Cert.EncoderReferenceIdeal.main_arg3)
          ∧ r.2.mem ((c.tc : Thread Cert.EncoderReferenceIdeal.nD Cert.EncoderReferenceIdeal.τ).loc Cert.EncoderReferenceIdeal.main_arg4) = m' ((c.tc : Thread Cert.EncoderReferenceIdeal.nD Cert.EncoderReferenceIdeal.τ).loc Cert.EncoderReferenceIdeal.main_arg4)
          ∧ r.2.mem ((c.tc : Thread Cert.EncoderReferenceIdeal.nD Cert.EncoderReferenceIdeal.τ).loc Cert.EncoderReferenceIdeal.main_arg5) = m' ((c.tc : Thread Cert.EncoderReferenceIdeal.nD Cert.EncoderReferenceIdeal.τ).loc Cert.EncoderReferenceIdeal.main_arg5)
          ∧ r.2.mem ((c.tc : Thread Cert.EncoderReferenceIdeal.nD Cert.EncoderReferenceIdeal.τ).loc Cert.EncoderReferenceIdeal.main_arg6) = m' ((c.tc : Thread Cert.EncoderReferenceIdeal.nD Cert.EncoderReferenceIdeal.τ).loc Cert.EncoderReferenceIdeal.main_arg6)
          ∧ r.2.mem ((c.tc : Thread Cert.EncoderReferenceIdeal.nD Cert.EncoderReferenceIdeal.τ).loc Cert.EncoderReferenceIdeal.main_arg7) = m' ((c.tc : Thread Cert.EncoderReferenceIdeal.nD Cert.EncoderReferenceIdeal.τ).loc Cert.EncoderReferenceIdeal.main_arg7)
          ∧ r.2.mem ((c.tc : Thread Cert.EncoderReferenceIdeal.nD Cert.EncoderReferenceIdeal.τ).loc Cert.EncoderReferenceIdeal.main_arg8) = m' ((c.tc : Thread Cert.EncoderReferenceIdeal.nD Cert.EncoderReferenceIdeal.τ).loc Cert.EncoderReferenceIdeal.main_arg8)
          ∧ r.2.mem ((c.tc : Thread Cert.EncoderReferenceIdeal.nD Cert.EncoderReferenceIdeal.τ).loc Cert.EncoderReferenceIdeal.main_arg9) = m' ((c.tc : Thread Cert.EncoderReferenceIdeal.nD Cert.EncoderReferenceIdeal.τ).loc Cert.EncoderReferenceIdeal.main_arg9))

def preserves_Fusion_FusionIdeal : Prop :=
  True

def algebraic_FusionIdeal_FusionReferenceIdeal [hFusionIdeal : Cert.FusionIdeal.Facts] [hFusionReferenceIdeal : Cert.FusionReferenceIdeal.Facts] : Prop :=
  ∀ (m : (ℓ : Loc Cert.FusionIdeal.nD Cert.FusionIdeal.τ Cert.FusionIdeal.sig) → Buf (Elt Ideal) ℓ) (g : Dev Cert.FusionIdeal.nD → PrngReg)
    (m' : (ℓ : Loc Cert.FusionReferenceIdeal.nD Cert.FusionReferenceIdeal.τ Cert.FusionReferenceIdeal.sig) → Buf (Elt Ideal) ℓ) (g' : Dev Cert.FusionReferenceIdeal.nD → PrngReg), Pre_FusionIdeal m →
    (∀ c : Dev Cert.FusionIdeal.nD,
      m' ((c.tc : Thread Cert.FusionReferenceIdeal.nD Cert.FusionReferenceIdeal.τ).loc Cert.FusionReferenceIdeal.main_arg0) = m ((c.tc : Thread Cert.FusionIdeal.nD Cert.FusionIdeal.τ).loc Cert.FusionIdeal.main_arg0)
      ∧ m' ((c.tc : Thread Cert.FusionReferenceIdeal.nD Cert.FusionReferenceIdeal.τ).loc Cert.FusionReferenceIdeal.main_arg1) = m ((c.tc : Thread Cert.FusionIdeal.nD Cert.FusionIdeal.τ).loc Cert.FusionIdeal.main_arg1)
      ∧ m' ((c.tc : Thread Cert.FusionReferenceIdeal.nD Cert.FusionReferenceIdeal.τ).loc Cert.FusionReferenceIdeal.main_arg2) = m ((c.tc : Thread Cert.FusionIdeal.nD Cert.FusionIdeal.τ).loc Cert.FusionIdeal.main_arg2)
      ∧ m' ((c.tc : Thread Cert.FusionReferenceIdeal.nD Cert.FusionReferenceIdeal.τ).loc Cert.FusionReferenceIdeal.main_arg3) = m ((c.tc : Thread Cert.FusionIdeal.nD Cert.FusionIdeal.τ).loc Cert.FusionIdeal.main_arg3)
      ∧ m' ((c.tc : Thread Cert.FusionReferenceIdeal.nD Cert.FusionReferenceIdeal.τ).loc Cert.FusionReferenceIdeal.main_arg4) = m ((c.tc : Thread Cert.FusionIdeal.nD Cert.FusionIdeal.τ).loc Cert.FusionIdeal.main_arg4)
      ∧ m' ((c.tc : Thread Cert.FusionReferenceIdeal.nD Cert.FusionReferenceIdeal.τ).loc Cert.FusionReferenceIdeal.main_arg5) = m ((c.tc : Thread Cert.FusionIdeal.nD Cert.FusionIdeal.τ).loc Cert.FusionIdeal.main_arg5)
      ∧ m' ((c.tc : Thread Cert.FusionReferenceIdeal.nD Cert.FusionReferenceIdeal.τ).loc Cert.FusionReferenceIdeal.main_arg6) = m ((c.tc : Thread Cert.FusionIdeal.nD Cert.FusionIdeal.τ).loc Cert.FusionIdeal.main_arg6)
      ∧ m' ((c.tc : Thread Cert.FusionReferenceIdeal.nD Cert.FusionReferenceIdeal.τ).loc Cert.FusionReferenceIdeal.main_arg7) = m ((c.tc : Thread Cert.FusionIdeal.nD Cert.FusionIdeal.τ).loc Cert.FusionIdeal.main_arg7)
      ∧ m' ((c.tc : Thread Cert.FusionReferenceIdeal.nD Cert.FusionReferenceIdeal.τ).loc Cert.FusionReferenceIdeal.main_arg8) = m ((c.tc : Thread Cert.FusionIdeal.nD Cert.FusionIdeal.τ).loc Cert.FusionIdeal.main_arg8)) →
    ∃ (v0 : (c : Dev Cert.FusionIdeal.nD) → Buf (Elt Ideal) ((c.tc : Thread Cert.FusionIdeal.nD Cert.FusionIdeal.τ).loc Cert.FusionIdeal.main_v6_0)) (v1 : (c : Dev Cert.FusionIdeal.nD) → Buf (Elt Ideal) ((c.tc : Thread Cert.FusionIdeal.nD Cert.FusionIdeal.τ).loc Cert.FusionIdeal.main_v6_1)),
      θ_run (Cert.FusionIdeal.defs (F := Ideal)) (onTc (τ := Cert.FusionIdeal.τ) (Cert.FusionIdeal.main (F := Ideal))) ⟨m, fun _ => 0, g⟩ (fun r => ∀ c : Dev Cert.FusionIdeal.nD,
          r.2.mem ((c.tc : Thread Cert.FusionIdeal.nD Cert.FusionIdeal.τ).loc Cert.FusionIdeal.main_v6_0) = v0 c
          ∧ r.2.mem ((c.tc : Thread Cert.FusionIdeal.nD Cert.FusionIdeal.τ).loc Cert.FusionIdeal.main_v6_1) = v1 c
          ∧ r.2.mem ((c.tc : Thread Cert.FusionIdeal.nD Cert.FusionIdeal.τ).loc Cert.FusionIdeal.main_arg0) = m ((c.tc : Thread Cert.FusionIdeal.nD Cert.FusionIdeal.τ).loc Cert.FusionIdeal.main_arg0)
          ∧ r.2.mem ((c.tc : Thread Cert.FusionIdeal.nD Cert.FusionIdeal.τ).loc Cert.FusionIdeal.main_arg1) = m ((c.tc : Thread Cert.FusionIdeal.nD Cert.FusionIdeal.τ).loc Cert.FusionIdeal.main_arg1)
          ∧ r.2.mem ((c.tc : Thread Cert.FusionIdeal.nD Cert.FusionIdeal.τ).loc Cert.FusionIdeal.main_arg2) = m ((c.tc : Thread Cert.FusionIdeal.nD Cert.FusionIdeal.τ).loc Cert.FusionIdeal.main_arg2)
          ∧ r.2.mem ((c.tc : Thread Cert.FusionIdeal.nD Cert.FusionIdeal.τ).loc Cert.FusionIdeal.main_arg3) = m ((c.tc : Thread Cert.FusionIdeal.nD Cert.FusionIdeal.τ).loc Cert.FusionIdeal.main_arg3)
          ∧ r.2.mem ((c.tc : Thread Cert.FusionIdeal.nD Cert.FusionIdeal.τ).loc Cert.FusionIdeal.main_arg4) = m ((c.tc : Thread Cert.FusionIdeal.nD Cert.FusionIdeal.τ).loc Cert.FusionIdeal.main_arg4)
          ∧ r.2.mem ((c.tc : Thread Cert.FusionIdeal.nD Cert.FusionIdeal.τ).loc Cert.FusionIdeal.main_arg5) = m ((c.tc : Thread Cert.FusionIdeal.nD Cert.FusionIdeal.τ).loc Cert.FusionIdeal.main_arg5)
          ∧ r.2.mem ((c.tc : Thread Cert.FusionIdeal.nD Cert.FusionIdeal.τ).loc Cert.FusionIdeal.main_arg6) = m ((c.tc : Thread Cert.FusionIdeal.nD Cert.FusionIdeal.τ).loc Cert.FusionIdeal.main_arg6)
          ∧ r.2.mem ((c.tc : Thread Cert.FusionIdeal.nD Cert.FusionIdeal.τ).loc Cert.FusionIdeal.main_arg7) = m ((c.tc : Thread Cert.FusionIdeal.nD Cert.FusionIdeal.τ).loc Cert.FusionIdeal.main_arg7)
          ∧ r.2.mem ((c.tc : Thread Cert.FusionIdeal.nD Cert.FusionIdeal.τ).loc Cert.FusionIdeal.main_arg8) = m ((c.tc : Thread Cert.FusionIdeal.nD Cert.FusionIdeal.τ).loc Cert.FusionIdeal.main_arg8))
      ∧ θ_run (Cert.FusionReferenceIdeal.defs (F := Ideal)) (onTc (τ := Cert.FusionReferenceIdeal.τ) (Cert.FusionReferenceIdeal.main (F := Ideal))) ⟨m', fun _ => 0, g'⟩ (fun r => ∀ c : Dev Cert.FusionReferenceIdeal.nD,
          r.2.mem ((c.tc : Thread Cert.FusionReferenceIdeal.nD Cert.FusionReferenceIdeal.τ).loc Cert.FusionReferenceIdeal.main_v16) = v0 c
          ∧ r.2.mem ((c.tc : Thread Cert.FusionReferenceIdeal.nD Cert.FusionReferenceIdeal.τ).loc Cert.FusionReferenceIdeal.main_v28) = v1 c
          ∧ r.2.mem ((c.tc : Thread Cert.FusionReferenceIdeal.nD Cert.FusionReferenceIdeal.τ).loc Cert.FusionReferenceIdeal.main_arg0) = m' ((c.tc : Thread Cert.FusionReferenceIdeal.nD Cert.FusionReferenceIdeal.τ).loc Cert.FusionReferenceIdeal.main_arg0)
          ∧ r.2.mem ((c.tc : Thread Cert.FusionReferenceIdeal.nD Cert.FusionReferenceIdeal.τ).loc Cert.FusionReferenceIdeal.main_arg1) = m' ((c.tc : Thread Cert.FusionReferenceIdeal.nD Cert.FusionReferenceIdeal.τ).loc Cert.FusionReferenceIdeal.main_arg1)
          ∧ r.2.mem ((c.tc : Thread Cert.FusionReferenceIdeal.nD Cert.FusionReferenceIdeal.τ).loc Cert.FusionReferenceIdeal.main_arg2) = m' ((c.tc : Thread Cert.FusionReferenceIdeal.nD Cert.FusionReferenceIdeal.τ).loc Cert.FusionReferenceIdeal.main_arg2)
          ∧ r.2.mem ((c.tc : Thread Cert.FusionReferenceIdeal.nD Cert.FusionReferenceIdeal.τ).loc Cert.FusionReferenceIdeal.main_arg3) = m' ((c.tc : Thread Cert.FusionReferenceIdeal.nD Cert.FusionReferenceIdeal.τ).loc Cert.FusionReferenceIdeal.main_arg3)
          ∧ r.2.mem ((c.tc : Thread Cert.FusionReferenceIdeal.nD Cert.FusionReferenceIdeal.τ).loc Cert.FusionReferenceIdeal.main_arg4) = m' ((c.tc : Thread Cert.FusionReferenceIdeal.nD Cert.FusionReferenceIdeal.τ).loc Cert.FusionReferenceIdeal.main_arg4)
          ∧ r.2.mem ((c.tc : Thread Cert.FusionReferenceIdeal.nD Cert.FusionReferenceIdeal.τ).loc Cert.FusionReferenceIdeal.main_arg5) = m' ((c.tc : Thread Cert.FusionReferenceIdeal.nD Cert.FusionReferenceIdeal.τ).loc Cert.FusionReferenceIdeal.main_arg5)
          ∧ r.2.mem ((c.tc : Thread Cert.FusionReferenceIdeal.nD Cert.FusionReferenceIdeal.τ).loc Cert.FusionReferenceIdeal.main_arg6) = m' ((c.tc : Thread Cert.FusionReferenceIdeal.nD Cert.FusionReferenceIdeal.τ).loc Cert.FusionReferenceIdeal.main_arg6)
          ∧ r.2.mem ((c.tc : Thread Cert.FusionReferenceIdeal.nD Cert.FusionReferenceIdeal.τ).loc Cert.FusionReferenceIdeal.main_arg7) = m' ((c.tc : Thread Cert.FusionReferenceIdeal.nD Cert.FusionReferenceIdeal.τ).loc Cert.FusionReferenceIdeal.main_arg7)
          ∧ r.2.mem ((c.tc : Thread Cert.FusionReferenceIdeal.nD Cert.FusionReferenceIdeal.τ).loc Cert.FusionReferenceIdeal.main_arg8) = m' ((c.tc : Thread Cert.FusionReferenceIdeal.nD Cert.FusionReferenceIdeal.τ).loc Cert.FusionReferenceIdeal.main_arg8))

def preserves_Recurrence_RecurrenceIdeal : Prop :=
  True

def algebraic_RecurrenceIdeal_RecurrenceReferenceIdeal [hRecurrenceIdeal : Cert.RecurrenceIdeal.Facts] [hRecurrenceReferenceIdeal : Cert.RecurrenceReferenceIdeal.Facts] : Prop :=
  ∀ (m : (ℓ : Loc Cert.RecurrenceIdeal.nD Cert.RecurrenceIdeal.τ Cert.RecurrenceIdeal.sig) → Buf (Elt Ideal) ℓ) (g : Dev Cert.RecurrenceIdeal.nD → PrngReg)
    (m' : (ℓ : Loc Cert.RecurrenceReferenceIdeal.nD Cert.RecurrenceReferenceIdeal.τ Cert.RecurrenceReferenceIdeal.sig) → Buf (Elt Ideal) ℓ) (g' : Dev Cert.RecurrenceReferenceIdeal.nD → PrngReg), Pre_RecurrenceIdeal m →
    (∀ c : Dev Cert.RecurrenceIdeal.nD,
      m' ((c.tc : Thread Cert.RecurrenceReferenceIdeal.nD Cert.RecurrenceReferenceIdeal.τ).loc Cert.RecurrenceReferenceIdeal.main_arg0) = m ((c.tc : Thread Cert.RecurrenceIdeal.nD Cert.RecurrenceIdeal.τ).loc Cert.RecurrenceIdeal.main_arg0)
      ∧ m' ((c.tc : Thread Cert.RecurrenceReferenceIdeal.nD Cert.RecurrenceReferenceIdeal.τ).loc Cert.RecurrenceReferenceIdeal.main_arg1) = m ((c.tc : Thread Cert.RecurrenceIdeal.nD Cert.RecurrenceIdeal.τ).loc Cert.RecurrenceIdeal.main_arg1)
      ∧ m' ((c.tc : Thread Cert.RecurrenceReferenceIdeal.nD Cert.RecurrenceReferenceIdeal.τ).loc Cert.RecurrenceReferenceIdeal.main_arg2) = m ((c.tc : Thread Cert.RecurrenceIdeal.nD Cert.RecurrenceIdeal.τ).loc Cert.RecurrenceIdeal.main_arg2)
      ∧ m' ((c.tc : Thread Cert.RecurrenceReferenceIdeal.nD Cert.RecurrenceReferenceIdeal.τ).loc Cert.RecurrenceReferenceIdeal.main_arg3) = m ((c.tc : Thread Cert.RecurrenceIdeal.nD Cert.RecurrenceIdeal.τ).loc Cert.RecurrenceIdeal.main_arg3)
      ∧ m' ((c.tc : Thread Cert.RecurrenceReferenceIdeal.nD Cert.RecurrenceReferenceIdeal.τ).loc Cert.RecurrenceReferenceIdeal.main_arg4) = m ((c.tc : Thread Cert.RecurrenceIdeal.nD Cert.RecurrenceIdeal.τ).loc Cert.RecurrenceIdeal.main_arg4)
      ∧ m' ((c.tc : Thread Cert.RecurrenceReferenceIdeal.nD Cert.RecurrenceReferenceIdeal.τ).loc Cert.RecurrenceReferenceIdeal.main_arg5) = m ((c.tc : Thread Cert.RecurrenceIdeal.nD Cert.RecurrenceIdeal.τ).loc Cert.RecurrenceIdeal.main_arg5)
      ∧ m' ((c.tc : Thread Cert.RecurrenceReferenceIdeal.nD Cert.RecurrenceReferenceIdeal.τ).loc Cert.RecurrenceReferenceIdeal.main_arg6) = m ((c.tc : Thread Cert.RecurrenceIdeal.nD Cert.RecurrenceIdeal.τ).loc Cert.RecurrenceIdeal.main_arg6)) →
    ∃ (v0 : (c : Dev Cert.RecurrenceIdeal.nD) → Buf (Elt Ideal) ((c.tc : Thread Cert.RecurrenceIdeal.nD Cert.RecurrenceIdeal.τ).loc Cert.RecurrenceIdeal.main_v4)),
      θ_run (Cert.RecurrenceIdeal.defs (F := Ideal)) (onTc (τ := Cert.RecurrenceIdeal.τ) (Cert.RecurrenceIdeal.main (F := Ideal))) ⟨m, fun _ => 0, g⟩ (fun r => ∀ c : Dev Cert.RecurrenceIdeal.nD,
          r.2.mem ((c.tc : Thread Cert.RecurrenceIdeal.nD Cert.RecurrenceIdeal.τ).loc Cert.RecurrenceIdeal.main_v4) = v0 c
          ∧ r.2.mem ((c.tc : Thread Cert.RecurrenceIdeal.nD Cert.RecurrenceIdeal.τ).loc Cert.RecurrenceIdeal.main_arg0) = m ((c.tc : Thread Cert.RecurrenceIdeal.nD Cert.RecurrenceIdeal.τ).loc Cert.RecurrenceIdeal.main_arg0)
          ∧ r.2.mem ((c.tc : Thread Cert.RecurrenceIdeal.nD Cert.RecurrenceIdeal.τ).loc Cert.RecurrenceIdeal.main_arg1) = m ((c.tc : Thread Cert.RecurrenceIdeal.nD Cert.RecurrenceIdeal.τ).loc Cert.RecurrenceIdeal.main_arg1)
          ∧ r.2.mem ((c.tc : Thread Cert.RecurrenceIdeal.nD Cert.RecurrenceIdeal.τ).loc Cert.RecurrenceIdeal.main_arg2) = m ((c.tc : Thread Cert.RecurrenceIdeal.nD Cert.RecurrenceIdeal.τ).loc Cert.RecurrenceIdeal.main_arg2)
          ∧ r.2.mem ((c.tc : Thread Cert.RecurrenceIdeal.nD Cert.RecurrenceIdeal.τ).loc Cert.RecurrenceIdeal.main_arg3) = m ((c.tc : Thread Cert.RecurrenceIdeal.nD Cert.RecurrenceIdeal.τ).loc Cert.RecurrenceIdeal.main_arg3)
          ∧ r.2.mem ((c.tc : Thread Cert.RecurrenceIdeal.nD Cert.RecurrenceIdeal.τ).loc Cert.RecurrenceIdeal.main_arg4) = m ((c.tc : Thread Cert.RecurrenceIdeal.nD Cert.RecurrenceIdeal.τ).loc Cert.RecurrenceIdeal.main_arg4)
          ∧ r.2.mem ((c.tc : Thread Cert.RecurrenceIdeal.nD Cert.RecurrenceIdeal.τ).loc Cert.RecurrenceIdeal.main_arg5) = m ((c.tc : Thread Cert.RecurrenceIdeal.nD Cert.RecurrenceIdeal.τ).loc Cert.RecurrenceIdeal.main_arg5)
          ∧ r.2.mem ((c.tc : Thread Cert.RecurrenceIdeal.nD Cert.RecurrenceIdeal.τ).loc Cert.RecurrenceIdeal.main_arg6) = m ((c.tc : Thread Cert.RecurrenceIdeal.nD Cert.RecurrenceIdeal.τ).loc Cert.RecurrenceIdeal.main_arg6))
      ∧ θ_run (Cert.RecurrenceReferenceIdeal.defs (F := Ideal)) (onTc (τ := Cert.RecurrenceReferenceIdeal.τ) (Cert.RecurrenceReferenceIdeal.main (F := Ideal))) ⟨m', fun _ => 0, g'⟩ (fun r => ∀ c : Dev Cert.RecurrenceReferenceIdeal.nD,
          r.2.mem ((c.tc : Thread Cert.RecurrenceReferenceIdeal.nD Cert.RecurrenceReferenceIdeal.τ).loc Cert.RecurrenceReferenceIdeal.main_v24) = v0 c
          ∧ r.2.mem ((c.tc : Thread Cert.RecurrenceReferenceIdeal.nD Cert.RecurrenceReferenceIdeal.τ).loc Cert.RecurrenceReferenceIdeal.main_arg0) = m' ((c.tc : Thread Cert.RecurrenceReferenceIdeal.nD Cert.RecurrenceReferenceIdeal.τ).loc Cert.RecurrenceReferenceIdeal.main_arg0)
          ∧ r.2.mem ((c.tc : Thread Cert.RecurrenceReferenceIdeal.nD Cert.RecurrenceReferenceIdeal.τ).loc Cert.RecurrenceReferenceIdeal.main_arg1) = m' ((c.tc : Thread Cert.RecurrenceReferenceIdeal.nD Cert.RecurrenceReferenceIdeal.τ).loc Cert.RecurrenceReferenceIdeal.main_arg1)
          ∧ r.2.mem ((c.tc : Thread Cert.RecurrenceReferenceIdeal.nD Cert.RecurrenceReferenceIdeal.τ).loc Cert.RecurrenceReferenceIdeal.main_arg2) = m' ((c.tc : Thread Cert.RecurrenceReferenceIdeal.nD Cert.RecurrenceReferenceIdeal.τ).loc Cert.RecurrenceReferenceIdeal.main_arg2)
          ∧ r.2.mem ((c.tc : Thread Cert.RecurrenceReferenceIdeal.nD Cert.RecurrenceReferenceIdeal.τ).loc Cert.RecurrenceReferenceIdeal.main_arg3) = m' ((c.tc : Thread Cert.RecurrenceReferenceIdeal.nD Cert.RecurrenceReferenceIdeal.τ).loc Cert.RecurrenceReferenceIdeal.main_arg3)
          ∧ r.2.mem ((c.tc : Thread Cert.RecurrenceReferenceIdeal.nD Cert.RecurrenceReferenceIdeal.τ).loc Cert.RecurrenceReferenceIdeal.main_arg4) = m' ((c.tc : Thread Cert.RecurrenceReferenceIdeal.nD Cert.RecurrenceReferenceIdeal.τ).loc Cert.RecurrenceReferenceIdeal.main_arg4)
          ∧ r.2.mem ((c.tc : Thread Cert.RecurrenceReferenceIdeal.nD Cert.RecurrenceReferenceIdeal.τ).loc Cert.RecurrenceReferenceIdeal.main_arg5) = m' ((c.tc : Thread Cert.RecurrenceReferenceIdeal.nD Cert.RecurrenceReferenceIdeal.τ).loc Cert.RecurrenceReferenceIdeal.main_arg5)
          ∧ r.2.mem ((c.tc : Thread Cert.RecurrenceReferenceIdeal.nD Cert.RecurrenceReferenceIdeal.τ).loc Cert.RecurrenceReferenceIdeal.main_arg6) = m' ((c.tc : Thread Cert.RecurrenceReferenceIdeal.nD Cert.RecurrenceReferenceIdeal.τ).loc Cert.RecurrenceReferenceIdeal.main_arg6))

def Claim : Prop :=
  ∃ (hKernel : Cert.Kernel.Facts) (hKernelIdeal : Cert.KernelIdeal.Facts) (hReferenceIdeal : Cert.ReferenceIdeal.Facts) (hEncoder : Cert.Encoder.Facts) (hEncoderIdeal : Cert.EncoderIdeal.Facts) (hEncoderReferenceIdeal : Cert.EncoderReferenceIdeal.Facts) (hFusion : Cert.Fusion.Facts) (hFusionIdeal : Cert.FusionIdeal.Facts) (hFusionReferenceIdeal : Cert.FusionReferenceIdeal.Facts) (hRecurrence : Cert.Recurrence.Facts) (hRecurrenceIdeal : Cert.RecurrenceIdeal.Facts) (hRecurrenceReferenceIdeal : Cert.RecurrenceReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Encoder (hEncoder := hEncoder)
    ∧ quiescent_EncoderIdeal (hEncoderIdeal := hEncoderIdeal)
    ∧ quiescent_EncoderReferenceIdeal (hEncoderReferenceIdeal := hEncoderReferenceIdeal)
    ∧ quiescent_Fusion (hFusion := hFusion)
    ∧ quiescent_FusionIdeal (hFusionIdeal := hFusionIdeal)
    ∧ quiescent_FusionReferenceIdeal (hFusionReferenceIdeal := hFusionReferenceIdeal)
    ∧ quiescent_Recurrence (hRecurrence := hRecurrence)
    ∧ quiescent_RecurrenceIdeal (hRecurrenceIdeal := hRecurrenceIdeal)
    ∧ quiescent_RecurrenceReferenceIdeal (hRecurrenceReferenceIdeal := hRecurrenceReferenceIdeal)
    ∧ preserves_Kernel_KernelIdeal
    ∧ preserves_Encoder_EncoderIdeal
    ∧ algebraic_EncoderIdeal_EncoderReferenceIdeal (hEncoderIdeal := hEncoderIdeal) (hEncoderReferenceIdeal := hEncoderReferenceIdeal)
    ∧ preserves_Fusion_FusionIdeal
    ∧ algebraic_FusionIdeal_FusionReferenceIdeal (hFusionIdeal := hFusionIdeal) (hFusionReferenceIdeal := hFusionReferenceIdeal)
    ∧ preserves_Recurrence_RecurrenceIdeal
    ∧ algebraic_RecurrenceIdeal_RecurrenceReferenceIdeal (hRecurrenceIdeal := hRecurrenceIdeal) (hRecurrenceReferenceIdeal := hRecurrenceReferenceIdeal)
-- ==== Kernel.lean ====
abbrev S100x50x16 : Shape := ⟨3, ![100, 50, 16]⟩
abbrev S2x800 : Shape := ⟨2, ![2, 800]⟩
abbrev S2x100 : Shape := ⟨2, ![2, 100]⟩
abbrev S2x20 : Shape := ⟨2, ![2, 20]⟩
abbrev S4x384x16 : Shape := ⟨3, ![4, 384, 16]⟩
abbrev S4x384x128 : Shape := ⟨3, ![4, 384, 128]⟩
abbrev S4x384 : Shape := ⟨2, ![4, 384]⟩
abbrev S4x50x50 : Shape := ⟨3, ![4, 50, 50]⟩
abbrev S4x50 : Shape := ⟨2, ![4, 50]⟩
abbrev S384x128 : Shape := ⟨2, ![384, 128]⟩
abbrev S384 : Shape := ⟨1, ![384]⟩
abbrev S4x4 : Shape := ⟨2, ![4, 4]⟩
abbrev S4 : Shape := ⟨1, ![4]⟩
abbrev S128x128 : Shape := ⟨2, ![128, 128]⟩
abbrev S128 : Shape := ⟨1, ![128]⟩
abbrev S1x128 : Shape := ⟨2, ![1, 128]⟩
abbrev S1 : Shape := ⟨1, ![1]⟩
abbrev S128x256 : Shape := ⟨2, ![128, 256]⟩
abbrev S128x384 : Shape := ⟨2, ![128, 384]⟩
abbrev S1x100x50x16 : Shape := ⟨4, ![1, 100, 50, 16]⟩
abbrev S4x100x50x16 : Shape := ⟨4, ![4, 100, 50, 16]⟩
abbrev S4x50x100x16 : Shape := ⟨4, ![4, 50, 100, 16]⟩
abbrev S100 : Shape := ⟨1, ![100]⟩
abbrev S1x800 : Shape := ⟨2, ![1, 800]⟩
abbrev S800 : Shape := ⟨1, ![800]⟩
abbrev S900 : Shape := ⟨1, ![900]⟩
abbrev S5 : Shape := ⟨1, ![5]⟩
abbrev S1x20 : Shape := ⟨2, ![1, 20]⟩
abbrev S20 : Shape := ⟨1, ![20]⟩
abbrev S25 : Shape := ⟨1, ![25]⟩
abbrev S1x100 : Shape := ⟨2, ![1, 100]⟩
abbrev S4x16x384 : Shape := ⟨3, ![4, 16, 384]⟩
abbrev S4x128x384 : Shape := ⟨3, ![4, 128, 384]⟩
abbrev S4x50x1 : Shape := ⟨3, ![4, 50, 1]⟩
abbrev S1x384 : Shape := ⟨2, ![1, 384]⟩
abbrev S900x1 : Shape := ⟨2, ![900, 1]⟩
abbrev S1x900 : Shape := ⟨2, ![1, 900]⟩
abbrev S100x1 : Shape := ⟨2, ![100, 1]⟩
abbrev S128x1 : Shape := ⟨2, ![128, 1]⟩
abbrev S1x1 : Shape := ⟨2, ![1, 1]⟩
abbrev S256x128 : Shape := ⟨2, ![256, 128]⟩
abbrev S25x1 : Shape := ⟨2, ![25, 1]⟩
abbrev S1x25 : Shape := ⟨2, ![1, 25]⟩
abbrev S4x50x100x128 : Shape := ⟨4, ![4, 50, 100, 128]⟩
abbrev S4x12800 : Shape := ⟨2, ![4, 12800]⟩
abbrev S416x128 : Shape := ⟨2, ![416, 128]⟩
abbrev S1x16x384 : Shape := ⟨3, ![1, 16, 384]⟩
abbrev S16x384 : Shape := ⟨2, ![16, 384]⟩
abbrev S1x128x384 : Shape := ⟨3, ![1, 128, 384]⟩
abbrev S100x128 : Shape := ⟨2, ![100, 128]⟩
abbrev S1x1x100x16 : Shape := ⟨4, ![1, 1, 100, 16]⟩
abbrev S1x100x16 : Shape := ⟨3, ![1, 100, 16]⟩
abbrev S100x16 : Shape := ⟨2, ![100, 16]⟩
abbrev S100x384 : Shape := ⟨2, ![100, 384]⟩
abbrev S1x100x128 : Shape := ⟨3, ![1, 100, 128]⟩
abbrev S1x1x100x128 : Shape := ⟨4, ![1, 1, 100, 128]⟩
abbrev S1x50x100x128 : Shape := ⟨4, ![1, 50, 100, 128]⟩
abbrev S50x100x128 : Shape := ⟨3, ![50, 100, 128]⟩
abbrev S50x12800 : Shape := ⟨2, ![50, 12800]⟩
abbrev S1x50x50 : Shape := ⟨3, ![1, 50, 50]⟩
abbrev S50x50 : Shape := ⟨2, ![50, 50]⟩
abbrev S1x50x1 : Shape := ⟨3, ![1, 50, 1]⟩
abbrev S50x1 : Shape := ⟨2, ![50, 1]⟩
abbrev S12800 : Shape := ⟨1, ![12800]⟩
abbrev S1x12800 : Shape := ⟨2, ![1, 12800]⟩
abbrev S4x128 : Shape := ⟨2, ![4, 128]⟩
abbrev S900x100 : Shape := ⟨2, ![900, 100]⟩
abbrev S100x900 : Shape := ⟨2, ![100, 900]⟩
abbrev S900x128 : Shape := ⟨2, ![900, 128]⟩
abbrev S100x20 : Shape := ⟨2, ![100, 20]⟩
abbrev S20x100 : Shape := ⟨2, ![20, 100]⟩
abbrev S20x20 : Shape := ⟨2, ![20, 20]⟩
abbrev S10x20 : Shape := ⟨2, ![10, 20]⟩
abbrev S20x128 : Shape := ⟨2, ![20, 128]⟩
abbrev S20x1 : Shape := ⟨2, ![20, 1]⟩
abbrev S10x128 : Shape := ⟨2, ![10, 128]⟩
abbrev S1x256 : Shape := ⟨2, ![1, 256]⟩
abbrev S5x256 : Shape := ⟨2, ![5, 256]⟩
abbrev S5x128 : Shape := ⟨2, ![5, 128]⟩
abbrev S5x1 : Shape := ⟨2, ![5, 1]⟩
abbrev S25x5 : Shape := ⟨2, ![25, 5]⟩
abbrev S5x25 : Shape := ⟨2, ![5, 25]⟩
abbrev S25x128 : Shape := ⟨2, ![25, 128]⟩
abbrev S100x5 : Shape := ⟨2, ![100, 5]⟩

abbrev nBuf : Space → Nat
  | .hbm => 96
  | .vmem => 41
  | .smem => 2
  | _ => 0

abbrev bufTy : (tb : Table) → Fin (tcTables nBuf tb) → BufTy
  | .hbm, ⟨0, _⟩ => ⟨S100x50x16, .f32⟩
  | .hbm, ⟨1, _⟩ => ⟨S100x50x16, .f32⟩
  | .hbm, ⟨2, _⟩ => ⟨S100x50x16, .f32⟩
  | .hbm, ⟨3, _⟩ => ⟨S100x50x16, .f32⟩
  | .hbm, ⟨4, _⟩ => ⟨S2x800, .i32⟩
  | .hbm, ⟨5, _⟩ => ⟨S2x100, .i32⟩
  | .hbm, ⟨6, _⟩ => ⟨S2x20, .i32⟩
  | .hbm, ⟨7, _⟩ => ⟨S4x384x16, .f32⟩
  | .hbm, ⟨8, _⟩ => ⟨S4x384x128, .f32⟩
  | .hbm, ⟨9, _⟩ => ⟨S4x384, .f32⟩
  | .hbm, ⟨10, _⟩ => ⟨S4x384, .f32⟩
  | .hbm, ⟨11, _⟩ => ⟨S4x50x50, .f32⟩
  | .hbm, ⟨12, _⟩ => ⟨S4x50, .f32⟩
  | .hbm, ⟨13, _⟩ => ⟨S384x128, .f32⟩
  | .hbm, ⟨14, _⟩ => ⟨S384x128, .f32⟩
  | .hbm, ⟨15, _⟩ => ⟨S384, .f32⟩
  | .hbm, ⟨16, _⟩ => ⟨S384, .f32⟩
  | .hbm, ⟨17, _⟩ => ⟨S4x4, .f32⟩
  | .hbm, ⟨18, _⟩ => ⟨S4, .f32⟩
  | .hbm, ⟨19, _⟩ => ⟨S128x128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S1, .f32⟩
  | .hbm, ⟨25, _⟩ => ⟨S1x128, .f32⟩
  | .hbm, ⟨26, _⟩ => ⟨S128x256, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128x384, .f32⟩
  | .hbm, ⟨31, _⟩ => ⟨S128, .f32⟩
  | .hbm, ⟨32, _⟩ => ⟨S1x128, .f32⟩
  | .hbm, ⟨33, _⟩ => ⟨S1, .f32⟩
  | .hbm, ⟨34, _⟩ => ⟨S1x128, .f32⟩
  | .hbm, ⟨35, _⟩ => ⟨S1, .f32⟩
  | .hbm, ⟨36, _⟩ => ⟨S1x100x50x16, .f32⟩
  | .hbm, ⟨37, _⟩ => ⟨S1x100x50x16, .f32⟩
  | .hbm, ⟨38, _⟩ => ⟨S1x100x50x16, .f32⟩
  | .hbm, ⟨39, _⟩ => ⟨S1x100x50x16, .f32⟩
  | .hbm, ⟨40, _⟩ => ⟨S4x100x50x16, .f32⟩
  | .hbm, ⟨41, _⟩ => ⟨S4x50x100x16, .f32⟩
  | .hbm, ⟨42, _⟩ => ⟨S100, .i32⟩
  | .hbm, ⟨43, _⟩ => ⟨S1x800, .i32⟩
  | .hbm, ⟨44, _⟩ => ⟨S800, .i32⟩
  | .hbm, ⟨45, _⟩ => ⟨S900, .i32⟩
  | .hbm, ⟨46, _⟩ => ⟨S1x800, .i32⟩
  | .hbm, ⟨47, _⟩ => ⟨S800, .i32⟩
  | .hbm, ⟨48, _⟩ => ⟨S900, .i32⟩
  | .hbm, ⟨49, _⟩ => ⟨S5, .i32⟩
  | .hbm, ⟨50, _⟩ => ⟨S1x20, .i32⟩
  | .hbm, ⟨51, _⟩ => ⟨S20, .i32⟩
  | .hbm, ⟨52, _⟩ => ⟨S25, .i32⟩
  | .hbm, ⟨53, _⟩ => ⟨S1x20, .i32⟩
  | .hbm, ⟨54, _⟩ => ⟨S20, .i32⟩
  | .hbm, ⟨55, _⟩ => ⟨S25, .i32⟩
  | .hbm, ⟨56, _⟩ => ⟨S1x100, .i32⟩
  | .hbm, ⟨57, _⟩ => ⟨S100, .i32⟩
  | .hbm, ⟨58, _⟩ => ⟨S1x100, .i32⟩
  | .hbm, ⟨59, _⟩ => ⟨S100, .i32⟩
  | .hbm, ⟨60, _⟩ => ⟨S4x16x384, .f32⟩
  | .hbm, ⟨61, _⟩ => ⟨S4x128x384, .f32⟩
  | .hbm, ⟨62, _⟩ => ⟨S4x50x1, .f32⟩
  | .hbm, ⟨63, _⟩ => ⟨S128x384, .f32⟩
  | .hbm, ⟨64, _⟩ => ⟨S128x384, .f32⟩
  | .hbm, ⟨65, _⟩ => ⟨S1x384, .f32⟩
  | .hbm, ⟨66, _⟩ => ⟨S1x384, .f32⟩
  | .hbm, ⟨67, _⟩ => ⟨S128x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S900x1, .i32⟩
  | .hbm, ⟨72, _⟩ => ⟨S900x1, .i32⟩
  | .hbm, ⟨73, _⟩ => ⟨S1x900, .i32⟩
  | .hbm, ⟨74, _⟩ => ⟨S100x1, .i32⟩
  | .hbm, ⟨75, _⟩ => ⟨S1x100, .i32⟩
  | .hbm, ⟨76, _⟩ => ⟨S128x1, .f32⟩
  | .hbm, ⟨77, _⟩ => ⟨S1x1, .f32⟩
  | .hbm, ⟨78, _⟩ => ⟨S128x1, .f32⟩
  | .hbm, ⟨79, _⟩ => ⟨S256x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S25x1, .i32⟩
  | .hbm, ⟨84, _⟩ => ⟨S25x1, .i32⟩
  | .hbm, ⟨85, _⟩ => ⟨S1x25, .i32⟩
  | .hbm, ⟨86, _⟩ => ⟨S384x128, .f32⟩
  | .hbm, ⟨87, _⟩ => ⟨S1x128, .f32⟩
  | .hbm, ⟨88, _⟩ => ⟨S128x1, .f32⟩
  | .hbm, ⟨89, _⟩ => ⟨S1x1, .f32⟩
  | .hbm, ⟨90, _⟩ => ⟨S128x1, .f32⟩
  | .hbm, ⟨91, _⟩ => ⟨S1x1, .f32⟩
  | .hbm, ⟨92, _⟩ => ⟨S100x1, .f32⟩
  | .hbm, ⟨93, _⟩ => ⟨S100x1, .f32⟩
  | .hbm, ⟨94, _⟩ => ⟨S100, .f32⟩
  | .hbm, ⟨95, _⟩ => ⟨S100, .f32⟩
  | .local _ .vmem, ⟨0, _⟩ => ⟨S4x50x100x16, .f32⟩
  | .local _ .vmem, ⟨1, _⟩ => ⟨S4x16x384, .f32⟩
  | .local _ .vmem, ⟨2, _⟩ => ⟨S4x128x384, .f32⟩
  | .local _ .vmem, ⟨3, _⟩ => ⟨S4x384, .f32⟩
  | .local _ .vmem, ⟨4, _⟩ => ⟨S4x384, .f32⟩
  | .local _ .vmem, ⟨5, _⟩ => ⟨S4x50x50, .f32⟩
  | .local _ .vmem, ⟨6, _⟩ => ⟨S4x50x1, .f32⟩
  | .local _ .vmem, ⟨7, _⟩ => ⟨S128x384, .f32⟩
  | .local _ .vmem, ⟨8, _⟩ => ⟨S128x384, .f32⟩
  | .local _ .vmem, ⟨9, _⟩ => ⟨S1x384, .f32⟩
  | .local _ .vmem, ⟨10, _⟩ => ⟨S1x384, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S900x1, .i32⟩
  | .local _ .vmem, ⟨16, _⟩ => ⟨S900x1, .i32⟩
  | .local _ .vmem, ⟨17, _⟩ => ⟨S1x900, .i32⟩
  | .local _ .vmem, ⟨18, _⟩ => ⟨S100x1, .i32⟩
  | .local _ .vmem, ⟨19, _⟩ => ⟨S1x100, .i32⟩
  | .local _ .vmem, ⟨20, _⟩ => ⟨S128x1, .f32⟩
  | .local _ .vmem, ⟨21, _⟩ => ⟨S1x1, .f32⟩
  | .local _ .vmem, ⟨22, _⟩ => ⟨S128x1, .f32⟩
  | .local _ .vmem, ⟨23, _⟩ => ⟨S256x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S25x1, .i32⟩
  | .local _ .vmem, ⟨28, _⟩ => ⟨S25x1, .i32⟩
  | .local _ .vmem, ⟨29, _⟩ => ⟨S1x25, .i32⟩
  | .local _ .vmem, ⟨30, _⟩ => ⟨S384x128, .f32⟩
  | .local _ .vmem, ⟨31, _⟩ => ⟨S1x128, .f32⟩
  | .local _ .vmem, ⟨32, _⟩ => ⟨S128x1, .f32⟩
  | .local _ .vmem, ⟨33, _⟩ => ⟨S1x1, .f32⟩
  | .local _ .vmem, ⟨34, _⟩ => ⟨S128x1, .f32⟩
  | .local _ .vmem, ⟨35, _⟩ => ⟨S1x1, .f32⟩
  | .local _ .vmem, ⟨36, _⟩ => ⟨S100x1, .f32⟩
  | .local _ .vmem, ⟨37, _⟩ => ⟨S100x1, .f32⟩
  | .local _ .vmem, ⟨38, _⟩ => ⟨S4x50x100x128, .f32⟩
  | .local _ .vmem, ⟨39, _⟩ => ⟨S4x12800, .f32⟩
  | .local _ .vmem, ⟨40, _⟩ => ⟨S416x128, .f32⟩
  | .local _ .smem, ⟨0, _⟩ => ⟨S4x4, .f32⟩
  | .local _ .smem, ⟨1, _⟩ => ⟨S4, .f32⟩
  | _, _ => ⟨S100x50x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56_0 : Ref sig .tc := ⟨.hbm, 92, rfl⟩
abbrev main_v56_1 : Ref sig .tc := ⟨.hbm, 93, rfl⟩
abbrev main_v57 : Ref sig .tc := ⟨.hbm, 94, rfl⟩
abbrev main_v58 : Ref sig .tc := ⟨.hbm, 95, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg13_0 : Ref sig .tc := ⟨.vmem, 11, rfl⟩
abbrev cc0_stg14_0 : Ref sig .tc := ⟨.vmem, 12, rfl⟩
abbrev cc0_stg15_0 : Ref sig .tc := ⟨.vmem, 13, rfl⟩
abbrev cc0_stg16_0 : Ref sig .tc := ⟨.vmem, 14, rfl⟩
abbrev cc0_stg17_0 : Ref sig .tc := ⟨.vmem, 15, rfl⟩
abbrev cc0_stg18_0 : Ref sig .tc := ⟨.vmem, 16, rfl⟩
abbrev cc0_stg19_0 : Ref sig .tc := ⟨.vmem, 17, rfl⟩
abbrev cc0_stg20_0 : Ref sig .tc := ⟨.vmem, 18, rfl⟩
abbrev cc0_stg21_0 : Ref sig .tc := ⟨.vmem, 19, rfl⟩
abbrev cc0_stg22_0 : Ref sig .tc := ⟨.vmem, 20, rfl⟩
abbrev cc0_stg23_0 : Ref sig .tc := ⟨.vmem, 21, rfl⟩
abbrev cc0_stg24_0 : Ref sig .tc := ⟨.vmem, 22, rfl⟩
abbrev cc0_stg25_0 : Ref sig .tc := ⟨.vmem, 23, rfl⟩
abbrev cc0_stg26_0 : Ref sig .tc := ⟨.vmem, 24, rfl⟩
abbrev cc0_stg27_0 : Ref sig .tc := ⟨.vmem, 25, rfl⟩
abbrev cc0_stg28_0 : Ref sig .tc := ⟨.vmem, 26, rfl⟩
abbrev cc0_stg29_0 : Ref sig .tc := ⟨.vmem, 27, rfl⟩
abbrev cc0_stg30_0 : Ref sig .tc := ⟨.vmem, 28, rfl⟩
abbrev cc0_stg31_0 : Ref sig .tc := ⟨.vmem, 29, rfl⟩
abbrev cc0_stg32_0 : Ref sig .tc := ⟨.vmem, 30, rfl⟩
abbrev cc0_stg33_0 : Ref sig .tc := ⟨.vmem, 31, rfl⟩
abbrev cc0_stg34_0 : Ref sig .tc := ⟨.vmem, 32, rfl⟩
abbrev cc0_stg35_0 : Ref sig .tc := ⟨.vmem, 33, rfl⟩
abbrev cc0_stg36_0 : Ref sig .tc := ⟨.vmem, 34, rfl⟩
abbrev cc0_stg37_0 : Ref sig .tc := ⟨.vmem, 35, rfl⟩
abbrev cc0_stg38_0 : Ref sig .tc := ⟨.vmem, 36, rfl⟩
abbrev cc0_stg39_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_stg11_0 : Ref sig .tc := ⟨.smem, 0, rfl⟩
abbrev cc0_stg12_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c50_i32 : BitVec 32 := 50#32
  let v36 : BitVec 32 := Scalar.addi c0_i32 c50_i32
  let c1_i32 : BitVec 32 := 1#32
  ⟨c0_i32, v36, c1_i32⟩
def k0_off1 (k0_t1 : Fin k0_t1_loop.trips) : Fin 4 → Nat :=
  let c0_326 : Index := 0#32
  let c0_i32 : BitVec 32 := 0#32
  let c1_i32 : BitVec 32 := 1#32
  let arg43 : BitVec 32 := Scf.iv c0_i32 c1_i32 k0_t1
  let v748 : Index := Scalar.indexCast arg43
  let c0_327 : Index := 0#32
  let c0_328 : Index := 0#32
  ![0, v748.toNat, 0, 0]
def k0_off2 (k0_t1 : Fin k0_t1_loop.trips) : Fin 4 → Nat :=
  let c0_332 : Index := 0#32
  let c0_i32 : BitVec 32 := 0#32
  let c1_i32 : BitVec 32 := 1#32
  let arg43 : BitVec 32 := Scf.iv c0_i32 c1_i32 k0_t1
  let v779 : Index := Scalar.indexCast arg43
  let c0_333 : Index := 0#32
  let c0_334 : Index := 0#32
  ![0, v779.toNat, 0, 0]
def k0_off3 (k0_t1 : Fin k0_t1_loop.trips) : Fin 4 → Nat :=
  let c1_335 : Index := 1#32
  let c0_i32 : BitVec 32 := 0#32
  let c1_i32 : BitVec 32 := 1#32
  let arg43 : BitVec 32 := Scf.iv c0_i32 c1_i32 k0_t1
  let v783 : Index := Scalar.indexCast arg43
  let c0_336 : Index := 0#32
  let c0_337 : Index := 0#32
  ![1, v783.toNat, 0, 0]
def k0_off4 (k0_t1 : Fin k0_t1_loop.trips) : Fin 4 → Nat :=
  let c1_341 : Index := 1#32
  let c0_i32 : BitVec 32 := 0#32
  let c1_i32 : BitVec 32 := 1#32
  let arg43 : BitVec 32 := Scf.iv c0_i32 c1_i32 k0_t1
  let v814 : Index := Scalar.indexCast arg43
  let c0_342 : Index := 0#32
  let c0_343 : Index := 0#32
  ![1, v814.toNat, 0, 0]
def k0_off5 (k0_t1 : Fin k0_t1_loop.trips) : Fin 4 → Nat :=
  let c2_344 : Index := 2#32
  let c0_i32 : BitVec 32 := 0#32
  let c1_i32 : BitVec 32 := 1#32
  let arg43 : BitVec 32 := Scf.iv c0_i32 c1_i32 k0_t1
  let v818 : Index := Scalar.indexCast arg43
  let c0_345 : Index := 0#32
  let c0_346 : Index := 0#32
  ![2, v818.toNat, 0, 0]
def k0_off6 (k0_t1 : Fin k0_t1_loop.trips) : Fin 4 → Nat :=
  let c2_350 : Index := 2#32
  let c0_i32 : BitVec 32 := 0#32
  let c1_i32 : BitVec 32 := 1#32
  let arg43 : BitVec 32 := Scf.iv c0_i32 c1_i32 k0_t1
  let v849 : Index := Scalar.indexCast arg43
  let c0_351 : Index := 0#32
  let c0_352 : Index := 0#32
  ![2, v849.toNat, 0, 0]
def k0_off7 (k0_t1 : Fin k0_t1_loop.trips) : Fin 4 → Nat :=
  let c3_353 : Index := 3#32
  let c0_i32 : BitVec 32 := 0#32
  let c1_i32 : BitVec 32 := 1#32
  let arg43 : BitVec 32 := Scf.iv c0_i32 c1_i32 k0_t1
  let v853 : Index := Scalar.indexCast arg43
  let c0_354 : Index := 0#32
  let c0_355 : Index := 0#32
  ![3, v853.toNat, 0, 0]
def k0_off8 (k0_t1 : Fin k0_t1_loop.trips) : Fin 4 → Nat :=
  let c3_359 : Index := 3#32
  let c0_i32 : BitVec 32 := 0#32
  let c1_i32 : BitVec 32 := 1#32
  let arg43 : BitVec 32 := Scf.iv c0_i32 c1_i32 k0_t1
  let v884 : Index := Scalar.indexCast arg43
  let c0_360 : Index := 0#32
  let c0_361 : Index := 0#32
  ![3, v884.toNat, 0, 0]
@[reducible] def k0_t2_loop : Scf.Loop 32 :=
  let c0_i32_113 : BitVec 32 := 0#32
  let c100_i32 : BitVec 32 := 100#32
  let v147 : BitVec 32 := Scalar.addi c0_i32_113 c100_i32
  let c1_i32_114 : BitVec 32 := 1#32
  ⟨c0_i32_113, v147, c1_i32_114⟩
def k0_mult1 (k0_t2 : Fin k0_t2_loop.trips) : BitVec 32 :=
  let c0_i32_113 : BitVec 32 := 0#32
  let c1_i32_114 : BitVec 32 := 1#32
  let arg43 : BitVec 32 := Scf.iv c0_i32_113 c1_i32_114 k0_t2
  let c128_i32 : BitVec 32 := 128#32
  let v748 : BitVec 32 := Scalar.muli arg43 c128_i32
  v748
def k0_off9 (k0_t2 : Fin k0_t2_loop.trips) : Fin 2 → Nat :=
  let c0_326 : Index := 0#32
  let c0_i32_113 : BitVec 32 := 0#32
  let c1_i32_114 : BitVec 32 := 1#32
  let arg43 : BitVec 32 := Scf.iv c0_i32_113 c1_i32_114 k0_t2
  let c128_i32 : BitVec 32 := 128#32
  let v748 : BitVec 32 := Scalar.muli arg43 c128_i32
  let v749 : BitVec 32 := v748
  let v750 : Index := Scalar.indexCast v749
  ![0, v750.toNat]
def k0_off10 (k0_t2 : Fin k0_t2_loop.trips) (c0_i32_330 : BitVec 32) : Fin 2 → Nat :=
  let c0_i32_113 : BitVec 32 := 0#32
  let c1_i32_114 : BitVec 32 := 1#32
  let arg43 : BitVec 32 := Scf.iv c0_i32_113 c1_i32_114 k0_t2
  let v777 : BitVec 32 := Scalar.addi c0_i32_330 arg43
  let v778 : Index := Scalar.indexCast v777
  let c0_331 : Index := 0#32
  ![v778.toNat, 0]
abbrev stage0_0 : Fin 1 → Memref sig .tc .vmem S4x50x100x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x50x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x50x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S4x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .smem S4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S900x1 .i32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S900x1 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x900 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S100x1 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x100 .i32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S128x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S25x1 .i32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S25x1 .i32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x25 .i32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S384x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S128x1 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S128x1 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S100x1 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S100x1 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "tenth" => some ((10⁻¹ : ℝ) : EReal)
  | _ => none
-- ==== ReferenceIdeal.lean ====
abbrev S100x50x16 : Shape := ⟨3, ![100, 50, 16]⟩
abbrev S2x800 : Shape := ⟨2, ![2, 800]⟩
abbrev S2x100 : Shape := ⟨2, ![2, 100]⟩
abbrev S2x20 : Shape := ⟨2, ![2, 20]⟩
abbrev S4x384x16 : Shape := ⟨3, ![4, 384, 16]⟩
abbrev S4x384x128 : Shape := ⟨3, ![4, 384, 128]⟩
abbrev S4x384 : Shape := ⟨2, ![4, 384]⟩
abbrev S4x50x50 : Shape := ⟨3, ![4, 50, 50]⟩
abbrev S4x50 : Shape := ⟨2, ![4, 50]⟩
abbrev S384x128 : Shape := ⟨2, ![384, 128]⟩
abbrev S384 : Shape := ⟨1, ![384]⟩
abbrev S4x4 : Shape := ⟨2, ![4, 4]⟩
abbrev S4 : Shape := ⟨1, ![4]⟩
abbrev S128x128 : Shape := ⟨2, ![128, 128]⟩
abbrev S128 : Shape := ⟨1, ![128]⟩
abbrev S1x128 : Shape := ⟨2, ![1, 128]⟩
abbrev S1 : Shape := ⟨1, ![1]⟩
abbrev S128x256 : Shape := ⟨2, ![128, 256]⟩
abbrev S128x384 : Shape := ⟨2, ![128, 384]⟩
abbrev S1x100x50x16 : Shape := ⟨4, ![1, 100, 50, 16]⟩
abbrev S4x100x50x16 : Shape := ⟨4, ![4, 100, 50, 16]⟩
abbrev S4x50x100x16 : Shape := ⟨4, ![4, 50, 100, 16]⟩
abbrev S_ : Shape := ⟨0, ![]⟩
abbrev S100x128 : Shape := ⟨2, ![100, 128]⟩
abbrev S4x100x128 : Shape := ⟨3, ![4, 100, 128]⟩
abbrev S50x4x100x16 : Shape := ⟨4, ![50, 4, 100, 16]⟩
abbrev S50x4x100x128 : Shape := ⟨4, ![50, 4, 100, 128]⟩
abbrev S1x4x100x16 : Shape := ⟨4, ![1, 4, 100, 16]⟩
abbrev S4x100x16 : Shape := ⟨3, ![4, 100, 16]⟩
abbrev S4x16x384 : Shape := ⟨3, ![4, 16, 384]⟩
abbrev S4x100x384 : Shape := ⟨3, ![4, 100, 384]⟩
abbrev S4x1x384 : Shape := ⟨3, ![4, 1, 384]⟩
abbrev S4x128x384 : Shape := ⟨3, ![4, 128, 384]⟩
abbrev S1x4x100x128 : Shape := ⟨4, ![1, 4, 100, 128]⟩
abbrev S4x50x100x128 : Shape := ⟨4, ![4, 50, 100, 128]⟩
abbrev S4x100x50x128 : Shape := ⟨4, ![4, 100, 50, 128]⟩
abbrev S4x100x128x50 : Shape := ⟨4, ![4, 100, 128, 50]⟩
abbrev S4x1x1x50 : Shape := ⟨4, ![4, 1, 1, 50]⟩
abbrev S4x100x128x1 : Shape := ⟨4, ![4, 100, 128, 1]⟩
abbrev S100x4x128 : Shape := ⟨3, ![100, 4, 128]⟩
abbrev S4x128 : Shape := ⟨2, ![4, 128]⟩
abbrev S1x4x128 : Shape := ⟨3, ![1, 4, 128]⟩
abbrev S1x384 : Shape := ⟨2, ![1, 384]⟩
abbrev S100x128x4 : Shape := ⟨3, ![100, 128, 4]⟩
abbrev S1x1x4 : Shape := ⟨3, ![1, 1, 4]⟩
abbrev S100x128x1 : Shape := ⟨3, ![100, 128, 1]⟩
abbrev S100 : Shape := ⟨1, ![100]⟩
abbrev S1x800 : Shape := ⟨2, ![1, 800]⟩
abbrev S800 : Shape := ⟨1, ![800]⟩
abbrev S900 : Shape := ⟨1, ![900]⟩
abbrev S900x1 : Shape := ⟨2, ![900, 1]⟩
abbrev S100x1 : Shape := ⟨2, ![100, 1]⟩
abbrev S1x900 : Shape := ⟨2, ![1, 900]⟩
abbrev S100x900 : Shape := ⟨2, ![100, 900]⟩
abbrev S900x128 : Shape := ⟨2, ![900, 128]⟩
abbrev S5x20x128 : Shape := ⟨3, ![5, 20, 128]⟩
abbrev S1x100 : Shape := ⟨2, ![1, 100]⟩
abbrev S5x100x128 : Shape := ⟨3, ![5, 100, 128]⟩
abbrev S20x128 : Shape := ⟨2, ![20, 128]⟩
abbrev S128x1 : Shape := ⟨2, ![128, 1]⟩
abbrev S5x20x1 : Shape := ⟨3, ![5, 20, 1]⟩
abbrev S1x1 : Shape := ⟨2, ![1, 1]⟩
abbrev S1x1x1 : Shape := ⟨3, ![1, 1, 1]⟩
abbrev S5x20 : Shape := ⟨2, ![5, 20]⟩
abbrev S5x10 : Shape := ⟨2, ![5, 10]⟩
abbrev S5x10x1 : Shape := ⟨3, ![5, 10, 1]⟩
abbrev S5x10x128 : Shape := ⟨3, ![5, 10, 128]⟩
abbrev S5x128 : Shape := ⟨2, ![5, 128]⟩
abbrev S5x256 : Shape := ⟨2, ![5, 256]⟩
abbrev S5 : Shape := ⟨1, ![5]⟩
abbrev S1x20 : Shape := ⟨2, ![1, 20]⟩
abbrev S20 : Shape := ⟨1, ![20]⟩
abbrev S25 : Shape := ⟨1, ![25]⟩
abbrev S256x128 : Shape := ⟨2, ![256, 128]⟩
abbrev S25x1 : Shape := ⟨2, ![25, 1]⟩
abbrev S5x1 : Shape := ⟨2, ![5, 1]⟩
abbrev S1x25 : Shape := ⟨2, ![1, 25]⟩
abbrev S5x25 : Shape := ⟨2, ![5, 25]⟩
abbrev S25x128 : Shape := ⟨2, ![25, 128]⟩
abbrev S5x1x128 : Shape := ⟨3, ![5, 1, 128]⟩
abbrev S5x20x384 : Shape := ⟨3, ![5, 20, 384]⟩
abbrev S1x1x128 : Shape := ⟨3, ![1, 1, 128]⟩

abbrev nBuf : Space → Nat
  | .hbm => 515
  | .vmem => 0
  | .smem => 0
  | _ => 0

abbrev hbmTy0_0 (i : Nat) : BufTy := match i % 128 with
  | 0 => ⟨S100x50x16, .f32⟩
  | 1 => ⟨S100x50x16, .f32⟩
  | 2 => ⟨S100x50x16, .f32⟩
  | 3 => ⟨S100x50x16, .f32⟩
  | 4 => ⟨S2x800, .i32⟩
  | 5 => ⟨S2x100, .i32⟩
  | 6 => ⟨S2x20, .i32⟩
  | 7 => ⟨S4x384x16, .f32⟩
  | 8 => ⟨S4x384x128, .f32⟩
  | 9 => ⟨S4x384, .f32⟩
  | 10 => ⟨S4x384, .f32⟩
  | 11 => ⟨S4x50x50, .f32⟩
  | 12 => ⟨S4x50, .f32⟩
  | 13 => ⟨S384x128, .f32⟩
  | 14 => ⟨S384x128, .f32⟩
  | 15 => ⟨S384, .f32⟩
  | 16 => ⟨S384, .f32⟩
  | 17 => ⟨S4x4, .f32⟩
  | 18 => ⟨S4, .f32⟩
  | 19 => ⟨S128x128, .f32⟩
  | 20 => ⟨S128, .f32⟩
  | 21 => ⟨S128, .f32⟩
  | 22 => ⟨S128, .f32⟩
  | 23 => ⟨S1x128, .f32⟩
  | 24 => ⟨S1, .f32⟩
  | 25 => ⟨S1x128, .f32⟩
  | 26 => ⟨S128x256, .f32⟩
  | 27 => ⟨S128, .f32⟩
  | 28 => ⟨S128, .f32⟩
  | 29 => ⟨S128, .f32⟩
  | 30 => ⟨S128x384, .f32⟩
  | 31 => ⟨S128, .f32⟩
  | 32 => ⟨S1x128, .f32⟩
  | 33 => ⟨S1, .f32⟩
  | 34 => ⟨S1x128, .f32⟩
  | 35 => ⟨S1, .f32⟩
  | 36 => ⟨S1x100x50x16, .f32⟩
  | 37 => ⟨S1x100x50x16, .f32⟩
  | 38 => ⟨S1x100x50x16, .f32⟩
  | 39 => ⟨S1x100x50x16, .f32⟩
  | 40 => ⟨S4x100x50x16, .f32⟩
  | 41 => ⟨S4x50x100x16, .f32⟩
  | 42 => ⟨S_, .f32⟩
  | 43 => ⟨S100x128, .f32⟩
  | 44 => ⟨S4x100x128, .f32⟩
  | 45 => ⟨S50x4x100x16, .f32⟩
  | 46 => ⟨S_, .f32⟩
  | 47 => ⟨S50x4x100x128, .f32⟩
  | 48 => ⟨S_, .i32⟩
  | 49 => ⟨S50x4x100x16, .f32⟩
  | 50 => ⟨S4x384x16, .f32⟩
  | 51 => ⟨S4x384, .f32⟩
  | 52 => ⟨S4x384x128, .f32⟩
  | 53 => ⟨S4x384, .f32⟩
  | 54 => ⟨S_, .i32⟩
  | 55 => ⟨S4x100x128, .f32⟩
  | 56 => ⟨S50x4x100x128, .f32⟩
  | 57 => ⟨S_, .i32⟩
  | 58 => ⟨S_, .i1⟩
  | 59 => ⟨S_, .i32⟩
  | 60 => ⟨S_, .i32⟩
  | 61 => ⟨S_, .i32⟩
  | 62 => ⟨S1x4x100x16, .f32⟩
  | 63 => ⟨S4x100x16, .f32⟩
  | 64 => ⟨S4x16x384, .f32⟩
  | 65 => ⟨S4x100x384, .f32⟩
  | 66 => ⟨S4x1x384, .f32⟩
  | 67 => ⟨S4x100x384, .f32⟩
  | 68 => ⟨S4x100x384, .f32⟩
  | 69 => ⟨S4x128x384, .f32⟩
  | 70 => ⟨S4x100x384, .f32⟩
  | 71 => ⟨S4x1x384, .f32⟩
  | 72 => ⟨S4x100x384, .f32⟩
  | 73 => ⟨S4x100x384, .f32⟩
  | 74 => ⟨S4x100x128, .f32⟩
  | 75 => ⟨S4x100x128, .f32⟩
  | 76 => ⟨S4x100x128, .f32⟩
  | 77 => ⟨S4x100x128, .f32⟩
  | 78 => ⟨S4x100x128, .f32⟩
  | 79 => ⟨S4x100x128, .f32⟩
  | 80 => ⟨S4x100x128, .f32⟩
  | 81 => ⟨S4x100x128, .f32⟩
  | 82 => ⟨S4x100x128, .f32⟩
  | 83 => ⟨S_, .f32⟩
  | 84 => ⟨S4x100x128, .f32⟩
  | 85 => ⟨S4x100x128, .f32⟩
  | 86 => ⟨S_, .f32⟩
  | 87 => ⟨S4x100x128, .f32⟩
  | 88 => ⟨S4x100x128, .f32⟩
  | 89 => ⟨S4x100x128, .f32⟩
  | 90 => ⟨S4x100x128, .f32⟩
  | 91 => ⟨S4x100x128, .f32⟩
  | 92 => ⟨S_, .f32⟩
  | 93 => ⟨S4x100x128, .f32⟩
  | 94 => ⟨S4x100x128, .f32⟩
  | 95 => ⟨S_, .f32⟩
  | 96 => ⟨S4x100x128, .f32⟩
  | 97 => ⟨S4x100x128, .f32⟩
  | 98 => ⟨S4x100x128, .f32⟩
  | 99 => ⟨S4x100x128, .f32⟩
  | 100 => ⟨S4x100x128, .f32⟩
  | 101 => ⟨S_, .f32⟩
  | 102 => ⟨S4x100x128, .f32⟩
  | 103 => ⟨S4x100x128, .f32⟩
  | 104 => ⟨S4x100x128, .f32⟩
  | 105 => ⟨S4x100x128, .f32⟩
  | 106 => ⟨S4x100x128, .f32⟩
  | 107 => ⟨S1x4x100x128, .f32⟩
  | 108 => ⟨S_, .i32⟩
  | 109 => ⟨S_, .i32⟩
  | 110 => ⟨S_, .i32⟩
  | 111 => ⟨S50x4x100x128, .f32⟩
  | 112 => ⟨S_, .i32⟩
  | 113 => ⟨S_, .i32⟩
  | 114 => ⟨S4x50x100x128, .f32⟩
  | 115 => ⟨S4x100x50x128, .f32⟩
  | 116 => ⟨S4x100x128x50, .f32⟩
  | 117 => ⟨S4x50x50, .f32⟩
  | 118 => ⟨S4x100x128x50, .f32⟩
  | 119 => ⟨S4x1x1x50, .f32⟩
  | 120 => ⟨S4x100x128x50, .f32⟩
  | 121 => ⟨S4x100x128x50, .f32⟩
  | 122 => ⟨S_, .f32⟩
  | 123 => ⟨S4x100x128, .f32⟩
  | 124 => ⟨S_, .f32⟩
  | 125 => ⟨S4x100x128, .f32⟩
  | 126 => ⟨S4x100x128, .f32⟩
  | 127 => ⟨S4x100x128x1, .f32⟩
  | _ => ⟨S100x50x16, .f32⟩

abbrev hbmTy0_1 (i : Nat) : BufTy := match i % 128 with
  | 0 => ⟨S4x100x128x50, .f32⟩
  | 1 => ⟨S4x100x128x50, .f32⟩
  | 2 => ⟨S4x100x128x50, .f32⟩
  | 3 => ⟨S_, .f32⟩
  | 4 => ⟨S4x100x128, .f32⟩
  | 5 => ⟨S4x100x128x1, .f32⟩
  | 6 => ⟨S4x100x128x50, .f32⟩
  | 7 => ⟨S4x100x128x50, .f32⟩
  | 8 => ⟨S4x100x50x128, .f32⟩
  | 9 => ⟨S4x100x50x128, .f32⟩
  | 10 => ⟨S_, .f32⟩
  | 11 => ⟨S4x100x128, .f32⟩
  | 12 => ⟨S100x4x128, .f32⟩
  | 13 => ⟨S_, .f32⟩
  | 14 => ⟨S4x128, .f32⟩
  | 15 => ⟨S_, .f32⟩
  | 16 => ⟨S100x4x128, .f32⟩
  | 17 => ⟨S_, .i32⟩
  | 18 => ⟨S100x4x128, .f32⟩
  | 19 => ⟨S384x128, .f32⟩
  | 20 => ⟨S384, .f32⟩
  | 21 => ⟨S384x128, .f32⟩
  | 22 => ⟨S384, .f32⟩
  | 23 => ⟨S_, .i32⟩
  | 24 => ⟨S4x128, .f32⟩
  | 25 => ⟨S100x4x128, .f32⟩
  | 26 => ⟨S_, .i32⟩
  | 27 => ⟨S_, .i1⟩
  | 28 => ⟨S_, .i32⟩
  | 29 => ⟨S_, .i32⟩
  | 30 => ⟨S1x4x128, .f32⟩
  | 31 => ⟨S4x128, .f32⟩
  | 32 => ⟨S128x384, .f32⟩
  | 33 => ⟨S4x384, .f32⟩
  | 34 => ⟨S1x384, .f32⟩
  | 35 => ⟨S4x384, .f32⟩
  | 36 => ⟨S4x384, .f32⟩
  | 37 => ⟨S128x384, .f32⟩
  | 38 => ⟨S4x384, .f32⟩
  | 39 => ⟨S1x384, .f32⟩
  | 40 => ⟨S4x384, .f32⟩
  | 41 => ⟨S4x384, .f32⟩
  | 42 => ⟨S4x128, .f32⟩
  | 43 => ⟨S4x128, .f32⟩
  | 44 => ⟨S4x128, .f32⟩
  | 45 => ⟨S4x128, .f32⟩
  | 46 => ⟨S4x128, .f32⟩
  | 47 => ⟨S4x128, .f32⟩
  | 48 => ⟨S4x128, .f32⟩
  | 49 => ⟨S4x128, .f32⟩
  | 50 => ⟨S4x128, .f32⟩
  | 51 => ⟨S_, .f32⟩
  | 52 => ⟨S4x128, .f32⟩
  | 53 => ⟨S4x128, .f32⟩
  | 54 => ⟨S_, .f32⟩
  | 55 => ⟨S4x128, .f32⟩
  | 56 => ⟨S4x128, .f32⟩
  | 57 => ⟨S4x128, .f32⟩
  | 58 => ⟨S4x128, .f32⟩
  | 59 => ⟨S4x128, .f32⟩
  | 60 => ⟨S_, .f32⟩
  | 61 => ⟨S4x128, .f32⟩
  | 62 => ⟨S4x128, .f32⟩
  | 63 => ⟨S_, .f32⟩
  | 64 => ⟨S4x128, .f32⟩
  | 65 => ⟨S4x128, .f32⟩
  | 66 => ⟨S4x128, .f32⟩
  | 67 => ⟨S4x128, .f32⟩
  | 68 => ⟨S4x128, .f32⟩
  | 69 => ⟨S_, .f32⟩
  | 70 => ⟨S4x128, .f32⟩
  | 71 => ⟨S4x128, .f32⟩
  | 72 => ⟨S4x128, .f32⟩
  | 73 => ⟨S4x128, .f32⟩
  | 74 => ⟨S4x128, .f32⟩
  | 75 => ⟨S1x4x128, .f32⟩
  | 76 => ⟨S_, .i32⟩
  | 77 => ⟨S_, .i32⟩
  | 78 => ⟨S100x4x128, .f32⟩
  | 79 => ⟨S_, .i32⟩
  | 80 => ⟨S_, .i32⟩
  | 81 => ⟨S100x128x4, .f32⟩
  | 82 => ⟨S4x4, .f32⟩
  | 83 => ⟨S100x128x4, .f32⟩
  | 84 => ⟨S1x1x4, .f32⟩
  | 85 => ⟨S100x128x4, .f32⟩
  | 86 => ⟨S100x128x4, .f32⟩
  | 87 => ⟨S_, .f32⟩
  | 88 => ⟨S100x128, .f32⟩
  | 89 => ⟨S_, .f32⟩
  | 90 => ⟨S100x128, .f32⟩
  | 91 => ⟨S100x128, .f32⟩
  | 92 => ⟨S100x128x1, .f32⟩
  | 93 => ⟨S100x128x4, .f32⟩
  | 94 => ⟨S100x128x4, .f32⟩
  | 95 => ⟨S100x128x4, .f32⟩
  | 96 => ⟨S_, .f32⟩
  | 97 => ⟨S100x128, .f32⟩
  | 98 => ⟨S100x128x1, .f32⟩
  | 99 => ⟨S100x128x4, .f32⟩
  | 100 => ⟨S100x128x4, .f32⟩
  | 101 => ⟨S100x4x128, .f32⟩
  | 102 => ⟨S100x4x128, .f32⟩
  | 103 => ⟨S_, .f32⟩
  | 104 => ⟨S100x128, .f32⟩
  | 105 => ⟨S100, .i32⟩
  | 106 => ⟨S1x800, .i32⟩
  | 107 => ⟨S800, .i32⟩
  | 108 => ⟨S900, .i32⟩
  | 109 => ⟨S1x800, .i32⟩
  | 110 => ⟨S800, .i32⟩
  | 111 => ⟨S900, .i32⟩
  | 112 => ⟨S128x128, .f32⟩
  | 113 => ⟨S100x128, .f32⟩
  | 114 => ⟨S100, .f32⟩
  | 115 => ⟨S100, .f32⟩
  | 116 => ⟨S_, .i32⟩
  | 117 => ⟨S900, .i32⟩
  | 118 => ⟨S900, .i1⟩
  | 119 => ⟨S_, .i32⟩
  | 120 => ⟨S900, .i32⟩
  | 121 => ⟨S900, .i32⟩
  | 122 => ⟨S900, .i32⟩
  | 123 => ⟨S900x1, .i32⟩
  | 124 => ⟨S900, .f32⟩
  | 125 => ⟨S_, .i32⟩
  | 126 => ⟨S900, .i32⟩
  | 127 => ⟨S900, .i1⟩
  | _ => ⟨S100x50x16, .f32⟩

abbrev hbmTy0_2 (i : Nat) : BufTy := match i % 128 with
  | 0 => ⟨S_, .i32⟩
  | 1 => ⟨S900, .i32⟩
  | 2 => ⟨S900, .i32⟩
  | 3 => ⟨S900, .i32⟩
  | 4 => ⟨S900x1, .i32⟩
  | 5 => ⟨S900, .f32⟩
  | 6 => ⟨S900, .f32⟩
  | 7 => ⟨S_, .f32⟩
  | 8 => ⟨S_, .f32⟩
  | 9 => ⟨S900, .f32⟩
  | 10 => ⟨S900, .i1⟩
  | 11 => ⟨S_, .f32⟩
  | 12 => ⟨S900, .f32⟩
  | 13 => ⟨S900, .f32⟩
  | 14 => ⟨S900, .f32⟩
  | 15 => ⟨S100, .i32⟩
  | 16 => ⟨S100x1, .i32⟩
  | 17 => ⟨S1x900, .i32⟩
  | 18 => ⟨S100x900, .i32⟩
  | 19 => ⟨S100x900, .i32⟩
  | 20 => ⟨S100x900, .i1⟩
  | 21 => ⟨S1x900, .f32⟩
  | 22 => ⟨S_, .f32⟩
  | 23 => ⟨S_, .f32⟩
  | 24 => ⟨S100x900, .f32⟩
  | 25 => ⟨S100x900, .f32⟩
  | 26 => ⟨S100x900, .f32⟩
  | 27 => ⟨S_, .f32⟩
  | 28 => ⟨S100, .f32⟩
  | 29 => ⟨S_, .i32⟩
  | 30 => ⟨S900, .i32⟩
  | 31 => ⟨S900, .i1⟩
  | 32 => ⟨S_, .i32⟩
  | 33 => ⟨S900, .i32⟩
  | 34 => ⟨S900, .i32⟩
  | 35 => ⟨S900, .i32⟩
  | 36 => ⟨S900x1, .i32⟩
  | 37 => ⟨S900, .f32⟩
  | 38 => ⟨S900, .f32⟩
  | 39 => ⟨S900, .f32⟩
  | 40 => ⟨S_, .f32⟩
  | 41 => ⟨S100, .f32⟩
  | 42 => ⟨S900x1, .i32⟩
  | 43 => ⟨S100, .f32⟩
  | 44 => ⟨S_, .i32⟩
  | 45 => ⟨S900, .i32⟩
  | 46 => ⟨S900, .i1⟩
  | 47 => ⟨S_, .i32⟩
  | 48 => ⟨S900, .i32⟩
  | 49 => ⟨S900, .i32⟩
  | 50 => ⟨S900, .i32⟩
  | 51 => ⟨S900x1, .i32⟩
  | 52 => ⟨S900, .f32⟩
  | 53 => ⟨S_, .f32⟩
  | 54 => ⟨S900, .f32⟩
  | 55 => ⟨S900, .f32⟩
  | 56 => ⟨S900, .f32⟩
  | 57 => ⟨S900x1, .f32⟩
  | 58 => ⟨S_, .i32⟩
  | 59 => ⟨S900, .i32⟩
  | 60 => ⟨S900, .i1⟩
  | 61 => ⟨S_, .i32⟩
  | 62 => ⟨S900, .i32⟩
  | 63 => ⟨S900, .i32⟩
  | 64 => ⟨S900, .i32⟩
  | 65 => ⟨S900x1, .i32⟩
  | 66 => ⟨S900x128, .f32⟩
  | 67 => ⟨S900x128, .f32⟩
  | 68 => ⟨S900x128, .f32⟩
  | 69 => ⟨S_, .f32⟩
  | 70 => ⟨S100x128, .f32⟩
  | 71 => ⟨S900x1, .i32⟩
  | 72 => ⟨S100x128, .f32⟩
  | 73 => ⟨S1x128, .f32⟩
  | 74 => ⟨S100x128, .f32⟩
  | 75 => ⟨S100x128, .f32⟩
  | 76 => ⟨S5x20x128, .f32⟩
  | 77 => ⟨S5x20x128, .f32⟩
  | 78 => ⟨S1x100, .i32⟩
  | 79 => ⟨S100, .i32⟩
  | 80 => ⟨S_, .i32⟩
  | 81 => ⟨S100, .i32⟩
  | 82 => ⟨S100, .i1⟩
  | 83 => ⟨S_, .i32⟩
  | 84 => ⟨S100, .i32⟩
  | 85 => ⟨S100, .i32⟩
  | 86 => ⟨S100, .i32⟩
  | 87 => ⟨S100x1, .i32⟩
  | 88 => ⟨S5x100x128, .f32⟩
  | 89 => ⟨S1x100, .i32⟩
  | 90 => ⟨S100, .i32⟩
  | 91 => ⟨S_, .f32⟩
  | 92 => ⟨S20x128, .f32⟩
  | 93 => ⟨S100x1, .i32⟩
  | 94 => ⟨S5x20x128, .f32⟩
  | 95 => ⟨S5x20x128, .f32⟩
  | 96 => ⟨S128x1, .f32⟩
  | 97 => ⟨S5x20x1, .f32⟩
  | 98 => ⟨S1x1, .f32⟩
  | 99 => ⟨S1x1x1, .f32⟩
  | 100 => ⟨S5x20x1, .f32⟩
  | 101 => ⟨S5x20x1, .f32⟩
  | 102 => ⟨S128x1, .f32⟩
  | 103 => ⟨S5x20x1, .f32⟩
  | 104 => ⟨S5x20x1, .f32⟩
  | 105 => ⟨S5x20, .f32⟩
  | 106 => ⟨S5x10, .f32⟩
  | 107 => ⟨S5x10, .i32⟩
  | 108 => ⟨S_, .i32⟩
  | 109 => ⟨S5x10, .i32⟩
  | 110 => ⟨S5x10, .i1⟩
  | 111 => ⟨S_, .i32⟩
  | 112 => ⟨S5x10, .i32⟩
  | 113 => ⟨S5x10, .i32⟩
  | 114 => ⟨S5x10, .i32⟩
  | 115 => ⟨S5x10x1, .i32⟩
  | 116 => ⟨S5x10x128, .f32⟩
  | 117 => ⟨S5x10, .f32⟩
  | 118 => ⟨S5x10x1, .f32⟩
  | 119 => ⟨S5x10x128, .f32⟩
  | 120 => ⟨S5x10x128, .f32⟩
  | 121 => ⟨S_, .f32⟩
  | 122 => ⟨S5x128, .f32⟩
  | 123 => ⟨S_, .f32⟩
  | 124 => ⟨S5x128, .f32⟩
  | 125 => ⟨S_, .f32⟩
  | 126 => ⟨S5x128, .f32⟩
  | 127 => ⟨S5x128, .f32⟩
  | _ => ⟨S100x50x16, .f32⟩

abbrev hbmTy0_3 (i : Nat) : BufTy := match i % 128 with
  | 0 => ⟨S5x256, .f32⟩
  | 1 => ⟨S5, .i32⟩
  | 2 => ⟨S1x20, .i32⟩
  | 3 => ⟨S20, .i32⟩
  | 4 => ⟨S25, .i32⟩
  | 5 => ⟨S1x20, .i32⟩
  | 6 => ⟨S20, .i32⟩
  | 7 => ⟨S25, .i32⟩
  | 8 => ⟨S256x128, .f32⟩
  | 9 => ⟨S5x128, .f32⟩
  | 10 => ⟨S5, .f32⟩
  | 11 => ⟨S5, .f32⟩
  | 12 => ⟨S_, .i32⟩
  | 13 => ⟨S25, .i32⟩
  | 14 => ⟨S25, .i1⟩
  | 15 => ⟨S_, .i32⟩
  | 16 => ⟨S25, .i32⟩
  | 17 => ⟨S25, .i32⟩
  | 18 => ⟨S25, .i32⟩
  | 19 => ⟨S25x1, .i32⟩
  | 20 => ⟨S25, .f32⟩
  | 21 => ⟨S_, .i32⟩
  | 22 => ⟨S25, .i32⟩
  | 23 => ⟨S25, .i1⟩
  | 24 => ⟨S_, .i32⟩
  | 25 => ⟨S25, .i32⟩
  | 26 => ⟨S25, .i32⟩
  | 27 => ⟨S25, .i32⟩
  | 28 => ⟨S25x1, .i32⟩
  | 29 => ⟨S25, .f32⟩
  | 30 => ⟨S25, .f32⟩
  | 31 => ⟨S_, .f32⟩
  | 32 => ⟨S_, .f32⟩
  | 33 => ⟨S25, .f32⟩
  | 34 => ⟨S25, .i1⟩
  | 35 => ⟨S_, .f32⟩
  | 36 => ⟨S25, .f32⟩
  | 37 => ⟨S25, .f32⟩
  | 38 => ⟨S25, .f32⟩
  | 39 => ⟨S5, .i32⟩
  | 40 => ⟨S5x1, .i32⟩
  | 41 => ⟨S1x25, .i32⟩
  | 42 => ⟨S5x25, .i32⟩
  | 43 => ⟨S5x25, .i32⟩
  | 44 => ⟨S5x25, .i1⟩
  | 45 => ⟨S1x25, .f32⟩
  | 46 => ⟨S_, .f32⟩
  | 47 => ⟨S_, .f32⟩
  | 48 => ⟨S5x25, .f32⟩
  | 49 => ⟨S5x25, .f32⟩
  | 50 => ⟨S5x25, .f32⟩
  | 51 => ⟨S_, .f32⟩
  | 52 => ⟨S5, .f32⟩
  | 53 => ⟨S_, .i32⟩
  | 54 => ⟨S25, .i32⟩
  | 55 => ⟨S25, .i1⟩
  | 56 => ⟨S_, .i32⟩
  | 57 => ⟨S25, .i32⟩
  | 58 => ⟨S25, .i32⟩
  | 59 => ⟨S25, .i32⟩
  | 60 => ⟨S25x1, .i32⟩
  | 61 => ⟨S25, .f32⟩
  | 62 => ⟨S25, .f32⟩
  | 63 => ⟨S25, .f32⟩
  | 64 => ⟨S_, .f32⟩
  | 65 => ⟨S5, .f32⟩
  | 66 => ⟨S25x1, .i32⟩
  | 67 => ⟨S5, .f32⟩
  | 68 => ⟨S_, .i32⟩
  | 69 => ⟨S25, .i32⟩
  | 70 => ⟨S25, .i1⟩
  | 71 => ⟨S_, .i32⟩
  | 72 => ⟨S25, .i32⟩
  | 73 => ⟨S25, .i32⟩
  | 74 => ⟨S25, .i32⟩
  | 75 => ⟨S25x1, .i32⟩
  | 76 => ⟨S25, .f32⟩
  | 77 => ⟨S_, .f32⟩
  | 78 => ⟨S25, .f32⟩
  | 79 => ⟨S25, .f32⟩
  | 80 => ⟨S25, .f32⟩
  | 81 => ⟨S25x1, .f32⟩
  | 82 => ⟨S_, .i32⟩
  | 83 => ⟨S25, .i32⟩
  | 84 => ⟨S25, .i1⟩
  | 85 => ⟨S_, .i32⟩
  | 86 => ⟨S25, .i32⟩
  | 87 => ⟨S25, .i32⟩
  | 88 => ⟨S25, .i32⟩
  | 89 => ⟨S25x1, .i32⟩
  | 90 => ⟨S25x128, .f32⟩
  | 91 => ⟨S25x128, .f32⟩
  | 92 => ⟨S25x128, .f32⟩
  | 93 => ⟨S_, .f32⟩
  | 94 => ⟨S5x128, .f32⟩
  | 95 => ⟨S25x1, .i32⟩
  | 96 => ⟨S5x128, .f32⟩
  | 97 => ⟨S1x128, .f32⟩
  | 98 => ⟨S5x128, .f32⟩
  | 99 => ⟨S5x128, .f32⟩
  | 100 => ⟨S5x1x128, .f32⟩
  | 101 => ⟨S5x20x128, .f32⟩
  | 102 => ⟨S5x20x384, .f32⟩
  | 103 => ⟨S384x128, .f32⟩
  | 104 => ⟨S5x20x128, .f32⟩
  | 105 => ⟨S1x1x128, .f32⟩
  | 106 => ⟨S5x20x128, .f32⟩
  | 107 => ⟨S5x20x128, .f32⟩
  | 108 => ⟨S_, .f32⟩
  | 109 => ⟨S5x20x128, .f32⟩
  | 110 => ⟨S5x20x128, .f32⟩
  | 111 => ⟨S128x1, .f32⟩
  | 112 => ⟨S5x20x1, .f32⟩
  | 113 => ⟨S1x1x1, .f32⟩
  | 114 => ⟨S5x20x1, .f32⟩
  | 115 => ⟨S5x20x1, .f32⟩
  | 116 => ⟨S100, .f32⟩
  | 117 => ⟨S128x1, .f32⟩
  | 118 => ⟨S5x20x1, .f32⟩
  | 119 => ⟨S1x1x1, .f32⟩
  | 120 => ⟨S5x20x1, .f32⟩
  | 121 => ⟨S5x20x1, .f32⟩
  | 122 => ⟨S5x20x1, .f32⟩
  | 123 => ⟨S5x20x1, .f32⟩
  | 124 => ⟨S_, .f32⟩
  | 125 => ⟨S5x20x1, .f32⟩
  | 126 => ⟨S5x20x1, .f32⟩
  | 127 => ⟨S_, .f32⟩
  | _ => ⟨S100x50x16, .f32⟩

abbrev hbmTy0_4 (i : Nat) : BufTy := match i % 128 with
  | 0 => ⟨S5x20x1, .f32⟩
  | 1 => ⟨S5x20x1, .f32⟩
  | 2 => ⟨S100, .f32⟩
  | _ => ⟨S100x50x16, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100x50x16, .f32⟩

abbrev bufTy : (tb : Table) → Fin (tcTables nBuf tb) → BufTy
  | .hbm, ⟨i, _⟩ => hbmTy i
  | _, _ => ⟨S100x50x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_cst : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_cst_0 : Ref sig .tc := ⟨.hbm, 46, rfl⟩
abbrev main_v9 : Ref sig .tc := ⟨.hbm, 47, rfl⟩
abbrev main_c : Ref sig .tc := ⟨.hbm, 48, rfl⟩
abbrev main_v10_0 : Ref sig .tc := ⟨.hbm, 49, rfl⟩
abbrev main_v10_1 : Ref sig .tc := ⟨.hbm, 50, rfl⟩
abbrev main_v10_2 : Ref sig .tc := ⟨.hbm, 51, rfl⟩
abbrev main_v10_3 : Ref sig .tc := ⟨.hbm, 52, rfl⟩
abbrev main_v10_4 : Ref sig .tc := ⟨.hbm, 53, rfl⟩
abbrev main_v10_5 : Ref sig .tc := ⟨.hbm, 54, rfl⟩
abbrev main_v10_6 : Ref sig .tc := ⟨.hbm, 55, rfl⟩
abbrev main_v10_7 : Ref sig .tc := ⟨.hbm, 56, rfl⟩
abbrev main_while0c_c_61 : Ref sig .tc := ⟨.hbm, 57, rfl⟩
abbrev main_while0c_v275 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_c_1 : Ref sig .tc := ⟨.hbm, 61, rfl⟩
abbrev main_while0b_call0_v0 : Ref sig .tc := ⟨.hbm, 62, rfl⟩
abbrev main_while0b_v275 : Ref sig .tc := ⟨.hbm, 63, rfl⟩
abbrev main_while0b_v276 : Ref sig .tc := ⟨.hbm, 64, rfl⟩
abbrev main_while0b_v277 : Ref sig .tc := ⟨.hbm, 65, rfl⟩
abbrev main_while0b_v278 : Ref sig .tc := ⟨.hbm, 66, rfl⟩
abbrev main_while0b_v279 : Ref sig .tc := ⟨.hbm, 67, rfl⟩
abbrev main_while0b_v280 : Ref sig .tc := ⟨.hbm, 68, rfl⟩
abbrev main_while0b_v281 : Ref sig .tc := ⟨.hbm, 69, rfl⟩
abbrev main_while0b_v282 : Ref sig .tc := ⟨.hbm, 70, rfl⟩
abbrev main_while0b_v283 : Ref sig .tc := ⟨.hbm, 71, rfl⟩
abbrev main_while0b_v284 : Ref sig .tc := ⟨.hbm, 72, rfl⟩
abbrev main_while0b_v285 : Ref sig .tc := ⟨.hbm, 73, rfl⟩
abbrev main_while0b_v286 : Ref sig .tc := ⟨.hbm, 74, rfl⟩
abbrev main_while0b_v287 : Ref sig .tc := ⟨.hbm, 75, rfl⟩
abbrev main_while0b_v288 : Ref sig .tc := ⟨.hbm, 76, rfl⟩
abbrev main_while0b_v289 : Ref sig .tc := ⟨.hbm, 77, rfl⟩
abbrev main_while0b_v290 : Ref sig .tc := ⟨.hbm, 78, rfl⟩
abbrev main_while0b_v291 : Ref sig .tc := ⟨.hbm, 79, rfl⟩
abbrev main_while0b_v292 : Ref sig .tc := ⟨.hbm, 80, rfl⟩
abbrev main_while0b_v293 : Ref sig .tc := ⟨.hbm, 81, rfl⟩
abbrev main_while0b_v294 : Ref sig .tc := ⟨.hbm, 82, rfl⟩
abbrev main_while0b_cst_61 : Ref sig .tc := ⟨.hbm, 83, rfl⟩
abbrev main_while0b_v295 : Ref sig .tc := ⟨.hbm, 84, rfl⟩
abbrev main_while0b_v296 : Ref sig .tc := ⟨.hbm, 85, rfl⟩
abbrev main_while0b_cst_62 : Ref sig .tc := ⟨.hbm, 86, rfl⟩
abbrev main_while0b_v297 : Ref sig .tc := ⟨.hbm, 87, rfl⟩
abbrev main_while0b_v298 : Ref sig .tc := ⟨.hbm, 88, rfl⟩
abbrev main_while0b_v299 : Ref sig .tc := ⟨.hbm, 89, rfl⟩
abbrev main_while0b_v300 : Ref sig .tc := ⟨.hbm, 90, rfl⟩
abbrev main_while0b_v301 : Ref sig .tc := ⟨.hbm, 91, rfl⟩
abbrev main_while0b_cst_63 : Ref sig .tc := ⟨.hbm, 92, rfl⟩
abbrev main_while0b_v302 : Ref sig .tc := ⟨.hbm, 93, rfl⟩
abbrev main_while0b_v303 : Ref sig .tc := ⟨.hbm, 94, rfl⟩
abbrev main_while0b_cst_64 : Ref sig .tc := ⟨.hbm, 95, rfl⟩
abbrev main_while0b_v304 : Ref sig .tc := ⟨.hbm, 96, rfl⟩
abbrev main_while0b_v305 : Ref sig .tc := ⟨.hbm, 97, rfl⟩
abbrev main_while0b_v306 : Ref sig .tc := ⟨.hbm, 98, rfl⟩
abbrev main_while0b_v307 : Ref sig .tc := ⟨.hbm, 99, rfl⟩
abbrev main_while0b_v308 : Ref sig .tc := ⟨.hbm, 100, rfl⟩
abbrev main_while0b_cst_65 : Ref sig .tc := ⟨.hbm, 101, rfl⟩
abbrev main_while0b_v309 : Ref sig .tc := ⟨.hbm, 102, rfl⟩
abbrev main_while0b_v310 : Ref sig .tc := ⟨.hbm, 103, rfl⟩
abbrev main_while0b_v311 : Ref sig .tc := ⟨.hbm, 104, rfl⟩
abbrev main_while0b_v312 : Ref sig .tc := ⟨.hbm, 105, rfl⟩
abbrev main_while0b_v313 : Ref sig .tc := ⟨.hbm, 106, rfl⟩
abbrev main_while0b_call1_v0 : Ref sig .tc := ⟨.hbm, 107, rfl⟩
abbrev main_while0b_call1_c : Ref sig .tc := ⟨.hbm, 108, rfl⟩
abbrev main_while0b_call1_c_0 : Ref sig .tc := ⟨.hbm, 109, rfl⟩
abbrev main_while0b_call1_c_1 : Ref sig .tc := ⟨.hbm, 110, rfl⟩
abbrev main_while0b_v314 : Ref sig .tc := ⟨.hbm, 111, rfl⟩
abbrev main_while0b_c_66 : Ref sig .tc := ⟨.hbm, 112, rfl⟩
abbrev main_while0b_v315 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_v14 : Ref sig .tc := ⟨.hbm, 117, rfl⟩
abbrev main_v15 : Ref sig .tc := ⟨.hbm, 118, rfl⟩
abbrev main_v16 : Ref sig .tc := ⟨.hbm, 119, rfl⟩
abbrev main_v17 : Ref sig .tc := ⟨.hbm, 120, rfl⟩
abbrev main_v18 : Ref sig .tc := ⟨.hbm, 121, rfl⟩
abbrev main_cst_1 : Ref sig .tc := ⟨.hbm, 122, rfl⟩
abbrev main_v19 : Ref sig .tc := ⟨.hbm, 123, rfl⟩
abbrev main_cst_2 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_3 : Ref sig .tc := ⟨.hbm, 131, rfl⟩
abbrev main_v26 : Ref sig .tc := ⟨.hbm, 132, rfl⟩
abbrev main_v27 : Ref sig .tc := ⟨.hbm, 133, rfl⟩
abbrev main_v28 : Ref sig .tc := ⟨.hbm, 134, rfl⟩
abbrev main_v29 : Ref sig .tc := ⟨.hbm, 135, rfl⟩
abbrev main_v30 : Ref sig .tc := ⟨.hbm, 136, rfl⟩
abbrev main_v31 : Ref sig .tc := ⟨.hbm, 137, rfl⟩
abbrev main_cst_4 : Ref sig .tc := ⟨.hbm, 138, rfl⟩
abbrev main_v32 : Ref sig .tc := ⟨.hbm, 139, rfl⟩
abbrev main_v33 : Ref sig .tc := ⟨.hbm, 140, rfl⟩
abbrev main_cst_5 : Ref sig .tc := ⟨.hbm, 141, rfl⟩
abbrev main_v34 : Ref sig .tc := ⟨.hbm, 142, rfl⟩
abbrev main_cst_6 : Ref sig .tc := ⟨.hbm, 143, rfl⟩
abbrev main_v35 : Ref sig .tc := ⟨.hbm, 144, rfl⟩
abbrev main_c_7 : Ref sig .tc := ⟨.hbm, 145, rfl⟩
abbrev main_v36_0 : Ref sig .tc := ⟨.hbm, 146, rfl⟩
abbrev main_v36_1 : Ref sig .tc := ⟨.hbm, 147, rfl⟩
abbrev main_v36_2 : Ref sig .tc := ⟨.hbm, 148, rfl⟩
abbrev main_v36_3 : Ref sig .tc := ⟨.hbm, 149, rfl⟩
abbrev main_v36_4 : Ref sig .tc := ⟨.hbm, 150, rfl⟩
abbrev main_v36_5 : Ref sig .tc := ⟨.hbm, 151, rfl⟩
abbrev main_v36_6 : Ref sig .tc := ⟨.hbm, 152, rfl⟩
abbrev main_v36_7 : Ref sig .tc := ⟨.hbm, 153, rfl⟩
abbrev main_while1c_c_61 : Ref sig .tc := ⟨.hbm, 154, rfl⟩
abbrev main_while1c_v275 : Ref sig .tc := ⟨.hbm, 155, rfl⟩
abbrev main_while1b_call2_c : Ref sig .tc := ⟨.hbm, 156, rfl⟩
abbrev main_while1b_call2_c_0 : Ref sig .tc := ⟨.hbm, 157, rfl⟩
abbrev main_while1b_call2_v0 : Ref sig .tc := ⟨.hbm, 158, rfl⟩
abbrev main_while1b_v275 : Ref sig .tc := ⟨.hbm, 159, rfl⟩
abbrev main_while1b_v276 : Ref sig .tc := ⟨.hbm, 160, rfl⟩
abbrev main_while1b_v277 : Ref sig .tc := ⟨.hbm, 161, rfl⟩
abbrev main_while1b_v278 : Ref sig .tc := ⟨.hbm, 162, rfl⟩
abbrev main_while1b_v279 : Ref sig .tc := ⟨.hbm, 163, rfl⟩
abbrev main_while1b_v280 : Ref sig .tc := ⟨.hbm, 164, rfl⟩
abbrev main_while1b_v281 : Ref sig .tc := ⟨.hbm, 165, rfl⟩
abbrev main_while1b_v282 : Ref sig .tc := ⟨.hbm, 166, rfl⟩
abbrev main_while1b_v283 : Ref sig .tc := ⟨.hbm, 167, rfl⟩
abbrev main_while1b_v284 : Ref sig .tc := ⟨.hbm, 168, rfl⟩
abbrev main_while1b_v285 : Ref sig .tc := ⟨.hbm, 169, rfl⟩
abbrev main_while1b_v286 : Ref sig .tc := ⟨.hbm, 170, rfl⟩
abbrev main_while1b_v287 : Ref sig .tc := ⟨.hbm, 171, rfl⟩
abbrev main_while1b_v288 : Ref sig .tc := ⟨.hbm, 172, rfl⟩
abbrev main_while1b_v289 : Ref sig .tc := ⟨.hbm, 173, rfl⟩
abbrev main_while1b_v290 : Ref sig .tc := ⟨.hbm, 174, rfl⟩
abbrev main_while1b_v291 : Ref sig .tc := ⟨.hbm, 175, rfl⟩
abbrev main_while1b_v292 : Ref sig .tc := ⟨.hbm, 176, rfl⟩
abbrev main_while1b_v293 : Ref sig .tc := ⟨.hbm, 177, rfl⟩
abbrev main_while1b_v294 : Ref sig .tc := ⟨.hbm, 178, rfl⟩
abbrev main_while1b_cst_61 : Ref sig .tc := ⟨.hbm, 179, rfl⟩
abbrev main_while1b_v295 : Ref sig .tc := ⟨.hbm, 180, rfl⟩
abbrev main_while1b_v296 : Ref sig .tc := ⟨.hbm, 181, rfl⟩
abbrev main_while1b_cst_62 : Ref sig .tc := ⟨.hbm, 182, rfl⟩
abbrev main_while1b_v297 : Ref sig .tc := ⟨.hbm, 183, rfl⟩
abbrev main_while1b_v298 : Ref sig .tc := ⟨.hbm, 184, rfl⟩
abbrev main_while1b_v299 : Ref sig .tc := ⟨.hbm, 185, rfl⟩
abbrev main_while1b_v300 : Ref sig .tc := ⟨.hbm, 186, rfl⟩
abbrev main_while1b_v301 : Ref sig .tc := ⟨.hbm, 187, rfl⟩
abbrev main_while1b_cst_63 : Ref sig .tc := ⟨.hbm, 188, rfl⟩
abbrev main_while1b_v302 : Ref sig .tc := ⟨.hbm, 189, rfl⟩
abbrev main_while1b_v303 : Ref sig .tc := ⟨.hbm, 190, rfl⟩
abbrev main_while1b_cst_64 : Ref sig .tc := ⟨.hbm, 191, rfl⟩
abbrev main_while1b_v304 : Ref sig .tc := ⟨.hbm, 192, rfl⟩
abbrev main_while1b_v305 : Ref sig .tc := ⟨.hbm, 193, rfl⟩
abbrev main_while1b_v306 : Ref sig .tc := ⟨.hbm, 194, rfl⟩
abbrev main_while1b_v307 : Ref sig .tc := ⟨.hbm, 195, rfl⟩
abbrev main_while1b_v308 : Ref sig .tc := ⟨.hbm, 196, rfl⟩
abbrev main_while1b_cst_65 : Ref sig .tc := ⟨.hbm, 197, rfl⟩
abbrev main_while1b_v309 : Ref sig .tc := ⟨.hbm, 198, rfl⟩
abbrev main_while1b_v310 : Ref sig .tc := ⟨.hbm, 199, rfl⟩
abbrev main_while1b_v311 : Ref sig .tc := ⟨.hbm, 200, rfl⟩
abbrev main_while1b_v312 : Ref sig .tc := ⟨.hbm, 201, rfl⟩
abbrev main_while1b_v313 : Ref sig .tc := ⟨.hbm, 202, rfl⟩
abbrev main_while1b_call3_v0 : Ref sig .tc := ⟨.hbm, 203, rfl⟩
abbrev main_while1b_call3_c : Ref sig .tc := ⟨.hbm, 204, rfl⟩
abbrev main_while1b_call3_c_0 : Ref sig .tc := ⟨.hbm, 205, rfl⟩
abbrev main_while1b_v314 : Ref sig .tc := ⟨.hbm, 206, rfl⟩
abbrev main_while1b_c_66 : Ref sig .tc := ⟨.hbm, 207, rfl⟩
abbrev main_while1b_v315 : Ref sig .tc := ⟨.hbm, 208, rfl⟩
abbrev main_v37 : Ref sig .tc := ⟨.hbm, 209, rfl⟩
abbrev main_v38 : Ref sig .tc := ⟨.hbm, 210, rfl⟩
abbrev main_v39 : Ref sig .tc := ⟨.hbm, 211, rfl⟩
abbrev main_v40 : Ref sig .tc := ⟨.hbm, 212, rfl⟩
abbrev main_v41 : Ref sig .tc := ⟨.hbm, 213, rfl⟩
abbrev main_v42 : Ref sig .tc := ⟨.hbm, 214, rfl⟩
abbrev main_cst_8 : Ref sig .tc := ⟨.hbm, 215, rfl⟩
abbrev main_v43 : Ref sig .tc := ⟨.hbm, 216, rfl⟩
abbrev main_cst_9 : Ref sig .tc := ⟨.hbm, 217, rfl⟩
abbrev main_v44 : Ref sig .tc := ⟨.hbm, 218, rfl⟩
abbrev main_v45 : Ref sig .tc := ⟨.hbm, 219, rfl⟩
abbrev main_v46 : Ref sig .tc := ⟨.hbm, 220, rfl⟩
abbrev main_v47 : Ref sig .tc := ⟨.hbm, 221, rfl⟩
abbrev main_v48 : Ref sig .tc := ⟨.hbm, 222, rfl⟩
abbrev main_v49 : Ref sig .tc := ⟨.hbm, 223, rfl⟩
abbrev main_cst_10 : Ref sig .tc := ⟨.hbm, 224, rfl⟩
abbrev main_v50 : Ref sig .tc := ⟨.hbm, 225, rfl⟩
abbrev main_v51 : Ref sig .tc := ⟨.hbm, 226, rfl⟩
abbrev main_v52 : Ref sig .tc := ⟨.hbm, 227, rfl⟩
abbrev main_v53 : Ref sig .tc := ⟨.hbm, 228, rfl⟩
abbrev main_v54 : Ref sig .tc := ⟨.hbm, 229, rfl⟩
abbrev main_v55 : Ref sig .tc := ⟨.hbm, 230, rfl⟩
abbrev main_cst_11 : Ref sig .tc := ⟨.hbm, 231, rfl⟩
abbrev main_v56 : Ref sig .tc := ⟨.hbm, 232, rfl⟩
abbrev main_v57 : Ref sig .tc := ⟨.hbm, 233, rfl⟩
abbrev main_v58 : Ref sig .tc := ⟨.hbm, 234, rfl⟩
abbrev main_v59 : Ref sig .tc := ⟨.hbm, 235, rfl⟩
abbrev main_v60 : Ref sig .tc := ⟨.hbm, 236, rfl⟩
abbrev main_v61 : Ref sig .tc := ⟨.hbm, 237, rfl⟩
abbrev main_v62 : Ref sig .tc := ⟨.hbm, 238, rfl⟩
abbrev main_v63 : Ref sig .tc := ⟨.hbm, 239, rfl⟩
abbrev main_v64 : Ref sig .tc := ⟨.hbm, 240, rfl⟩
abbrev main_v65 : Ref sig .tc := ⟨.hbm, 241, rfl⟩
abbrev main_v66 : Ref sig .tc := ⟨.hbm, 242, rfl⟩
abbrev main_v67 : Ref sig .tc := ⟨.hbm, 243, rfl⟩
abbrev main_c_12 : Ref sig .tc := ⟨.hbm, 244, rfl⟩
abbrev main_v68 : Ref sig .tc := ⟨.hbm, 245, rfl⟩
abbrev main_v69 : Ref sig .tc := ⟨.hbm, 246, rfl⟩
abbrev main_c_13 : Ref sig .tc := ⟨.hbm, 247, rfl⟩
abbrev main_v70 : Ref sig .tc := ⟨.hbm, 248, rfl⟩
abbrev main_v71 : Ref sig .tc := ⟨.hbm, 249, rfl⟩
abbrev main_v72 : Ref sig .tc := ⟨.hbm, 250, rfl⟩
abbrev main_v73 : Ref sig .tc := ⟨.hbm, 251, rfl⟩
abbrev main_v74 : Ref sig .tc := ⟨.hbm, 252, rfl⟩
abbrev main_c_14 : Ref sig .tc := ⟨.hbm, 253, rfl⟩
abbrev main_v75 : Ref sig .tc := ⟨.hbm, 254, rfl⟩
abbrev main_v76 : Ref sig .tc := ⟨.hbm, 255, rfl⟩
abbrev main_c_15 : Ref sig .tc := ⟨.hbm, 256, rfl⟩
abbrev main_v77 : Ref sig .tc := ⟨.hbm, 257, rfl⟩
abbrev main_v78 : Ref sig .tc := ⟨.hbm, 258, rfl⟩
abbrev main_v79 : Ref sig .tc := ⟨.hbm, 259, rfl⟩
abbrev main_v80 : Ref sig .tc := ⟨.hbm, 260, rfl⟩
abbrev main_v81 : Ref sig .tc := ⟨.hbm, 261, rfl⟩
abbrev main_v82 : Ref sig .tc := ⟨.hbm, 262, rfl⟩
abbrev main_cst_16 : Ref sig .tc := ⟨.hbm, 263, rfl⟩
abbrev main_call4_cst : Ref sig .tc := ⟨.hbm, 264, rfl⟩
abbrev main_call4_v0 : Ref sig .tc := ⟨.hbm, 265, rfl⟩
abbrev main_call4_v1 : Ref sig .tc := ⟨.hbm, 266, rfl⟩
abbrev main_call4_v2 : Ref sig .tc := ⟨.hbm, 267, rfl⟩
abbrev main_call4_v3 : Ref sig .tc := ⟨.hbm, 268, rfl⟩
abbrev main_call4_v4 : Ref sig .tc := ⟨.hbm, 269, rfl⟩
abbrev main_v83 : Ref sig .tc := ⟨.hbm, 270, rfl⟩
abbrev main_v84 : Ref sig .tc := ⟨.hbm, 271, rfl⟩
abbrev main_v85 : Ref sig .tc := ⟨.hbm, 272, rfl⟩
abbrev main_v86 : Ref sig .tc := ⟨.hbm, 273, rfl⟩
abbrev main_v87 : Ref sig .tc := ⟨.hbm, 274, rfl⟩
abbrev main_v88 : Ref sig .tc := ⟨.hbm, 275, rfl⟩
abbrev main_v89 : Ref sig .tc := ⟨.hbm, 276, rfl⟩
abbrev main_v90 : Ref sig .tc := ⟨.hbm, 277, rfl⟩
abbrev main_cst_17 : Ref sig .tc := ⟨.hbm, 278, rfl⟩
abbrev main_call5_v0 : Ref sig .tc := ⟨.hbm, 279, rfl⟩
abbrev main_call5_v1 : Ref sig .tc := ⟨.hbm, 280, rfl⟩
abbrev main_call5_v2 : Ref sig .tc := ⟨.hbm, 281, rfl⟩
abbrev main_v91 : Ref sig .tc := ⟨.hbm, 282, rfl⟩
abbrev main_cst_18 : Ref sig .tc := ⟨.hbm, 283, rfl⟩
abbrev main_v92 : Ref sig .tc := ⟨.hbm, 284, rfl⟩
abbrev main_c_19 : Ref sig .tc := ⟨.hbm, 285, rfl⟩
abbrev main_v93 : Ref sig .tc := ⟨.hbm, 286, rfl⟩
abbrev main_v94 : Ref sig .tc := ⟨.hbm, 287, rfl⟩
abbrev main_c_20 : Ref sig .tc := ⟨.hbm, 288, rfl⟩
abbrev main_v95 : Ref sig .tc := ⟨.hbm, 289, rfl⟩
abbrev main_v96 : Ref sig .tc := ⟨.hbm, 290, rfl⟩
abbrev main_v97 : Ref sig .tc := ⟨.hbm, 291, rfl⟩
abbrev main_v98 : Ref sig .tc := ⟨.hbm, 292, rfl⟩
abbrev main_v99 : Ref sig .tc := ⟨.hbm, 293, rfl⟩
abbrev main_v100 : Ref sig .tc := ⟨.hbm, 294, rfl⟩
abbrev main_v101 : Ref sig .tc := ⟨.hbm, 295, rfl⟩
abbrev main_cst_21 : Ref sig .tc := ⟨.hbm, 296, rfl⟩
abbrev main_v102 : Ref sig .tc := ⟨.hbm, 297, rfl⟩
abbrev main_v103 : Ref sig .tc := ⟨.hbm, 298, rfl⟩
abbrev main_v104 : Ref sig .tc := ⟨.hbm, 299, rfl⟩
abbrev main_c_22 : Ref sig .tc := ⟨.hbm, 300, rfl⟩
abbrev main_v105 : Ref sig .tc := ⟨.hbm, 301, rfl⟩
abbrev main_v106 : Ref sig .tc := ⟨.hbm, 302, rfl⟩
abbrev main_c_23 : Ref sig .tc := ⟨.hbm, 303, rfl⟩
abbrev main_v107 : Ref sig .tc := ⟨.hbm, 304, rfl⟩
abbrev main_v108 : Ref sig .tc := ⟨.hbm, 305, rfl⟩
abbrev main_v109 : Ref sig .tc := ⟨.hbm, 306, rfl⟩
abbrev main_v110 : Ref sig .tc := ⟨.hbm, 307, rfl⟩
abbrev main_v111 : Ref sig .tc := ⟨.hbm, 308, rfl⟩
abbrev main_cst_24 : Ref sig .tc := ⟨.hbm, 309, rfl⟩
abbrev main_v112 : Ref sig .tc := ⟨.hbm, 310, rfl⟩
abbrev main_v113 : Ref sig .tc := ⟨.hbm, 311, rfl⟩
abbrev main_v114 : Ref sig .tc := ⟨.hbm, 312, rfl⟩
abbrev main_v115 : Ref sig .tc := ⟨.hbm, 313, rfl⟩
abbrev main_c_25 : Ref sig .tc := ⟨.hbm, 314, rfl⟩
abbrev main_v116 : Ref sig .tc := ⟨.hbm, 315, rfl⟩
abbrev main_v117 : Ref sig .tc := ⟨.hbm, 316, rfl⟩
abbrev main_c_26 : Ref sig .tc := ⟨.hbm, 317, rfl⟩
abbrev main_v118 : Ref sig .tc := ⟨.hbm, 318, rfl⟩
abbrev main_v119 : Ref sig .tc := ⟨.hbm, 319, rfl⟩
abbrev main_v120 : Ref sig .tc := ⟨.hbm, 320, rfl⟩
abbrev main_v121 : Ref sig .tc := ⟨.hbm, 321, rfl⟩
abbrev main_v122 : Ref sig .tc := ⟨.hbm, 322, rfl⟩
abbrev main_v123 : Ref sig .tc := ⟨.hbm, 323, rfl⟩
abbrev main_v124 : Ref sig .tc := ⟨.hbm, 324, rfl⟩
abbrev main_cst_27 : Ref sig .tc := ⟨.hbm, 325, rfl⟩
abbrev main_v125 : Ref sig .tc := ⟨.hbm, 326, rfl⟩
abbrev main_v126 : Ref sig .tc := ⟨.hbm, 327, rfl⟩
abbrev main_v127 : Ref sig .tc := ⟨.hbm, 328, rfl⟩
abbrev main_v128 : Ref sig .tc := ⟨.hbm, 329, rfl⟩
abbrev main_v129 : Ref sig .tc := ⟨.hbm, 330, rfl⟩
abbrev main_v130 : Ref sig .tc := ⟨.hbm, 331, rfl⟩
abbrev main_v131 : Ref sig .tc := ⟨.hbm, 332, rfl⟩
abbrev main_v132 : Ref sig .tc := ⟨.hbm, 333, rfl⟩
abbrev main_v133 : Ref sig .tc := ⟨.hbm, 334, rfl⟩
abbrev main_v134 : Ref sig .tc := ⟨.hbm, 335, rfl⟩
abbrev main_c_28 : Ref sig .tc := ⟨.hbm, 336, rfl⟩
abbrev main_v135 : Ref sig .tc := ⟨.hbm, 337, rfl⟩
abbrev main_v136 : Ref sig .tc := ⟨.hbm, 338, rfl⟩
abbrev main_c_29 : Ref sig .tc := ⟨.hbm, 339, rfl⟩
abbrev main_v137 : Ref sig .tc := ⟨.hbm, 340, rfl⟩
abbrev main_v138 : Ref sig .tc := ⟨.hbm, 341, rfl⟩
abbrev main_v139 : Ref sig .tc := ⟨.hbm, 342, rfl⟩
abbrev main_v140 : Ref sig .tc := ⟨.hbm, 343, rfl⟩
abbrev main_v141 : Ref sig .tc := ⟨.hbm, 344, rfl⟩
abbrev main_v142 : Ref sig .tc := ⟨.hbm, 345, rfl⟩
abbrev main_v143 : Ref sig .tc := ⟨.hbm, 346, rfl⟩
abbrev main_cst_30 : Ref sig .tc := ⟨.hbm, 347, rfl⟩
abbrev main_v144 : Ref sig .tc := ⟨.hbm, 348, rfl⟩
abbrev main_v145 : Ref sig .tc := ⟨.hbm, 349, rfl⟩
abbrev main_v146 : Ref sig .tc := ⟨.hbm, 350, rfl⟩
abbrev main_v147 : Ref sig .tc := ⟨.hbm, 351, rfl⟩
abbrev main_v148 : Ref sig .tc := ⟨.hbm, 352, rfl⟩
abbrev main_v149 : Ref sig .tc := ⟨.hbm, 353, rfl⟩
abbrev main_v150 : Ref sig .tc := ⟨.hbm, 354, rfl⟩
abbrev main_v151 : Ref sig .tc := ⟨.hbm, 355, rfl⟩
abbrev main_v152 : Ref sig .tc := ⟨.hbm, 356, rfl⟩
abbrev main_v153 : Ref sig .tc := ⟨.hbm, 357, rfl⟩
abbrev main_v154 : Ref sig .tc := ⟨.hbm, 358, rfl⟩
abbrev main_v155 : Ref sig .tc := ⟨.hbm, 359, rfl⟩
abbrev main_v156 : Ref sig .tc := ⟨.hbm, 360, rfl⟩
abbrev main_v157 : Ref sig .tc := ⟨.hbm, 361, rfl⟩
abbrev main_values : Ref sig .tc := ⟨.hbm, 362, rfl⟩
abbrev main_indices : Ref sig .tc := ⟨.hbm, 363, rfl⟩
abbrev main_c_31 : Ref sig .tc := ⟨.hbm, 364, rfl⟩
abbrev main_v158 : Ref sig .tc := ⟨.hbm, 365, rfl⟩
abbrev main_v159 : Ref sig .tc := ⟨.hbm, 366, rfl⟩
abbrev main_c_32 : Ref sig .tc := ⟨.hbm, 367, rfl⟩
abbrev main_v160 : Ref sig .tc := ⟨.hbm, 368, rfl⟩
abbrev main_v161 : Ref sig .tc := ⟨.hbm, 369, rfl⟩
abbrev main_v162 : Ref sig .tc := ⟨.hbm, 370, rfl⟩
abbrev main_v163 : Ref sig .tc := ⟨.hbm, 371, rfl⟩
abbrev main_v164 : Ref sig .tc := ⟨.hbm, 372, rfl⟩
abbrev main_v165 : Ref sig .tc := ⟨.hbm, 373, rfl⟩
abbrev main_v166 : Ref sig .tc := ⟨.hbm, 374, rfl⟩
abbrev main_v167 : Ref sig .tc := ⟨.hbm, 375, rfl⟩
abbrev main_v168 : Ref sig .tc := ⟨.hbm, 376, rfl⟩
abbrev main_cst_33 : Ref sig .tc := ⟨.hbm, 377, rfl⟩
abbrev main_v169 : Ref sig .tc := ⟨.hbm, 378, rfl⟩
abbrev main_cst_34 : Ref sig .tc := ⟨.hbm, 379, rfl⟩
abbrev main_v170 : Ref sig .tc := ⟨.hbm, 380, rfl⟩
abbrev main_cst_35 : Ref sig .tc := ⟨.hbm, 381, rfl⟩
abbrev main_v171 : Ref sig .tc := ⟨.hbm, 382, rfl⟩
abbrev main_v172 : Ref sig .tc := ⟨.hbm, 383, rfl⟩
abbrev main_v173 : Ref sig .tc := ⟨.hbm, 384, rfl⟩
abbrev main_v174 : Ref sig .tc := ⟨.hbm, 385, rfl⟩
abbrev main_v175 : Ref sig .tc := ⟨.hbm, 386, rfl⟩
abbrev main_v176 : Ref sig .tc := ⟨.hbm, 387, rfl⟩
abbrev main_v177 : Ref sig .tc := ⟨.hbm, 388, rfl⟩
abbrev main_v178 : Ref sig .tc := ⟨.hbm, 389, rfl⟩
abbrev main_v179 : Ref sig .tc := ⟨.hbm, 390, rfl⟩
abbrev main_v180 : Ref sig .tc := ⟨.hbm, 391, rfl⟩
abbrev main_v181 : Ref sig .tc := ⟨.hbm, 392, rfl⟩
abbrev main_v182 : Ref sig .tc := ⟨.hbm, 393, rfl⟩
abbrev main_v183 : Ref sig .tc := ⟨.hbm, 394, rfl⟩
abbrev main_v184 : Ref sig .tc := ⟨.hbm, 395, rfl⟩
abbrev main_c_36 : Ref sig .tc := ⟨.hbm, 396, rfl⟩
abbrev main_v185 : Ref sig .tc := ⟨.hbm, 397, rfl⟩
abbrev main_v186 : Ref sig .tc := ⟨.hbm, 398, rfl⟩
abbrev main_c_37 : Ref sig .tc := ⟨.hbm, 399, rfl⟩
abbrev main_v187 : Ref sig .tc := ⟨.hbm, 400, rfl⟩
abbrev main_v188 : Ref sig .tc := ⟨.hbm, 401, rfl⟩
abbrev main_v189 : Ref sig .tc := ⟨.hbm, 402, rfl⟩
abbrev main_v190 : Ref sig .tc := ⟨.hbm, 403, rfl⟩
abbrev main_v191 : Ref sig .tc := ⟨.hbm, 404, rfl⟩
abbrev main_c_38 : Ref sig .tc := ⟨.hbm, 405, rfl⟩
abbrev main_v192 : Ref sig .tc := ⟨.hbm, 406, rfl⟩
abbrev main_v193 : Ref sig .tc := ⟨.hbm, 407, rfl⟩
abbrev main_c_39 : Ref sig .tc := ⟨.hbm, 408, rfl⟩
abbrev main_v194 : Ref sig .tc := ⟨.hbm, 409, rfl⟩
abbrev main_v195 : Ref sig .tc := ⟨.hbm, 410, rfl⟩
abbrev main_v196 : Ref sig .tc := ⟨.hbm, 411, rfl⟩
abbrev main_v197 : Ref sig .tc := ⟨.hbm, 412, rfl⟩
abbrev main_v198 : Ref sig .tc := ⟨.hbm, 413, rfl⟩
abbrev main_v199 : Ref sig .tc := ⟨.hbm, 414, rfl⟩
abbrev main_cst_40 : Ref sig .tc := ⟨.hbm, 415, rfl⟩
abbrev main_call6_cst : Ref sig .tc := ⟨.hbm, 416, rfl⟩
abbrev main_call6_v0 : Ref sig .tc := ⟨.hbm, 417, rfl⟩
abbrev main_call6_v1 : Ref sig .tc := ⟨.hbm, 418, rfl⟩
abbrev main_call6_v2 : Ref sig .tc := ⟨.hbm, 419, rfl⟩
abbrev main_call6_v3 : Ref sig .tc := ⟨.hbm, 420, rfl⟩
abbrev main_call6_v4 : Ref sig .tc := ⟨.hbm, 421, rfl⟩
abbrev main_v200 : Ref sig .tc := ⟨.hbm, 422, rfl⟩
abbrev main_v201 : Ref sig .tc := ⟨.hbm, 423, rfl⟩
abbrev main_v202 : Ref sig .tc := ⟨.hbm, 424, rfl⟩
abbrev main_v203 : Ref sig .tc := ⟨.hbm, 425, rfl⟩
abbrev main_v204 : Ref sig .tc := ⟨.hbm, 426, rfl⟩
abbrev main_v205 : Ref sig .tc := ⟨.hbm, 427, rfl⟩
abbrev main_v206 : Ref sig .tc := ⟨.hbm, 428, rfl⟩
abbrev main_v207 : Ref sig .tc := ⟨.hbm, 429, rfl⟩
abbrev main_cst_41 : Ref sig .tc := ⟨.hbm, 430, rfl⟩
abbrev main_call7_v0 : Ref sig .tc := ⟨.hbm, 431, rfl⟩
abbrev main_call7_v1 : Ref sig .tc := ⟨.hbm, 432, rfl⟩
abbrev main_call7_v2 : Ref sig .tc := ⟨.hbm, 433, rfl⟩
abbrev main_v208 : Ref sig .tc := ⟨.hbm, 434, rfl⟩
abbrev main_cst_42 : Ref sig .tc := ⟨.hbm, 435, rfl⟩
abbrev main_v209 : Ref sig .tc := ⟨.hbm, 436, rfl⟩
abbrev main_c_43 : Ref sig .tc := ⟨.hbm, 437, rfl⟩
abbrev main_v210 : Ref sig .tc := ⟨.hbm, 438, rfl⟩
abbrev main_v211 : Ref sig .tc := ⟨.hbm, 439, rfl⟩
abbrev main_c_44 : Ref sig .tc := ⟨.hbm, 440, rfl⟩
abbrev main_v212 : Ref sig .tc := ⟨.hbm, 441, rfl⟩
abbrev main_v213 : Ref sig .tc := ⟨.hbm, 442, rfl⟩
abbrev main_v214 : Ref sig .tc := ⟨.hbm, 443, rfl⟩
abbrev main_v215 : Ref sig .tc := ⟨.hbm, 444, rfl⟩
abbrev main_v216 : Ref sig .tc := ⟨.hbm, 445, rfl⟩
abbrev main_v217 : Ref sig .tc := ⟨.hbm, 446, rfl⟩
abbrev main_v218 : Ref sig .tc := ⟨.hbm, 447, rfl⟩
abbrev main_cst_45 : Ref sig .tc := ⟨.hbm, 448, rfl⟩
abbrev main_v219 : Ref sig .tc := ⟨.hbm, 449, rfl⟩
abbrev main_v220 : Ref sig .tc := ⟨.hbm, 450, rfl⟩
abbrev main_v221 : Ref sig .tc := ⟨.hbm, 451, rfl⟩
abbrev main_c_46 : Ref sig .tc := ⟨.hbm, 452, rfl⟩
abbrev main_v222 : Ref sig .tc := ⟨.hbm, 453, rfl⟩
abbrev main_v223 : Ref sig .tc := ⟨.hbm, 454, rfl⟩
abbrev main_c_47 : Ref sig .tc := ⟨.hbm, 455, rfl⟩
abbrev main_v224 : Ref sig .tc := ⟨.hbm, 456, rfl⟩
abbrev main_v225 : Ref sig .tc := ⟨.hbm, 457, rfl⟩
abbrev main_v226 : Ref sig .tc := ⟨.hbm, 458, rfl⟩
abbrev main_v227 : Ref sig .tc := ⟨.hbm, 459, rfl⟩
abbrev main_v228 : Ref sig .tc := ⟨.hbm, 460, rfl⟩
abbrev main_cst_48 : Ref sig .tc := ⟨.hbm, 461, rfl⟩
abbrev main_v229 : Ref sig .tc := ⟨.hbm, 462, rfl⟩
abbrev main_v230 : Ref sig .tc := ⟨.hbm, 463, rfl⟩
abbrev main_v231 : Ref sig .tc := ⟨.hbm, 464, rfl⟩
abbrev main_v232 : Ref sig .tc := ⟨.hbm, 465, rfl⟩
abbrev main_c_49 : Ref sig .tc := ⟨.hbm, 466, rfl⟩
abbrev main_v233 : Ref sig .tc := ⟨.hbm, 467, rfl⟩
abbrev main_v234 : Ref sig .tc := ⟨.hbm, 468, rfl⟩
abbrev main_c_50 : Ref sig .tc := ⟨.hbm, 469, rfl⟩
abbrev main_v235 : Ref sig .tc := ⟨.hbm, 470, rfl⟩
abbrev main_v236 : Ref sig .tc := ⟨.hbm, 471, rfl⟩
abbrev main_v237 : Ref sig .tc := ⟨.hbm, 472, rfl⟩
abbrev main_v238 : Ref sig .tc := ⟨.hbm, 473, rfl⟩
abbrev main_v239 : Ref sig .tc := ⟨.hbm, 474, rfl⟩
abbrev main_v240 : Ref sig .tc := ⟨.hbm, 475, rfl⟩
abbrev main_v241 : Ref sig .tc := ⟨.hbm, 476, rfl⟩
abbrev main_cst_51 : Ref sig .tc := ⟨.hbm, 477, rfl⟩
abbrev main_v242 : Ref sig .tc := ⟨.hbm, 478, rfl⟩
abbrev main_v243 : Ref sig .tc := ⟨.hbm, 479, rfl⟩
abbrev main_v244 : Ref sig .tc := ⟨.hbm, 480, rfl⟩
abbrev main_v245 : Ref sig .tc := ⟨.hbm, 481, rfl⟩
abbrev main_v246 : Ref sig .tc := ⟨.hbm, 482, rfl⟩
abbrev main_v247 : Ref sig .tc := ⟨.hbm, 483, rfl⟩
abbrev main_v248 : Ref sig .tc := ⟨.hbm, 484, rfl⟩
abbrev main_v249 : Ref sig .tc := ⟨.hbm, 485, rfl⟩
abbrev main_v250 : Ref sig .tc := ⟨.hbm, 486, rfl⟩
abbrev main_v251 : Ref sig .tc := ⟨.hbm, 487, rfl⟩
abbrev main_v252 : Ref sig .tc := ⟨.hbm, 488, rfl⟩
abbrev main_v253 : Ref sig .tc := ⟨.hbm, 489, rfl⟩
abbrev main_v254 : Ref sig .tc := ⟨.hbm, 490, rfl⟩
abbrev main_v255 : Ref sig .tc := ⟨.hbm, 491, rfl⟩
abbrev main_call8_cst : Ref sig .tc := ⟨.hbm, 492, rfl⟩
abbrev main_call8_v0 : Ref sig .tc := ⟨.hbm, 493, rfl⟩
abbrev main_v256 : Ref sig .tc := ⟨.hbm, 494, rfl⟩
abbrev main_v257 : Ref sig .tc := ⟨.hbm, 495, rfl⟩
abbrev main_v258 : Ref sig .tc := ⟨.hbm, 496, rfl⟩
abbrev main_v259 : Ref sig .tc := ⟨.hbm, 497, rfl⟩
abbrev main_v260 : Ref sig .tc := ⟨.hbm, 498, rfl⟩
abbrev main_v261 : Ref sig .tc := ⟨.hbm, 499, rfl⟩
abbrev main_v262 : Ref sig .tc := ⟨.hbm, 500, rfl⟩
abbrev main_v263 : Ref sig .tc := ⟨.hbm, 501, rfl⟩
abbrev main_v264 : Ref sig .tc := ⟨.hbm, 502, rfl⟩
abbrev main_v265 : Ref sig .tc := ⟨.hbm, 503, rfl⟩
abbrev main_v266 : Ref sig .tc := ⟨.hbm, 504, rfl⟩
abbrev main_v267 : Ref sig .tc := ⟨.hbm, 505, rfl⟩
abbrev main_v268 : Ref sig .tc := ⟨.hbm, 506, rfl⟩
abbrev main_v269 : Ref sig .tc := ⟨.hbm, 507, rfl⟩
abbrev main_cst_52 : Ref sig .tc := ⟨.hbm, 508, rfl⟩
abbrev main_v270 : Ref sig .tc := ⟨.hbm, 509, rfl⟩
abbrev main_v271 : Ref sig .tc := ⟨.hbm, 510, rfl⟩
abbrev main_cst_53 : Ref sig .tc := ⟨.hbm, 511, rfl⟩
abbrev main_v272 : Ref sig .tc := ⟨.hbm, 512, rfl⟩
abbrev main_v273 : Ref sig .tc := ⟨.hbm, 513, rfl⟩
abbrev main_v274 : Ref sig .tc := ⟨.hbm, 514, rfl⟩

abbrev nD : Nat := 1
abbrev τ : Topo := Topo.v7x

variable {F : FTy → Type} [FloatOps F]

abbrev main_while0_count : Scf.Loop 32 := ⟨0#32, 50#32, 1#32⟩

abbrev main_while1_count : Scf.Loop 32 := ⟨0#32, 100#32, 1#32⟩
-- ==== Encoder.lean ====
abbrev S100x50x16 : Shape := ⟨3, ![100, 50, 16]⟩
abbrev S4x384x16 : Shape := ⟨3, ![4, 384, 16]⟩
abbrev S4x384x128 : Shape := ⟨3, ![4, 384, 128]⟩
abbrev S4x384 : Shape := ⟨2, ![4, 384]⟩
abbrev S4x50x50 : Shape := ⟨3, ![4, 50, 50]⟩
abbrev S4x50 : Shape := ⟨2, ![4, 50]⟩
abbrev S1x100x50x16 : Shape := ⟨4, ![1, 100, 50, 16]⟩
abbrev S4x100x50x16 : Shape := ⟨4, ![4, 100, 50, 16]⟩
abbrev S4x50x100x16 : Shape := ⟨4, ![4, 50, 100, 16]⟩
abbrev S4x16x384 : Shape := ⟨3, ![4, 16, 384]⟩
abbrev S4x128x384 : Shape := ⟨3, ![4, 128, 384]⟩
abbrev S4x50x1 : Shape := ⟨3, ![4, 50, 1]⟩
abbrev S4x12800 : Shape := ⟨2, ![4, 12800]⟩
abbrev S4x50x100x128 : Shape := ⟨4, ![4, 50, 100, 128]⟩
abbrev S1x16x384 : Shape := ⟨3, ![1, 16, 384]⟩
abbrev S16x384 : Shape := ⟨2, ![16, 384]⟩
abbrev S1x128x384 : Shape := ⟨3, ![1, 128, 384]⟩
abbrev S128x384 : Shape := ⟨2, ![128, 384]⟩
abbrev S1x384 : Shape := ⟨2, ![1, 384]⟩
abbrev S384 : Shape := ⟨1, ![384]⟩
abbrev S100x128 : Shape := ⟨2, ![100, 128]⟩
abbrev S1x1x100x16 : Shape := ⟨4, ![1, 1, 100, 16]⟩
abbrev S1x100x16 : Shape := ⟨3, ![1, 100, 16]⟩
abbrev S100x16 : Shape := ⟨2, ![100, 16]⟩
abbrev S100x384 : Shape := ⟨2, ![100, 384]⟩
abbrev S1x100x128 : Shape := ⟨3, ![1, 100, 128]⟩
abbrev S1x1x100x128 : Shape := ⟨4, ![1, 1, 100, 128]⟩
abbrev S1x50x100x128 : Shape := ⟨4, ![1, 50, 100, 128]⟩
abbrev S50x100x128 : Shape := ⟨3, ![50, 100, 128]⟩
abbrev S50x12800 : Shape := ⟨2, ![50, 12800]⟩
abbrev S1x50x50 : Shape := ⟨3, ![1, 50, 50]⟩
abbrev S50x50 : Shape := ⟨2, ![50, 50]⟩
abbrev S1x50x1 : Shape := ⟨3, ![1, 50, 1]⟩
abbrev S50x1 : Shape := ⟨2, ![50, 1]⟩
abbrev S12800 : Shape := ⟨1, ![12800]⟩
abbrev S1x12800 : Shape := ⟨2, ![1, 12800]⟩

abbrev nBuf : Space → Nat
  | .hbm => 20
  | .vmem => 9
  | .smem => 0
  | _ => 0

abbrev bufTy : (tb : Table) → Fin (tcTables nBuf tb) → BufTy
  | .hbm, ⟨0, _⟩ => ⟨S100x50x16, .f32⟩
  | .hbm, ⟨1, _⟩ => ⟨S100x50x16, .f32⟩
  | .hbm, ⟨2, _⟩ => ⟨S100x50x16, .f32⟩
  | .hbm, ⟨3, _⟩ => ⟨S100x50x16, .f32⟩
  | .hbm, ⟨4, _⟩ => ⟨S4x384x16, .f32⟩
  | .hbm, ⟨5, _⟩ => ⟨S4x384x128, .f32⟩
  | .hbm, ⟨6, _⟩ => ⟨S4x384, .f32⟩
  | .hbm, ⟨7, _⟩ => ⟨S4x384, .f32⟩
  | .hbm, ⟨8, _⟩ => ⟨S4x50x50, .f32⟩
  | .hbm, ⟨9, _⟩ => ⟨S4x50, .f32⟩
  | .hbm, ⟨10, _⟩ => ⟨S1x100x50x16, .f32⟩
  | .hbm, ⟨11, _⟩ => ⟨S1x100x50x16, .f32⟩
  | .hbm, ⟨12, _⟩ => ⟨S1x100x50x16, .f32⟩
  | .hbm, ⟨13, _⟩ => ⟨S1x100x50x16, .f32⟩
  | .hbm, ⟨14, _⟩ => ⟨S4x100x50x16, .f32⟩
  | .hbm, ⟨15, _⟩ => ⟨S4x50x100x16, .f32⟩
  | .hbm, ⟨16, _⟩ => ⟨S4x16x384, .f32⟩
  | .hbm, ⟨17, _⟩ => ⟨S4x128x384, .f32⟩
  | .hbm, ⟨18, _⟩ => ⟨S4x50x1, .f32⟩
  | .hbm, ⟨19, _⟩ => ⟨S4x12800, .f32⟩
  | .local _ .vmem, ⟨0, _⟩ => ⟨S4x50x100x16, .f32⟩
  | .local _ .vmem, ⟨1, _⟩ => ⟨S4x16x384, .f32⟩
  | .local _ .vmem, ⟨2, _⟩ => ⟨S4x128x384, .f32⟩
  | .local _ .vmem, ⟨3, _⟩ => ⟨S4x384, .f32⟩
  | .local _ .vmem, ⟨4, _⟩ => ⟨S4x384, .f32⟩
  | .local _ .vmem, ⟨5, _⟩ => ⟨S4x50x50, .f32⟩
  | .local _ .vmem, ⟨6, _⟩ => ⟨S4x50x1, .f32⟩
  | .local _ .vmem, ⟨7, _⟩ => ⟨S4x12800, .f32⟩
  | .local _ .vmem, ⟨8, _⟩ => ⟨S4x50x100x128, .f32⟩
  | _, _ => ⟨S100x50x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c50_i32 : BitVec 32 := 50#32
  let v36 : BitVec 32 := Scalar.addi c0_i32 c50_i32
  let c1_i32 : BitVec 32 := 1#32
  ⟨c0_i32, v36, c1_i32⟩
def k0_off1 (k0_t1 : Fin k0_t1_loop.trips) : Fin 4 → Nat :=
  let c0_104 : Index := 0#32
  let c0_i32 : BitVec 32 := 0#32
  let c1_i32 : BitVec 32 := 1#32
  let arg9 : BitVec 32 := Scf.iv c0_i32 c1_i32 k0_t1
  let v130 : Index := Scalar.indexCast arg9
  let c0_105 : Index := 0#32
  let c0_106 : Index := 0#32
  ![0, v130.toNat, 0, 0]
def k0_off2 (k0_t1 : Fin k0_t1_loop.trips) : Fin 4 → Nat :=
  let c0_110 : Index := 0#32
  let c0_i32 : BitVec 32 := 0#32
  let c1_i32 : BitVec 32 := 1#32
  let arg9 : BitVec 32 := Scf.iv c0_i32 c1_i32 k0_t1
  let v161 : Index := Scalar.indexCast arg9
  let c0_111 : Index := 0#32
  let c0_112 : Index := 0#32
  ![0, v161.toNat, 0, 0]
def k0_off3 (k0_t1 : Fin k0_t1_loop.trips) : Fin 4 → Nat :=
  let c1_113 : Index := 1#32
  let c0_i32 : BitVec 32 := 0#32
  let c1_i32 : BitVec 32 := 1#32
  let arg9 : BitVec 32 := Scf.iv c0_i32 c1_i32 k0_t1
  let v165 : Index := Scalar.indexCast arg9
  let c0_114 : Index := 0#32
  let c0_115 : Index := 0#32
  ![1, v165.toNat, 0, 0]
def k0_off4 (k0_t1 : Fin k0_t1_loop.trips) : Fin 4 → Nat :=
  let c1_119 : Index := 1#32
  let c0_i32 : BitVec 32 := 0#32
  let c1_i32 : BitVec 32 := 1#32
  let arg9 : BitVec 32 := Scf.iv c0_i32 c1_i32 k0_t1
  let v196 : Index := Scalar.indexCast arg9
  let c0_120 : Index := 0#32
  let c0_121 : Index := 0#32
  ![1, v196.toNat, 0, 0]
def k0_off5 (k0_t1 : Fin k0_t1_loop.trips) : Fin 4 → Nat :=
  let c2_122 : Index := 2#32
  let c0_i32 : BitVec 32 := 0#32
  let c1_i32 : BitVec 32 := 1#32
  let arg9 : BitVec 32 := Scf.iv c0_i32 c1_i32 k0_t1
  let v200 : Index := Scalar.indexCast arg9
  let c0_123 : Index := 0#32
  let c0_124 : Index := 0#32
  ![2, v200.toNat, 0, 0]
def k0_off6 (k0_t1 : Fin k0_t1_loop.trips) : Fin 4 → Nat :=
  let c2_128 : Index := 2#32
  let c0_i32 : BitVec 32 := 0#32
  let c1_i32 : BitVec 32 := 1#32
  let arg9 : BitVec 32 := Scf.iv c0_i32 c1_i32 k0_t1
  let v231 : Index := Scalar.indexCast arg9
  let c0_129 : Index := 0#32
  let c0_130 : Index := 0#32
  ![2, v231.toNat, 0, 0]
def k0_off7 (k0_t1 : Fin k0_t1_loop.trips) : Fin 4 → Nat :=
  let c3_131 : Index := 3#32
  let c0_i32 : BitVec 32 := 0#32
  let c1_i32 : BitVec 32 := 1#32
  let arg9 : BitVec 32 := Scf.iv c0_i32 c1_i32 k0_t1
  let v235 : Index := Scalar.indexCast arg9
  let c0_132 : Index := 0#32
  let c0_133 : Index := 0#32
  ![3, v235.toNat, 0, 0]
def k0_off8 (k0_t1 : Fin k0_t1_loop.trips) : Fin 4 → Nat :=
  let c3_137 : Index := 3#32
  let c0_i32 : BitVec 32 := 0#32
  let c1_i32 : BitVec 32 := 1#32
  let arg9 : BitVec 32 := Scf.iv c0_i32 c1_i32 k0_t1
  let v266 : Index := Scalar.indexCast arg9
  let c0_138 : Index := 0#32
  let c0_139 : Index := 0#32
  ![3, v266.toNat, 0, 0]
abbrev stage0_0 : Fin 1 → Memref sig .tc .vmem S4x50x100x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x50x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x50x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x12800 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== EncoderReferenceIdeal.lean ====
abbrev S100x50x16 : Shape := ⟨3, ![100, 50, 16]⟩
abbrev S4x384x16 : Shape := ⟨3, ![4, 384, 16]⟩
abbrev S4x384x128 : Shape := ⟨3, ![4, 384, 128]⟩
abbrev S4x384 : Shape := ⟨2, ![4, 384]⟩
abbrev S4x50x50 : Shape := ⟨3, ![4, 50, 50]⟩
abbrev S4x50 : Shape := ⟨2, ![4, 50]⟩
abbrev S1x100x50x16 : Shape := ⟨4, ![1, 100, 50, 16]⟩
abbrev S4x100x50x16 : Shape := ⟨4, ![4, 100, 50, 16]⟩
abbrev S4x50x100x16 : Shape := ⟨4, ![4, 50, 100, 16]⟩
abbrev S_ : Shape := ⟨0, ![]⟩
abbrev S100x128 : Shape := ⟨2, ![100, 128]⟩
abbrev S4x100x128 : Shape := ⟨3, ![4, 100, 128]⟩
abbrev S50x4x100x16 : Shape := ⟨4, ![50, 4, 100, 16]⟩
abbrev S50x4x100x128 : Shape := ⟨4, ![50, 4, 100, 128]⟩
abbrev S1x4x100x16 : Shape := ⟨4, ![1, 4, 100, 16]⟩
abbrev S4x100x16 : Shape := ⟨3, ![4, 100, 16]⟩
abbrev S4x16x384 : Shape := ⟨3, ![4, 16, 384]⟩
abbrev S4x100x384 : Shape := ⟨3, ![4, 100, 384]⟩
abbrev S4x1x384 : Shape := ⟨3, ![4, 1, 384]⟩
abbrev S4x128x384 : Shape := ⟨3, ![4, 128, 384]⟩
abbrev S1x4x100x128 : Shape := ⟨4, ![1, 4, 100, 128]⟩
abbrev S4x50x100x128 : Shape := ⟨4, ![4, 50, 100, 128]⟩
abbrev S4x100x50x128 : Shape := ⟨4, ![4, 100, 50, 128]⟩
abbrev S4x100x128x50 : Shape := ⟨4, ![4, 100, 128, 50]⟩
abbrev S4x1x1x50 : Shape := ⟨4, ![4, 1, 1, 50]⟩
abbrev S4x100x128x1 : Shape := ⟨4, ![4, 100, 128, 1]⟩
abbrev S4x12800 : Shape := ⟨2, ![4, 12800]⟩

abbrev nBuf : Space → Nat
  | .hbm => 115
  | .vmem => 0
  | .smem => 0
  | _ => 0

abbrev bufTy : (tb : Table) → Fin (tcTables nBuf tb) → BufTy
  | .hbm, ⟨0, _⟩ => ⟨S100x50x16, .f32⟩
  | .hbm, ⟨1, _⟩ => ⟨S100x50x16, .f32⟩
  | .hbm, ⟨2, _⟩ => ⟨S100x50x16, .f32⟩
  | .hbm, ⟨3, _⟩ => ⟨S100x50x16, .f32⟩
  | .hbm, ⟨4, _⟩ => ⟨S4x384x16, .f32⟩
  | .hbm, ⟨5, _⟩ => ⟨S4x384x128, .f32⟩
  | .hbm, ⟨6, _⟩ => ⟨S4x384, .f32⟩
  | .hbm, ⟨7, _⟩ => ⟨S4x384, .f32⟩
  | .hbm, ⟨8, _⟩ => ⟨S4x50x50, .f32⟩
  | .hbm, ⟨9, _⟩ => ⟨S4x50, .f32⟩
  | .hbm, ⟨10, _⟩ => ⟨S1x100x50x16, .f32⟩
  | .hbm, ⟨11, _⟩ => ⟨S1x100x50x16, .f32⟩
  | .hbm, ⟨12, _⟩ => ⟨S1x100x50x16, .f32⟩
  | .hbm, ⟨13, _⟩ => ⟨S1x100x50x16, .f32⟩
  | .hbm, ⟨14, _⟩ => ⟨S4x100x50x16, .f32⟩
  | .hbm, ⟨15, _⟩ => ⟨S4x50x100x16, .f32⟩
  | .hbm, ⟨16, _⟩ => ⟨S_, .f32⟩
  | .hbm, ⟨17, _⟩ => ⟨S100x128, .f32⟩
  | .hbm, ⟨18, _⟩ => ⟨S4x100x128, .f32⟩
  | .hbm, ⟨19, _⟩ => ⟨S50x4x100x16, .f32⟩
  | .hbm, ⟨20, _⟩ => ⟨S_, .f32⟩
  | .hbm, ⟨21, _⟩ => ⟨S50x4x100x128, .f32⟩
  | .hbm, ⟨22, _⟩ => ⟨S_, .i32⟩
  | .hbm, ⟨23, _⟩ => ⟨S50x4x100x16, .f32⟩
  | .hbm, ⟨24, _⟩ => ⟨S4x384x16, .f32⟩
  | .hbm, ⟨25, _⟩ => ⟨S4x384, .f32⟩
  | .hbm, ⟨26, _⟩ => ⟨S4x384x128, .f32⟩
  | .hbm, ⟨27, _⟩ => ⟨S4x384, .f32⟩
  | .hbm, ⟨28, _⟩ => ⟨S_, .i32⟩
  | .hbm, ⟨29, _⟩ => ⟨S4x100x128, .f32⟩
  | .hbm, ⟨30, _⟩ => ⟨S50x4x100x128, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x4x100x16, .f32⟩
  | .hbm, ⟨37, _⟩ => ⟨S4x100x16, .f32⟩
  | .hbm, ⟨38, _⟩ => ⟨S4x16x384, .f32⟩
  | .hbm, ⟨39, _⟩ => ⟨S4x100x384, .f32⟩
  | .hbm, ⟨40, _⟩ => ⟨S4x1x384, .f32⟩
  | .hbm, ⟨41, _⟩ => ⟨S4x100x384, .f32⟩
  | .hbm, ⟨42, _⟩ => ⟨S4x100x384, .f32⟩
  | .hbm, ⟨43, _⟩ => ⟨S4x128x384, .f32⟩
  | .hbm, ⟨44, _⟩ => ⟨S4x100x384, .f32⟩
  | .hbm, ⟨45, _⟩ => ⟨S4x1x384, .f32⟩
  | .hbm, ⟨46, _⟩ => ⟨S4x100x384, .f32⟩
  | .hbm, ⟨47, _⟩ => ⟨S4x100x384, .f32⟩
  | .hbm, ⟨48, _⟩ => ⟨S4x100x128, .f32⟩
  | .hbm, ⟨49, _⟩ => ⟨S4x100x128, .f32⟩
  | .hbm, ⟨50, _⟩ => ⟨S4x100x128, .f32⟩
  | .hbm, ⟨51, _⟩ => ⟨S4x100x128, .f32⟩
  | .hbm, ⟨52, _⟩ => ⟨S4x100x128, .f32⟩
  | .hbm, ⟨53, _⟩ => ⟨S4x100x128, .f32⟩
  | .hbm, ⟨54, _⟩ => ⟨S4x100x128, .f32⟩
  | .hbm, ⟨55, _⟩ => ⟨S4x100x128, .f32⟩
  | .hbm, ⟨56, _⟩ => ⟨S4x100x128, .f32⟩
  | .hbm, ⟨57, _⟩ => ⟨S_, .f32⟩
  | .hbm, ⟨58, _⟩ => ⟨S4x100x128, .f32⟩
  | .hbm, ⟨59, _⟩ => ⟨S4x100x128, .f32⟩
  | .hbm, ⟨60, _⟩ => ⟨S_, .f32⟩
  | .hbm, ⟨61, _⟩ => ⟨S4x100x128, .f32⟩
  | .hbm, ⟨62, _⟩ => ⟨S4x100x128, .f32⟩
  | .hbm, ⟨63, _⟩ => ⟨S4x100x128, .f32⟩
  | .hbm, ⟨64, _⟩ => ⟨S4x100x128, .f32⟩
  | .hbm, ⟨65, _⟩ => ⟨S4x100x128, .f32⟩
  | .hbm, ⟨66, _⟩ => ⟨S_, .f32⟩
  | .hbm, ⟨67, _⟩ => ⟨S4x100x128, .f32⟩
  | .hbm, ⟨68, _⟩ => ⟨S4x100x128, .f32⟩
  | .hbm, ⟨69, _⟩ => ⟨S_, .f32⟩
  | .hbm, ⟨70, _⟩ => ⟨S4x100x128, .f32⟩
  | .hbm, ⟨71, _⟩ => ⟨S4x100x128, .f32⟩
  | .hbm, ⟨72, _⟩ => ⟨S4x100x128, .f32⟩
  | .hbm, ⟨73, _⟩ => ⟨S4x100x128, .f32⟩
  | .hbm, ⟨74, _⟩ => ⟨S4x100x128, .f32⟩
  | .hbm, ⟨75, _⟩ => ⟨S_, .f32⟩
  | .hbm, ⟨76, _⟩ => ⟨S4x100x128, .f32⟩
  | .hbm, ⟨77, _⟩ => ⟨S4x100x128, .f32⟩
  | .hbm, ⟨78, _⟩ => ⟨S4x100x128, .f32⟩
  | .hbm, ⟨79, _⟩ => ⟨S4x100x128, .f32⟩
  | .hbm, ⟨80, _⟩ => ⟨S4x100x128, .f32⟩
  | .hbm, ⟨81, _⟩ => ⟨S1x4x100x128, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S50x4x100x128, .f32⟩
  | .hbm, ⟨86, _⟩ => ⟨S_, .i32⟩
  | .hbm, ⟨87, _⟩ => ⟨S_, .i32⟩
  | .hbm, ⟨88, _⟩ => ⟨S4x50x100x128, .f32⟩
  | .hbm, ⟨89, _⟩ => ⟨S4x100x50x128, .f32⟩
  | .hbm, ⟨90, _⟩ => ⟨S4x100x128x50, .f32⟩
  | .hbm, ⟨91, _⟩ => ⟨S4x50x50, .f32⟩
  | .hbm, ⟨92, _⟩ => ⟨S4x100x128x50, .f32⟩
  | .hbm, ⟨93, _⟩ => ⟨S4x1x1x50, .f32⟩
  | .hbm, ⟨94, _⟩ => ⟨S4x100x128x50, .f32⟩
  | .hbm, ⟨95, _⟩ => ⟨S4x100x128x50, .f32⟩
  | .hbm, ⟨96, _⟩ => ⟨S_, .f32⟩
  | .hbm, ⟨97, _⟩ => ⟨S4x100x128, .f32⟩
  | .hbm, ⟨98, _⟩ => ⟨S_, .f32⟩
  | .hbm, ⟨99, _⟩ => ⟨S4x100x128, .f32⟩
  | .hbm, ⟨100, _⟩ => ⟨S4x100x128, .f32⟩
  | .hbm, ⟨101, _⟩ => ⟨S4x100x128x1, .f32⟩
  | .hbm, ⟨102, _⟩ => ⟨S4x100x128x50, .f32⟩
  | .hbm, ⟨103, _⟩ => ⟨S4x100x128x50, .f32⟩
  | .hbm, ⟨104, _⟩ => ⟨S4x100x128x50, .f32⟩
  | .hbm, ⟨105, _⟩ => ⟨S_, .f32⟩
  | .hbm, ⟨106, _⟩ => ⟨S4x100x128, .f32⟩
  | .hbm, ⟨107, _⟩ => ⟨S4x100x128x1, .f32⟩
  | .hbm, ⟨108, _⟩ => ⟨S4x100x128x50, .f32⟩
  | .hbm, ⟨109, _⟩ => ⟨S4x100x128x50, .f32⟩
  | .hbm, ⟨110, _⟩ => ⟨S4x100x50x128, .f32⟩
  | .hbm, ⟨111, _⟩ => ⟨S4x100x50x128, .f32⟩
  | .hbm, ⟨112, _⟩ => ⟨S_, .f32⟩
  | .hbm, ⟨113, _⟩ => ⟨S4x100x128, .f32⟩
  | .hbm, ⟨114, _⟩ => ⟨S4x12800, .f32⟩
  | _, _ => ⟨S100x50x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_c : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v10_5 : Ref sig .tc := ⟨.hbm, 28, rfl⟩
abbrev main_v10_6 : Ref sig .tc := ⟨.hbm, 29, rfl⟩
abbrev main_v10_7 : Ref sig .tc := ⟨.hbm, 30, rfl⟩
abbrev main_while0c_c_12 : Ref sig .tc := ⟨.hbm, 31, rfl⟩
abbrev main_while0c_v34 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_v0 : Ref sig .tc := ⟨.hbm, 36, rfl⟩
abbrev main_while0b_v34 : Ref sig .tc := ⟨.hbm, 37, rfl⟩
abbrev main_while0b_v35 : Ref sig .tc := ⟨.hbm, 38, rfl⟩
abbrev main_while0b_v36 : Ref sig .tc := ⟨.hbm, 39, rfl⟩
abbrev main_while0b_v37 : Ref sig .tc := ⟨.hbm, 40, rfl⟩
abbrev main_while0b_v38 : Ref sig .tc := ⟨.hbm, 41, rfl⟩
abbrev main_while0b_v39 : Ref sig .tc := ⟨.hbm, 42, rfl⟩
abbrev main_while0b_v40 : Ref sig .tc := ⟨.hbm, 43, rfl⟩
abbrev main_while0b_v41 : Ref sig .tc := ⟨.hbm, 44, rfl⟩
abbrev main_while0b_v42 : Ref sig .tc := ⟨.hbm, 45, rfl⟩
abbrev main_while0b_v43 : Ref sig .tc := ⟨.hbm, 46, rfl⟩
abbrev main_while0b_v44 : Ref sig .tc := ⟨.hbm, 47, rfl⟩
abbrev main_while0b_v45 : Ref sig .tc := ⟨.hbm, 48, rfl⟩
abbrev main_while0b_v46 : Ref sig .tc := ⟨.hbm, 49, rfl⟩
abbrev main_while0b_v47 : Ref sig .tc := ⟨.hbm, 50, rfl⟩
abbrev main_while0b_v48 : Ref sig .tc := ⟨.hbm, 51, rfl⟩
abbrev main_while0b_v49 : Ref sig .tc := ⟨.hbm, 52, rfl⟩
abbrev main_while0b_v50 : Ref sig .tc := ⟨.hbm, 53, rfl⟩
abbrev main_while0b_v51 : Ref sig .tc := ⟨.hbm, 54, rfl⟩
abbrev main_while0b_v52 : Ref sig .tc := ⟨.hbm, 55, rfl⟩
abbrev main_while0b_v53 : Ref sig .tc := ⟨.hbm, 56, rfl⟩
abbrev main_while0b_cst_12 : Ref sig .tc := ⟨.hbm, 57, rfl⟩
abbrev main_while0b_v54 : Ref sig .tc := ⟨.hbm, 58, rfl⟩
abbrev main_while0b_v55 : Ref sig .tc := ⟨.hbm, 59, rfl⟩
abbrev main_while0b_cst_13 : Ref sig .tc := ⟨.hbm, 60, rfl⟩
abbrev main_while0b_v56 : Ref sig .tc := ⟨.hbm, 61, rfl⟩
abbrev main_while0b_v57 : Ref sig .tc := ⟨.hbm, 62, rfl⟩
abbrev main_while0b_v58 : Ref sig .tc := ⟨.hbm, 63, rfl⟩
abbrev main_while0b_v59 : Ref sig .tc := ⟨.hbm, 64, rfl⟩
abbrev main_while0b_v60 : Ref sig .tc := ⟨.hbm, 65, rfl⟩
abbrev main_while0b_cst_14 : Ref sig .tc := ⟨.hbm, 66, rfl⟩
abbrev main_while0b_v61 : Ref sig .tc := ⟨.hbm, 67, rfl⟩
abbrev main_while0b_v62 : Ref sig .tc := ⟨.hbm, 68, rfl⟩
abbrev main_while0b_cst_15 : Ref sig .tc := ⟨.hbm, 69, rfl⟩
abbrev main_while0b_v63 : Ref sig .tc := ⟨.hbm, 70, rfl⟩
abbrev main_while0b_v64 : Ref sig .tc := ⟨.hbm, 71, rfl⟩
abbrev main_while0b_v65 : Ref sig .tc := ⟨.hbm, 72, rfl⟩
abbrev main_while0b_v66 : Ref sig .tc := ⟨.hbm, 73, rfl⟩
abbrev main_while0b_v67 : Ref sig .tc := ⟨.hbm, 74, rfl⟩
abbrev main_while0b_cst_16 : Ref sig .tc := ⟨.hbm, 75, rfl⟩
abbrev main_while0b_v68 : Ref sig .tc := ⟨.hbm, 76, rfl⟩
abbrev main_while0b_v69 : Ref sig .tc := ⟨.hbm, 77, rfl⟩
abbrev main_while0b_v70 : Ref sig .tc := ⟨.hbm, 78, rfl⟩
abbrev main_while0b_v71 : Ref sig .tc := ⟨.hbm, 79, rfl⟩
abbrev main_while0b_v72 : Ref sig .tc := ⟨.hbm, 80, rfl⟩
abbrev main_while0b_call1_v0 : Ref sig .tc := ⟨.hbm, 81, rfl⟩
abbrev main_while0b_call1_c : Ref sig .tc := ⟨.hbm, 82, rfl⟩
abbrev main_while0b_call1_c_0 : Ref sig .tc := ⟨.hbm, 83, rfl⟩
abbrev main_while0b_call1_c_1 : Ref sig .tc := ⟨.hbm, 84, rfl⟩
abbrev main_while0b_v73 : Ref sig .tc := ⟨.hbm, 85, rfl⟩
abbrev main_while0b_c_17 : Ref sig .tc := ⟨.hbm, 86, rfl⟩
abbrev main_while0b_v74 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_v15 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_cst_1 : Ref sig .tc := ⟨.hbm, 96, rfl⟩
abbrev main_v19 : Ref sig .tc := ⟨.hbm, 97, rfl⟩
abbrev main_cst_2 : Ref sig .tc := ⟨.hbm, 98, rfl⟩
abbrev main_v20 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_cst_3 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_v31 : Ref sig .tc := ⟨.hbm, 111, rfl⟩
abbrev main_cst_4 : Ref sig .tc := ⟨.hbm, 112, rfl⟩
abbrev main_v32 : Ref sig .tc := ⟨.hbm, 113, rfl⟩
abbrev main_v33 : Ref sig .tc := ⟨.hbm, 114, rfl⟩

abbrev nD : Nat := 1
abbrev τ : Topo := Topo.v7x

variable {F : FTy → Type} [FloatOps F]

abbrev main_while0_count : Scf.Loop 32 := ⟨0#32, 50#32, 1#32⟩
-- ==== Fusion.lean ====
abbrev S100x128 : Shape := ⟨2, ![100, 128]⟩
abbrev S5x128 : Shape := ⟨2, ![5, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S384x128 : Shape := ⟨2, ![384, 128]⟩
abbrev S128x1 : Shape := ⟨2, ![128, 1]⟩
abbrev S1x1 : Shape := ⟨2, ![1, 1]⟩
abbrev S100x1 : Shape := ⟨2, ![100, 1]⟩
abbrev S100x5 : Shape := ⟨2, ![100, 5]⟩
abbrev S100x384 : Shape := ⟨2, ![100, 384]⟩

abbrev nBuf : Space → Nat
  | .hbm => 17
  | .vmem => 11
  | .smem => 0
  | _ => 0

abbrev bufTy : (tb : Table) → Fin (tcTables nBuf tb) → BufTy
  | .hbm, ⟨0, _⟩ => ⟨S100x128, .f32⟩
  | .hbm, ⟨1, _⟩ => ⟨S5x128, .f32⟩
  | .hbm, ⟨2, _⟩ => ⟨S100x128, .f32⟩
  | .hbm, ⟨3, _⟩ => ⟨S128x384, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1, .f32⟩
  | .hbm, ⟨9, _⟩ => ⟨S384x128, .f32⟩
  | .hbm, ⟨10, _⟩ => ⟨S1x128, .f32⟩
  | .hbm, ⟨11, _⟩ => ⟨S128x1, .f32⟩
  | .hbm, ⟨12, _⟩ => ⟨S1x1, .f32⟩
  | .hbm, ⟨13, _⟩ => ⟨S128x1, .f32⟩
  | .hbm, ⟨14, _⟩ => ⟨S1x1, .f32⟩
  | .hbm, ⟨15, _⟩ => ⟨S100x1, .f32⟩
  | .hbm, ⟨16, _⟩ => ⟨S100x1, .f32⟩
  | .local _ .vmem, ⟨0, _⟩ => ⟨S100x128, .f32⟩
  | .local _ .vmem, ⟨1, _⟩ => ⟨S5x128, .f32⟩
  | .local _ .vmem, ⟨2, _⟩ => ⟨S100x128, .f32⟩
  | .local _ .vmem, ⟨3, _⟩ => ⟨S384x128, .f32⟩
  | .local _ .vmem, ⟨4, _⟩ => ⟨S1x128, .f32⟩
  | .local _ .vmem, ⟨5, _⟩ => ⟨S128x1, .f32⟩
  | .local _ .vmem, ⟨6, _⟩ => ⟨S1x1, .f32⟩
  | .local _ .vmem, ⟨7, _⟩ => ⟨S128x1, .f32⟩
  | .local _ .vmem, ⟨8, _⟩ => ⟨S1x1, .f32⟩
  | .local _ .vmem, ⟨9, _⟩ => ⟨S100x1, .f32⟩
  | .local _ .vmem, ⟨10, _⟩ => ⟨S100x1, .f32⟩
  | _, _ => ⟨S100x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S100x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S100x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S100x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S100x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== FusionReferenceIdeal.lean ====
abbrev S100x128 : Shape := ⟨2, ![100, 128]⟩
abbrev S5x128 : Shape := ⟨2, ![5, 128]⟩
abbrev S128x384 : Shape := ⟨2, ![128, 384]⟩
abbrev S128 : Shape := ⟨1, ![128]⟩
abbrev S1x128 : Shape := ⟨2, ![1, 128]⟩
abbrev S1 : Shape := ⟨1, ![1]⟩
abbrev S5x20x128 : Shape := ⟨3, ![5, 20, 128]⟩
abbrev S5x1x128 : Shape := ⟨3, ![5, 1, 128]⟩
abbrev S5x20x384 : Shape := ⟨3, ![5, 20, 384]⟩
abbrev S384x128 : Shape := ⟨2, ![384, 128]⟩
abbrev S1x1x128 : Shape := ⟨3, ![1, 1, 128]⟩
abbrev S_ : Shape := ⟨0, ![]⟩
abbrev S128x1 : Shape := ⟨2, ![128, 1]⟩
abbrev S5x20x1 : Shape := ⟨3, ![5, 20, 1]⟩
abbrev S1x1x1 : Shape := ⟨3, ![1, 1, 1]⟩
abbrev S100x1 : Shape := ⟨2, ![100, 1]⟩

abbrev nBuf : Space → Nat
  | .hbm => 42
  | .vmem => 0
  | .smem => 0
  | _ => 0

abbrev bufTy : (tb : Table) → Fin (tcTables nBuf tb) → BufTy
  | .hbm, ⟨0, _⟩ => ⟨S100x128, .f32⟩
  | .hbm, ⟨1, _⟩ => ⟨S5x128, .f32⟩
  | .hbm, ⟨2, _⟩ => ⟨S100x128, .f32⟩
  | .hbm, ⟨3, _⟩ => ⟨S128x384, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S1x128, .f32⟩
  | .hbm, ⟨8, _⟩ => ⟨S1, .f32⟩
  | .hbm, ⟨9, _⟩ => ⟨S5x20x128, .f32⟩
  | .hbm, ⟨10, _⟩ => ⟨S5x1x128, .f32⟩
  | .hbm, ⟨11, _⟩ => ⟨S5x20x128, .f32⟩
  | .hbm, ⟨12, _⟩ => ⟨S5x20x128, .f32⟩
  | .hbm, ⟨13, _⟩ => ⟨S5x20x384, .f32⟩
  | .hbm, ⟨14, _⟩ => ⟨S384x128, .f32⟩
  | .hbm, ⟨15, _⟩ => ⟨S5x20x128, .f32⟩
  | .hbm, ⟨16, _⟩ => ⟨S1x1x128, .f32⟩
  | .hbm, ⟨17, _⟩ => ⟨S5x20x128, .f32⟩
  | .hbm, ⟨18, _⟩ => ⟨S5x20x128, .f32⟩
  | .hbm, ⟨19, _⟩ => ⟨S_, .f32⟩
  | .hbm, ⟨20, _⟩ => ⟨S5x20x128, .f32⟩
  | .hbm, ⟨21, _⟩ => ⟨S5x20x128, .f32⟩
  | .hbm, ⟨22, _⟩ => ⟨S128x1, .f32⟩
  | .hbm, ⟨23, _⟩ => ⟨S5x20x1, .f32⟩
  | .hbm, ⟨24, _⟩ => ⟨S1x1x1, .f32⟩
  | .hbm, ⟨25, _⟩ => ⟨S5x20x1, .f32⟩
  | .hbm, ⟨26, _⟩ => ⟨S5x20x1, .f32⟩
  | .hbm, ⟨27, _⟩ => ⟨S100x1, .f32⟩
  | .hbm, ⟨28, _⟩ => ⟨S128x1, .f32⟩
  | .hbm, ⟨29, _⟩ => ⟨S5x20x1, .f32⟩
  | .hbm, ⟨30, _⟩ => ⟨S1x1x1, .f32⟩
  | .hbm, ⟨31, _⟩ => ⟨S5x20x1, .f32⟩
  | .hbm, ⟨32, _⟩ => ⟨S5x20x1, .f32⟩
  | .hbm, ⟨33, _⟩ => ⟨S5x20x1, .f32⟩
  | .hbm, ⟨34, _⟩ => ⟨S5x20x1, .f32⟩
  | .hbm, ⟨35, _⟩ => ⟨S_, .f32⟩
  | .hbm, ⟨36, _⟩ => ⟨S5x20x1, .f32⟩
  | .hbm, ⟨37, _⟩ => ⟨S5x20x1, .f32⟩
  | .hbm, ⟨38, _⟩ => ⟨S_, .f32⟩
  | .hbm, ⟨39, _⟩ => ⟨S5x20x1, .f32⟩
  | .hbm, ⟨40, _⟩ => ⟨S5x20x1, .f32⟩
  | .hbm, ⟨41, _⟩ => ⟨S100x1, .f32⟩
  | _, _ => ⟨S100x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== Recurrence.lean ====
abbrev S4x12800 : Shape := ⟨2, ![4, 12800]⟩
abbrev S384x128 : Shape := ⟨2, ![384, 128]⟩
abbrev S384 : Shape := ⟨1, ![384]⟩
abbrev S4x4 : Shape := ⟨2, ![4, 4]⟩
abbrev S4 : Shape := ⟨1, ![4]⟩
abbrev S128x384 : Shape := ⟨2, ![128, 384]⟩
abbrev S1x384 : Shape := ⟨2, ![1, 384]⟩
abbrev S100x128 : Shape := ⟨2, ![100, 128]⟩
abbrev S416x128 : Shape := ⟨2, ![416, 128]⟩
abbrev S4x128 : Shape := ⟨2, ![4, 128]⟩
abbrev S4x384 : Shape := ⟨2, ![4, 384]⟩
abbrev S1x128 : Shape := ⟨2, ![1, 128]⟩
abbrev S1x1 : Shape := ⟨2, ![1, 1]⟩
abbrev S1 : Shape := ⟨1, ![1]⟩

abbrev nBuf : Space → Nat
  | .hbm => 12
  | .vmem => 7
  | .smem => 2
  | _ => 0

abbrev bufTy : (tb : Table) → Fin (tcTables nBuf tb) → BufTy
  | .hbm, ⟨0, _⟩ => ⟨S4x12800, .f32⟩
  | .hbm, ⟨1, _⟩ => ⟨S384x128, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S4x4, .f32⟩
  | .hbm, ⟨6, _⟩ => ⟨S4, .f32⟩
  | .hbm, ⟨7, _⟩ => ⟨S128x384, .f32⟩
  | .hbm, ⟨8, _⟩ => ⟨S128x384, .f32⟩
  | .hbm, ⟨9, _⟩ => ⟨S1x384, .f32⟩
  | .hbm, ⟨10, _⟩ => ⟨S1x384, .f32⟩
  | .hbm, ⟨11, _⟩ => ⟨S100x128, .f32⟩
  | .local _ .vmem, ⟨0, _⟩ => ⟨S4x12800, .f32⟩
  | .local _ .vmem, ⟨1, _⟩ => ⟨S128x384, .f32⟩
  | .local _ .vmem, ⟨2, _⟩ => ⟨S128x384, .f32⟩
  | .local _ .vmem, ⟨3, _⟩ => ⟨S1x384, .f32⟩
  | .local _ .vmem, ⟨4, _⟩ => ⟨S1x384, .f32⟩
  | .local _ .vmem, ⟨5, _⟩ => ⟨S100x128, .f32⟩
  | .local _ .vmem, ⟨6, _⟩ => ⟨S416x128, .f32⟩
  | .local _ .smem, ⟨0, _⟩ => ⟨S4x4, .f32⟩
  | .local _ .smem, ⟨1, _⟩ => ⟨S4, .f32⟩
  | _, _ => ⟨S4x12800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg7_0 : Ref sig .tc := ⟨.vmem, 5, rfl⟩
abbrev cc0_scratch0 : Ref sig .tc := ⟨.vmem, 6, rfl⟩
abbrev cc0_stg5_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v9 : BitVec 32 := Scalar.addi c0_i32 c100_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v123 : BitVec 32 := Scalar.muli arg9 c128_i32
  v123
def k0_off1 (k0_t1 : Fin k0_t1_loop.trips) : Fin 2 → Nat :=
  let c0_53 : Index := 0#32
  let c0_i32 : BitVec 32 := 0#32
  let c1_i32 : BitVec 32 := 1#32
  let arg9 : BitVec 32 := Scf.iv c0_i32 c1_i32 k0_t1
  let c128_i32 : BitVec 32 := 128#32
  let v123 : BitVec 32 := Scalar.muli arg9 c128_i32
  let v124 : BitVec 32 := v123
  let v125 : Index := Scalar.indexCast v124
  ![0, v125.toNat]
def k0_off2 (k0_t1 : Fin k0_t1_loop.trips) (c0_i32_57 : BitVec 32) : Fin 2 → Nat :=
  let c0_i32 : BitVec 32 := 0#32
  let c1_i32 : BitVec 32 := 1#32
  let arg9 : BitVec 32 := Scf.iv c0_i32 c1_i32 k0_t1
  let v152 : BitVec 32 := Scalar.addi c0_i32_57 arg9
  let v153 : Index := Scalar.indexCast v152
  let c0_58 : Index := 0#32
  ![v153.toNat, 0]
abbrev stage0_0 : Fin 1 → Memref sig .tc .vmem S4x12800 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S100x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== RecurrenceReferenceIdeal.lean ====
abbrev S4x12800 : Shape := ⟨2, ![4, 12800]⟩
abbrev S384x128 : Shape := ⟨2, ![384, 128]⟩
abbrev S384 : Shape := ⟨1, ![384]⟩
abbrev S4x4 : Shape := ⟨2, ![4, 4]⟩
abbrev S4 : Shape := ⟨1, ![4]⟩
abbrev S4x100x128 : Shape := ⟨3, ![4, 100, 128]⟩
abbrev S100x4x128 : Shape := ⟨3, ![100, 4, 128]⟩
abbrev S_ : Shape := ⟨0, ![]⟩
abbrev S4x128 : Shape := ⟨2, ![4, 128]⟩
abbrev S1x4x128 : Shape := ⟨3, ![1, 4, 128]⟩
abbrev S128x384 : Shape := ⟨2, ![128, 384]⟩
abbrev S4x384 : Shape := ⟨2, ![4, 384]⟩
abbrev S1x384 : Shape := ⟨2, ![1, 384]⟩
abbrev S100x128x4 : Shape := ⟨3, ![100, 128, 4]⟩
abbrev S1x1x4 : Shape := ⟨3, ![1, 1, 4]⟩
abbrev S100x128 : Shape := ⟨2, ![100, 128]⟩
abbrev S100x128x1 : Shape := ⟨3, ![100, 128, 1]⟩

abbrev nBuf : Space → Nat
  | .hbm => 101
  | .vmem => 0
  | .smem => 0
  | _ => 0

abbrev bufTy : (tb : Table) → Fin (tcTables nBuf tb) → BufTy
  | .hbm, ⟨0, _⟩ => ⟨S4x12800, .f32⟩
  | .hbm, ⟨1, _⟩ => ⟨S384x128, .f32⟩
  | .hbm, ⟨2, _⟩ => ⟨S384x128, .f32⟩
  | .hbm, ⟨3, _⟩ => ⟨S384, .f32⟩
  | .hbm, ⟨4, _⟩ => ⟨S384, .f32⟩
  | .hbm, ⟨5, _⟩ => ⟨S4x4, .f32⟩
  | .hbm, ⟨6, _⟩ => ⟨S4, .f32⟩
  | .hbm, ⟨7, _⟩ => ⟨S4x100x128, .f32⟩
  | .hbm, ⟨8, _⟩ => ⟨S100x4x128, .f32⟩
  | .hbm, ⟨9, _⟩ => ⟨S_, .f32⟩
  | .hbm, ⟨10, _⟩ => ⟨S4x128, .f32⟩
  | .hbm, ⟨11, _⟩ => ⟨S_, .f32⟩
  | .hbm, ⟨12, _⟩ => ⟨S100x4x128, .f32⟩
  | .hbm, ⟨13, _⟩ => ⟨S_, .i32⟩
  | .hbm, ⟨14, _⟩ => ⟨S100x4x128, .f32⟩
  | .hbm, ⟨15, _⟩ => ⟨S384x128, .f32⟩
  | .hbm, ⟨16, _⟩ => ⟨S384, .f32⟩
  | .hbm, ⟨17, _⟩ => ⟨S384x128, .f32⟩
  | .hbm, ⟨18, _⟩ => ⟨S384, .f32⟩
  | .hbm, ⟨19, _⟩ => ⟨S_, .i32⟩
  | .hbm, ⟨20, _⟩ => ⟨S4x128, .f32⟩
  | .hbm, ⟨21, _⟩ => ⟨S100x4x128, .f32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1x4x128, .f32⟩
  | .hbm, ⟨27, _⟩ => ⟨S4x128, .f32⟩
  | .hbm, ⟨28, _⟩ => ⟨S128x384, .f32⟩
  | .hbm, ⟨29, _⟩ => ⟨S4x384, .f32⟩
  | .hbm, ⟨30, _⟩ => ⟨S1x384, .f32⟩
  | .hbm, ⟨31, _⟩ => ⟨S4x384, .f32⟩
  | .hbm, ⟨32, _⟩ => ⟨S4x384, .f32⟩
  | .hbm, ⟨33, _⟩ => ⟨S128x384, .f32⟩
  | .hbm, ⟨34, _⟩ => ⟨S4x384, .f32⟩
  | .hbm, ⟨35, _⟩ => ⟨S1x384, .f32⟩
  | .hbm, ⟨36, _⟩ => ⟨S4x384, .f32⟩
  | .hbm, ⟨37, _⟩ => ⟨S4x384, .f32⟩
  | .hbm, ⟨38, _⟩ => ⟨S4x128, .f32⟩
  | .hbm, ⟨39, _⟩ => ⟨S4x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S4x128, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S_, .f32⟩
  | .hbm, ⟨48, _⟩ => ⟨S4x128, .f32⟩
  | .hbm, ⟨49, _⟩ => ⟨S4x128, .f32⟩
  | .hbm, ⟨50, _⟩ => ⟨S_, .f32⟩
  | .hbm, ⟨51, _⟩ => ⟨S4x128, .f32⟩
  | .hbm, ⟨52, _⟩ => ⟨S4x128, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S_, .f32⟩
  | .hbm, ⟨57, _⟩ => ⟨S4x128, .f32⟩
  | .hbm, ⟨58, _⟩ => ⟨S4x128, .f32⟩
  | .hbm, ⟨59, _⟩ => ⟨S_, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S4x128, .f32⟩
  | .hbm, ⟨64, _⟩ => ⟨S4x128, .f32⟩
  | .hbm, ⟨65, _⟩ => ⟨S_, .f32⟩
  | .hbm, ⟨66, _⟩ => ⟨S4x128, .f32⟩
  | .hbm, ⟨67, _⟩ => ⟨S4x128, .f32⟩
  | .hbm, ⟨68, _⟩ => ⟨S4x128, .f32⟩
  | .hbm, ⟨69, _⟩ => ⟨S4x128, .f32⟩
  | .hbm, ⟨70, _⟩ => ⟨S4x128, .f32⟩
  | .hbm, ⟨71, _⟩ => ⟨S1x4x128, .f32⟩
  | .hbm, ⟨72, _⟩ => ⟨S_, .i32⟩
  | .hbm, ⟨73, _⟩ => ⟨S_, .i32⟩
  | .hbm, ⟨74, _⟩ => ⟨S100x4x128, .f32⟩
  | .hbm, ⟨75, _⟩ => ⟨S_, .i32⟩
  | .hbm, ⟨76, _⟩ => ⟨S_, .i32⟩
  | .hbm, ⟨77, _⟩ => ⟨S100x128x4, .f32⟩
  | .hbm, ⟨78, _⟩ => ⟨S4x4, .f32⟩
  | .hbm, ⟨79, _⟩ => ⟨S100x128x4, .f32⟩
  | .hbm, ⟨80, _⟩ => ⟨S1x1x4, .f32⟩
  | .hbm, ⟨81, _⟩ => ⟨S100x128x4, .f32⟩
  | .hbm, ⟨82, _⟩ => ⟨S100x128x4, .f32⟩
  | .hbm, ⟨83, _⟩ => ⟨S_, .f32⟩
  | .hbm, ⟨84, _⟩ => ⟨S100x128, .f32⟩
  | .hbm, ⟨85, _⟩ => ⟨S_, .f32⟩
  | .hbm, ⟨86, _⟩ => ⟨S100x128, .f32⟩
  | .hbm, ⟨87, _⟩ => ⟨S100x128, .f32⟩
  | .hbm, ⟨88, _⟩ => ⟨S100x128x1, .f32⟩
  | .hbm, ⟨89, _⟩ => ⟨S100x128x4, .f32⟩
  | .hbm, ⟨90, _⟩ => ⟨S100x128x4, .f32⟩
  | .hbm, ⟨91, _⟩ => ⟨S100x128x4, .f32⟩
  | .hbm, ⟨92, _⟩ => ⟨S_, .f32⟩
  | .hbm, ⟨93, _⟩ => ⟨S100x128, .f32⟩
  | .hbm, ⟨94, _⟩ => ⟨S100x128x1, .f32⟩
  | .hbm, ⟨95, _⟩ => ⟨S100x128x4, .f32⟩
  | .hbm, ⟨96, _⟩ => ⟨S100x128x4, .f32⟩
  | .hbm, ⟨97, _⟩ => ⟨S100x4x128, .f32⟩
  | .hbm, ⟨98, _⟩ => ⟨S100x4x128, .f32⟩
  | .hbm, ⟨99, _⟩ => ⟨S_, .f32⟩
  | .hbm, ⟨100, _⟩ => ⟨S100x128, .f32⟩
  | _, _ => ⟨S4x12800, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_c : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev main_v4_6 : Ref sig .tc := ⟨.hbm, 20, rfl⟩
abbrev main_v4_7 : Ref sig .tc := ⟨.hbm, 21, rfl⟩
abbrev main_while0c_c_12 : Ref sig .tc := ⟨.hbm, 22, rfl⟩
abbrev main_while0c_v25 : Ref sig .tc := ⟨.hbm, 23, rfl⟩
abbrev main_while0b_call0_c : Ref sig .tc := ⟨.hbm, 24, rfl⟩
abbrev main_while0b_call0_c_0 : Ref sig .tc := ⟨.hbm, 25, rfl⟩
abbrev main_while0b_call0_v0 : Ref sig .tc := ⟨.hbm, 26, rfl⟩
abbrev main_while0b_v25 : Ref sig .tc := ⟨.hbm, 27, rfl⟩
abbrev main_while0b_v26 : Ref sig .tc := ⟨.hbm, 28, rfl⟩
abbrev main_while0b_v27 : Ref sig .tc := ⟨.hbm, 29, rfl⟩
abbrev main_while0b_v28 : Ref sig .tc := ⟨.hbm, 30, rfl⟩
abbrev main_while0b_v29 : Ref sig .tc := ⟨.hbm, 31, rfl⟩
abbrev main_while0b_v30 : Ref sig .tc := ⟨.hbm, 32, rfl⟩
abbrev main_while0b_v31 : Ref sig .tc := ⟨.hbm, 33, rfl⟩
abbrev main_while0b_v32 : Ref sig .tc := ⟨.hbm, 34, rfl⟩
abbrev main_while0b_v33 : Ref sig .tc := ⟨.hbm, 35, rfl⟩
abbrev main_while0b_v34 : Ref sig .tc := ⟨.hbm, 36, rfl⟩
abbrev main_while0b_v35 : Ref sig .tc := ⟨.hbm, 37, rfl⟩
abbrev main_while0b_v36 : Ref sig .tc := ⟨.hbm, 38, rfl⟩
abbrev main_while0b_v37 : Ref sig .tc := ⟨.hbm, 39, rfl⟩
abbrev main_while0b_v38 : Ref sig .tc := ⟨.hbm, 40, rfl⟩
abbrev main_while0b_v39 : Ref sig .tc := ⟨.hbm, 41, rfl⟩
abbrev main_while0b_v40 : Ref sig .tc := ⟨.hbm, 42, rfl⟩
abbrev main_while0b_v41 : Ref sig .tc := ⟨.hbm, 43, rfl⟩
abbrev main_while0b_v42 : Ref sig .tc := ⟨.hbm, 44, rfl⟩
abbrev main_while0b_v43 : Ref sig .tc := ⟨.hbm, 45, rfl⟩
abbrev main_while0b_v44 : Ref sig .tc := ⟨.hbm, 46, rfl⟩
abbrev main_while0b_cst_12 : Ref sig .tc := ⟨.hbm, 47, rfl⟩
abbrev main_while0b_v45 : Ref sig .tc := ⟨.hbm, 48, rfl⟩
abbrev main_while0b_v46 : Ref sig .tc := ⟨.hbm, 49, rfl⟩
abbrev main_while0b_cst_13 : Ref sig .tc := ⟨.hbm, 50, rfl⟩
abbrev main_while0b_v47 : Ref sig .tc := ⟨.hbm, 51, rfl⟩
abbrev main_while0b_v48 : Ref sig .tc := ⟨.hbm, 52, rfl⟩
abbrev main_while0b_v49 : Ref sig .tc := ⟨.hbm, 53, rfl⟩
abbrev main_while0b_v50 : Ref sig .tc := ⟨.hbm, 54, rfl⟩
abbrev main_while0b_v51 : Ref sig .tc := ⟨.hbm, 55, rfl⟩
abbrev main_while0b_cst_14 : Ref sig .tc := ⟨.hbm, 56, rfl⟩
abbrev main_while0b_v52 : Ref sig .tc := ⟨.hbm, 57, rfl⟩
abbrev main_while0b_v53 : Ref sig .tc := ⟨.hbm, 58, rfl⟩
abbrev main_while0b_cst_15 : Ref sig .tc := ⟨.hbm, 59, rfl⟩
abbrev main_while0b_v54 : Ref sig .tc := ⟨.hbm, 60, rfl⟩
abbrev main_while0b_v55 : Ref sig .tc := ⟨.hbm, 61, rfl⟩
abbrev main_while0b_v56 : Ref sig .tc := ⟨.hbm, 62, rfl⟩
abbrev main_while0b_v57 : Ref sig .tc := ⟨.hbm, 63, rfl⟩
abbrev main_while0b_v58 : Ref sig .tc := ⟨.hbm, 64, rfl⟩
abbrev main_while0b_cst_16 : Ref sig .tc := ⟨.hbm, 65, rfl⟩
abbrev main_while0b_v59 : Ref sig .tc := ⟨.hbm, 66, rfl⟩
abbrev main_while0b_v60 : Ref sig .tc := ⟨.hbm, 67, rfl⟩
abbrev main_while0b_v61 : Ref sig .tc := ⟨.hbm, 68, rfl⟩
abbrev main_while0b_v62 : Ref sig .tc := ⟨.hbm, 69, rfl⟩
abbrev main_while0b_v63 : Ref sig .tc := ⟨.hbm, 70, rfl⟩
abbrev main_while0b_call1_v0 : Ref sig .tc := ⟨.hbm, 71, rfl⟩
abbrev main_while0b_call1_c : Ref sig .tc := ⟨.hbm, 72, rfl⟩
abbrev main_while0b_call1_c_0 : Ref sig .tc := ⟨.hbm, 73, rfl⟩
abbrev main_while0b_v64 : Ref sig .tc := ⟨.hbm, 74, rfl⟩
abbrev main_while0b_c_17 : Ref sig .tc := ⟨.hbm, 75, rfl⟩
abbrev main_while0b_v65 : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_cst_1 : Ref sig .tc := ⟨.hbm, 83, rfl⟩
abbrev main_v11 : Ref sig .tc := ⟨.hbm, 84, rfl⟩
abbrev main_cst_2 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_cst_3 : Ref sig .tc := ⟨.hbm, 92, rfl⟩
abbrev main_v18 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_cst_4 : Ref sig .tc := ⟨.hbm, 99, rfl⟩
abbrev main_v24 : Ref sig .tc := ⟨.hbm, 100, rfl⟩

abbrev nD : Nat := 1
abbrev τ : Topo := Topo.v7x

variable {F : FTy → Type} [FloatOps F]

abbrev main_while0_count : Scf.Loop 32 := ⟨0#32, 100#32, 1#32⟩
-- ==== Proof.IdealRun.lean ====
/- The body of the idealized kernel run once: what it leaves in its two results, as a function of its inputs and of
   what the scratch arrays held before. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the body is several hundred operations long)
set_option maxHeartbeats 8000000 in
/-- The body's run: on whole arrays, the inputs at their contents, the results and the scratch at any contents, the
    body runs to its end, leaves the inputs as they were and the two results at the values named here. -/
@[irreducible] def kernelRun (c : Dev nD) (arg0 : Memref sig .tc .vmem S4x50x100x16 .f32) (harg0 : arg0.IsWhole) (arg1 : Memref sig .tc .vmem S4x16x384 .f32) (harg1 : arg1.IsWhole) (arg2 : Memref sig .tc .vmem S4x128x384 .f32) (harg2 : arg2.IsWhole) (arg3 : Memref sig .tc .vmem S4x384 .f32) (harg3 : arg3.IsWhole) (arg4 : Memref sig .tc .vmem S4x384 .f32) (harg4 : arg4.IsWhole) (arg5 : Memref sig .tc .vmem S4x50x50 .f32) (harg5 : arg5.IsWhole) (arg6 : Memref sig .tc .vmem S4x50x1 .f32) (harg6 : arg6.IsWhole) (arg7 : Memref sig .tc .vmem S128x384 .f32) (harg7 : arg7.IsWhole) (arg8 : Memref sig .tc .vmem S128x384 .f32) (harg8 : arg8.IsWhole) (arg9 : Memref sig .tc .vmem S1x384 .f32) (harg9 : arg9.IsWhole) (arg10 : Memref sig .tc .vmem S1x384 .f32) (harg10 : arg10.IsWhole) (arg11 : Memref sig .tc .smem S4x4 .f32) (harg11 : arg11.IsWhole) (arg12 : Memref sig .tc .smem S4 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S900x1 .i32) (harg17 : arg17.IsWhole) (arg18 : Memref sig .tc .vmem S900x1 .i32) (harg18 : arg18.IsWhole) (arg19 : Memref sig .tc .vmem S1x900 .i32) (harg19 : arg19.IsWhole) (arg20 : Memref sig .tc .vmem S100x1 .i32) (harg20 : arg20.IsWhole) (arg21 : Memref sig .tc .vmem S1x100 .i32) (harg21 : arg21.IsWhole) (arg22 : Memref sig .tc .vmem S128x1 .f32) (harg22 : arg22.IsWhole) (arg23 : Memref sig .tc .vmem S1x1 .f32) (harg23 : arg23.IsWhole) (arg24 : Memref sig .tc .vmem S128x1 .f32) (harg24 : arg24.IsWhole) (arg25 : Memref sig .tc .vmem S256x128 .f32) (harg25 : arg25.IsWhole) (arg26 : Memref sig .tc .vmem S1x128 .f32) (harg26 : arg26.IsWhole) (arg27 : Memref sig .tc .vmem S1x128 .f32) (harg27 : arg27.IsWhole) (arg28 : Memref sig .tc .vmem S1x128 .f32) (harg28 : arg28.IsWhole) (arg29 : Memref sig .tc .vmem S25x1 .i32) (harg29 : arg29.IsWhole) (arg30 : Memref sig .tc .vmem S25x1 .i32) (harg30 : arg30.IsWhole) (arg31 : Memref sig .tc .vmem S1x25 .i32) (harg31 : arg31.IsWhole) (arg32 : Memref sig .tc .vmem S384x128 .f32) (harg32 : arg32.IsWhole) (arg33 : Memref sig .tc .vmem S1x128 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (arg37 : Memref sig .tc .vmem S1x1 .f32) (harg37 : arg37.IsWhole) (arg38 : Memref sig .tc .vmem S100x1 .f32) (harg38 : arg38.IsWhole) (arg39 : Memref sig .tc .vmem S100x1 .f32) (harg39 : arg39.IsWhole) (arg40 : Memref sig .tc .vmem S4x50x100x128 .f32) (harg40 : arg40.IsWhole) (arg41 : Memref sig .tc .vmem S4x12800 .f32) (harg41 : arg41.IsWhole) (arg42 : Memref sig .tc .vmem S416x128 .f32) (harg42 : arg42.IsWhole)
    (x0 : Vec F S4x50x100x16 .f32) (x1 : Vec F S4x16x384 .f32) (x2 : Vec F S4x128x384 .f32) (x3 : Vec F S4x384 .f32) (x4 : Vec F S4x384 .f32) (x5 : Vec F S4x50x50 .f32) (x6 : Vec F S4x50x1 .f32) (x7 : Vec F S128x384 .f32) (x8 : Vec F S128x384 .f32) (x9 : Vec F S1x384 .f32) (x10 : Vec F S1x384 .f32) (x11 : Vec F S4x4 .f32) (x12 : Vec F S4 .f32) (x13 : Vec F S128x128 .f32) (x14 : Vec F S1x128 .f32) (x15 : Vec F S1x128 .f32) (x16 : Vec F S1x128 .f32) (x17 : Vec F S900x1 .i32) (x18 : Vec F S900x1 .i32) (x19 : Vec F S1x900 .i32) (x20 : Vec F S100x1 .i32) (x21 : Vec F S1x100 .i32) (x22 : Vec F S128x1 .f32) (x23 : Vec F S1x1 .f32) (x24 : Vec F S128x1 .f32) (x25 : Vec F S256x128 .f32) (x26 : Vec F S1x128 .f32) (x27 : Vec F S1x128 .f32) (x28 : Vec F S1x128 .f32) (x29 : Vec F S25x1 .i32) (x30 : Vec F S25x1 .i32) (x31 : Vec F S1x25 .i32) (x32 : Vec F S384x128 .f32) (x33 : Vec F S1x128 .f32) (x34 : Vec F S128x1 .f32) (x35 : Vec F S1x1 .f32) (x36 : Vec F S128x1 .f32) (x37 : Vec F S1x1 .f32) (x38 : Vec F S100x1 .f32) (x39 : Vec F S100x1 .f32) (x40 : Vec F S4x50x100x128 .f32) (x41 : Vec F S4x12800 .f32) (x42 : Vec F S416x128 .f32) :
      Σ' (d38 : Vec F S100x1 .f32), { d39 : Vec F S100x1 .f32 //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare x38 ∗ owns (c : Thread nD τ) arg39 fullShare x39 ∗ owns (c : Thread nD τ) arg40 fullShare x40 ∗ owns (c : Thread nD τ) arg41 fullShare x41 ∗ owns (c : Thread nD τ) arg42 fullShare x42
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare x36 ∗ owns (c : Thread nD τ) arg37 fullShare x37 ∗ owns (c : Thread nD τ) arg38 fullShare d38 ∗ owns (c : Thread nD τ) arg39 fullShare d39 ∗ (∃ d, owns (c : Thread nD τ) arg40 fullShare d) ∗ (∃ d, owns (c : Thread nD τ) arg41 fullShare d) ∗ (∃ d, owns (c : Thread nD τ) arg42 fullShare d)) -∗ K ⟨⟩))
          ⊢ wp frame (wpE (defs₀ (F := F)) Variants.none c none) E (cc0__forward_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42) K } := by
    refine ⟨?_, ?_, fun E K => ?run⟩
    case run =>
      simp only [cc0__forward_kernel_eq_skeleton]; unfold cc0__forward_kernel_skel
      simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, HS0⟩, ⟨%f41, %hf41, HS1⟩, ⟨%f42, %hf42, HS2⟩, Hk⟩
      obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29; obtain rfl := harg30.eq_unread hf30; obtain rfl := harg31.eq_unread hf31; obtain rfl := harg32.eq_unread hf32; obtain rfl := harg33.eq_unread hf33; obtain rfl := harg34.eq_unread hf34; obtain rfl := harg35.eq_unread hf35; obtain rfl := harg36.eq_unread hf36; obtain rfl := harg37.eq_unread hf37; obtain rfl := harg38.eq_unread hf38; obtain rfl := harg39.eq_unread hf39; obtain rfl := harg40.eq_unread hf40; obtain rfl := harg41.eq_unread hf41; obtain rfl := harg42.eq_unread hf42
      sl_exec
      sl_step
      iapply Hk
      isplitl [H0]
      · iexists _; isplitr; · ipureintro; exact harg0.read_unread _
        iexact H0
      isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      isplitl [H10]
      · iexists _; isplitr; · ipureintro; exact harg10.read_unread _
        iexact H10
      isplitl [H11]
      · iexists _; isplitr; · ipureintro; exact harg11.read_unread _
        iexact H11
      isplitl [H12]
      · iexists _; isplitr; · ipureintro; exact harg12.read_unread _
        iexact H12
      isplitl [H13]
      · iexists _; isplitr; · ipureintro; exact harg13.read_unread _
        iexact H13
      isplitl [H14]
      · iexists _; isplitr; · ipureintro; exact harg14.read_unread _
        iexact H14
      isplitl [H15]
      · iexists _; isplitr; · ipureintro; exact harg15.read_unread _
        iexact H15
      isplitl [H16]
      · iexists _; isplitr; · ipureintro; exact harg16.read_unread _
        iexact H16
      isplitl [H17]
      · iexists _; isplitr; · ipureintro; exact harg17.read_unread _
        iexact H17
      isplitl [H18]
      · iexists _; isplitr; · ipureintro; exact harg18.read_unread _
        iexact H18
      isplitl [H19]
      · iexists _; isplitr; · ipureintro; exact harg19.read_unread _
        iexact H19
      isplitl [H20]
      · iexists _; isplitr; · ipureintro; exact harg20.read_unread _
        iexact H20
      isplitl [H21]
      · iexists _; isplitr; · ipureintro; exact harg21.read_unread _
        iexact H21
      isplitl [H22]
      · iexists _; isplitr; · ipureintro; exact harg22.read_unread _
        iexact H22
      isplitl [H23]
      · iexists _; isplitr; · ipureintro; exact harg23.read_unread _
        iexact H23
      isplitl [H24]
      · iexists _; isplitr; · ipureintro; exact harg24.read_unread _
        iexact H24
      isplitl [H25]
      · iexists _; isplitr; · ipureintro; exact harg25.read_unread _
        iexact H25
      isplitl [H26]
      · iexists _; isplitr; · ipureintro; exact harg26.read_unread _
        iexact H26
      isplitl [H27]
      · iexists _; isplitr; · ipureintro; exact harg27.read_unread _
        iexact H27
      isplitl [H28]
      · iexists _; isplitr; · ipureintro; exact harg28.read_unread _
        iexact H28
      isplitl [H29]
      · iexists _; isplitr; · ipureintro; exact harg29.read_unread _
        iexact H29
      isplitl [H30]
      · iexists _; isplitr; · ipureintro; exact harg30.read_unread _
        iexact H30
      isplitl [H31]
      · iexists _; isplitr; · ipureintro; exact harg31.read_unread _
        iexact H31
      isplitl [H32]
      · iexists _; isplitr; · ipureintro; exact harg32.read_unread _
        iexact H32
      isplitl [H33]
      · iexists _; isplitr; · ipureintro; exact harg33.read_unread _
        iexact H33
      isplitl [H34]
      · iexists _; isplitr; · ipureintro; exact harg34.read_unread _
        iexact H34
      isplitl [H35]
      · iexists _; isplitr; · ipureintro; exact harg35.read_unread _
        iexact H35
      isplitl [H36]
      · iexists _; isplitr; · ipureintro; exact harg36.read_unread _
        iexact H36
      isplitl [H37]
      · iexists _; isplitr; · ipureintro; exact harg37.read_unread _
        iexact H37
      isplitl [H38]
      · iexists _; isplitr; swap; · iexact H38
        ipureintro; rfl
      isplitl [H39]
      · iexists _; isplitr; swap; · iexact H39
        ipureintro; rfl
      isplitl [HS0]
      · iexists _, _; isplitr; swap; · iexact HS0
        ipureintro; rfl
      isplitl [HS1]
      · iexists _, _; isplitr; swap; · iexact HS1
        ipureintro; rfl
      iexists _, _; isplitr; swap; · iexact HS2
      ipureintro; rfl

end Cert.KernelIdeal.Gen

end
-- ==== Proof.IdealKit.lean ====
/- The frame claim of the kernel as it stands, first part: which buffers the lines after the launch write, and how the
   claim about the argument arrays follows when nothing is said of the two results. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v57, main_v58}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

/-- The frame from a run: the arrays a window stages end as the frame invariant says, and every other argument
    ends as the lines around the launch leave it. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      (Pipeline.RDat.FramePostR.arr_in h c 3 rfl).trans ((hA c 3).trans (V_main_arg9 m c)),
      (Pipeline.RDat.FramePostR.arr_in h c 4 rfl).trans ((hA c 4).trans (V_main_arg10 m c)),
      (Pipeline.RDat.FramePostR.arr_in h c 5 rfl).trans ((hA c 5).trans (V_main_arg11 m c)),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c),
      ((h c).2 main_arg14 (Finset.mem_sdiff.mpr ⟨Pipeline.mem_restRefs_of main_arg14 (by decide) (by decide), by decide⟩)).trans (V_main_arg14 m c),
      ((h c).2 main_arg15 (Finset.mem_sdiff.mpr ⟨Pipeline.mem_restRefs_of main_arg15 (by decide) (by decide), by decide⟩)).trans (V_main_arg15 m c),
      ((h c).2 main_arg16 (Finset.mem_sdiff.mpr ⟨Pipeline.mem_restRefs_of main_arg16 (by decide) (by decide), by decide⟩)).trans (V_main_arg16 m c),
      (Pipeline.RDat.FramePostR.arr_in h c 11 rfl).trans ((hA c 11).trans (V_main_arg17 m c)),
      (Pipeline.RDat.FramePostR.arr_in h c 12 rfl).trans ((hA c 12).trans (V_main_arg18 m c)),
      ((h c).2 main_arg19 (Finset.mem_sdiff.mpr ⟨Pipeline.mem_restRefs_of main_arg19 (by decide) (by decide), by decide⟩)).trans (V_main_arg19 m c),
      ((h c).2 main_arg20 (Finset.mem_sdiff.mpr ⟨Pipeline.mem_restRefs_of main_arg20 (by decide) (by decide), by decide⟩)).trans (V_main_arg20 m c),
      ((h c).2 main_arg21 (Finset.mem_sdiff.mpr ⟨Pipeline.mem_restRefs_of main_arg21 (by decide) (by decide), by decide⟩)).trans (V_main_arg21 m c),
      ((h c).2 main_arg22 (Finset.mem_sdiff.mpr ⟨Pipeline.mem_restRefs_of main_arg22 (by decide) (by decide), by decide⟩)).trans (V_main_arg22 m c),
      ((h c).2 main_arg23 (Finset.mem_sdiff.mpr ⟨Pipeline.mem_restRefs_of main_arg23 (by decide) (by decide), by decide⟩)).trans (V_main_arg23 m c),
      ((h c).2 main_arg24 (Finset.mem_sdiff.mpr ⟨Pipeline.mem_restRefs_of main_arg24 (by decide) (by decide), by decide⟩)).trans (V_main_arg24 m c),
      ((h c).2 main_arg25 (Finset.mem_sdiff.mpr ⟨Pipeline.mem_restRefs_of main_arg25 (by decide) (by decide), by decide⟩)).trans (V_main_arg25 m c),
      ((h c).2 main_arg26 (Finset.mem_sdiff.mpr ⟨Pipeline.mem_restRefs_of main_arg26 (by decide) (by decide), by decide⟩)).trans (V_main_arg26 m c),
      ((h c).2 main_arg27 (Finset.mem_sdiff.mpr ⟨Pipeline.mem_restRefs_of main_arg27 (by decide) (by decide), by decide⟩)).trans (V_main_arg27 m c),
      ((h c).2 main_arg28 (Finset.mem_sdiff.mpr ⟨Pipeline.mem_restRefs_of main_arg28 (by decide) (by decide), by decide⟩)).trans (V_main_arg28 m c),
      ((h c).2 main_arg29 (Finset.mem_sdiff.mpr ⟨Pipeline.mem_restRefs_of main_arg29 (by decide) (by decide), by decide⟩)).trans (V_main_arg29 m c),
      ((h c).2 main_arg30 (Finset.mem_sdiff.mpr ⟨Pipeline.mem_restRefs_of main_arg30 (by decide) (by decide), by decide⟩)).trans (V_main_arg30 m c),
      ((h c).2 main_arg31 (Finset.mem_sdiff.mpr ⟨Pipeline.mem_restRefs_of main_arg31 (by decide) (by decide), by decide⟩)).trans (V_main_arg31 m c),
      ((h c).2 main_arg32 (Finset.mem_sdiff.mpr ⟨Pipeline.mem_restRefs_of main_arg32 (by decide) (by decide), by decide⟩)).trans (V_main_arg32 m c),
      ((h c).2 main_arg33 (Finset.mem_sdiff.mpr ⟨Pipeline.mem_restRefs_of main_arg33 (by decide) (by decide), by decide⟩)).trans (V_main_arg33 m c),
      ((h c).2 main_arg34 (Finset.mem_sdiff.mpr ⟨Pipeline.mem_restRefs_of main_arg34 (by decide) (by decide), by decide⟩)).trans (V_main_arg34 m c),
      ((h c).2 main_arg35 (Finset.mem_sdiff.mpr ⟨Pipeline.mem_restRefs_of main_arg35 (by decide) (by decide), by decide⟩)).trans (V_main_arg35 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S4x50x100x16 .f32 := win0_0.stage (cfg0.slots t 0)
abbrev hs0_0 (t : Fin cfg0.N) : (ms0_0 t).IsWhole := hstage0_0 0
abbrev ms0_1 (t : Fin cfg0.N) : Memref sig .tc .vmem S4x16x384 .f32 := win0_1.stage (cfg0.slots t 1)
abbrev hs0_1 (t : Fin cfg0.N) : (ms0_1 t).IsWhole := hstage0_1 0
abbrev ms0_2 (t : Fin cfg0.N) : Memref sig .tc .vmem S4x128x384 .f32 := win0_2.stage (cfg0.slots t 2)
abbrev hs0_2 (t : Fin cfg0.N) : (ms0_2 t).IsWhole := hstage0_2 0
abbrev ms0_3 (t : Fin cfg0.N) : Memref sig .tc .vmem S4x384 .f32 := win0_3.stage (cfg0.slots t 3)
abbrev hs0_3 (t : Fin cfg0.N) : (ms0_3 t).IsWhole := hstage0_3 0
abbrev ms0_4 (t : Fin cfg0.N) : Memref sig .tc .vmem S4x384 .f32 := win0_4.stage (cfg0.slots t 4)
abbrev hs0_4 (t : Fin cfg0.N) : (ms0_4 t).IsWhole := hstage0_4 0
abbrev ms0_5 (t : Fin cfg0.N) : Memref sig .tc .vmem S4x50x50 .f32 := win0_5.stage (cfg0.slots t 5)
abbrev hs0_5 (t : Fin cfg0.N) : (ms0_5 t).IsWhole := hstage0_5 0
abbrev ms0_6 (t : Fin cfg0.N) : Memref sig .tc .vmem S4x50x1 .f32 := win0_6.stage (cfg0.slots t 6)
abbrev hs0_6 (t : Fin cfg0.N) : (ms0_6 t).IsWhole := hstage0_6 0
abbrev ms0_7 (t : Fin cfg0.N) : Memref sig .tc .vmem S128x384 .f32 := win0_7.stage (cfg0.slots t 7)
abbrev hs0_7 (t : Fin cfg0.N) : (ms0_7 t).IsWhole := hstage0_7 0
abbrev ms0_8 (t : Fin cfg0.N) : Memref sig .tc .vmem S128x384 .f32 := win0_8.stage (cfg0.slots t 8)
abbrev hs0_8 (t : Fin cfg0.N) : (ms0_8 t).IsWhole := hstage0_8 0
abbrev ms0_9 (t : Fin cfg0.N) : Memref sig .tc .vmem S1x384 .f32 := win0_9.stage (cfg0.slots t 9)
abbrev hs0_9 (t : Fin cfg0.N) : (ms0_9 t).IsWhole := hstage0_9 0
abbrev ms0_10 (t : Fin cfg0.N) : Memref sig .tc .vmem S1x384 .f32 := win0_10.stage (cfg0.slots t 10)
abbrev hs0_10 (t : Fin cfg0.N) : (ms0_10 t).IsWhole := hstage0_10 0
abbrev ms0_11 (t : Fin cfg0.N) : Memref sig .tc .smem S4x4 .f32 := win0_11.stage (cfg0.slots t 11)
abbrev hs0_11 (t : Fin cfg0.N) : (ms0_11 t).IsWhole := hstage0_11 0
abbrev ms0_12 (t : Fin cfg0.N) : Memref sig .tc .smem S4 .f32 := win0_12.stage (cfg0.slots t 12)
abbrev hs0_12 (t : Fin cfg0.N) : (ms0_12 t).IsWhole := hstage0_12 0
abbrev ms0_13 (t : Fin cfg0.N) : Memref sig .tc .vmem S128x128 .f32 := win0_13.stage (cfg0.slots t 13)
abbrev hs0_13 (t : Fin cfg0.N) : (ms0_13 t).IsWhole := hstage0_13 0
abbrev ms0_14 (t : Fin cfg0.N) : Memref sig .tc .vmem S1x128 .f32 := win0_14.stage (cfg0.slots t 14)
abbrev hs0_14 (t : Fin cfg0.N) : (ms0_14 t).IsWhole := hstage0_14 0
abbrev ms0_15 (t : Fin cfg0.N) : Memref sig .tc .vmem S1x128 .f32 := win0_15.stage (cfg0.slots t 15)
abbrev hs0_15 (t : Fin cfg0.N) : (ms0_15 t).IsWhole := hstage0_15 0
abbrev ms0_16 (t : Fin cfg0.N) : Memref sig .tc .vmem S1x128 .f32 := win0_16.stage (cfg0.slots t 16)
abbrev hs0_16 (t : Fin cfg0.N) : (ms0_16 t).IsWhole := hstage0_16 0
abbrev ms0_17 (t : Fin cfg0.N) : Memref sig .tc .vmem S900x1 .i32 := win0_17.stage (cfg0.slots t 17)
abbrev hs0_17 (t : Fin cfg0.N) : (ms0_17 t).IsWhole := hstage0_17 0
abbrev ms0_18 (t : Fin cfg0.N) : Memref sig .tc .vmem S900x1 .i32 := win0_18.stage (cfg0.slots t 18)
abbrev hs0_18 (t : Fin cfg0.N) : (ms0_18 t).IsWhole := hstage0_18 0
abbrev ms0_19 (t : Fin cfg0.N) : Memref sig .tc .vmem S1x900 .i32 := win0_19.stage (cfg0.slots t 19)
abbrev hs0_19 (t : Fin cfg0.N) : (ms0_19 t).IsWhole := hstage0_19 0
abbrev ms0_20 (t : Fin cfg0.N) : Memref sig .tc .vmem S100x1 .i32 := win0_20.stage (cfg0.slots t 20)
abbrev hs0_20 (t : Fin cfg0.N) : (ms0_20 t).IsWhole := hstage0_20 0
abbrev ms0_21 (t : Fin cfg0.N) : Memref sig .tc .vmem S1x100 .i32 := win0_21.stage (cfg0.slots t 21)
abbrev hs0_21 (t : Fin cfg0.N) : (ms0_21 t).IsWhole := hstage0_21 0
abbrev ms0_22 (t : Fin cfg0.N) : Memref sig .tc .vmem S128x1 .f32 := win0_22.stage (cfg0.slots t 22)
abbrev hs0_22 (t : Fin cfg0.N) : (ms0_22 t).IsWhole := hstage0_22 0
abbrev ms0_23 (t : Fin cfg0.N) : Memref sig .tc .vmem S1x1 .f32 := win0_23.stage (cfg0.slots t 23)
abbrev hs0_23 (t : Fin cfg0.N) : (ms0_23 t).IsWhole := hstage0_23 0
abbrev ms0_24 (t : Fin cfg0.N) : Memref sig .tc .vmem S128x1 .f32 := win0_24.stage (cfg0.slots t 24)
abbrev hs0_24 (t : Fin cfg0.N) : (ms0_24 t).IsWhole := hstage0_24 0
abbrev ms0_25 (t : Fin cfg0.N) : Memref sig .tc .vmem S256x128 .f32 := win0_25.stage (cfg0.slots t 25)
abbrev hs0_25 (t : Fin cfg0.N) : (ms0_25 t).IsWhole := hstage0_25 0
abbrev ms0_26 (t : Fin cfg0.N) : Memref sig .tc .vmem S1x128 .f32 := win0_26.stage (cfg0.slots t 26)
abbrev hs0_26 (t : Fin cfg0.N) : (ms0_26 t).IsWhole := hstage0_26 0
abbrev ms0_27 (t : Fin cfg0.N) : Memref sig .tc .vmem S1x128 .f32 := win0_27.stage (cfg0.slots t 27)
abbrev hs0_27 (t : Fin cfg0.N) : (ms0_27 t).IsWhole := hstage0_27 0
abbrev ms0_28 (t : Fin cfg0.N) : Memref sig .tc .vmem S1x128 .f32 := win0_28.stage (cfg0.slots t 28)
abbrev hs0_28 (t : Fin cfg0.N) : (ms0_28 t).IsWhole := hstage0_28 0
abbrev ms0_29 (t : Fin cfg0.N) : Memref sig .tc .vmem S25x1 .i32 := win0_29.stage (cfg0.slots t 29)
abbrev hs0_29 (t : Fin cfg0.N) : (ms0_29 t).IsWhole := hstage0_29 0
abbrev ms0_30 (t : Fin cfg0.N) : Memref sig .tc .vmem S25x1 .i32 := win0_30.stage (cfg0.slots t 30)
abbrev hs0_30 (t : Fin cfg0.N) : (ms0_30 t).IsWhole := hstage0_30 0
abbrev ms0_31 (t : Fin cfg0.N) : Memref sig .tc .vmem S1x25 .i32 := win0_31.stage (cfg0.slots t 31)
abbrev hs0_31 (t : Fin cfg0.N) : (ms0_31 t).IsWhole := hstage0_31 0
abbrev ms0_32 (t : Fin cfg0.N) : Memref sig .tc .vmem S384x128 .f32 := win0_32.stage (cfg0.slots t 32)
abbrev hs0_32 (t : Fin cfg0.N) : (ms0_32 t).IsWhole := hstage0_32 0
abbrev ms0_33 (t : Fin cfg0.N) : Memref sig .tc .vmem S1x128 .f32 := win0_33.stage (cfg0.slots t 33)
abbrev hs0_33 (t : Fin cfg0.N) : (ms0_33 t).IsWhole := hstage0_33 0
abbrev ms0_34 (t : Fin cfg0.N) : Memref sig .tc .vmem S128x1 .f32 := win0_34.stage (cfg0.slots t 34)
abbrev hs0_34 (t : Fin cfg0.N) : (ms0_34 t).IsWhole := hstage0_34 0
abbrev ms0_35 (t : Fin cfg0.N) : Memref sig .tc .vmem S1x1 .f32 := win0_35.stage (cfg0.slots t 35)
abbrev hs0_35 (t : Fin cfg0.N) : (ms0_35 t).IsWhole := hstage0_35 0
abbrev ms0_36 (t : Fin cfg0.N) : Memref sig .tc .vmem S128x1 .f32 := win0_36.stage (cfg0.slots t 36)
abbrev hs0_36 (t : Fin cfg0.N) : (ms0_36 t).IsWhole := hstage0_36 0
abbrev ms0_37 (t : Fin cfg0.N) : Memref sig .tc .vmem S1x1 .f32 := win0_37.stage (cfg0.slots t 37)
abbrev hs0_37 (t : Fin cfg0.N) : (ms0_37 t).IsWhole := hstage0_37 0
abbrev ms0_38 (t : Fin cfg0.N) : Memref sig .tc .vmem S100x1 .f32 := win0_38.stage (cfg0.slots t 38)
abbrev hs0_38 (t : Fin cfg0.N) : (ms0_38 t).IsWhole := hstage0_38 0
abbrev ms0_39 (t : Fin cfg0.N) : Memref sig .tc .vmem S100x1 .f32 := win0_39.stage (cfg0.slots t 39)
abbrev hs0_39 (t : Fin cfg0.N) : (ms0_39 t).IsWhole := hstage0_39 0
/-- The scratch operands: whole scoped buffers of the kernel's own, passed beside the windows. -/
abbrev scM0_0 : Memref sig .tc .vmem S4x50x100x128 .f32 := Memref.whole cc0_scratch0
abbrev scM0_1 : Memref sig .tc .vmem S4x12800 .f32 := Memref.whole cc0_scratch1
abbrev scM0_2 : Memref sig .tc .vmem S416x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.IdealFrame.lean ====
/- The frame claim of the kernel with its constants named: the launch runs to its end and leaves the inputs unchanged. -/
module

public import proofs.«01_k».proof.Proof.IdealRun
public import proofs.«01_k».proof.Proof.IdealKit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (38, 39): nothing reads what the kernel leaves in them, so nothing
    of it is named (Lib/Pipeline/Dat.lean `Dat.toRForget`). -/
def forgets0 : Fin 40 → Bool := fun w => w.val == 38 || w.val == 39

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, h⟩ => Pipeline.Dat.unnamed (cfg := cfg0) ⟨38, h⟩ t
    | ⟨39, h⟩ => Pipeline.Dat.unnamed (cfg := cfg0) ⟨39, h⟩ t
    | ⟨_ + 40, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d
theorem before0_35 (c : Dev nD) (t : Fin cfg0.N) (d) : (dats m 0 c).before 35 t d = iblk m c 35 t :=
  before0_35_of m (dats m 0 c) (A_eq m c 35) (after0_35 m c) t d
theorem before0_36 (c : Dev nD) (t : Fin cfg0.N) (d) : (dats m 0 c).before 36 t d = iblk m c 36 t :=
  before0_36_of m (dats m 0 c) (A_eq m c 36) (after0_36 m c) t d
theorem before0_37 (c : Dev nD) (t : Fin cfg0.N) (d) : (dats m 0 c).before 37 t d = iblk m c 37 t :=
  before0_37_of m (dats m 0 c) (A_eq m c 37) (after0_37 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare d)
    ∗ (∃ d, owns (c : Thread nD τ) (ms0_39 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ (∃ d, owns (c : Thread nD τ) (ms0_38 t) fullShare d)
    ∗ (∃ d, owns (c : Thread nD τ) (ms0_39 t) fullShare d))

set_option maxHeartbeats 4000000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37]
  rw [show (dats m 0 c).Φ t.castSucc = Pipeline.ΦA spec0 c from rfl, PhiA0_eq]
  iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩⟩
  iapply ((kernelRun c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) d38 d39 s0 s1 s2).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [HS0]; · iexact HS0
  isplitl [HS1]; · iexact HS1
  isplitl [HS2]; · iexact HS2
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexists _; iexact H38
  iexists _; iexact H39

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 4000000 in
/-- The launch runs to its end from any machine state: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 38, 39) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  frame_of_forget m ρ (fun c => (dats m 0 c).toRForget forgets0) (A_eq m) (run_main m ρ)

/-- The frame claim: the launch runs to its end, every argument ends as it was and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35))
      ∧ r.2.sem = fun _ => 0) :=
  θ_run_and (unchanged m ρ) ((θ_run defs _ _).mono (fun _ h => h.2) (run_main_quiescent m ρ))

end Cert.KernelIdeal.Gen

end
-- ==== Proof.RefLists.lean ====
/- The reference's host operations as lists, stretch by stretch, and its program and its two loop bodies as the chains
   of those stretches. -/
module

public import proofs.«01_k».proof.Proof.Gen.ReferenceIdeal
public import Idealize.ShloMosaic.Lib.StableHlo.RunLoop
public import Idealize.ShloMosaic.Lib.Tactic

@[expose] public section

set_option maxRecDepth 16384

noncomputable section

namespace Cert.ReferenceIdeal.Gen

open Idealize.ShloMosaic Idealize.ShloMosaic.TcCoe Idealize.ShloMosaic.Tactic Idealize.ShloMosaic.StableHlo
open Idealize.SL Idealize.SL.Sem

variable {F : FTy → Type} [FloatOps F]

/-- The contents of a buffer of shape `s` and element type `e`. -/
abbrev Arr (F : FTy → Type) (s : Shape) (e : EltTy) := (⟨s, e⟩ : BufTy).Contents (Elt F)

/-- 21 host operations of @main, window 0 (statements 1 … 60), in order. -/
abbrev main_part0_ops0 : List (HloOp τ sig (Elt F)) :=
  [ unary main_arg0 main_v0 (broadcastInDim S1x100x50x16 ![1, 2, 3] bcast_S100x50x16_S1x100x50x16_1_2_3 : Arr F S100x50x16 .f32 → Arr F S1x100x50x16 .f32),
    unary main_arg1 main_v1 (broadcastInDim S1x100x50x16 ![1, 2, 3] bcast_S100x50x16_S1x100x50x16_1_2_3 : Arr F S100x50x16 .f32 → Arr F S1x100x50x16 .f32),
    unary main_arg2 main_v2 (broadcastInDim S1x100x50x16 ![1, 2, 3] bcast_S100x50x16_S1x100x50x16_1_2_3 : Arr F S100x50x16 .f32 → Arr F S1x100x50x16 .f32),
    unary main_arg3 main_v3 (broadcastInDim S1x100x50x16 ![1, 2, 3] bcast_S100x50x16_S1x100x50x16_1_2_3 : Arr F S100x50x16 .f32 → Arr F S1x100x50x16 .f32),
    nary ![main_v0, main_v1, main_v2, main_v3] main_v4 (fun u => (concatenate S4x100x50x16 0 [⟨S1x100x50x16, (u 0 : Arr F S1x100x50x16 .f32)⟩, ⟨S1x100x50x16, (u 1 : Arr F S1x100x50x16 .f32)⟩, ⟨S1x100x50x16, (u 2 : Arr F S1x100x50x16 .f32)⟩, ⟨S1x100x50x16, (u 3 : Arr F S1x100x50x16 .f32)⟩] concatenates_S1x100x50x16_S1x100x50x16_S1x100x50x16_S1x100x50x16_S4x100x50x16_d0 : Arr F S4x100x50x16 .f32)),
    unary main_v4 main_v5 ((transpose S4x50x100x16 [0, 2, 1, 3] · transposes_S4x100x50x16_S4x50x100x16_0_2_1_3) : Arr F S4x100x50x16 .f32 → Arr F S4x50x100x16 .f32),
    nullary main_cst (constant S_ .f32 0x00000000#32),
    unary main_cst main_v6 (broadcastInDim S100x128 ![] bcast_S_S100x128 : Arr F S_ .f32 → Arr F S100x128 .f32),
    unary main_v6 main_v7 (broadcastInDim S4x100x128 ![1, 2] bcast_S100x128_S4x100x128_1_2 : Arr F S100x128 .f32 → Arr F S4x100x128 .f32),
    unary main_v5 main_v8 ((transpose S50x4x100x16 [1, 0, 2, 3] · transposes_S4x50x100x16_S50x4x100x16_1_0_2_3) : Arr F S4x50x100x16 .f32 → Arr F S50x4x100x16 .f32),
    nullary main_cst_0 (constant S_ .f32 0x00000000#32),
    unary main_cst_0 main_v9 (broadcastInDim S50x4x100x128 ![] bcast_S_S50x4x100x128 : Arr F S_ .f32 → Arr F S50x4x100x128 .f32),
    nullary main_c (constantI S_ 32 0#32),
    unary main_v8 main_v10_0 id,
    unary main_arg7 main_v10_1 id,
    unary main_arg9 main_v10_2 id,
    unary main_arg8 main_v10_3 id,
    unary main_arg10 main_v10_4 id,
    unary main_c main_v10_5 id,
    unary main_v7 main_v10_6 id,
    unary main_v9 main_v10_7 id ]
theorem main_part0_ops0_sub : (main_part0_ops0 : List (HloOp τ sig (Elt F))).Forall fun op => op.bufs ⊆ tcRefs τ sig :=
  ⟨unary_bufs_sub .., unary_bufs_sub .., unary_bufs_sub .., unary_bufs_sub .., nary_bufs_sub .., unary_bufs_sub .., nullary_bufs_sub .., unary_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
/-- 38 host operations of @main, window 0 (statements 1 … 60), in order. -/
abbrev main_part0_ops1 : List (HloOp τ sig (Elt F)) :=
  ( unary main_v10_7 main_v11 ((transpose S4x50x100x128 [1, 0, 2, 3] · transposes_S50x4x100x128_S4x50x100x128_1_0_2_3) : Arr F S50x4x100x128 .f32 → Arr F S4x50x100x128 .f32)
  :: unary main_v11 main_v12 ((transpose S4x100x50x128 [0, 2, 1, 3] · transposes_S4x50x100x128_S4x100x50x128_0_2_1_3) : Arr F S4x50x100x128 .f32 → Arr F S4x100x50x128 .f32)
  :: unary main_v12 main_v13 ((transpose S4x100x128x50 [0, 1, 3, 2] · transposes_S4x100x50x128_S4x100x128x50_0_1_3_2) : Arr F S4x100x50x128 .f32 → Arr F S4x100x128x50 .f32)
  :: unary main_arg11 main_v14 ((transpose S4x50x50 [0, 2, 1] · transposes_S4x50x50_S4x50x50_0_2_1) : Arr F S4x50x50 .f32 → Arr F S4x50x50 .f32)
  :: binary main_v13 main_v14 main_v15 ((fun l r => Host.dotGeneral dot_S4x100x128x50_S4x50x50_S4x100x128x50_3_1_12_2_0_0 none l r) : Arr F S4x100x128x50 .f32 → Arr F S4x50x50 .f32 → Arr F S4x100x128x50 .f32)
  :: unary main_arg12 main_v16 (broadcastInDim S4x1x1x50 ![0, 3] bcast_S4x50_S4x1x1x50_0_3 : Arr F S4x50 .f32 → Arr F S4x1x1x50 .f32)
  :: unary main_v16 main_v17 (broadcastInDim S4x100x128x50 ![0, 1, 2, 3] bcast_S4x1x1x50_S4x100x128x50_0_1_2_3 : Arr F S4x1x1x50 .f32 → Arr F S4x100x128x50 .f32)
  :: binary main_v15 main_v17 main_v18 (addf : Arr F S4x100x128x50 .f32 → Arr F S4x100x128x50 .f32 → Arr F S4x100x128x50 .f32)
  :: nullary main_cst_1 (constant S_ .f32 0xFF800000#32)
  :: binary main_v18 main_cst_1 main_v19 ((fun x v => Host.reduce FloatOps.maximumf x v reducesTo_S4x100x128x50_S4x100x128_d3 h_S_) : Arr F S4x100x128x50 .f32 → Arr F S_ .f32 → Arr F S4x100x128 .f32)
  :: nullary main_cst_2 (constant S_ .f32 0xFF800000#32)
  :: unary main_cst_2 main_v20 (broadcastInDim S4x100x128 ![] bcast_S_S4x100x128 : Arr F S_ .f32 → Arr F S4x100x128 .f32)
  :: binary main_v20 main_v19 main_v21 (maximumf : Arr F S4x100x128 .f32 → Arr F S4x100x128 .f32 → Arr F S4x100x128 .f32)
  :: unary main_v21 main_v22 (broadcastInDim S4x100x128x1 ![0, 1, 2] bcast_S4x100x128_S4x100x128x1_0_1_2 : Arr F S4x100x128 .f32 → Arr F S4x100x128x1 .f32)
  :: unary main_v22 main_v23 (broadcastInDim S4x100x128x50 ![0, 1, 2, 3] bcast_S4x100x128x1_S4x100x128x50_0_1_2_3 : Arr F S4x100x128x1 .f32 → Arr F S4x100x128x50 .f32)
  :: binary main_v18 main_v23 main_v24 (subf : Arr F S4x100x128x50 .f32 → Arr F S4x100x128x50 .f32 → Arr F S4x100x128x50 .f32)
  :: unary main_v24 main_v25 (Host.exp : Arr F S4x100x128x50 .f32 → Arr F S4x100x128x50 .f32)
  :: nullary main_cst_3 (constant S_ .f32 0x00000000#32)
  :: binary main_v25 main_cst_3 main_v26 ((fun x v => Host.reduceAdd x v reducesTo_S4x100x128x50_S4x100x128_d3 h_S_) : Arr F S4x100x128x50 .f32 → Arr F S_ .f32 → Arr F S4x100x128 .f32)
  :: unary main_v26 main_v27 (broadcastInDim S4x100x128x1 ![0, 1, 2] bcast_S4x100x128_S4x100x128x1_0_1_2 : Arr F S4x100x128 .f32 → Arr F S4x100x128x1 .f32)
  :: unary main_v27 main_v28 (broadcastInDim S4x100x128x50 ![0, 1, 2, 3] bcast_S4x100x128x1_S4x100x128x50_0_1_2_3 : Arr F S4x100x128x1 .f32 → Arr F S4x100x128x50 .f32)
  :: binary main_v25 main_v28 main_v29 (Host.divf : Arr F S4x100x128x50 .f32 → Arr F S4x100x128x50 .f32 → Arr F S4x100x128x50 .f32)
  :: unary main_v29 main_v30 ((transpose S4x100x50x128 [0, 1, 3, 2] · transposes_S4x100x128x50_S4x100x50x128_0_1_3_2) : Arr F S4x100x128x50 .f32 → Arr F S4x100x50x128 .f32)
  :: binary main_v30 main_v12 main_v31 (mulf : Arr F S4x100x50x128 .f32 → Arr F S4x100x50x128 .f32 → Arr F S4x100x50x128 .f32)
  :: nullary main_cst_4 (constant S_ .f32 0x00000000#32)
  :: binary main_v31 main_cst_4 main_v32 ((fun x v => Host.reduceAdd x v reducesTo_S4x100x50x128_S4x100x128_d2 h_S_) : Arr F S4x100x50x128 .f32 → Arr F S_ .f32 → Arr F S4x100x128 .f32)
  :: unary main_v32 main_v33 ((transpose S100x4x128 [1, 0, 2] · transposes_S4x100x128_S100x4x128_1_0_2) : Arr F S4x100x128 .f32 → Arr F S100x4x128 .f32)
  :: nullary main_cst_5 (constant S_ .f32 0x00000000#32)
  :: unary main_cst_5 main_v34 (broadcastInDim S4x128 ![] bcast_S_S4x128 : Arr F S_ .f32 → Arr F S4x128 .f32)
  :: nullary main_cst_6 (constant S_ .f32 0x00000000#32)
  :: unary main_cst_6 main_v35 (broadcastInDim S100x4x128 ![] bcast_S_S100x4x128 : Arr F S_ .f32 → Arr F S100x4x128 .f32)
  :: nullary main_c_7 (constantI S_ 32 0#32)
  :: unary main_v33 main_v36_0 id
  :: unary main_arg13 main_v36_1 id
  :: unary main_arg15 main_v36_2 id
  :: unary main_arg14 main_v36_3 id
  :: unary main_arg16 main_v36_4 id
  :: unary main_c_7 main_v36_5 id
  :: [] )
theorem main_part0_ops1_sub : (main_part0_ops1 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩
/-- These statements are the stretches below, in order. -/
theorem main_part0_chain (c : Dev nD) : main_part0 (F := F) c = (Pipeline.chainK
  [ seq main_part0_ops0,
    HostLoop.enter 0 ]
  (seq main_part0_ops1) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- 2 host operations of @main, window 1 (statements 61 … 120), in order. -/
abbrev main_part1_ops0 : List (HloOp τ sig (Elt F)) :=
  [ unary main_v34 main_v36_6 id,
    unary main_v35 main_v36_7 id ]
theorem main_part1_ops0_sub : (main_part1_ops0 : List (HloOp τ sig (Elt F))).Forall fun op => op.bufs ⊆ tcRefs τ sig :=
  ⟨unary_bufs_sub .., unary_bufs_sub ..⟩
/-- 55 host operations of @main, window 1 (statements 61 … 120), in order. -/
abbrev main_part1_ops1 : List (HloOp τ sig (Elt F)) :=
  ( unary main_v36_7 main_v37 ((transpose S100x128x4 [0, 2, 1] · transposes_S100x4x128_S100x128x4_0_2_1) : Arr F S100x4x128 .f32 → Arr F S100x128x4 .f32)
  :: unary main_arg17 main_v38 ((transpose S4x4 [1, 0] · transposes_S4x4_S4x4_1_0) : Arr F S4x4 .f32 → Arr F S4x4 .f32)
  :: binary main_v37 main_v38 main_v39 ((fun l r => Host.dotGeneral dot_S100x128x4_S4x4_S100x128x4_2_0_01_1_n_n none l r) : Arr F S100x128x4 .f32 → Arr F S4x4 .f32 → Arr F S100x128x4 .f32)
  :: unary main_arg18 main_v40 (broadcastInDim S1x1x4 ![2] bcast_S4_S1x1x4_2 : Arr F S4 .f32 → Arr F S1x1x4 .f32)
  :: unary main_v40 main_v41 (broadcastInDim S100x128x4 ![0, 1, 2] bcast_S1x1x4_S100x128x4_0_1_2 : Arr F S1x1x4 .f32 → Arr F S100x128x4 .f32)
  :: binary main_v39 main_v41 main_v42 (addf : Arr F S100x128x4 .f32 → Arr F S100x128x4 .f32 → Arr F S100x128x4 .f32)
  :: nullary main_cst_8 (constant S_ .f32 0xFF800000#32)
  :: binary main_v42 main_cst_8 main_v43 ((fun x v => Host.reduce FloatOps.maximumf x v reducesTo_S100x128x4_S100x128_d2 h_S_) : Arr F S100x128x4 .f32 → Arr F S_ .f32 → Arr F S100x128 .f32)
  :: nullary main_cst_9 (constant S_ .f32 0xFF800000#32)
  :: unary main_cst_9 main_v44 (broadcastInDim S100x128 ![] bcast_S_S100x128 : Arr F S_ .f32 → Arr F S100x128 .f32)
  :: binary main_v44 main_v43 main_v45 (maximumf : Arr F S100x128 .f32 → Arr F S100x128 .f32 → Arr F S100x128 .f32)
  :: unary main_v45 main_v46 (broadcastInDim S100x128x1 ![0, 1] bcast_S100x128_S100x128x1_0_1 : Arr F S100x128 .f32 → Arr F S100x128x1 .f32)
  :: unary main_v46 main_v47 (broadcastInDim S100x128x4 ![0, 1, 2] bcast_S100x128x1_S100x128x4_0_1_2 : Arr F S100x128x1 .f32 → Arr F S100x128x4 .f32)
  :: binary main_v42 main_v47 main_v48 (subf : Arr F S100x128x4 .f32 → Arr F S100x128x4 .f32 → Arr F S100x128x4 .f32)
  :: unary main_v48 main_v49 (Host.exp : Arr F S100x128x4 .f32 → Arr F S100x128x4 .f32)
  :: nullary main_cst_10 (constant S_ .f32 0x00000000#32)
  :: binary main_v49 main_cst_10 main_v50 ((fun x v => Host.reduceAdd x v reducesTo_S100x128x4_S100x128_d2 h_S_) : Arr F S100x128x4 .f32 → Arr F S_ .f32 → Arr F S100x128 .f32)
  :: unary main_v50 main_v51 (broadcastInDim S100x128x1 ![0, 1] bcast_S100x128_S100x128x1_0_1 : Arr F S100x128 .f32 → Arr F S100x128x1 .f32)
  :: unary main_v51 main_v52 (broadcastInDim S100x128x4 ![0, 1, 2] bcast_S100x128x1_S100x128x4_0_1_2 : Arr F S100x128x1 .f32 → Arr F S100x128x4 .f32)
  :: binary main_v49 main_v52 main_v53 (Host.divf : Arr F S100x128x4 .f32 → Arr F S100x128x4 .f32 → Arr F S100x128x4 .f32)
  :: unary main_v53 main_v54 ((transpose S100x4x128 [0, 2, 1] · transposes_S100x128x4_S100x4x128_0_2_1) : Arr F S100x128x4 .f32 → Arr F S100x4x128 .f32)
  :: binary main_v54 main_v36_7 main_v55 (mulf : Arr F S100x4x128 .f32 → Arr F S100x4x128 .f32 → Arr F S100x4x128 .f32)
  :: nullary main_cst_11 (constant S_ .f32 0x00000000#32)
  :: binary main_v55 main_cst_11 main_v56 ((fun x v => Host.reduceAdd x v reducesTo_S100x4x128_S100x128_d1 h_S_) : Arr F S100x4x128 .f32 → Arr F S_ .f32 → Arr F S100x128 .f32)
  :: nullary main_v57 (iotaInDim S100 32 0)
  :: unary main_arg4 main_v58 ((extractStridedSlice S1x800 ![0, 0] · slices_S2x800_S1x800_0_0) : Arr F S2x800 .i32 → Arr F S1x800 .i32)
  :: reshape main_v58 main_v59 (rfl : (.i32 : EltTy) = .i32) shapeCasts_S1x800_S800
  :: binary main_v59 main_v57 main_v60 ((fun a b => concatenate S900 0 [⟨S800, a⟩, ⟨S100, b⟩] concatenates_S800_S100_S900_d0) : Arr F S800 .i32 → Arr F S100 .i32 → Arr F S900 .i32)
  :: unary main_arg4 main_v61 ((extractStridedSlice S1x800 ![1, 0] · slices_S2x800_S1x800_1_0) : Arr F S2x800 .i32 → Arr F S1x800 .i32)
  :: reshape main_v61 main_v62 (rfl : (.i32 : EltTy) = .i32) shapeCasts_S1x800_S800
  :: binary main_v62 main_v57 main_v63 ((fun a b => concatenate S900 0 [⟨S800, a⟩, ⟨S100, b⟩] concatenates_S800_S100_S900_d0) : Arr F S800 .i32 → Arr F S100 .i32 → Arr F S900 .i32)
  :: unary main_arg19 main_v64 ((transpose S128x128 [1, 0] · transposes_S128x128_S128x128_1_0) : Arr F S128x128 .f32 → Arr F S128x128 .f32)
  :: binary main_v56 main_v64 main_v65 ((fun l r => Host.dotGeneral dot_S100x128_S128x128_S100x128_1_0_0_1_n_n none l r) : Arr F S100x128 .f32 → Arr F S128x128 .f32 → Arr F S100x128 .f32)
  :: binary main_v65 main_arg20 main_v66 ((fun l r => Host.dotGeneral dot_S100x128_S128_S100_1_0_0_n_n_n none l r) : Arr F S100x128 .f32 → Arr F S128 .f32 → Arr F S100 .f32)
  :: binary main_v65 main_arg21 main_v67 ((fun l r => Host.dotGeneral dot_S100x128_S128_S100_1_0_0_n_n_n none l r) : Arr F S100x128 .f32 → Arr F S128 .f32 → Arr F S100 .f32)
  :: nullary main_c_12 (constantI S_ 32 0#32)
  :: unary main_c_12 main_v68 (broadcastInDim S900 ![] bcast_S_S900 : Arr F S_ .i32 → Arr F S900 .i32)
  :: binary main_v60 main_v68 main_v69 (cmpi .slt : Arr F S900 .i32 → Arr F S900 .i32 → Arr F S900 .i1)
  :: nullary main_c_13 (constantI S_ 32 100#32)
  :: unary main_c_13 main_v70 (broadcastInDim S900 ![] bcast_S_S900 : Arr F S_ .i32 → Arr F S900 .i32)
  :: binary main_v60 main_v70 main_v71 (addi : Arr F S900 .i32 → Arr F S900 .i32 → Arr F S900 .i32)
  :: ternary main_v69 main_v71 main_v60 main_v72 (select : Arr F S900 .i1 → Arr F S900 .i32 → Arr F S900 .i32 → Arr F S900 .i32)
  :: unary main_v72 main_v73 (broadcastInDim S900x1 ![0] bcast_S900_S900x1_0 : Arr F S900 .i32 → Arr F S900x1 .i32)
  :: binary main_v66 main_v73 main_v74 ((fun x i => Host.gather gather_S100_S900x1_S900_n_0_n_n_0_1_1 x i) : Arr F S100 .f32 → Arr F S900x1 .i32 → Arr F S900 .f32)
  :: nullary main_c_14 (constantI S_ 32 0#32)
  :: unary main_c_14 main_v75 (broadcastInDim S900 ![] bcast_S_S900 : Arr F S_ .i32 → Arr F S900 .i32)
  :: binary main_v63 main_v75 main_v76 (cmpi .slt : Arr F S900 .i32 → Arr F S900 .i32 → Arr F S900 .i1)
  :: nullary main_c_15 (constantI S_ 32 100#32)
  :: unary main_c_15 main_v77 (broadcastInDim S900 ![] bcast_S_S900 : Arr F S_ .i32 → Arr F S900 .i32)
  :: binary main_v63 main_v77 main_v78 (addi : Arr F S900 .i32 → Arr F S900 .i32 → Arr F S900 .i32)
  :: ternary main_v76 main_v78 main_v63 main_v79 (select : Arr F S900 .i1 → Arr F S900 .i32 → Arr F S900 .i32 → Arr F S900 .i32)
  :: unary main_v79 main_v80 (broadcastInDim S900x1 ![0] bcast_S900_S900x1_0 : Arr F S900 .i32 → Arr F S900x1 .i32)
  :: binary main_v67 main_v80 main_v81 ((fun x i => Host.gather gather_S100_S900x1_S900_n_0_n_n_0_1_1 x i) : Arr F S100 .f32 → Arr F S900x1 .i32 → Arr F S900 .f32)
  :: binary main_v74 main_v81 main_v82 (addf : Arr F S900 .f32 → Arr F S900 .f32 → Arr F S900 .f32)
  :: nullary main_cst_16 (constant S_ .f32 0x3E4CCCCD#32)
  :: [] )
theorem main_part1_ops1_sub : (main_part1_ops1 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., nullary_bufs_sub .., unary_bufs_sub .., reshape_bufs_sub .., binary_bufs_sub .., unary_bufs_sub .., reshape_bufs_sub .., binary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub ..⟩
/-- 7 host operations of @leaky_relu (main_call4), window 1 (statements 61 … 120), in order. -/
abbrev main_part1_ops2 : List (HloOp τ sig (Elt F)) :=
  [ TRef.nullary (.of main_call4_cst : TRef sig ⟨S_, .f32⟩) (constant S_ .f32 0x00000000#32),
    TRef.unary (.of main_call4_cst : TRef sig ⟨S_, .f32⟩) (.of main_call4_v0 : TRef sig ⟨S900, .f32⟩) (broadcastInDim S900 ![] bcast_S_S900),
    TRef.binary (.of main_v82 : TRef sig ⟨S900, .f32⟩) (.of main_call4_v0 : TRef sig ⟨S900, .f32⟩) (.of main_call4_v1 : TRef sig ⟨S900, .i1⟩) (cmpf .oge),
    TRef.unary (.of main_cst_16 : TRef sig ⟨S_, .f32⟩) (.of main_call4_v2 : TRef sig ⟨S_, .f32⟩) id,
    TRef.unary (.of main_call4_v2 : TRef sig ⟨S_, .f32⟩) (.of main_call4_v3 : TRef sig ⟨S900, .f32⟩) (broadcastInDim S900 ![] bcast_S_S900),
    TRef.binary (.of main_call4_v3 : TRef sig ⟨S900, .f32⟩) (.of main_v82 : TRef sig ⟨S900, .f32⟩) (.of main_call4_v4 : TRef sig ⟨S900, .f32⟩) mulf,
    TRef.ternary (.of main_call4_v1 : TRef sig ⟨S900, .i1⟩) (.of main_v82 : TRef sig ⟨S900, .f32⟩) (.of main_call4_v4 : TRef sig ⟨S900, .f32⟩) (.of main_v83 : TRef sig ⟨S900, .f32⟩) select ]
theorem main_part1_ops2_sub : (main_part1_ops2 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
/-- 1 host operation of @main, window 1 (statements 61 … 120), in order. -/
abbrev main_part1_ops3 : List (HloOp τ sig (Elt F)) :=
  [ nullary main_v84 (iotaInDim S100 32 0) ]
theorem main_part1_ops3_sub : (main_part1_ops3 : List (HloOp τ sig (Elt F))).Forall fun op => op.bufs ⊆ tcRefs τ sig :=
  nullary_bufs_sub ..
/-- These statements are the stretches below, in order. -/
theorem main_part1_chain (c : Dev nD) : main_part1 (F := F) c = (Pipeline.chainK
  [ seq main_part1_ops0,
    HostLoop.enter 1,
    seq main_part1_ops1,
    seq main_part1_ops2 ]
  (seq main_part1_ops3) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons]
  chain_rfl

/-- 7 host operations of @main, window 2 (statements 121 … 180), in order. -/
abbrev main_part2_ops0 : List (HloOp τ sig (Elt F)) :=
  [ unary main_v84 main_v85 (broadcastInDim S100x1 ![0] bcast_S100_S100x1_0 : Arr F S100 .i32 → Arr F S100x1 .i32),
    unary main_v63 main_v86 (broadcastInDim S1x900 ![1] bcast_S900_S1x900_1 : Arr F S900 .i32 → Arr F S1x900 .i32),
    unary main_v85 main_v87 (broadcastInDim S100x900 ![0, 1] bcast_S100x1_S100x900_0_1 : Arr F S100x1 .i32 → Arr F S100x900 .i32),
    unary main_v86 main_v88 (broadcastInDim S100x900 ![0, 1] bcast_S1x900_S100x900_0_1 : Arr F S1x900 .i32 → Arr F S100x900 .i32),
    binary main_v87 main_v88 main_v89 (cmpi .eq : Arr F S100x900 .i32 → Arr F S100x900 .i32 → Arr F S100x900 .i1),
    unary main_v83 main_v90 (broadcastInDim S1x900 ![1] bcast_S900_S1x900_1 : Arr F S900 .f32 → Arr F S1x900 .f32),
    nullary main_cst_17 (constant S_ .f32 0xFF800000#32) ]
theorem main_part2_ops0_sub : (main_part2_ops0 : List (HloOp τ sig (Elt F))).Forall fun op => op.bufs ⊆ tcRefs τ sig :=
  ⟨unary_bufs_sub .., unary_bufs_sub .., unary_bufs_sub .., unary_bufs_sub .., binary_bufs_sub .., unary_bufs_sub .., nullary_bufs_sub ..⟩
/-- 4 host operations of @_where_2 (main_call5), window 2 (statements 121 … 180), in order. -/
abbrev main_part2_ops1 : List (HloOp τ sig (Elt F)) :=
  [ TRef.unary (.of main_cst_17 : TRef sig ⟨S_, .f32⟩) (.of main_call5_v0 : TRef sig ⟨S_, .f32⟩) id,
    TRef.unary (.of main_v90 : TRef sig ⟨S1x900, .f32⟩) (.of main_call5_v1 : TRef sig ⟨S100x900, .f32⟩) (broadcastInDim S100x900 ![0, 1] bcast_S1x900_S100x900_0_1),
    TRef.unary (.of main_call5_v0 : TRef sig ⟨S_, .f32⟩) (.of main_call5_v2 : TRef sig ⟨S100x900, .f32⟩) (broadcastInDim S100x900 ![] bcast_S_S100x900),
    TRef.ternary (.of main_v89 : TRef sig ⟨S100x900, .i1⟩) (.of main_call5_v1 : TRef sig ⟨S100x900, .f32⟩) (.of main_call5_v2 : TRef sig ⟨S100x900, .f32⟩) (.of main_v91 : TRef sig ⟨S100x900, .f32⟩) select ]
theorem main_part2_ops1_sub : (main_part2_ops1 : List (HloOp τ sig (Elt F))).Forall fun op => op.bufs ⊆ tcRefs τ sig :=
  ⟨unary_bufs_sub .., unary_bufs_sub .., unary_bufs_sub .., ternary_bufs_sub ..⟩
/-- 52 host operations of @main, window 2 (statements 121 … 180), in order. -/
abbrev main_part2_ops2 : List (HloOp τ sig (Elt F)) :=
  ( nullary main_cst_18 (constant S_ .f32 0xFF800000#32)
  :: binary main_v91 main_cst_18 main_v92 ((fun x v => Host.reduce FloatOps.maximumf x v reducesTo_S100x900_S100_d1 h_S_) : Arr F S100x900 .f32 → Arr F S_ .f32 → Arr F S100 .f32)
  :: nullary main_c_19 (constantI S_ 32 0#32)
  :: unary main_c_19 main_v93 (broadcastInDim S900 ![] bcast_S_S900 : Arr F S_ .i32 → Arr F S900 .i32)
  :: binary main_v63 main_v93 main_v94 (cmpi .slt : Arr F S900 .i32 → Arr F S900 .i32 → Arr F S900 .i1)
  :: nullary main_c_20 (constantI S_ 32 100#32)
  :: unary main_c_20 main_v95 (broadcastInDim S900 ![] bcast_S_S900 : Arr F S_ .i32 → Arr F S900 .i32)
  :: binary main_v63 main_v95 main_v96 (addi : Arr F S900 .i32 → Arr F S900 .i32 → Arr F S900 .i32)
  :: ternary main_v94 main_v96 main_v63 main_v97 (select : Arr F S900 .i1 → Arr F S900 .i32 → Arr F S900 .i32 → Arr F S900 .i32)
  :: unary main_v97 main_v98 (broadcastInDim S900x1 ![0] bcast_S900_S900x1_0 : Arr F S900 .i32 → Arr F S900x1 .i32)
  :: binary main_v92 main_v98 main_v99 ((fun x i => Host.gather gather_S100_S900x1_S900_n_0_n_n_0_1_1 x i) : Arr F S100 .f32 → Arr F S900x1 .i32 → Arr F S900 .f32)
  :: binary main_v83 main_v99 main_v100 (subf : Arr F S900 .f32 → Arr F S900 .f32 → Arr F S900 .f32)
  :: unary main_v100 main_v101 (Host.exp : Arr F S900 .f32 → Arr F S900 .f32)
  :: nullary main_cst_21 (constant S_ .f32 0x00000000#32)
  :: unary main_cst_21 main_v102 (broadcastInDim S100 ![] bcast_S_S100 : Arr F S_ .f32 → Arr F S100 .f32)
  :: unary main_v63 main_v103 (broadcastInDim S900x1 ![0] bcast_S900_S900x1_0 : Arr F S900 .i32 → Arr F S900x1 .i32)
  :: ternary main_v102 main_v103 main_v101 main_v104 ((fun x i u => Host.scatterAdd scatter_S100_S900x1_S900_n_0_0_1 x i u) : Arr F S100 .f32 → Arr F S900x1 .i32 → Arr F S900 .f32 → Arr F S100 .f32)
  :: nullary main_c_22 (constantI S_ 32 0#32)
  :: unary main_c_22 main_v105 (broadcastInDim S900 ![] bcast_S_S900 : Arr F S_ .i32 → Arr F S900 .i32)
  :: binary main_v63 main_v105 main_v106 (cmpi .slt : Arr F S900 .i32 → Arr F S900 .i32 → Arr F S900 .i1)
  :: nullary main_c_23 (constantI S_ 32 100#32)
  :: unary main_c_23 main_v107 (broadcastInDim S900 ![] bcast_S_S900 : Arr F S_ .i32 → Arr F S900 .i32)
  :: binary main_v63 main_v107 main_v108 (addi : Arr F S900 .i32 → Arr F S900 .i32 → Arr F S900 .i32)
  :: ternary main_v106 main_v108 main_v63 main_v109 (select : Arr F S900 .i1 → Arr F S900 .i32 → Arr F S900 .i32 → Arr F S900 .i32)
  :: unary main_v109 main_v110 (broadcastInDim S900x1 ![0] bcast_S900_S900x1_0 : Arr F S900 .i32 → Arr F S900x1 .i32)
  :: binary main_v104 main_v110 main_v111 ((fun x i => Host.gather gather_S100_S900x1_S900_n_0_n_n_0_1_1 x i) : Arr F S100 .f32 → Arr F S900x1 .i32 → Arr F S900 .f32)
  :: nullary main_cst_24 (constant S_ .f32 0x24E69595#32)
  :: unary main_cst_24 main_v112 (broadcastInDim S900 ![] bcast_S_S900 : Arr F S_ .f32 → Arr F S900 .f32)
  :: binary main_v111 main_v112 main_v113 (addf : Arr F S900 .f32 → Arr F S900 .f32 → Arr F S900 .f32)
  :: binary main_v101 main_v113 main_v114 (Host.divf : Arr F S900 .f32 → Arr F S900 .f32 → Arr F S900 .f32)
  :: unary main_v114 main_v115 (broadcastInDim S900x1 ![0] bcast_S900_S900x1_0 : Arr F S900 .f32 → Arr F S900x1 .f32)
  :: nullary main_c_25 (constantI S_ 32 0#32)
  :: unary main_c_25 main_v116 (broadcastInDim S900 ![] bcast_S_S900 : Arr F S_ .i32 → Arr F S900 .i32)
  :: binary main_v60 main_v116 main_v117 (cmpi .slt : Arr F S900 .i32 → Arr F S900 .i32 → Arr F S900 .i1)
  :: nullary main_c_26 (constantI S_ 32 100#32)
  :: unary main_c_26 main_v118 (broadcastInDim S900 ![] bcast_S_S900 : Arr F S_ .i32 → Arr F S900 .i32)
  :: binary main_v60 main_v118 main_v119 (addi : Arr F S900 .i32 → Arr F S900 .i32 → Arr F S900 .i32)
  :: ternary main_v117 main_v119 main_v60 main_v120 (select : Arr F S900 .i1 → Arr F S900 .i32 → Arr F S900 .i32 → Arr F S900 .i32)
  :: unary main_v120 main_v121 (broadcastInDim S900x1 ![0] bcast_S900_S900x1_0 : Arr F S900 .i32 → Arr F S900x1 .i32)
  :: binary main_v65 main_v121 main_v122 ((fun x i => Host.gather gather_S100x128_S900x1_S900x128_1_0_n_n_0_1_1128 x i) : Arr F S100x128 .f32 → Arr F S900x1 .i32 → Arr F S900x128 .f32)
  :: unary main_v115 main_v123 (broadcastInDim S900x128 ![0, 1] bcast_S900x1_S900x128_0_1 : Arr F S900x1 .f32 → Arr F S900x128 .f32)
  :: binary main_v123 main_v122 main_v124 (mulf : Arr F S900x128 .f32 → Arr F S900x128 .f32 → Arr F S900x128 .f32)
  :: nullary main_cst_27 (constant S_ .f32 0x00000000#32)
  :: unary main_cst_27 main_v125 (broadcastInDim S100x128 ![] bcast_S_S100x128 : Arr F S_ .f32 → Arr F S100x128 .f32)
  :: unary main_v63 main_v126 (broadcastInDim S900x1 ![0] bcast_S900_S900x1_0 : Arr F S900 .i32 → Arr F S900x1 .i32)
  :: ternary main_v125 main_v126 main_v124 main_v127 ((fun x i u => Host.scatterAdd scatter_S100x128_S900x1_S900x128_1_0_0_1 x i u) : Arr F S100x128 .f32 → Arr F S900x1 .i32 → Arr F S900x128 .f32 → Arr F S100x128 .f32)
  :: unary main_arg22 main_v128 (broadcastInDim S1x128 ![1] bcast_S128_S1x128_1 : Arr F S128 .f32 → Arr F S1x128 .f32)
  :: unary main_v128 main_v129 (broadcastInDim S100x128 ![0, 1] bcast_S1x128_S100x128_0_1 : Arr F S1x128 .f32 → Arr F S100x128 .f32)
  :: binary main_v127 main_v129 main_v130 (addf : Arr F S100x128 .f32 → Arr F S100x128 .f32 → Arr F S100x128 .f32)
  :: reshape main_v130 main_v131 (rfl : (.f32 : EltTy) = .f32) shapeCasts_S100x128_S5x20x128
  :: reshape main_v56 main_v132 (rfl : (.f32 : EltTy) = .f32) shapeCasts_S100x128_S5x20x128
  :: unary main_arg5 main_v133 ((extractStridedSlice S1x100 ![0, 0] · slices_S2x100_S1x100_0_0) : Arr F S2x100 .i32 → Arr F S1x100 .i32)
  :: [] )
theorem main_part2_ops2_sub : (main_part2_ops2 : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., reshape_bufs_sub .., reshape_bufs_sub .., unary_bufs_sub ..⟩
/-- These statements are the stretches below, in order. -/
theorem main_part2_chain (c : Dev nD) : main_part2 (F := F) c = (Pipeline.chainK
  [ seq main_part2_ops0,
    seq main_part2_ops1 ]
  (seq main_part2_ops2) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- 60 host operations of @main, window 3 (statements 181 … 240), in order. -/
abbrev main_part3_ops0 : List (HloOp τ sig (Elt F)) :=
  ( reshape main_v133 main_v134 (rfl : (.i32 : EltTy) = .i32) shapeCasts_S1x100_S100
  :: nullary main_c_28 (constantI S_ 32 0#32)
  :: unary main_c_28 main_v135 (broadcastInDim S100 ![] bcast_S_S100 : Arr F S_ .i32 → Arr F S100 .i32)
  :: binary main_v134 main_v135 main_v136 (cmpi .slt : Arr F S100 .i32 → Arr F S100 .i32 → Arr F S100 .i1)
  :: nullary main_c_29 (constantI S_ 32 20#32)
  :: unary main_c_29 main_v137 (broadcastInDim S100 ![] bcast_S_S100 : Arr F S_ .i32 → Arr F S100 .i32)
  :: binary main_v134 main_v137 main_v138 (addi : Arr F S100 .i32 → Arr F S100 .i32 → Arr F S100 .i32)
  :: ternary main_v136 main_v138 main_v134 main_v139 (select : Arr F S100 .i1 → Arr F S100 .i32 → Arr F S100 .i32 → Arr F S100 .i32)
  :: unary main_v139 main_v140 (broadcastInDim S100x1 ![0] bcast_S100_S100x1_0 : Arr F S100 .i32 → Arr F S100x1 .i32)
  :: binary main_v132 main_v140 main_v141 ((fun x i => Host.gather gather_S5x20x128_S100x1_S5x100x128_02_1_n_n_1_1_51128 x i) : Arr F S5x20x128 .f32 → Arr F S100x1 .i32 → Arr F S5x100x128 .f32)
  :: unary main_arg5 main_v142 ((extractStridedSlice S1x100 ![1, 0] · slices_S2x100_S1x100_1_0) : Arr F S2x100 .i32 → Arr F S1x100 .i32)
  :: reshape main_v142 main_v143 (rfl : (.i32 : EltTy) = .i32) shapeCasts_S1x100_S100
  :: nullary main_cst_30 (constant S_ .f32 0x00000000#32)
  :: unary main_cst_30 main_v144 (broadcastInDim S20x128 ![] bcast_S_S20x128 : Arr F S_ .f32 → Arr F S20x128 .f32)
  :: unary main_v143 main_v145 (broadcastInDim S100x1 ![0] bcast_S100_S100x1_0 : Arr F S100 .i32 → Arr F S100x1 .i32)
  :: unary main_v144 main_v146 (broadcastInDim S5x20x128 ![1, 2] bcast_S20x128_S5x20x128_1_2 : Arr F S20x128 .f32 → Arr F S5x20x128 .f32)
  :: ternary main_v146 main_v145 main_v141 main_v147 ((fun x i u => Host.scatterAdd scatter_S5x20x128_S100x1_S5x100x128_02_1_1_1 x i u) : Arr F S5x20x128 .f32 → Arr F S100x1 .i32 → Arr F S5x100x128 .f32 → Arr F S5x20x128 .f32)
  :: unary main_arg23 main_v148 ((transpose S128x1 [1, 0] · transposes_S1x128_S128x1_1_0) : Arr F S1x128 .f32 → Arr F S128x1 .f32)
  :: binary main_v147 main_v148 main_v149 ((fun l r => Host.dotGeneral dot_S5x20x128_S128x1_S5x20x1_2_0_01_1_n_n none l r) : Arr F S5x20x128 .f32 → Arr F S128x1 .f32 → Arr F S5x20x1 .f32)
  :: unary main_arg24 main_v150 (broadcastInDim S1x1 ![1] bcast_S1_S1x1_1 : Arr F S1 .f32 → Arr F S1x1 .f32)
  :: unary main_v150 main_v151 (broadcastInDim S1x1x1 ![1, 2] bcast_S1x1_S1x1x1_1_2 : Arr F S1x1 .f32 → Arr F S1x1x1 .f32)
  :: unary main_v151 main_v152 (broadcastInDim S5x20x1 ![0, 1, 2] bcast_S1x1x1_S5x20x1_0_1_2 : Arr F S1x1x1 .f32 → Arr F S5x20x1 .f32)
  :: binary main_v149 main_v152 main_v153 (addf : Arr F S5x20x1 .f32 → Arr F S5x20x1 .f32 → Arr F S5x20x1 .f32)
  :: unary main_arg25 main_v154 ((transpose S128x1 [1, 0] · transposes_S1x128_S128x1_1_0) : Arr F S1x128 .f32 → Arr F S128x1 .f32)
  :: binary main_v132 main_v154 main_v155 ((fun l r => Host.dotGeneral dot_S5x20x128_S128x1_S5x20x1_2_0_01_1_n_n none l r) : Arr F S5x20x128 .f32 → Arr F S128x1 .f32 → Arr F S5x20x1 .f32)
  :: binary main_v153 main_v155 main_v156 (addf : Arr F S5x20x1 .f32 → Arr F S5x20x1 .f32 → Arr F S5x20x1 .f32)
  :: reshape main_v156 main_v157 (rfl : (.f32 : EltTy) = .f32) shapeCasts_S5x20x1_S5x20
  :: unary main_v157 main_values ((fun x => (Host.topK S5x10 1 (FloatOps.cmpfTotal .gt) x sliceFits_S5x20_S5x10).1) : Arr F S5x20 .f32 → Arr F S5x10 .f32)
  :: unary main_v157 main_indices ((fun x => (Host.topK S5x10 1 (FloatOps.cmpfTotal .gt) x sliceFits_S5x20_S5x10).2) : Arr F S5x20 .f32 → Arr F S5x10 .i32)
  :: nullary main_c_31 (constantI S_ 32 0#32)
  :: unary main_c_31 main_v158 (broadcastInDim S5x10 ![] bcast_S_S5x10 : Arr F S_ .i32 → Arr F S5x10 .i32)
  :: binary main_indices main_v158 main_v159 (cmpi .slt : Arr F S5x10 .i32 → Arr F S5x10 .i32 → Arr F S5x10 .i1)
  :: nullary main_c_32 (constantI S_ 32 20#32)
  :: unary main_c_32 main_v160 (broadcastInDim S5x10 ![] bcast_S_S5x10 : Arr F S_ .i32 → Arr F S5x10 .i32)
  :: binary main_indices main_v160 main_v161 (addi : Arr F S5x10 .i32 → Arr F S5x10 .i32 → Arr F S5x10 .i32)
  :: ternary main_v159 main_v161 main_indices main_v162 (select : Arr F S5x10 .i1 → Arr F S5x10 .i32 → Arr F S5x10 .i32 → Arr F S5x10 .i32)
  :: unary main_v162 main_v163 (broadcastInDim S5x10x1 ![0, 1] bcast_S5x10_S5x10x1_0_1 : Arr F S5x10 .i32 → Arr F S5x10x1 .i32)
  :: binary main_v132 main_v163 main_v164 ((fun x i => Host.gather gather_S5x20x128_S5x10x1_S5x10x128_2_1_0_0_1_2_11128 x i) : Arr F S5x20x128 .f32 → Arr F S5x10x1 .i32 → Arr F S5x10x128 .f32)
  :: unary main_values main_v165 (Host.tanh : Arr F S5x10 .f32 → Arr F S5x10 .f32)
  :: unary main_v165 main_v166 (broadcastInDim S5x10x1 ![0, 1] bcast_S5x10_S5x10x1_0_1 : Arr F S5x10 .f32 → Arr F S5x10x1 .f32)
  :: unary main_v166 main_v167 (broadcastInDim S5x10x128 ![0, 1, 2] bcast_S5x10x1_S5x10x128_0_1_2 : Arr F S5x10x1 .f32 → Arr F S5x10x128 .f32)
  :: binary main_v164 main_v167 main_v168 (mulf : Arr F S5x10x128 .f32 → Arr F S5x10x128 .f32 → Arr F S5x10x128 .f32)
  :: nullary main_cst_33 (constant S_ .f32 0xFF800000#32)
  :: binary main_v168 main_cst_33 main_v169 ((fun x v => Host.reduce FloatOps.maximumf x v reducesTo_S5x10x128_S5x128_d1 h_S_) : Arr F S5x10x128 .f32 → Arr F S_ .f32 → Arr F S5x128 .f32)
  :: nullary main_cst_34 (constant S_ .f32 0x00000000#32)
  :: binary main_v168 main_cst_34 main_v170 ((fun x v => Host.reduceAdd x v reducesTo_S5x10x128_S5x128_d1 h_S_) : Arr F S5x10x128 .f32 → Arr F S_ .f32 → Arr F S5x128 .f32)
  :: nullary main_cst_35 (constant S_ .f32 0x41200000#32)
  :: unary main_cst_35 main_v171 (broadcastInDim S5x128 ![] bcast_S_S5x128 : Arr F S_ .f32 → Arr F S5x128 .f32)
  :: binary main_v170 main_v171 main_v172 (Host.divf : Arr F S5x128 .f32 → Arr F S5x128 .f32 → Arr F S5x128 .f32)
  :: binary main_v169 main_v172 main_v173 ((fun a b => concatenate S5x256 1 [⟨S5x128, a⟩, ⟨S5x128, b⟩] concatenates_S5x128_S5x128_S5x256_d1) : Arr F S5x128 .f32 → Arr F S5x128 .f32 → Arr F S5x256 .f32)
  :: nullary main_v174 (iotaInDim S5 32 0)
  :: unary main_arg6 main_v175 ((extractStridedSlice S1x20 ![0, 0] · slices_S2x20_S1x20_0_0) : Arr F S2x20 .i32 → Arr F S1x20 .i32)
  :: reshape main_v175 main_v176 (rfl : (.i32 : EltTy) = .i32) shapeCasts_S1x20_S20
  :: binary main_v176 main_v174 main_v177 ((fun a b => concatenate S25 0 [⟨S20, a⟩, ⟨S5, b⟩] concatenates_S20_S5_S25_d0) : Arr F S20 .i32 → Arr F S5 .i32 → Arr F S25 .i32)
  :: unary main_arg6 main_v178 ((extractStridedSlice S1x20 ![1, 0] · slices_S2x20_S1x20_1_0) : Arr F S2x20 .i32 → Arr F S1x20 .i32)
  :: reshape main_v178 main_v179 (rfl : (.i32 : EltTy) = .i32) shapeCasts_S1x20_S20
  :: binary main_v179 main_v174 main_v180 ((fun a b => concatenate S25 0 [⟨S20, a⟩, ⟨S5, b⟩] concatenates_S20_S5_S25_d0) : Arr F S20 .i32 → Arr F S5 .i32 → Arr F S25 .i32)
  :: unary main_arg26 main_v181 ((transpose S256x128 [1, 0] · transposes_S128x256_S256x128_1_0) : Arr F S128x256 .f32 → Arr F S256x128 .f32)
  :: binary main_v173 main_v181 main_v182 ((fun l r => Host.dotGeneral dot_S5x256_S256x128_S5x128_1_0_0_1_n_n none l r) : Arr F S5x256 .f32 → Arr F S256x128 .f32 → Arr F S5x128 .f32)
  :: binary main_v182 main_arg27 main_v183 ((fun l r => Host.dotGeneral dot_S5x128_S128_S5_1_0_0_n_n_n none l r) : Arr F S5x128 .f32 → Arr F S128 .f32 → Arr F S5 .f32)
  :: [] )
theorem main_part3_ops0_sub : (main_part3_ops0 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., unary_bufs_sub .., unary_bufs_sub .., ternary_bufs_sub .., unary_bufs_sub .., binary_bufs_sub .., unary_bufs_sub .., unary_bufs_sub .., unary_bufs_sub .., binary_bufs_sub .., unary_bufs_sub .., binary_bufs_sub .., binary_bufs_sub .., reshape_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., binary_bufs_sub .., nullary_bufs_sub .., binary_bufs_sub .., nullary_bufs_sub .., unary_bufs_sub .., binary_bufs_sub .., binary_bufs_sub .., nullary_bufs_sub .., unary_bufs_sub .., reshape_bufs_sub .., binary_bufs_sub .., unary_bufs_sub .., reshape_bufs_sub .., binary_bufs_sub .., unary_bufs_sub .., binary_bufs_sub .., binary_bufs_sub ..⟩
/-- These statements are the stretches below, in order. -/
theorem main_part3_chain (c : Dev nD) : main_part3 (F := F) c = (Pipeline.chainK
  [  ]
  (seq main_part3_ops0) : Prog (TpuEff nD τ sig (Elt F) (HostLoop.Sig (Pipeline.Sig Λ₀ (Fin 0) fun p => (pcfgs (F := F) p).Adm) 2) .tc) PUnit) := by
  chain_rfl

/-- 21 host operations of @main, window 4 (statements 241 … 300), in order. -/
abbrev main_part4_ops0 : List (HloOp τ sig (Elt F)) :=
  [ binary main_v182 main_arg28 main_v184 ((fun l r => Host.dotGeneral dot_S5x128_S128_S5_1_0_0_n_n_n none l r) : Arr F S5x128 .f32 → Arr F S128 .f32 → Arr F S5 .f32),
    nullary main_c_36 (constantI S_ 32 0#32),
    unary main_c_36 main_v185 (broadcastInDim S25 ![] bcast_S_S25 : Arr F S_ .i32 → Arr F S25 .i32),
    binary main_v177 main_v185 main_v186 (cmpi .slt : Arr F S25 .i32 → Arr F S25 .i32 → Arr F S25 .i1),
    nullary main_c_37 (constantI S_ 32 5#32),
    unary main_c_37 main_v187 (broadcastInDim S25 ![] bcast_S_S25 : Arr F S_ .i32 → Arr F S25 .i32),
    binary main_v177 main_v187 main_v188 (addi : Arr F S25 .i32 → Arr F S25 .i32 → Arr F S25 .i32),
    ternary main_v186 main_v188 main_v177 main_v189 (select : Arr F S25 .i1 → Arr F S25 .i32 → Arr F S25 .i32 → Arr F S25 .i32),
    unary main_v189 main_v190 (broadcastInDim S25x1 ![0] bcast_S25_S25x1_0 : Arr F S25 .i32 → Arr F S25x1 .i32),
    binary main_v183 main_v190 main_v191 ((fun x i => Host.gather gather_S5_S25x1_S25_n_0_n_n_0_1_1 x i) : Arr F S5 .f32 → Arr F S25x1 .i32 → Arr F S25 .f32),
    nullary main_c_38 (constantI S_ 32 0#32),
    unary main_c_38 main_v192 (broadcastInDim S25 ![] bcast_S_S25 : Arr F S_ .i32 → Arr F S25 .i32),
    binary main_v180 main_v192 main_v193 (cmpi .slt : Arr F S25 .i32 → Arr F S25 .i32 → Arr F S25 .i1),
    nullary main_c_39 (constantI S_ 32 5#32),
    unary main_c_39 main_v194 (broadcastInDim S25 ![] bcast_S_S25 : Arr F S_ .i32 → Arr F S25 .i32),
    binary main_v180 main_v194 main_v195 (addi : Arr F S25 .i32 → Arr F S25 .i32 → Arr F S25 .i32),
    ternary main_v193 main_v195 main_v180 main_v196 (select : Arr F S25 .i1 → Arr F S25 .i32 → Arr F S25 .i32 → Arr F S25 .i32),
    unary main_v196 main_v197 (broadcastInDim S25x1 ![0] bcast_S25_S25x1_0 : Arr F S25 .i32 → Arr F S25x1 .i32),
    binary main_v184 main_v197 main_v198 ((fun x i => Host.gather gather_S5_S25x1_S25_n_0_n_n_0_1_1 x i) : Arr F S5 .f32 → Arr F S25x1 .i32 → Arr F S25 .f32),
    binary main_v191 main_v198 main_v199 (addf : Arr F S25 .f32 → Arr F S25 .f32 → Arr F S25 .f32),
    nullary main_cst_40 (constant S_ .f32 0x3E4CCCCD#32) ]
theorem main_part4_ops0_sub : (main_part4_ops0 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub ..⟩
/-- 7 host operations of @leaky_relu_3 (main_call6), window 4 (statements 241 … 300), in order. -/
abbrev main_part4_ops1 : List (HloOp τ sig (Elt F)) :=
  [ TRef.nullary (.of main_call6_cst : TRef sig ⟨S_, .f32⟩) (constant S_ .f32 0x00000000#32),
    TRef.unary (.of main_call6_cst : TRef sig ⟨S_, .f32⟩) (.of main_call6_v0 : TRef sig ⟨S25, .f32⟩) (broadcastInDim S25 ![] bcast_S_S25),
    TRef.binary (.of main_v199 : TRef sig ⟨S25, .f32⟩) (.of main_call6_v0 : TRef sig ⟨S25, .f32⟩) (.of main_call6_v1 : TRef sig ⟨S25, .i1⟩) (cmpf .oge),
    TRef.unary (.of main_cst_40 : TRef sig ⟨S_, .f32⟩) (.of main_call6_v2 : TRef sig ⟨S_, .f32⟩) id,
    TRef.unary (.of main_call6_v2 : TRef sig ⟨S_, .f32⟩) (.of main_call6_v3 : TRef sig ⟨S25, .f32⟩) (broadcastInDim S25 ![] bcast_S_S25),
    TRef.binary (.of main_call6_v3 : TRef sig ⟨S25, .f32⟩) (.of main_v199 : TRef sig ⟨S25, .f32⟩) (.of main_call6_v4 : TRef sig ⟨S25, .f32⟩) mulf,
    TRef.ternary (.of main_call6_v1 : TRef sig ⟨S25, .i1⟩) (.of main_v199 : TRef sig ⟨S25, .f32⟩) (.of main_call6_v4 : TRef sig ⟨S25, .f32⟩) (.of main_v200 : TRef sig ⟨S25, .f32⟩) select ]
theorem main_part4_ops1_sub : (main_part4_ops1 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
/-- 8 host operations of @main, window 4 (statements 241 … 300), in order. -/
abbrev main_part4_ops2 : List (HloOp τ sig (Elt F)) :=
  [ nullary main_v201 (iotaInDim S5 32 0),
    unary main_v201 main_v202 (broadcastInDim S5x1 ![0] bcast_S5_S5x1_0 : Arr F S5 .i32 → Arr F S5x1 .i32),
    unary main_v180 main_v203 (broadcastInDim S1x25 ![1] bcast_S25_S1x25_1 : Arr F S25 .i32 → Arr F S1x25 .i32),
    unary main_v202 main_v204 (broadcastInDim S5x25 ![0, 1] bcast_S5x1_S5x25_0_1 : Arr F S5x1 .i32 → Arr F S5x25 .i32),
    unary main_v203 main_v205 (broadcastInDim S5x25 ![0, 1] bcast_S1x25_S5x25_0_1 : Arr F S1x25 .i32 → Arr F S5x25 .i32),
    binary main_v204 main_v205 main_v206 (cmpi .eq : Arr F S5x25 .i32 → Arr F S5x25 .i32 → Arr F S5x25 .i1),
    unary main_v200 main_v207 (broadcastInDim S1x25 ![1] bcast_S25_S1x25_1 : Arr F S25 .f32 → Arr F S1x25 .f32),
    nullary main_cst_41 (constant S_ .f32 0xFF800000#32) ]
theorem main_part4_ops2_sub : (main_part4_ops2 : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., nullary_bufs_sub ..⟩
/-- 4 host operations of @_where_5 (main_call7), window 4 (statements 241 … 300), in order. -/
abbrev main_part4_ops3 : List (HloOp τ sig (Elt F)) :=
  [ TRef.unary (.of main_cst_41 : TRef sig ⟨S_, .f32⟩) (.of main_call7_v0 : TRef sig ⟨S_, .f32⟩) id,
    TRef.unary (.of main_v207 : TRef sig ⟨S1x25, .f32⟩) (.of main_call7_v1 : TRef sig ⟨S5x25, .f32⟩) (broadcastInDim S5x25 ![0, 1] bcast_S1x25_S5x25_0_1),
    TRef.unary (.of main_call7_v0 : TRef sig ⟨S_, .f32⟩) (.of main_call7_v2 : TRef sig ⟨S5x25, .f32⟩) (broadcastInDim S5x25 ![] bcast_S_S5x25),
    TRef.ternary (.of main_v206 : TRef sig ⟨S5x25, .i1⟩) (.of main_call7_v1 : TRef sig ⟨S5x25, .f32⟩) (.of main_call7_v2 : TRef sig ⟨S5x25, .f32⟩) (.of main_v208 : TRef sig ⟨S5x25, .f32⟩) select ]
theorem main_part4_ops3_sub : (main_part4_ops3 : List (HloOp τ sig (Elt F))).Forall fun op => op.bufs ⊆ tcRefs τ sig :=
  ⟨unary_bufs_sub .., unary_bufs_sub .., unary_bufs_sub .., ternary_bufs_sub ..⟩
/-- 29 host operations of @main, window 4 (statements 241 … 300), in order. -/
abbrev main_part4_ops4 : List (HloOp τ sig (Elt F)) :=
  [ nullary main_cst_42 (constant S_ .f32 0xFF800000#32),
    binary main_v208 main_cst_42 main_v209 ((fun x v => Host.reduce FloatOps.maximumf x v reducesTo_S5x25_S5_d1 h_S_) : Arr F S5x25 .f32 → Arr F S_ .f32 → Arr F S5 .f32),
    nullary main_c_43 (constantI S_ 32 0#32),
    unary main_c_43 main_v210 (broadcastInDim S25 ![] bcast_S_S25 : Arr F S_ .i32 → Arr F S25 .i32),
    binary main_v180 main_v210 main_v211 (cmpi .slt : Arr F S25 .i32 → Arr F S25 .i32 → Arr F S25 .i1),
    nullary main_c_44 (constantI S_ 32 5#32),
    unary main_c_44 main_v212 (broadcastInDim S25 ![] bcast_S_S25 : Arr F S_ .i32 → Arr F S25 .i32),
    binary main_v180 main_v212 main_v213 (addi : Arr F S25 .i32 → Arr F S25 .i32 → Arr F S25 .i32),
    ternary main_v211 main_v213 main_v180 main_v214 (select : Arr F S25 .i1 → Arr F S25 .i32 → Arr F S25 .i32 → Arr F S25 .i32),
    unary main_v214 main_v215 (broadcastInDim S25x1 ![0] bcast_S25_S25x1_0 : Arr F S25 .i32 → Arr F S25x1 .i32),
    binary main_v209 main_v215 main_v216 ((fun x i => Host.gather gather_S5_S25x1_S25_n_0_n_n_0_1_1 x i) : Arr F S5 .f32 → Arr F S25x1 .i32 → Arr F S25 .f32),
    binary main_v200 main_v216 main_v217 (subf : Arr F S25 .f32 → Arr F S25 .f32 → Arr F S25 .f32),
    unary main_v217 main_v218 (Host.exp : Arr F S25 .f32 → Arr F S25 .f32),
    nullary main_cst_45 (constant S_ .f32 0x00000000#32),
    unary main_cst_45 main_v219 (broadcastInDim S5 ![] bcast_S_S5 : Arr F S_ .f32 → Arr F S5 .f32),
    unary main_v180 main_v220 (broadcastInDim S25x1 ![0] bcast_S25_S25x1_0 : Arr F S25 .i32 → Arr F S25x1 .i32),
    ternary main_v219 main_v220 main_v218 main_v221 ((fun x i u => Host.scatterAdd scatter_S5_S25x1_S25_n_0_0_1 x i u) : Arr F S5 .f32 → Arr F S25x1 .i32 → Arr F S25 .f32 → Arr F S5 .f32),
    nullary main_c_46 (constantI S_ 32 0#32),
    unary main_c_46 main_v222 (broadcastInDim S25 ![] bcast_S_S25 : Arr F S_ .i32 → Arr F S25 .i32),
    binary main_v180 main_v222 main_v223 (cmpi .slt : Arr F S25 .i32 → Arr F S25 .i32 → Arr F S25 .i1),
    nullary main_c_47 (constantI S_ 32 5#32),
    unary main_c_47 main_v224 (broadcastInDim S25 ![] bcast_S_S25 : Arr F S_ .i32 → Arr F S25 .i32),
    binary main_v180 main_v224 main_v225 (addi : Arr F S25 .i32 → Arr F S25 .i32 → Arr F S25 .i32),
    ternary main_v223 main_v225 main_v180 main_v226 (select : Arr F S25 .i1 → Arr F S25 .i32 → Arr F S25 .i32 → Arr F S25 .i32),
    unary main_v226 main_v227 (broadcastInDim S25x1 ![0] bcast_S25_S25x1_0 : Arr F S25 .i32 → Arr F S25x1 .i32),
    binary main_v221 main_v227 main_v228 ((fun x i => Host.gather gather_S5_S25x1_S25_n_0_n_n_0_1_1 x i) : Arr F S5 .f32 → Arr F S25x1 .i32 → Arr F S25 .f32),
    nullary main_cst_48 (constant S_ .f32 0x24E69595#32),
    unary main_cst_48 main_v229 (broadcastInDim S25 ![] bcast_S_S25 : Arr F S_ .f32 → Arr F S25 .f32),
    binary main_v228 main_v229 main_v230 (addf : Arr F S25 .f32 → Arr F S25 .f32 → Arr F S25 .f32) ]
theorem main_part4_ops4_sub : (main_part4_ops4 : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub ..⟩
/-- These statements are the stretches below, in order. -/
theorem main_part4_chain (c : Dev nD) : main_part4 (F := F) c = (Pipeline.chainK
  [ seq main_part4_ops0,
    seq main_part4_ops1,
    seq main_part4_ops2,
    seq main_part4_ops3 ]
  (seq main_part4_ops4) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons]
  chain_rfl

/-- 28 host operations of @main, window 5 (statements 301 … 350), in order. -/
abbrev main_part5_ops0 : List (HloOp τ sig (Elt F)) :=
  [ binary main_v218 main_v230 main_v231 (Host.divf : Arr F S25 .f32 → Arr F S25 .f32 → Arr F S25 .f32),
    unary main_v231 main_v232 (broadcastInDim S25x1 ![0] bcast_S25_S25x1_0 : Arr F S25 .f32 → Arr F S25x1 .f32),
    nullary main_c_49 (constantI S_ 32 0#32),
    unary main_c_49 main_v233 (broadcastInDim S25 ![] bcast_S_S25 : Arr F S_ .i32 → Arr F S25 .i32),
    binary main_v177 main_v233 main_v234 (cmpi .slt : Arr F S25 .i32 → Arr F S25 .i32 → Arr F S25 .i1),
    nullary main_c_50 (constantI S_ 32 5#32),
    unary main_c_50 main_v235 (broadcastInDim S25 ![] bcast_S_S25 : Arr F S_ .i32 → Arr F S25 .i32),
    binary main_v177 main_v235 main_v236 (addi : Arr F S25 .i32 → Arr F S25 .i32 → Arr F S25 .i32),
    ternary main_v234 main_v236 main_v177 main_v237 (select : Arr F S25 .i1 → Arr F S25 .i32 → Arr F S25 .i32 → Arr F S25 .i32),
    unary main_v237 main_v238 (broadcastInDim S25x1 ![0] bcast_S25_S25x1_0 : Arr F S25 .i32 → Arr F S25x1 .i32),
    binary main_v182 main_v238 main_v239 ((fun x i => Host.gather gather_S5x128_S25x1_S25x128_1_0_n_n_0_1_1128 x i) : Arr F S5x128 .f32 → Arr F S25x1 .i32 → Arr F S25x128 .f32),
    unary main_v232 main_v240 (broadcastInDim S25x128 ![0, 1] bcast_S25x1_S25x128_0_1 : Arr F S25x1 .f32 → Arr F S25x128 .f32),
    binary main_v240 main_v239 main_v241 (mulf : Arr F S25x128 .f32 → Arr F S25x128 .f32 → Arr F S25x128 .f32),
    nullary main_cst_51 (constant S_ .f32 0x00000000#32),
    unary main_cst_51 main_v242 (broadcastInDim S5x128 ![] bcast_S_S5x128 : Arr F S_ .f32 → Arr F S5x128 .f32),
    unary main_v180 main_v243 (broadcastInDim S25x1 ![0] bcast_S25_S25x1_0 : Arr F S25 .i32 → Arr F S25x1 .i32),
    ternary main_v242 main_v243 main_v241 main_v244 ((fun x i u => Host.scatterAdd scatter_S5x128_S25x1_S25x128_1_0_0_1 x i u) : Arr F S5x128 .f32 → Arr F S25x1 .i32 → Arr F S25x128 .f32 → Arr F S5x128 .f32),
    unary main_arg29 main_v245 (broadcastInDim S1x128 ![1] bcast_S128_S1x128_1 : Arr F S128 .f32 → Arr F S1x128 .f32),
    unary main_v245 main_v246 (broadcastInDim S5x128 ![0, 1] bcast_S1x128_S5x128_0_1 : Arr F S1x128 .f32 → Arr F S5x128 .f32),
    binary main_v244 main_v246 main_v247 (addf : Arr F S5x128 .f32 → Arr F S5x128 .f32 → Arr F S5x128 .f32),
    unary main_v247 main_v248 (broadcastInDim S5x1x128 ![0, 2] bcast_S5x128_S5x1x128_0_2 : Arr F S5x128 .f32 → Arr F S5x1x128 .f32),
    unary main_v248 main_v249 (broadcastInDim S5x20x128 ![0, 1, 2] bcast_S5x1x128_S5x20x128_0_1_2 : Arr F S5x1x128 .f32 → Arr F S5x20x128 .f32),
    nary ![main_v132, main_v249, main_v131] main_v250 (fun u => (concatenate S5x20x384 2 [⟨S5x20x128, (u 0 : Arr F S5x20x128 .f32)⟩, ⟨S5x20x128, (u 1 : Arr F S5x20x128 .f32)⟩, ⟨S5x20x128, (u 2 : Arr F S5x20x128 .f32)⟩] concatenates_S5x20x128_S5x20x128_S5x20x128_S5x20x384_d2 : Arr F S5x20x384 .f32)),
    unary main_arg30 main_v251 ((transpose S384x128 [1, 0] · transposes_S128x384_S384x128_1_0) : Arr F S128x384 .f32 → Arr F S384x128 .f32),
    binary main_v250 main_v251 main_v252 ((fun l r => Host.dotGeneral dot_S5x20x384_S384x128_S5x20x128_2_0_01_1_n_n none l r) : Arr F S5x20x384 .f32 → Arr F S384x128 .f32 → Arr F S5x20x128 .f32),
    unary main_arg31 main_v253 (broadcastInDim S1x1x128 ![2] bcast_S128_S1x1x128_2 : Arr F S128 .f32 → Arr F S1x1x128 .f32),
    unary main_v253 main_v254 (broadcastInDim S5x20x128 ![0, 1, 2] bcast_S1x1x128_S5x20x128_0_1_2 : Arr F S1x1x128 .f32 → Arr F S5x20x128 .f32),
    binary main_v252 main_v254 main_v255 (addf : Arr F S5x20x128 .f32 → Arr F S5x20x128 .f32 → Arr F S5x20x128 .f32) ]
theorem main_part5_ops0_sub : (main_part5_ops0 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., nary_bufs_sub .., unary_bufs_sub .., binary_bufs_sub .., unary_bufs_sub .., unary_bufs_sub .., binary_bufs_sub ..⟩
/-- 3 host operations of @relu (main_call8), window 5 (statements 301 … 350), in order. -/
abbrev main_part5_ops1 : List (HloOp τ sig (Elt F)) :=
  [ TRef.nullary (.of main_call8_cst : TRef sig ⟨S_, .f32⟩) (constant S_ .f32 0x00000000#32),
    TRef.unary (.of main_call8_cst : TRef sig ⟨S_, .f32⟩) (.of main_call8_v0 : TRef sig ⟨S5x20x128, .f32⟩) (broadcastInDim S5x20x128 ![] bcast_S_S5x20x128),
    TRef.binary (.of main_v255 : TRef sig ⟨S5x20x128, .f32⟩) (.of main_call8_v0 : TRef sig ⟨S5x20x128, .f32⟩) (.of main_v256 : TRef sig ⟨S5x20x128, .f32⟩) maximumf ]
theorem main_part5_ops1_sub : (main_part5_ops1 : List (HloOp τ sig (Elt F))).Forall fun op => op.bufs ⊆ tcRefs τ sig :=
  ⟨nullary_bufs_sub .., unary_bufs_sub .., binary_bufs_sub ..⟩
/-- 20 host operations of @main, window 5 (statements 301 … 350), in order. -/
abbrev main_part5_ops2 : List (HloOp τ sig (Elt F)) :=
  [ unary main_arg32 main_v257 ((transpose S128x1 [1, 0] · transposes_S1x128_S128x1_1_0) : Arr F S1x128 .f32 → Arr F S128x1 .f32),
    binary main_v256 main_v257 main_v258 ((fun l r => Host.dotGeneral dot_S5x20x128_S128x1_S5x20x1_2_0_01_1_n_n none l r) : Arr F S5x20x128 .f32 → Arr F S128x1 .f32 → Arr F S5x20x1 .f32),
    unary main_arg33 main_v259 (broadcastInDim S1x1x1 ![2] bcast_S1_S1x1x1_2 : Arr F S1 .f32 → Arr F S1x1x1 .f32),
    unary main_v259 main_v260 (broadcastInDim S5x20x1 ![0, 1, 2] bcast_S1x1x1_S5x20x1_0_1_2 : Arr F S1x1x1 .f32 → Arr F S5x20x1 .f32),
    binary main_v258 main_v260 main_v261 (addf : Arr F S5x20x1 .f32 → Arr F S5x20x1 .f32 → Arr F S5x20x1 .f32),
    reshape main_v261 main_v262 (rfl : (.f32 : EltTy) = .f32) shapeCasts_S5x20x1_S100,
    unary main_arg34 main_v263 ((transpose S128x1 [1, 0] · transposes_S1x128_S128x1_1_0) : Arr F S1x128 .f32 → Arr F S128x1 .f32),
    binary main_v256 main_v263 main_v264 ((fun l r => Host.dotGeneral dot_S5x20x128_S128x1_S5x20x1_2_0_01_1_n_n none l r) : Arr F S5x20x128 .f32 → Arr F S128x1 .f32 → Arr F S5x20x1 .f32),
    unary main_arg35 main_v265 (broadcastInDim S1x1x1 ![2] bcast_S1_S1x1x1_2 : Arr F S1 .f32 → Arr F S1x1x1 .f32),
    unary main_v265 main_v266 (broadcastInDim S5x20x1 ![0, 1, 2] bcast_S1x1x1_S5x20x1_0_1_2 : Arr F S1x1x1 .f32 → Arr F S5x20x1 .f32),
    binary main_v264 main_v266 main_v267 (addf : Arr F S5x20x1 .f32 → Arr F S5x20x1 .f32 → Arr F S5x20x1 .f32),
    unary main_v267 main_v268 (Host.negf : Arr F S5x20x1 .f32 → Arr F S5x20x1 .f32),
    unary main_v268 main_v269 (Host.exp : Arr F S5x20x1 .f32 → Arr F S5x20x1 .f32),
    nullary main_cst_52 (constant S_ .f32 0x3F800000#32),
    unary main_cst_52 main_v270 (broadcastInDim S5x20x1 ![] bcast_S_S5x20x1 : Arr F S_ .f32 → Arr F S5x20x1 .f32),
    binary main_v270 main_v269 main_v271 (addf : Arr F S5x20x1 .f32 → Arr F S5x20x1 .f32 → Arr F S5x20x1 .f32),
    nullary main_cst_53 (constant S_ .f32 0x3F800000#32),
    unary main_cst_53 main_v272 (broadcastInDim S5x20x1 ![] bcast_S_S5x20x1 : Arr F S_ .f32 → Arr F S5x20x1 .f32),
    binary main_v272 main_v271 main_v273 (Host.divf : Arr F S5x20x1 .f32 → Arr F S5x20x1 .f32 → Arr F S5x20x1 .f32),
    reshape main_v273 main_v274 (rfl : (.f32 : EltTy) = .f32) shapeCasts_S5x20x1_S100 ]
theorem main_part5_ops2_sub : (main_part5_ops2 : List (HloOp τ sig (Elt F))).Forall fun op => op.bufs ⊆ tcRefs τ sig :=
  ⟨unary_bufs_sub .., binary_bufs_sub .., unary_bufs_sub .., unary_bufs_sub .., binary_bufs_sub .., reshape_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub ..⟩
/-- These statements are the stretches below, in order. -/
theorem main_part5_chain (c : Dev nD) : main_part5 (F := F) c = (Pipeline.chain
  [ seq main_part5_ops0,
    seq main_part5_ops1,
    seq main_part5_ops2 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons]
  chain_rfl

/-- These statements are the stretches below, in order. -/
theorem main_chain_windows (c : Dev nD) : main (F := F) c = (Pipeline.chain
  [ seq main_part0_ops0,
    HostLoop.enter 0,
    seq main_part0_ops1,
    seq main_part1_ops0,
    HostLoop.enter 1,
    seq main_part1_ops1,
    seq main_part1_ops2,
    seq main_part1_ops3,
    seq main_part2_ops0,
    seq main_part2_ops1,
    seq main_part2_ops2,
    seq main_part3_ops0,
    seq main_part4_ops0,
    seq main_part4_ops1,
    seq main_part4_ops2,
    seq main_part4_ops3,
    seq main_part4_ops4,
    seq main_part5_ops0,
    seq main_part5_ops1,
    seq main_part5_ops2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c >>= fun _ => main_part4 (F := F) c >>= fun _ => main_part5 (F := F) c) = _
  rewrite [main_part5_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

/-- 5 host operations of @dynamic_index_in_dim (main_while0b_call0), in order. -/
abbrev while0Ops0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.unaryIndexed (.of main_v10_0 : TRef sig ⟨S50x4x100x16, .f32⟩) ![(.of main_v10_5 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩)] (.of main_while0b_call0_v0 : TRef sig ⟨S1x4x100x16, .f32⟩) (fun x i => Host.dynamicSlice S1x4x100x16 x (fun k => (i k (Shape.Idx.first h_S_)).toInt) sliceFits_S50x4x100x16_S1x4x100x16),
    TRef.reshape (.of main_while0b_call0_v0 : TRef sig ⟨S1x4x100x16, .f32⟩) (.of main_while0b_v275 : TRef sig ⟨S4x100x16, .f32⟩) (rfl : (.f32 : EltTy) = .f32) shapeCasts_S1x4x100x16_S4x100x16 ]
theorem while0Ops0_sub : (while0Ops0 : List (HloOp τ sig (Elt F))).Forall fun op => op.bufs ⊆ tcRefs τ sig :=
  ⟨nullary_bufs_sub .., nullary_bufs_sub .., nullary_bufs_sub .., unaryIndexed_bufs_sub .., reshape_bufs_sub ..⟩
/-- 43 host operations of host loop 0's body region, in order. -/
abbrev while0Ops0_1 : List (HloOp τ sig (Elt F)) :=
  ( unary main_v10_1 main_while0b_v276 ((transpose S4x16x384 [0, 2, 1] · transposes_S4x384x16_S4x16x384_0_2_1) : Arr F S4x384x16 .f32 → Arr F S4x16x384 .f32)
  :: binary main_while0b_v275 main_while0b_v276 main_while0b_v277 ((fun l r => Host.dotGeneral dot_S4x100x16_S4x16x384_S4x100x384_2_1_1_2_0_0 none l r) : Arr F S4x100x16 .f32 → Arr F S4x16x384 .f32 → Arr F S4x100x384 .f32)
  :: unary main_v10_2 main_while0b_v278 (broadcastInDim S4x1x384 ![0, 2] bcast_S4x384_S4x1x384_0_2 : Arr F S4x384 .f32 → Arr F S4x1x384 .f32)
  :: unary main_while0b_v278 main_while0b_v279 (broadcastInDim S4x100x384 ![0, 1, 2] bcast_S4x1x384_S4x100x384_0_1_2 : Arr F S4x1x384 .f32 → Arr F S4x100x384 .f32)
  :: binary main_while0b_v277 main_while0b_v279 main_while0b_v280 (addf : Arr F S4x100x384 .f32 → Arr F S4x100x384 .f32 → Arr F S4x100x384 .f32)
  :: unary main_v10_3 main_while0b_v281 ((transpose S4x128x384 [0, 2, 1] · transposes_S4x384x128_S4x128x384_0_2_1) : Arr F S4x384x128 .f32 → Arr F S4x128x384 .f32)
  :: binary main_v10_6 main_while0b_v281 main_while0b_v282 ((fun l r => Host.dotGeneral dot_S4x100x128_S4x128x384_S4x100x384_2_1_1_2_0_0 none l r) : Arr F S4x100x128 .f32 → Arr F S4x128x384 .f32 → Arr F S4x100x384 .f32)
  :: unary main_v10_4 main_while0b_v283 (broadcastInDim S4x1x384 ![0, 2] bcast_S4x384_S4x1x384_0_2 : Arr F S4x384 .f32 → Arr F S4x1x384 .f32)
  :: unary main_while0b_v283 main_while0b_v284 (broadcastInDim S4x100x384 ![0, 1, 2] bcast_S4x1x384_S4x100x384_0_1_2 : Arr F S4x1x384 .f32 → Arr F S4x100x384 .f32)
  :: binary main_while0b_v282 main_while0b_v284 main_while0b_v285 (addf : Arr F S4x100x384 .f32 → Arr F S4x100x384 .f32 → Arr F S4x100x384 .f32)
  :: unary main_while0b_v280 main_while0b_v286 ((extractStridedSlice S4x100x128 ![0, 0, 0] · slices_S4x100x384_S4x100x128_0_0_0) : Arr F S4x100x384 .f32 → Arr F S4x100x128 .f32)
  :: unary main_while0b_v280 main_while0b_v287 ((extractStridedSlice S4x100x128 ![0, 0, 128] · slices_S4x100x384_S4x100x128_0_0_128) : Arr F S4x100x384 .f32 → Arr F S4x100x128 .f32)
  :: unary main_while0b_v280 main_while0b_v288 ((extractStridedSlice S4x100x128 ![0, 0, 256] · slices_S4x100x384_S4x100x128_0_0_256) : Arr F S4x100x384 .f32 → Arr F S4x100x128 .f32)
  :: unary main_while0b_v285 main_while0b_v289 ((extractStridedSlice S4x100x128 ![0, 0, 0] · slices_S4x100x384_S4x100x128_0_0_0) : Arr F S4x100x384 .f32 → Arr F S4x100x128 .f32)
  :: unary main_while0b_v285 main_while0b_v290 ((extractStridedSlice S4x100x128 ![0, 0, 128] · slices_S4x100x384_S4x100x128_0_0_128) : Arr F S4x100x384 .f32 → Arr F S4x100x128 .f32)
  :: unary main_while0b_v285 main_while0b_v291 ((extractStridedSlice S4x100x128 ![0, 0, 256] · slices_S4x100x384_S4x100x128_0_0_256) : Arr F S4x100x384 .f32 → Arr F S4x100x128 .f32)
  :: binary main_while0b_v286 main_while0b_v289 main_while0b_v292 (addf : Arr F S4x100x128 .f32 → Arr F S4x100x128 .f32 → Arr F S4x100x128 .f32)
  :: unary main_while0b_v292 main_while0b_v293 (Host.negf : Arr F S4x100x128 .f32 → Arr F S4x100x128 .f32)
  :: unary main_while0b_v293 main_while0b_v294 (Host.exp : Arr F S4x100x128 .f32 → Arr F S4x100x128 .f32)
  :: nullary main_while0b_cst_61 (constant S_ .f32 0x3F800000#32)
  :: unary main_while0b_cst_61 main_while0b_v295 (broadcastInDim S4x100x128 ![] bcast_S_S4x100x128 : Arr F S_ .f32 → Arr F S4x100x128 .f32)
  :: binary main_while0b_v295 main_while0b_v294 main_while0b_v296 (addf : Arr F S4x100x128 .f32 → Arr F S4x100x128 .f32 → Arr F S4x100x128 .f32)
  :: nullary main_while0b_cst_62 (constant S_ .f32 0x3F800000#32)
  :: unary main_while0b_cst_62 main_while0b_v297 (broadcastInDim S4x100x128 ![] bcast_S_S4x100x128 : Arr F S_ .f32 → Arr F S4x100x128 .f32)
  :: binary main_while0b_v297 main_while0b_v296 main_while0b_v298 (Host.divf : Arr F S4x100x128 .f32 → Arr F S4x100x128 .f32 → Arr F S4x100x128 .f32)
  :: binary main_while0b_v287 main_while0b_v290 main_while0b_v299 (addf : Arr F S4x100x128 .f32 → Arr F S4x100x128 .f32 → Arr F S4x100x128 .f32)
  :: unary main_while0b_v299 main_while0b_v300 (Host.negf : Arr F S4x100x128 .f32 → Arr F S4x100x128 .f32)
  :: unary main_while0b_v300 main_while0b_v301 (Host.exp : Arr F S4x100x128 .f32 → Arr F S4x100x128 .f32)
  :: nullary main_while0b_cst_63 (constant S_ .f32 0x3F800000#32)
  :: unary main_while0b_cst_63 main_while0b_v302 (broadcastInDim S4x100x128 ![] bcast_S_S4x100x128 : Arr F S_ .f32 → Arr F S4x100x128 .f32)
  :: binary main_while0b_v302 main_while0b_v301 main_while0b_v303 (addf : Arr F S4x100x128 .f32 → Arr F S4x100x128 .f32 → Arr F S4x100x128 .f32)
  :: nullary main_while0b_cst_64 (constant S_ .f32 0x3F800000#32)
  :: unary main_while0b_cst_64 main_while0b_v304 (broadcastInDim S4x100x128 ![] bcast_S_S4x100x128 : Arr F S_ .f32 → Arr F S4x100x128 .f32)
  :: binary main_while0b_v304 main_while0b_v303 main_while0b_v305 (Host.divf : Arr F S4x100x128 .f32 → Arr F S4x100x128 .f32 → Arr F S4x100x128 .f32)
  :: binary main_while0b_v298 main_while0b_v291 main_while0b_v306 (mulf : Arr F S4x100x128 .f32 → Arr F S4x100x128 .f32 → Arr F S4x100x128 .f32)
  :: binary main_while0b_v288 main_while0b_v306 main_while0b_v307 (addf : Arr F S4x100x128 .f32 → Arr F S4x100x128 .f32 → Arr F S4x100x128 .f32)
  :: unary main_while0b_v307 main_while0b_v308 (Host.tanh : Arr F S4x100x128 .f32 → Arr F S4x100x128 .f32)
  :: nullary main_while0b_cst_65 (constant S_ .f32 0x3F800000#32)
  :: unary main_while0b_cst_65 main_while0b_v309 (broadcastInDim S4x100x128 ![] bcast_S_S4x100x128 : Arr F S_ .f32 → Arr F S4x100x128 .f32)
  :: binary main_while0b_v309 main_while0b_v305 main_while0b_v310 (subf : Arr F S4x100x128 .f32 → Arr F S4x100x128 .f32 → Arr F S4x100x128 .f32)
  :: binary main_while0b_v310 main_while0b_v308 main_while0b_v311 (mulf : Arr F S4x100x128 .f32 → Arr F S4x100x128 .f32 → Arr F S4x100x128 .f32)
  :: binary main_while0b_v305 main_v10_6 main_while0b_v312 (mulf : Arr F S4x100x128 .f32 → Arr F S4x100x128 .f32 → Arr F S4x100x128 .f32)
  :: binary main_while0b_v311 main_while0b_v312 main_while0b_v313 (addf : Arr F S4x100x128 .f32 → Arr F S4x100x128 .f32 → Arr F S4x100x128 .f32)
  :: [] )
theorem while0Ops0_1_sub : (while0Ops0_1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- 5 host operations of @dynamic_update_index_in_dim (main_while0b_call1), in order. -/
abbrev while0Ops0_2 : List (HloOp τ sig (Elt F)) :=
  [ TRef.unary (.of main_while0b_v313 : TRef sig ⟨S4x100x128, .f32⟩) (.of main_while0b_call1_v0 : TRef sig ⟨S1x4x100x128, .f32⟩) (broadcastInDim S1x4x100x128 ![1, 2, 3] bcast_S4x100x128_S1x4x100x128_1_2_3),
    TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.binaryIndexed (.of main_v10_7 : TRef sig ⟨S50x4x100x128, .f32⟩) (.of main_while0b_call1_v0 : TRef sig ⟨S1x4x100x128, .f32⟩) ![(.of main_v10_5 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_v314 : TRef sig ⟨S50x4x100x128, .f32⟩) (fun x u i => Host.dynamicUpdateSlice x u (fun k => (i k (Shape.Idx.first h_S_)).toInt) updateFits_S50x4x100x128_S1x4x100x128) ]
theorem while0Ops0_2_sub : (while0Ops0_2 : List (HloOp τ sig (Elt F))).Forall fun op => op.bufs ⊆ tcRefs τ sig :=
  ⟨unary_bufs_sub .., nullary_bufs_sub .., nullary_bufs_sub .., nullary_bufs_sub .., binaryIndexed_bufs_sub ..⟩
/-- 5 host operations of host loop 0's body region, in order. -/
abbrev while0Ops0_3 : List (HloOp τ sig (Elt F)) :=
  [ nullary main_while0b_c_66 (constantI S_ 32 1#32),
    binary main_v10_5 main_while0b_c_66 main_while0b_v315 (addi : Arr F S_ .i32 → Arr F S_ .i32 → Arr F S_ .i32),
    unary main_while0b_v315 main_v10_5 id,
    unary main_while0b_v313 main_v10_6 id,
    unary main_while0b_v314 main_v10_7 id ]
theorem while0Ops0_3_sub : (while0Ops0_3 : List (HloOp τ sig (Elt F))).Forall fun op => op.bufs ⊆ tcRefs τ sig :=
  ⟨nullary_bufs_sub .., binary_bufs_sub .., unary_bufs_sub .., unary_bufs_sub .., unary_bufs_sub ..⟩
/-- These statements are the stretches below, in order. -/
theorem while0_body_chain : main_while0_body (F := F) = (Pipeline.chain
  [ seq while0Ops0,
    seq while0Ops0_1,
    seq while0Ops0_2,
    seq while0Ops0_3 ] : Prog (TpuEff nD τ sig (Elt F) (HostLoop.Sig (Pipeline.Sig Λ₀ (Fin 0) fun p => (pcfgs (F := F) p).Adm) 2) .tc) PUnit) := by
  rewrite [Pipeline.chain_cons, chain_seq_cons, Pipeline.chain_cons, chain_seq_cons]
  chain_rfl

/-- 4 host operations of @dynamic_index_in_dim_0 (main_while1b_call2), in order. -/
abbrev while1Ops0 : List (HloOp τ sig (Elt F)) :=
  [ TRef.nullary (.of main_while1b_call2_c : TRef sig ⟨S_, .i32⟩) (constantI S_ 32 0#32),
    TRef.nullary (.of main_while1b_call2_c_0 : TRef sig ⟨S_, .i32⟩) (constantI S_ 32 0#32),
    TRef.unaryIndexed (.of main_v36_0 : TRef sig ⟨S100x4x128, .f32⟩) ![(.of main_v36_5 : TRef sig ⟨S_, .i32⟩), (.of main_while1b_call2_c : TRef sig ⟨S_, .i32⟩), (.of main_while1b_call2_c_0 : TRef sig ⟨S_, .i32⟩)] (.of main_while1b_call2_v0 : TRef sig ⟨S1x4x128, .f32⟩) (fun x i => Host.dynamicSlice S1x4x128 x (fun k => (i k (Shape.Idx.first h_S_)).toInt) sliceFits_S100x4x128_S1x4x128),
    TRef.reshape (.of main_while1b_call2_v0 : TRef sig ⟨S1x4x128, .f32⟩) (.of main_while1b_v275 : TRef sig ⟨S4x128, .f32⟩) (rfl : (.f32 : EltTy) = .f32) shapeCasts_S1x4x128_S4x128 ]
theorem while1Ops0_sub : (while1Ops0 : List (HloOp τ sig (Elt F))).Forall fun op => op.bufs ⊆ tcRefs τ sig :=
  ⟨nullary_bufs_sub .., nullary_bufs_sub .., unaryIndexed_bufs_sub .., reshape_bufs_sub ..⟩
/-- 43 host operations of host loop 1's body region, in order. -/
abbrev while1Ops0_1 : List (HloOp τ sig (Elt F)) :=
  ( unary main_v36_1 main_while1b_v276 ((transpose S128x384 [1, 0] · transposes_S384x128_S128x384_1_0) : Arr F S384x128 .f32 → Arr F S128x384 .f32)
  :: binary main_while1b_v275 main_while1b_v276 main_while1b_v277 ((fun l r => Host.dotGeneral dot_S4x128_S128x384_S4x384_1_0_0_1_n_n none l r) : Arr F S4x128 .f32 → Arr F S128x384 .f32 → Arr F S4x384 .f32)
  :: unary main_v36_2 main_while1b_v278 (broadcastInDim S1x384 ![1] bcast_S384_S1x384_1 : Arr F S384 .f32 → Arr F S1x384 .f32)
  :: unary main_while1b_v278 main_while1b_v279 (broadcastInDim S4x384 ![0, 1] bcast_S1x384_S4x384_0_1 : Arr F S1x384 .f32 → Arr F S4x384 .f32)
  :: binary main_while1b_v277 main_while1b_v279 main_while1b_v280 (addf : Arr F S4x384 .f32 → Arr F S4x384 .f32 → Arr F S4x384 .f32)
  :: unary main_v36_3 main_while1b_v281 ((transpose S128x384 [1, 0] · transposes_S384x128_S128x384_1_0) : Arr F S384x128 .f32 → Arr F S128x384 .f32)
  :: binary main_v36_6 main_while1b_v281 main_while1b_v282 ((fun l r => Host.dotGeneral dot_S4x128_S128x384_S4x384_1_0_0_1_n_n none l r) : Arr F S4x128 .f32 → Arr F S128x384 .f32 → Arr F S4x384 .f32)
  :: unary main_v36_4 main_while1b_v283 (broadcastInDim S1x384 ![1] bcast_S384_S1x384_1 : Arr F S384 .f32 → Arr F S1x384 .f32)
  :: unary main_while1b_v283 main_while1b_v284 (broadcastInDim S4x384 ![0, 1] bcast_S1x384_S4x384_0_1 : Arr F S1x384 .f32 → Arr F S4x384 .f32)
  :: binary main_while1b_v282 main_while1b_v284 main_while1b_v285 (addf : Arr F S4x384 .f32 → Arr F S4x384 .f32 → Arr F S4x384 .f32)
  :: unary main_while1b_v280 main_while1b_v286 ((extractStridedSlice S4x128 ![0, 0] · slices_S4x384_S4x128_0_0) : Arr F S4x384 .f32 → Arr F S4x128 .f32)
  :: unary main_while1b_v280 main_while1b_v287 ((extractStridedSlice S4x128 ![0, 128] · slices_S4x384_S4x128_0_128) : Arr F S4x384 .f32 → Arr F S4x128 .f32)
  :: unary main_while1b_v280 main_while1b_v288 ((extractStridedSlice S4x128 ![0, 256] · slices_S4x384_S4x128_0_256) : Arr F S4x384 .f32 → Arr F S4x128 .f32)
  :: unary main_while1b_v285 main_while1b_v289 ((extractStridedSlice S4x128 ![0, 0] · slices_S4x384_S4x128_0_0) : Arr F S4x384 .f32 → Arr F S4x128 .f32)
  :: unary main_while1b_v285 main_while1b_v290 ((extractStridedSlice S4x128 ![0, 128] · slices_S4x384_S4x128_0_128) : Arr F S4x384 .f32 → Arr F S4x128 .f32)
  :: unary main_while1b_v285 main_while1b_v291 ((extractStridedSlice S4x128 ![0, 256] · slices_S4x384_S4x128_0_256) : Arr F S4x384 .f32 → Arr F S4x128 .f32)
  :: binary main_while1b_v286 main_while1b_v289 main_while1b_v292 (addf : Arr F S4x128 .f32 → Arr F S4x128 .f32 → Arr F S4x128 .f32)
  :: unary main_while1b_v292 main_while1b_v293 (Host.negf : Arr F S4x128 .f32 → Arr F S4x128 .f32)
  :: unary main_while1b_v293 main_while1b_v294 (Host.exp : Arr F S4x128 .f32 → Arr F S4x128 .f32)
  :: nullary main_while1b_cst_61 (constant S_ .f32 0x3F800000#32)
  :: unary main_while1b_cst_61 main_while1b_v295 (broadcastInDim S4x128 ![] bcast_S_S4x128 : Arr F S_ .f32 → Arr F S4x128 .f32)
  :: binary main_while1b_v295 main_while1b_v294 main_while1b_v296 (addf : Arr F S4x128 .f32 → Arr F S4x128 .f32 → Arr F S4x128 .f32)
  :: nullary main_while1b_cst_62 (constant S_ .f32 0x3F800000#32)
  :: unary main_while1b_cst_62 main_while1b_v297 (broadcastInDim S4x128 ![] bcast_S_S4x128 : Arr F S_ .f32 → Arr F S4x128 .f32)
  :: binary main_while1b_v297 main_while1b_v296 main_while1b_v298 (Host.divf : Arr F S4x128 .f32 → Arr F S4x128 .f32 → Arr F S4x128 .f32)
  :: binary main_while1b_v287 main_while1b_v290 main_while1b_v299 (addf : Arr F S4x128 .f32 → Arr F S4x128 .f32 → Arr F S4x128 .f32)
  :: unary main_while1b_v299 main_while1b_v300 (Host.negf : Arr F S4x128 .f32 → Arr F S4x128 .f32)
  :: unary main_while1b_v300 main_while1b_v301 (Host.exp : Arr F S4x128 .f32 → Arr F S4x128 .f32)
  :: nullary main_while1b_cst_63 (constant S_ .f32 0x3F800000#32)
  :: unary main_while1b_cst_63 main_while1b_v302 (broadcastInDim S4x128 ![] bcast_S_S4x128 : Arr F S_ .f32 → Arr F S4x128 .f32)
  :: binary main_while1b_v302 main_while1b_v301 main_while1b_v303 (addf : Arr F S4x128 .f32 → Arr F S4x128 .f32 → Arr F S4x128 .f32)
  :: nullary main_while1b_cst_64 (constant S_ .f32 0x3F800000#32)
  :: unary main_while1b_cst_64 main_while1b_v304 (broadcastInDim S4x128 ![] bcast_S_S4x128 : Arr F S_ .f32 → Arr F S4x128 .f32)
  :: binary main_while1b_v304 main_while1b_v303 main_while1b_v305 (Host.divf : Arr F S4x128 .f32 → Arr F S4x128 .f32 → Arr F S4x128 .f32)
  :: binary main_while1b_v298 main_while1b_v291 main_while1b_v306 (mulf : Arr F S4x128 .f32 → Arr F S4x128 .f32 → Arr F S4x128 .f32)
  :: binary main_while1b_v288 main_while1b_v306 main_while1b_v307 (addf : Arr F S4x128 .f32 → Arr F S4x128 .f32 → Arr F S4x128 .f32)
  :: unary main_while1b_v307 main_while1b_v308 (Host.tanh : Arr F S4x128 .f32 → Arr F S4x128 .f32)
  :: nullary main_while1b_cst_65 (constant S_ .f32 0x3F800000#32)
  :: unary main_while1b_cst_65 main_while1b_v309 (broadcastInDim S4x128 ![] bcast_S_S4x128 : Arr F S_ .f32 → Arr F S4x128 .f32)
  :: binary main_while1b_v309 main_while1b_v305 main_while1b_v310 (subf : Arr F S4x128 .f32 → Arr F S4x128 .f32 → Arr F S4x128 .f32)
  :: binary main_while1b_v310 main_while1b_v308 main_while1b_v311 (mulf : Arr F S4x128 .f32 → Arr F S4x128 .f32 → Arr F S4x128 .f32)
  :: binary main_while1b_v305 main_v36_6 main_while1b_v312 (mulf : Arr F S4x128 .f32 → Arr F S4x128 .f32 → Arr F S4x128 .f32)
  :: binary main_while1b_v311 main_while1b_v312 main_while1b_v313 (addf : Arr F S4x128 .f32 → Arr F S4x128 .f32 → Arr F S4x128 .f32)
  :: [] )
theorem while1Ops0_1_sub : (while1Ops0_1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- 4 host operations of @dynamic_update_index_in_dim_1 (main_while1b_call3), in order. -/
abbrev while1Ops0_2 : List (HloOp τ sig (Elt F)) :=
  [ TRef.unary (.of main_while1b_v313 : TRef sig ⟨S4x128, .f32⟩) (.of main_while1b_call3_v0 : TRef sig ⟨S1x4x128, .f32⟩) (broadcastInDim S1x4x128 ![1, 2] bcast_S4x128_S1x4x128_1_2),
    TRef.nullary (.of main_while1b_call3_c : TRef sig ⟨S_, .i32⟩) (constantI S_ 32 0#32),
    TRef.nullary (.of main_while1b_call3_c_0 : TRef sig ⟨S_, .i32⟩) (constantI S_ 32 0#32),
    TRef.binaryIndexed (.of main_v36_7 : TRef sig ⟨S100x4x128, .f32⟩) (.of main_while1b_call3_v0 : TRef sig ⟨S1x4x128, .f32⟩) ![(.of main_v36_5 : TRef sig ⟨S_, .i32⟩), (.of main_while1b_call3_c : TRef sig ⟨S_, .i32⟩), (.of main_while1b_call3_c_0 : TRef sig ⟨S_, .i32⟩)] (.of main_while1b_v314 : TRef sig ⟨S100x4x128, .f32⟩) (fun x u i => Host.dynamicUpdateSlice x u (fun k => (i k (Shape.Idx.first h_S_)).toInt) updateFits_S100x4x128_S1x4x128) ]
theorem while1Ops0_2_sub : (while1Ops0_2 : List (HloOp τ sig (Elt F))).Forall fun op => op.bufs ⊆ tcRefs τ sig :=
  ⟨unary_bufs_sub .., nullary_bufs_sub .., nullary_bufs_sub .., binaryIndexed_bufs_sub ..⟩
/-- 5 host operations of host loop 1's body region, in order. -/
abbrev while1Ops0_3 : List (HloOp τ sig (Elt F)) :=
  [ nullary main_while1b_c_66 (constantI S_ 32 1#32),
    binary main_v36_5 main_while1b_c_66 main_while1b_v315 (addi : Arr F S_ .i32 → Arr F S_ .i32 → Arr F S_ .i32),
    unary main_while1b_v315 main_v36_5 id,
    unary main_while1b_v313 main_v36_6 id,
    unary main_while1b_v314 main_v36_7 id ]
theorem while1Ops0_3_sub : (while1Ops0_3 : List (HloOp τ sig (Elt F))).Forall fun op => op.bufs ⊆ tcRefs τ sig :=
  ⟨nullary_bufs_sub .., binary_bufs_sub .., unary_bufs_sub .., unary_bufs_sub .., unary_bufs_sub ..⟩
/-- These statements are the stretches below, in order. -/
theorem while1_body_chain : main_while1_body (F := F) = (Pipeline.chain
  [ seq while1Ops0,
    seq while1Ops0_1,
    seq while1Ops0_2,
    seq while1Ops0_3 ] : Prog (TpuEff nD τ sig (Elt F) (HostLoop.Sig (Pipeline.Sig Λ₀ (Fin 0) fun p => (pcfgs (F := F) p).Adm) 2) .tc) PUnit) := by
  rewrite [Pipeline.chain_cons, chain_seq_cons, Pipeline.chain_cons, chain_seq_cons]
  chain_rfl

end Cert.ReferenceIdeal.Gen

end
-- ==== Proof.RefRun.lean ====
/- The run of the reference: its host operations with two counted loops between them. Every buffer ends at the fold of the
   operations over the launch contents, each loop being its body done as many times as the loop counts. -/
module

public import proofs.«01_k».proof.Proof.RefLists
public import Idealize.ShloMosaic.Lib.StableHlo.RunLoop
public import Idealize.ShloMosaic.Lib.StableHlo.RunClose
public import Idealize.ShloMosaic.Lib.Scf.ExitTest
public import Idealize.ShloMosaic.Lib.Scf.Counter
public import Idealize.ShloMosaic.Lib.Claim
public import Idealize.ShloMosaic.Lib.Tactic

@[expose] public section

set_option maxRecDepth 16384

noncomputable section

namespace Cert.ReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

local notation "𝕄" => MT nD τ sig Unit (Elt F) ℕ (Option PUnit) ℕ

/-! ## The stretches -/

/-- The first loop's test. -/
abbrev cond0 : List (HloOp τ sig (Elt F)) :=
  [ StableHlo.nullary main_while0c_c_61 (constantI S_ 32 50#32),
    StableHlo.binary main_v10_5 main_while0c_c_61 main_while0c_v275 (cmpi .slt : (⟨S_, .i32⟩ : BufTy).Contents (Elt F) → (⟨S_, .i32⟩ : BufTy).Contents (Elt F) → (⟨S_, .i1⟩ : BufTy).Contents (Elt F)) ]

/-- The second loop's test. -/
abbrev cond1 : List (HloOp τ sig (Elt F)) :=
  [ StableHlo.nullary main_while1c_c_61 (constantI S_ 32 100#32),
    StableHlo.binary main_v36_5 main_while1c_c_61 main_while1c_v275 (cmpi .slt : (⟨S_, .i32⟩ : BufTy).Contents (Elt F) → (⟨S_, .i32⟩ : BufTy).Contents (Elt F) → (⟨S_, .i1⟩ : BufTy).Contents (Elt F)) ]

/-- What runs before the first loop. -/
abbrev preI : List (List (HloOp τ sig (Elt F))) := [main_part0_ops0]
/-- The first loop's body. -/
abbrev body0 : List (List (HloOp τ sig (Elt F))) := [while0Ops0, while0Ops0_1, while0Ops0_2, while0Ops0_3]
/-- What runs between the loops. -/
abbrev midI : List (List (HloOp τ sig (Elt F))) := [main_part0_ops1, main_part1_ops0]
/-- The second loop's body. -/
abbrev body1 : List (List (HloOp τ sig (Elt F))) := [while1Ops0, while1Ops0_1, while1Ops0_2, while1Ops0_3]
/-- What runs after the second loop. -/
abbrev postI : List (List (HloOp τ sig (Elt F))) :=
  [main_part1_ops1, main_part1_ops2, main_part1_ops3, main_part2_ops0, main_part2_ops1, main_part2_ops2, main_part3_ops0,
    main_part4_ops0, main_part4_ops1, main_part4_ops2, main_part4_ops3, main_part4_ops4, main_part5_ops0, main_part5_ops1, main_part5_ops2]

theorem preI_plain : Plain (preI (F := F)) := .cons main_part0_ops0_sub .nil
theorem body0_plain : Plain (body0 (F := F)) :=
  .cons while0Ops0_sub <| .cons while0Ops0_1_sub <| .cons while0Ops0_2_sub <| .cons while0Ops0_3_sub .nil
theorem midI_plain : Plain (midI (F := F)) := .cons main_part0_ops1_sub <| .cons main_part1_ops0_sub .nil
theorem body1_plain : Plain (body1 (F := F)) :=
  .cons while1Ops0_sub <| .cons while1Ops0_1_sub <| .cons while1Ops0_2_sub <| .cons while1Ops0_3_sub .nil
theorem postI_plain : Plain (postI (F := F)) :=
  .cons main_part1_ops1_sub <| .cons main_part1_ops2_sub <| .cons main_part1_ops3_sub <| .cons main_part2_ops0_sub <|
  .cons main_part2_ops1_sub <| .cons main_part2_ops2_sub <| .cons main_part3_ops0_sub <| .cons main_part4_ops0_sub <|
  .cons main_part4_ops1_sub <| .cons main_part4_ops2_sub <| .cons main_part4_ops3_sub <| .cons main_part4_ops4_sub <|
  .cons main_part5_ops0_sub <| .cons main_part5_ops1_sub <| .cons main_part5_ops2_sub .nil

/-! ## The loops' counters -/

/-- One trip of the first loop adds one to its counter. -/
theorem trip0_ctr (X : Valuation τ sig (Elt F)) :
    afterL body0 (after cond0 X) (Proc.devRef .tc main_v10_5)
      = (addi (X (Proc.devRef .tc main_v10_5) : (⟨S_, .i32⟩ : BufTy).Contents (Elt F)) (constantI S_ 32 1#32) : (⟨S_, .i32⟩ : BufTy).Contents (Elt F)) := by
  simp only [afterL_cons, afterL_nil]
  after_results_simp_entrywise
  all_goals rfl

/-- One trip of the second loop adds one to its counter. -/
theorem trip1_ctr (X : Valuation τ sig (Elt F)) :
    afterL body1 (after cond1 X) (Proc.devRef .tc main_v36_5)
      = (addi (X (Proc.devRef .tc main_v36_5) : (⟨S_, .i32⟩ : BufTy).Contents (Elt F)) (constantI S_ 32 1#32) : (⟨S_, .i32⟩ : BufTy).Contents (Elt F)) := by
  simp only [afterL_cons, afterL_nil]
  after_results_simp_entrywise
  all_goals rfl

theorem atTrip0_ctr (W : Dev nD → Valuation τ sig (Elt F)) (h : ∀ c, W c (Proc.devRef .tc main_v10_5) = fun _ => (0#32 : BitVec 32)) (c : Dev nD) :
    ∀ k, atTrip cond0 body0 W k c (Proc.devRef .tc main_v10_5) = fun _ => Scf.iv 0#32 1#32 k
  | 0 => by rw [atTrip_zero, h c, Scf.iv_zero]
  | k + 1 => by
    rw [atTrip_succ, trip0_ctr, atTrip0_ctr W h c k, Scf.iv_succ]; rfl

theorem atTrip1_ctr (W : Dev nD → Valuation τ sig (Elt F)) (h : ∀ c, W c (Proc.devRef .tc main_v36_5) = fun _ => (0#32 : BitVec 32)) (c : Dev nD) :
    ∀ k, atTrip cond1 body1 W k c (Proc.devRef .tc main_v36_5) = fun _ => Scf.iv 0#32 1#32 k
  | 0 => by rw [atTrip_zero, h c, Scf.iv_zero]
  | k + 1 => by
    rw [atTrip_succ, trip1_ctr, atTrip1_ctr W h c k, Scf.iv_succ]; rfl

/-! ## The set-up of a run with no kernel in it -/

/-- No pipeline, so nothing admitted. -/
abbrev adm : (p : Fin 0) → (pcfgs (F := F) p).Adm := fun p => p.elim0
/-- No pipeline, so no ticket. -/
abbrev tk : Fin 0 → Ticket (Ix := Unit) (Name := ℕ) (U := Option PUnit) (Lvl := ℕ) (nD := nD) (τ := τ) (pcfgs (F := F)) adm := fun j => j.elim0
abbrev noIx : GSem nD τ sig → Finset Unit := fun _ => ∅
abbrev noLv : GSem nD τ sig → Unit → ℕ := fun _ _ => 0
/-- What each core keeps beside its buffers. -/
abbrev Rw (c : Dev nD) : sProp 𝕄 := iprop(∃ W, owes (c : Thread nD τ) (0 : CellTallies nD τ sig Unit) W)

theorem cell_inj : Function.Injective (Pipeline.cellOf (nD := nD) (τ := τ) (Pipeline.pin (pcfgs (F := F)) adm)) :=
  fun k => k.1.elim0

set_option backward.isDefEq.respectTransparency.types false in
set_option backward.isDefEq.respectTransparency false in
/-- The first loop's test, run before trip `k`, says whether `k` is below 50. -/
theorem cond0_spec (W : Dev nD → Valuation τ sig (Elt F)) (h : ∀ c, W c (Proc.devRef .tc main_v10_5) = fun _ => (0#32 : BitVec 32)) :
    LoopCond (pcfgs (F := F)) defs₀ Variants.none loops (Rw (F := F)) main_while0_cond cond0 body0 W 50 := fun k hk c bd => by
  have hctr := atTrip0_ctr W h c k
  unfold main_while0_cond
  simp only [bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 W k c) (Proc.devRef .tc main_v10_5) HostLoop.idx0)
        (HloOp.result _ (atTrip cond0 body0 W k c) (Proc.devRef .tc main_while0c_c_61) HostLoop.idx0) = 1#1) (k < 50)
    rw [StableHlo.nullary_result_ne _ _ _ _ (by decide), StableHlo.nullary_result, hctr]
    exact Scf.cmpi_slt_iv_ub_iff (lb := 0#32) (ub := 50#32) (st := 1#32) main_while0_ok hk
  isplitl [Hb]; · iexact Hb
  isplitl [Hh]; · rw [StableHlo.after_cons, StableHlo.after_cons, StableHlo.after_nil]; iexact Hh
  iexact HR

set_option backward.isDefEq.respectTransparency.types false in
set_option backward.isDefEq.respectTransparency false in
/-- The second loop's test, run before trip `k`, says whether `k` is below 100. -/
theorem cond1_spec (W : Dev nD → Valuation τ sig (Elt F)) (h : ∀ c, W c (Proc.devRef .tc main_v36_5) = fun _ => (0#32 : BitVec 32)) :
    LoopCond (pcfgs (F := F)) defs₀ Variants.none loops (Rw (F := F)) main_while1_cond cond1 body1 W 100 := fun k hk c bd => by
  have hctr := atTrip1_ctr W h c k
  unfold main_while1_cond
  simp only [bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1 W k c) (Proc.devRef .tc main_v36_5) HostLoop.idx0)
        (HloOp.result _ (atTrip cond1 body1 W k c) (Proc.devRef .tc main_while1c_c_61) HostLoop.idx0) = 1#1) (k < 100)
    rw [StableHlo.nullary_result_ne _ _ _ _ (by decide), StableHlo.nullary_result, hctr]
    exact Scf.cmpi_slt_iv_ub_iff (lb := 0#32) (ub := 100#32) (st := 1#32) main_while1_ok hk
  isplitl [Hb]; · iexact Hb
  isplitl [Hh]; · rw [StableHlo.after_cons, StableHlo.after_cons, StableHlo.after_nil]; iexact Hh
  iexact HR

/-! ## What the buffers hold, stretch by stretch -/

variable (m : (ℓ : Loc nD τ sig) → Buf (Elt F) ℓ)

/-- At the first loop's entry. -/
abbrev at0 (c : Dev nD) : Valuation τ sig (Elt F) := afterL preI (launchContents m c)
/-- After the first loop. -/
abbrev at1 (c : Dev nD) : Valuation τ sig (Elt F) := after cond0 (atTrip cond0 body0 (at0 m) 50 c)
/-- At the second loop's entry. -/
abbrev at2 (c : Dev nD) : Valuation τ sig (Elt F) := afterL midI (at1 m c)
/-- After the second loop. -/
abbrev at3 (c : Dev nD) : Valuation τ sig (Elt F) := after cond1 (atTrip cond1 body1 (at2 m) 100 c)
/-- At the end. -/
abbrev at4 (c : Dev nD) : Valuation τ sig (Elt F) := afterL postI (at3 m c)

theorem at0_ctr (c : Dev nD) : at0 m c (Proc.devRef .tc main_v10_5) = fun _ => (0#32 : BitVec 32) := by
  simp only [at0, afterL_cons, afterL_nil]
  after_results_simp_entrywise
  all_goals rfl

theorem mid_ctr (X : Valuation τ sig (Elt F)) : afterL midI X (Proc.devRef .tc main_v36_5) = fun _ => (0#32 : BitVec 32) := by
  simp only [afterL_cons, afterL_nil]
  after_results_simp_entrywise
  all_goals rfl

/-- The program as the launch's segments. -/
def segs : List (CSeg (pcfgs (F := F)) adm defs₀ Variants.none noIx noLv loops (tk (F := F))) :=
  segsOf _ _ _ _ _ _ _ _ (Rw (F := F)) preI preI_plain (launchContents m)
    ++ loopSeg _ _ _ _ _ _ _ _ 0 main_while0_cond main_while0_body rfl cond0 body0 body0_plain while0_body_chain 50 (at0 m) (Rw (F := F)) (cond0_spec (at0 m) (at0_ctr m))
      :: (segsOf _ _ _ _ _ _ _ _ (Rw (F := F)) midI midI_plain (at1 m)
    ++ loopSeg _ _ _ _ _ _ _ _ 1 main_while1_cond main_while1_body rfl cond1 body1 body1_plain while1_body_chain 100 (at2 m) (Rw (F := F)) (cond1_spec (at2 m) (fun c => mid_ctr _))
      :: segsOf _ _ _ _ _ _ _ _ (Rw (F := F)) postI postI_plain (at3 m))

theorem segs_prog : (segs m).map CSeg.prog
    = ((preI (F := F)).map fun ops => (seq ops : Prog _ PUnit)) ++ HostLoop.enter 0 :: ((midI.map fun ops => (seq ops : Prog _ PUnit))
      ++ HostLoop.enter 1 :: postI.map fun ops => (seq ops : Prog _ PUnit)) := by
  unfold segs
  rw [List.map_append, List.map_cons, List.map_append, List.map_cons, segsOf_prog, segsOf_prog, segsOf_prog]
  rfl

theorem main_segs (c : Dev nD) : main (F := F) c = Pipeline.chain ((segs m).map CSeg.prog) := by
  rw [segs_prog, main_chain_windows]
  rfl

theorem segs_chains : CSeg.Chains (fun c => iprop(held (c : Thread nD τ) (ucRefs τ sig) (launchContents m c) ∗ Rw (F := F) c)) (segs m)
    (fun c => iprop(iprop(held (c : Thread nD τ) (ucRefs τ sig) (at4 m c)) ∗ ∃ W, owes (c : Thread nD τ) (0 : CellTallies nD τ sig Unit) W)) := by
  unfold segs
  exact CSeg.Chains.append (segsOf_chains _ _ _ _ _ _ _ _ (Rw (F := F)) preI preI_plain _)
    ⟨fun _ => .rfl, CSeg.Chains.append (segsOf_chains _ _ _ _ _ _ _ _ (Rw (F := F)) midI midI_plain _)
      ⟨fun _ => .rfl, segsOf_chains _ _ _ _ _ _ _ _ (Rw (F := F)) postI postI_plain _⟩⟩

/-- THE RUN: the reference ends, and every buffer of its values ends at the fold `at4`. -/
theorem run_fold (ρ : Dev nD → PrngReg) : θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = at4 m c (Proc.devRef .tc b)) :=
  Pipeline.θ_run_regions_loop_kit (Ix := Unit) (Name := ℕ) (U := Option PUnit) (Lvl := ℕ) (J := Fin 0) (P := Fin 0) (Val := Elt F)
    (pcfgs (F := F)) adm cell_inj defs₀ Variants.none noIx noLv loops tk m ρ main
    (segs m)
    (fun c Q => by
      unfold CSeg.runL; rw [main_segs m c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rw (F := F) c))
    (Tₙ := fun c => iprop(held (c : Thread nD τ) (ucRefs τ sig) (at4 m c)))
    (hch := segs_chains m)
    (hinit := by
      refine Pipeline.initEach noIx noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = at4 m c b)
    (hfin := fun c s' => by
      unfold held
      iintro ⟨Hh, HSI⟩
      ihave Hr := (pointsTo_read_all (ucRefs τ sig) (fun b => ((c : Dev nD), b)) (fun b => at4 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Gen

end
-- ==== Proof.RefKeep.lean ====
/- Which buffers the reference's stretches leave alone. Every stretch writes only buffers numbered from some point on, and
   the points grow along the program, so what is written once is kept to the end. -/
module

public import proofs.«01_k».proof.Proof.RefRun

@[expose] public section

set_option maxRecDepth 16384

noncomputable section

namespace Cert.ReferenceIdeal.Gen

open Idealize.ShloMosaic Idealize.ShloMosaic.TcCoe Idealize.ShloMosaic.Tactic
open Idealize.SL Idealize.SL.Sem
open Idealize.ShloMosaic.StableHlo

variable {F : FTy → Type} [FloatOps F]

/-- Every operation of the line writes one buffer, numbered `lo` or above. -/
def Over (lo : ℕ) (ops : List (HloOp τ sig (Elt F))) : Prop :=
  ops.Forall fun op => ∃ r : Ref sig .tc, op.writes = {Proc.devRef (τ := τ) .tc r} ∧ lo ≤ r.idx.val

theorem Over.mono {lo lo' : ℕ} {ops : List (HloOp τ sig (Elt F))} (h : Over lo ops) (hl : lo' ≤ lo) : Over lo' ops :=
  List.Forall.imp (fun _ ⟨r, hr, hi⟩ => ⟨r, hr, hl.trans hi⟩) h

theorem Over.keep {lo : ℕ} {ops : List (HloOp τ sig (Elt F))} (h : Over lo ops) (V : Valuation τ sig (Elt F)) {r : Ref sig .tc}
    (hr : r.idx.val < lo) : after ops V (Proc.devRef .tc r) = V (Proc.devRef .tc r) :=
  after_of_forall_not_mem ops V fun op hop hb => by
    obtain ⟨y, hy, hi⟩ := (List.forall_iff_forall_mem.mp h) op hop
    rw [hy, Finset.mem_singleton] at hb
    exact absurd (Proc.devRef_injective _ hb ▸ hi) (by omega)

theorem Over.keepL {lo : ℕ} {items : List (List (HloOp τ sig (Elt F)))} (h : ∀ ops ∈ items, Over lo ops) (V : Valuation τ sig (Elt F))
    {r : Ref sig .tc} (hr : r.idx.val < lo) : afterL items V (Proc.devRef .tc r) = V (Proc.devRef .tc r) := by
  induction items generalizing V with
  | nil => rfl
  | cons ops items ih =>
    rw [afterL_cons, ih (fun o ho => h o (List.mem_cons_of_mem _ ho)), (h ops List.mem_cons_self).keep V hr]

theorem Over.keepTrip {lo : ℕ} {condOps : List (HloOp τ sig (Elt F))} {bodyI : List (List (HloOp τ sig (Elt F)))} (hc : Over lo condOps)
    (hb : ∀ ops ∈ bodyI, Over lo ops) (W : Dev nD → Valuation τ sig (Elt F)) {r : Ref sig .tc} (hr : r.idx.val < lo) (c : Dev nD) :
    ∀ k, atTrip condOps bodyI W k c (Proc.devRef .tc r) = W c (Proc.devRef .tc r)
  | 0 => by rw [atTrip_zero]
  | k + 1 => by rw [atTrip_succ, Over.keepL hb _ hr, hc.keep _ hr, keepTrip hc hb W hr c k]

theorem cond0_over : Over 57 (cond0 (F := F)) := by
  unfold Over
  simp only [List.forall_cons, List.Forall]
  repeat' first | exact ⟨_, rfl, by decide⟩ | refine And.intro ?_ ?_
  all_goals trivial

theorem cond1_over : Over 154 (cond1 (F := F)) := by
  unfold Over
  simp only [List.forall_cons, List.Forall]
  repeat' first | exact ⟨_, rfl, by decide⟩ | refine And.intro ?_ ?_
  all_goals trivial

theorem main_part0_ops0_over : Over 36 (main_part0_ops0 (F := F)) := by
  unfold Over
  simp only [List.forall_cons, List.Forall]
  repeat' first | exact ⟨_, rfl, by decide⟩ | refine And.intro ?_ ?_
  all_goals trivial

theorem main_part0_ops1_over : Over 114 (main_part0_ops1 (F := F)) := by
  unfold Over
  simp only [List.forall_cons, List.Forall]
  repeat' first | exact ⟨_, rfl, by decide⟩ | refine And.intro ?_ ?_
  all_goals trivial

theorem main_part1_ops0_over : Over 152 (main_part1_ops0 (F := F)) := by
  unfold Over
  simp only [List.forall_cons, List.Forall]
  repeat' first | exact ⟨_, rfl, by decide⟩ | refine And.intro ?_ ?_
  all_goals trivial

theorem main_part1_ops1_over : Over 209 (main_part1_ops1 (F := F)) := by
  unfold Over
  simp only [List.forall_cons, List.Forall]
  repeat' first | exact ⟨_, rfl, by decide⟩ | refine And.intro ?_ ?_
  all_goals trivial

theorem main_part1_ops2_over : Over 264 (main_part1_ops2 (F := F)) := by
  unfold Over
  simp only [List.forall_cons, List.Forall]
  repeat' first | exact ⟨_, rfl, by decide⟩ | refine And.intro ?_ ?_
  all_goals trivial

theorem main_part1_ops3_over : Over 271 (main_part1_ops3 (F := F)) := by
  unfold Over
  simp only [List.forall_cons, List.Forall]
  repeat' first | exact ⟨_, rfl, by decide⟩ | refine And.intro ?_ ?_
  all_goals trivial

theorem main_part2_ops0_over : Over 272 (main_part2_ops0 (F := F)) := by
  unfold Over
  simp only [List.forall_cons, List.Forall]
  repeat' first | exact ⟨_, rfl, by decide⟩ | refine And.intro ?_ ?_
  all_goals trivial

theorem main_part2_ops1_over : Over 279 (main_part2_ops1 (F := F)) := by
  unfold Over
  simp only [List.forall_cons, List.Forall]
  repeat' first | exact ⟨_, rfl, by decide⟩ | refine And.intro ?_ ?_
  all_goals trivial

theorem main_part2_ops2_over : Over 283 (main_part2_ops2 (F := F)) := by
  unfold Over
  simp only [List.forall_cons, List.Forall]
  repeat' first | exact ⟨_, rfl, by decide⟩ | refine And.intro ?_ ?_
  all_goals trivial

theorem main_part3_ops0_over : Over 335 (main_part3_ops0 (F := F)) := by
  unfold Over
  simp only [List.forall_cons, List.Forall]
  repeat' first | exact ⟨_, rfl, by decide⟩ | refine And.intro ?_ ?_
  all_goals trivial

theorem main_part4_ops0_over : Over 395 (main_part4_ops0 (F := F)) := by
  unfold Over
  simp only [List.forall_cons, List.Forall]
  repeat' first | exact ⟨_, rfl, by decide⟩ | refine And.intro ?_ ?_
  all_goals trivial

theorem main_part4_ops1_over : Over 416 (main_part4_ops1 (F := F)) := by
  unfold Over
  simp only [List.forall_cons, List.Forall]
  repeat' first | exact ⟨_, rfl, by decide⟩ | refine And.intro ?_ ?_
  all_goals trivial

theorem main_part4_ops2_over : Over 423 (main_part4_ops2 (F := F)) := by
  unfold Over
  simp only [List.forall_cons, List.Forall]
  repeat' first | exact ⟨_, rfl, by decide⟩ | refine And.intro ?_ ?_
  all_goals trivial

theorem main_part4_ops3_over : Over 431 (main_part4_ops3 (F := F)) := by
  unfold Over
  simp only [List.forall_cons, List.Forall]
  repeat' first | exact ⟨_, rfl, by decide⟩ | refine And.intro ?_ ?_
  all_goals trivial

theorem main_part4_ops4_over : Over 435 (main_part4_ops4 (F := F)) := by
  unfold Over
  simp only [List.forall_cons, List.Forall]
  repeat' first | exact ⟨_, rfl, by decide⟩ | refine And.intro ?_ ?_
  all_goals trivial

theorem main_part5_ops0_over : Over 464 (main_part5_ops0 (F := F)) := by
  unfold Over
  simp only [List.forall_cons, List.Forall]
  repeat' first | exact ⟨_, rfl, by decide⟩ | refine And.intro ?_ ?_
  all_goals trivial

theorem main_part5_ops1_over : Over 492 (main_part5_ops1 (F := F)) := by
  unfold Over
  simp only [List.forall_cons, List.Forall]
  repeat' first | exact ⟨_, rfl, by decide⟩ | refine And.intro ?_ ?_
  all_goals trivial

theorem main_part5_ops2_over : Over 495 (main_part5_ops2 (F := F)) := by
  unfold Over
  simp only [List.forall_cons, List.Forall]
  repeat' first | exact ⟨_, rfl, by decide⟩ | refine And.intro ?_ ?_
  all_goals trivial

theorem while0Ops0_over : Over 59 (while0Ops0 (F := F)) := by
  unfold Over
  simp only [List.forall_cons, List.Forall]
  repeat' first | exact ⟨_, rfl, by decide⟩ | refine And.intro ?_ ?_
  all_goals trivial

theorem while0Ops0_1_over : Over 64 (while0Ops0_1 (F := F)) := by
  unfold Over
  simp only [List.forall_cons, List.Forall]
  repeat' first | exact ⟨_, rfl, by decide⟩ | refine And.intro ?_ ?_
  all_goals trivial

theorem while0Ops0_2_over : Over 107 (while0Ops0_2 (F := F)) := by
  unfold Over
  simp only [List.forall_cons, List.Forall]
  repeat' first | exact ⟨_, rfl, by decide⟩ | refine And.intro ?_ ?_
  all_goals trivial

theorem while0Ops0_3_over : Over 54 (while0Ops0_3 (F := F)) := by
  unfold Over
  simp only [List.forall_cons, List.Forall]
  repeat' first | exact ⟨_, rfl, by decide⟩ | refine And.intro ?_ ?_
  all_goals trivial

theorem while1Ops0_over : Over 156 (while1Ops0 (F := F)) := by
  unfold Over
  simp only [List.forall_cons, List.Forall]
  repeat' first | exact ⟨_, rfl, by decide⟩ | refine And.intro ?_ ?_
  all_goals trivial

theorem while1Ops0_1_over : Over 160 (while1Ops0_1 (F := F)) := by
  unfold Over
  simp only [List.forall_cons, List.Forall]
  repeat' first | exact ⟨_, rfl, by decide⟩ | refine And.intro ?_ ?_
  all_goals trivial

theorem while1Ops0_2_over : Over 203 (while1Ops0_2 (F := F)) := by
  unfold Over
  simp only [List.forall_cons, List.Forall]
  repeat' first | exact ⟨_, rfl, by decide⟩ | refine And.intro ?_ ?_
  all_goals trivial

theorem while1Ops0_3_over : Over 151 (while1Ops0_3 (F := F)) := by
  unfold Over
  simp only [List.forall_cons, List.Forall]
  repeat' first | exact ⟨_, rfl, by decide⟩ | refine And.intro ?_ ?_
  all_goals trivial

theorem preI_over : ∀ ops ∈ preI (F := F), Over 36 ops := by
  simp only [List.mem_cons, List.not_mem_nil, or_false, forall_eq_or_imp, forall_eq]
  exact main_part0_ops0_over
theorem body0_over : ∀ ops ∈ body0 (F := F), Over 54 ops := by
  simp only [List.mem_cons, List.not_mem_nil, or_false, forall_eq_or_imp, forall_eq]
  exact ⟨while0Ops0_over.mono (by decide), while0Ops0_1_over.mono (by decide), while0Ops0_2_over.mono (by decide), while0Ops0_3_over⟩
theorem midI_over : ∀ ops ∈ midI (F := F), Over 114 ops := by
  simp only [List.mem_cons, List.not_mem_nil, or_false, forall_eq_or_imp, forall_eq]
  exact ⟨main_part0_ops1_over, main_part1_ops0_over.mono (by decide)⟩
theorem body1_over : ∀ ops ∈ body1 (F := F), Over 151 ops := by
  simp only [List.mem_cons, List.not_mem_nil, or_false, forall_eq_or_imp, forall_eq]
  exact ⟨while1Ops0_over.mono (by decide), while1Ops0_1_over.mono (by decide), while1Ops0_2_over.mono (by decide), while1Ops0_3_over⟩
theorem postI_over : ∀ ops ∈ postI (F := F), Over 209 ops := by
  simp only [List.mem_cons, List.not_mem_nil, or_false, forall_eq_or_imp, forall_eq]
  exact ⟨main_part1_ops1_over, main_part1_ops2_over.mono (by decide), main_part1_ops3_over.mono (by decide), main_part2_ops0_over.mono (by decide),
    main_part2_ops1_over.mono (by decide), main_part2_ops2_over.mono (by decide), main_part3_ops0_over.mono (by decide),
    main_part4_ops0_over.mono (by decide), main_part4_ops1_over.mono (by decide), main_part4_ops2_over.mono (by decide),
    main_part4_ops3_over.mono (by decide), main_part4_ops4_over.mono (by decide), main_part5_ops0_over.mono (by decide),
    main_part5_ops1_over.mono (by decide), main_part5_ops2_over.mono (by decide)⟩

variable (m : (ℓ : Loc nD τ sig) → Buf (Elt F) ℓ)

/-- The second loop leaves what came before it. -/
theorem at3_keep (c : Dev nD) {r : Ref sig .tc} (hr : r.idx.val < 151) : at3 m c (Proc.devRef .tc r) = at2 m c (Proc.devRef .tc r) := by
  unfold at3
  rw [(cond1_over.mono (by decide : 151 ≤ 154)).keep _ hr, Over.keepTrip (cond1_over.mono (by decide : 151 ≤ 154)) body1_over _ hr]

/-- What runs between the loops leaves what came before. -/
theorem at2_keep (c : Dev nD) {r : Ref sig .tc} (hr : r.idx.val < 114) : at2 m c (Proc.devRef .tc r) = at1 m c (Proc.devRef .tc r) :=
  Over.keepL midI_over _ hr

/-- The first loop leaves what came before it. -/
theorem at1_keep (c : Dev nD) {r : Ref sig .tc} (hr : r.idx.val < 54) : at1 m c (Proc.devRef .tc r) = at0 m c (Proc.devRef .tc r) := by
  unfold at1
  rw [(cond0_over.mono (by decide : 54 ≤ 57)).keep _ hr, Over.keepTrip (cond0_over.mono (by decide : 54 ≤ 57)) body0_over _ hr]

/-- An argument is what it was at the launch, at every stage. -/
theorem at0_arg (c : Dev nD) {r : Ref sig .tc} (hr : r.idx.val < 36) : at0 m c (Proc.devRef .tc r) = launchContents m c (Proc.devRef .tc r) :=
  Over.keepL preI_over _ hr
theorem at3_arg (c : Dev nD) {r : Ref sig .tc} (hr : r.idx.val < 36) : at3 m c (Proc.devRef .tc r) = launchContents m c (Proc.devRef .tc r) := by
  rw [at3_keep m c (by omega), at2_keep m c (by omega), at1_keep m c (by omega), at0_arg m c hr]
theorem at4_arg (c : Dev nD) {r : Ref sig .tc} (hr : r.idx.val < 36) : at4 m c (Proc.devRef .tc r) = launchContents m c (Proc.devRef .tc r) := by
  unfold at4
  rw [Over.keepL postI_over _ (by omega), at3_arg m c hr]

/-- The reference run: its two results at the fold and every argument as launched. -/
theorem frame (ρ : Dev nD → PrngReg) : θ_run defs (onTc (τ := τ) (main (F := F))) ⟨m, fun _ => 0, ρ⟩ (fun r => ∀ c : Dev nD,
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  θ_run_mono (run_fold m ρ) fun r h c => ⟨(h c main_arg0 rfl).trans (at4_arg m c (by decide)),
    (h c main_arg1 rfl).trans (at4_arg m c (by decide)),
    (h c main_arg2 rfl).trans (at4_arg m c (by decide)),
    (h c main_arg3 rfl).trans (at4_arg m c (by decide)),
    (h c main_arg4 rfl).trans (at4_arg m c (by decide)),
    (h c main_arg5 rfl).trans (at4_arg m c (by decide)),
    (h c main_arg6 rfl).trans (at4_arg m c (by decide)),
    (h c main_arg7 rfl).trans (at4_arg m c (by decide)),
    (h c main_arg8 rfl).trans (at4_arg m c (by decide)),
    (h c main_arg9 rfl).trans (at4_arg m c (by decide)),
    (h c main_arg10 rfl).trans (at4_arg m c (by decide)),
    (h c main_arg11 rfl).trans (at4_arg m c (by decide)),
    (h c main_arg12 rfl).trans (at4_arg m c (by decide)),
    (h c main_arg13 rfl).trans (at4_arg m c (by decide)),
    (h c main_arg14 rfl).trans (at4_arg m c (by decide)),
    (h c main_arg15 rfl).trans (at4_arg m c (by decide)),
    (h c main_arg16 rfl).trans (at4_arg m c (by decide)),
    (h c main_arg17 rfl).trans (at4_arg m c (by decide)),
    (h c main_arg18 rfl).trans (at4_arg m c (by decide)),
    (h c main_arg19 rfl).trans (at4_arg m c (by decide)),
    (h c main_arg20 rfl).trans (at4_arg m c (by decide)),
    (h c main_arg21 rfl).trans (at4_arg m c (by decide)),
    (h c main_arg22 rfl).trans (at4_arg m c (by decide)),
    (h c main_arg23 rfl).trans (at4_arg m c (by decide)),
    (h c main_arg24 rfl).trans (at4_arg m c (by decide)),
    (h c main_arg25 rfl).trans (at4_arg m c (by decide)),
    (h c main_arg26 rfl).trans (at4_arg m c (by decide)),
    (h c main_arg27 rfl).trans (at4_arg m c (by decide)),
    (h c main_arg28 rfl).trans (at4_arg m c (by decide)),
    (h c main_arg29 rfl).trans (at4_arg m c (by decide)),
    (h c main_arg30 rfl).trans (at4_arg m c (by decide)),
    (h c main_arg31 rfl).trans (at4_arg m c (by decide)),
    (h c main_arg32 rfl).trans (at4_arg m c (by decide)),
    (h c main_arg33 rfl).trans (at4_arg m c (by decide)),
    (h c main_arg34 rfl).trans (at4_arg m c (by decide)),
    (h c main_arg35 rfl).trans (at4_arg m c (by decide))⟩

end Cert.ReferenceIdeal.Gen

end
-- ==== Proof.EncFrame.lean ====
/- The encoder's run as it stands: every input ends as it began; nothing is said of the result. -/
module

public import proofs.«01_k».proof.Proof.EncRun
public import Idealize.ShloMosaic.Lib.Pipeline.FrameBody
public import Idealize.ShloMosaic.Lib.Pipeline.Frame
public import Idealize.ShloMosaic.Lib.Claim

@[expose] public section

set_option maxRecDepth 16384

noncomputable section

namespace Cert.Encoder.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer that stages operand 0 at point `t`. -/
abbrev ms0_0 (t : Fin cfg0.N) : Memref sig .tc .vmem S4x50x100x16 .f32 := win0_0.stage (cfg0.slots t 0)
/-- The buffer that stages operand 1 at point `t`. -/
abbrev ms0_1 (t : Fin cfg0.N) : Memref sig .tc .vmem S4x16x384 .f32 := win0_1.stage (cfg0.slots t 1)
/-- The buffer that stages operand 2 at point `t`. -/
abbrev ms0_2 (t : Fin cfg0.N) : Memref sig .tc .vmem S4x128x384 .f32 := win0_2.stage (cfg0.slots t 2)
/-- The buffer that stages operand 3 at point `t`. -/
abbrev ms0_3 (t : Fin cfg0.N) : Memref sig .tc .vmem S4x384 .f32 := win0_3.stage (cfg0.slots t 3)
/-- The buffer that stages operand 4 at point `t`. -/
abbrev ms0_4 (t : Fin cfg0.N) : Memref sig .tc .vmem S4x384 .f32 := win0_4.stage (cfg0.slots t 4)
/-- The buffer that stages operand 5 at point `t`. -/
abbrev ms0_5 (t : Fin cfg0.N) : Memref sig .tc .vmem S4x50x50 .f32 := win0_5.stage (cfg0.slots t 5)
/-- The buffer that stages operand 6 at point `t`. -/
abbrev ms0_6 (t : Fin cfg0.N) : Memref sig .tc .vmem S4x50x1 .f32 := win0_6.stage (cfg0.slots t 6)
/-- The buffer that stages operand 7 at point `t`. -/
abbrev ms0_7 (t : Fin cfg0.N) : Memref sig .tc .vmem S4x12800 .f32 := win0_7.stage (cfg0.slots t 7)

/-- The scratch array. -/
abbrev scM0_0 : Memref sig .tc .vmem S4x50x100x128 .f32 := Memref.whole cc0_scratch0

/-- What the body may use beside its operands: the scratch array at some contents and the generator register. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- The one result, of which nothing is said. -/
def forgets0 : Fin 8 → Bool := fun w => w.val == 7

/-- Before the body each operand's buffer holds its block; after it the result is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (ms0_0 t) (hstage0_0 0) (ms0_1 t) (hstage0_1 0) (ms0_2 t) (hstage0_2 0) (ms0_3 t) (hstage0_3 0) (ms0_4 t) (hstage0_4 0) (ms0_5 t) (hstage0_5 0) (ms0_6 t) (hstage0_6 0) (ms0_7 t) (hstage0_7 0) scM0_0 (Memref.isWhole_whole _) (iblk m c 0 t) (iblk m c 1 t) (iblk m c 2 t) (iblk m c 3 t) (iblk m c 4 t) (iblk m c 5 t) (iblk m c 6 t) d7 s0).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- The body the launch calls at point `t` is the body above. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 4000000 in
/-- The launch. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 3 rfl).trans ((A_eq m c 3).trans (V_main_arg6 m c)),
      (Pipeline.RDat.FramePost.arr_in h c 4 rfl).trans ((A_eq m c 4).trans (V_main_arg7 m c)),
      (Pipeline.RDat.FramePost.arr_in h c 5 rfl).trans ((A_eq m c 5).trans (V_main_arg8 m c)),
      ((h c).2 main_arg9 (Pipeline.mem_restRefs_of main_arg9 (by decide) (by decide))).trans (V_main_arg9 m c)⟩)
    ((θ_run defs _ _).mono (fun _ h => h.1) (run_main m ρ))

/-- The frame claim: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main m ρ))

end Cert.Encoder.Gen

end
-- ==== Proof.EncIdealRun.lean ====
/- The encoder's body run once: what it leaves in its result, as a function of its inputs and of what the result and the
   scratch array held before. -/
module

public import proofs.«01_k».proof.Proof.Gen.EncoderIdeal.Frame
public import proofs.«01_k».proof.Proof.Gen.EncoderIdeal.Skeleton
public import proofs.«01_k».proof.Proof.Gen.EncoderIdeal.Loops
public import Idealize.ShloMosaic.Lib.Claim

@[expose] public section

set_option maxRecDepth 16384

noncomputable section

namespace Cert.EncoderIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run: on whole arrays, the inputs at their contents, the result and the scratch at any contents, the body
    runs to its end, leaves the inputs as they were and the result at the value named here. -/
@[irreducible] def kernelRun (c : Dev nD) (arg0 : Memref sig .tc .vmem S4x50x100x16 .f32) (harg0 : arg0.IsWhole) (arg1 : Memref sig .tc .vmem S4x16x384 .f32) (harg1 : arg1.IsWhole) (arg2 : Memref sig .tc .vmem S4x128x384 .f32) (harg2 : arg2.IsWhole) (arg3 : Memref sig .tc .vmem S4x384 .f32) (harg3 : arg3.IsWhole) (arg4 : Memref sig .tc .vmem S4x384 .f32) (harg4 : arg4.IsWhole) (arg5 : Memref sig .tc .vmem S4x50x50 .f32) (harg5 : arg5.IsWhole) (arg6 : Memref sig .tc .vmem S4x50x1 .f32) (harg6 : arg6.IsWhole) (arg7 : Memref sig .tc .vmem S4x12800 .f32) (harg7 : arg7.IsWhole) (arg8 : Memref sig .tc .vmem S4x50x100x128 .f32) (harg8 : arg8.IsWhole)
    (x0 : Vec F S4x50x100x16 .f32) (x1 : Vec F S4x16x384 .f32) (x2 : Vec F S4x128x384 .f32) (x3 : Vec F S4x384 .f32) (x4 : Vec F S4x384 .f32) (x5 : Vec F S4x50x50 .f32) (x6 : Vec F S4x50x1 .f32) (x7 : Vec F S4x12800 .f32) (x8 : Vec F S4x50x100x128 .f32) :
      { d7 : Vec F S4x12800 .f32 //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ d, owns (c : Thread nD τ) arg8 fullShare d)) -∗ K ⟨⟩))
          ⊢ wp frame (wpE (defs₀ (F := F)) Variants.none c none) E (cc0__encoder_kernel arg0 harg0 arg1 harg1 arg2 harg2 arg3 harg3 arg4 harg4 arg5 harg5 arg6 harg6 arg7 harg7 arg8 harg8) K } := by
    refine ⟨?_, fun E K => ?run⟩
    case run =>
      simp only [cc0__encoder_kernel_eq_skeleton]; unfold cc0__encoder_kernel_skel
      simp only [k0_part4_eq_skeleton, k0_part5_eq_skeleton, k0_part6_eq_skeleton, k0_part7_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
      obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
      sl_exec
      sl_step
      iapply Hk
      isplitl [H0]
      · iexists _; isplitr; · ipureintro; exact harg0.read_unread _
        iexact H0
      isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; swap; · iexact H7
        ipureintro; rfl
      iexists _, _; isplitr; swap; · iexact H8
      ipureintro; rfl

end Cert.EncoderIdeal.Gen

end
-- ==== Proof.Spec.lean ====
/- The mathematics the two programs share: a gated recurrent cell, its hidden states along a sequence, and the attention
   pooling of a sequence of features, over the extended reals. -/
module

public import Idealize.ShloMosaic.Lib.Pointwise

@[expose] public section

noncomputable section

namespace Cert.Spec

open Idealize.ShloMosaic

/-- The affine map a cell applies to a row before its gates. -/
def lin {D N : ℕ} (x : Fin D → EReal) (w : Fin D → Fin N → EReal) (b : Fin N → EReal) (r : Fin N) : EReal :=
  (∑ d, x d * w d r) + b r

/-- A gated recurrent cell on one row: `x` the input, `h` the hidden state, the three gates side by side. -/
def cell {D : ℕ} (wi : Fin D → Fin 384 → EReal) (wh : Fin 128 → Fin 384 → EReal) (bi bh : Fin 384 → EReal)
    (x : Fin D → EReal) (h : Fin 128 → EReal) (j : Fin 128) : EReal :=
  let j0 : Fin 384 := ⟨j.val, by omega⟩
  let j1 : Fin 384 := ⟨128 + j.val, by omega⟩
  let j2 : Fin 384 := ⟨256 + j.val, by omega⟩
  let r := Ideal.logistic (lin x wi bi j0 + lin h wh bh j0)
  let z := Ideal.logistic (lin x wi bi j1 + lin h wh bh j1)
  let n := Ideal.tanh (lin x wi bi j2 + r * lin h wh bh j2)
  (1 - z) * n + z * h j

theorem cell_congr {D : ℕ} {wi wi' : Fin D → Fin 384 → EReal} {wh wh' : Fin 128 → Fin 384 → EReal} {bi bi' bh bh' : Fin 384 → EReal}
    {x x' : Fin D → EReal} {h h' : Fin 128 → EReal} (e1 : ∀ d r, wi d r = wi' d r) (e2 : ∀ d r, wh d r = wh' d r)
    (e3 : ∀ r, bi r = bi' r) (e4 : ∀ r, bh r = bh' r) (e5 : ∀ d, x d = x' d) (e6 : ∀ d, h d = h' d) (j : Fin 128) :
    cell wi wh bi bh x h j = cell wi' wh' bi' bh' x' h' j := by
  rw [funext fun d => funext (e1 d), funext fun d => funext (e2 d), funext e3, funext e4, funext e5, funext e6]

/-- The hidden state after `k` rows of the sequence, from zero. -/
def hid {D : ℕ} (wi : Fin D → Fin 384 → EReal) (wh : Fin 128 → Fin 384 → EReal) (bi bh : Fin 384 → EReal)
    (x : ℕ → Fin D → EReal) : ℕ → Fin 128 → EReal
  | 0 => fun _ => 0
  | k + 1 => cell wi wh bi bh (x k) (hid wi wh bi bh x k)

/-- The score of each of `n` positions: the affine map of the feature along the sequence. -/
def score {n : ℕ} (w : Fin n → Fin n → EReal) (b : Fin n → EReal) (h : Fin n → EReal) (t : Fin n) : EReal :=
  (∑ s, w t s * h s) + b t

/-- The largest score. -/
def top {n : ℕ} (w : Fin n → Fin n → EReal) (b : Fin n → EReal) (h : Fin n → EReal) : EReal :=
  Finset.univ.fold max ⊥ (score w b h)

/-- Attention pooling of one feature along a sequence: the scores' softmax against the feature itself. -/
def pooled {n : ℕ} (w : Fin n → Fin n → EReal) (b : Fin n → EReal) (h : Fin n → EReal) : EReal :=
  ∑ t, Ideal.div (Ideal.exp (score w b h t - top w b h)) (∑ s, Ideal.exp (score w b h s - top w b h)) * h t

theorem pooled_congr {n : ℕ} {w w' : Fin n → Fin n → EReal} {b b' h h' : Fin n → EReal} (e1 : ∀ t s, w t s = w' t s) (e2 : ∀ t, b t = b' t)
    (e3 : ∀ t, h t = h' t) : pooled w b h = pooled w' b' h' := by
  rw [funext fun t => funext (e1 t), funext e2, funext e3]

end Cert.Spec

end
-- ==== Proof.EncCell.lean ====
/- The encoder kernel's arithmetic read at an index: each week's cell is the shared cell, each week's pooling the shared
   pooling. -/
module

public import proofs.«01_k».proof.Proof.Gen.EncoderIdeal.Skeleton
public import proofs.«01_k».proof.Proof.Spec

@[expose] public section

set_option maxRecDepth 16384

noncomputable section

namespace Cert.EncoderIdeal.Gen

open Idealize.ShloMosaic Idealize.ShloMosaic.TcCoe Cert.Spec

theorem neg_inf : Ideal.ofBits .f32 0xFF800000#32 = ⊥ := by
  simp [Ideal.ofBits, Ideal.ieee]

/-- Week 0's new hidden state is the cell's. -/
theorem week0_apply (v1 : FVec Ideal S16x384 .f32) (v9 : FVec Ideal S128x384 .f32) (v17 v25 : FVec Ideal S384 .f32) (h : FVec Ideal S100x128 .f32)
    (x : Vec Ideal S1x1x100x16 .f32) (n : Fin 100) (j : Fin 128) :
    k0_pay2 v1 v9 v17 v25 h x (ix2 n j)
      = cell (fun d r => v1 (ix2 d r)) (fun d r => v9 (ix2 d r)) (fun r => v17 (ix1 r)) (fun r => v25 (ix1 r))
          (fun d => x (ix4 0 0 n d)) (fun d => h (ix2 n d)) j := by
  unfold cell lin
  pointwise [k0_pay2]

/-- What week 0 stores is its new hidden state. -/
theorem week0_stored (v1 : FVec Ideal S16x384 .f32) (v9 : FVec Ideal S128x384 .f32) (v17 v25 : FVec Ideal S384 .f32) (h : FVec Ideal S100x128 .f32)
    (x : Vec Ideal S1x1x100x16 .f32) (n : Fin 100) (j : Fin 128) :
    k0_pay3 v1 v9 v17 v25 h x (ix4 0 0 n j)
      = cell (fun d r => v1 (ix2 d r)) (fun d r => v9 (ix2 d r)) (fun r => v17 (ix1 r)) (fun r => v25 (ix1 r))
          (fun d => x (ix4 0 0 n d)) (fun d => h (ix2 n d)) j := by
  unfold cell lin
  pointwise [k0_pay3, k0_pay2]

/-- Week 1's new hidden state is the cell's. -/
theorem week1_apply (v1 : FVec Ideal S16x384 .f32) (v9 : FVec Ideal S128x384 .f32) (v17 v25 : FVec Ideal S384 .f32) (h : FVec Ideal S100x128 .f32)
    (x : Vec Ideal S1x1x100x16 .f32) (n : Fin 100) (j : Fin 128) :
    k0_pay6 v25 h (k0_pay4 v1 v17 x) (k0_pay5 v9 h) (ix2 n j)
      = cell (fun d r => v1 (ix2 d r)) (fun d r => v9 (ix2 d r)) (fun r => v17 (ix1 r)) (fun r => v25 (ix1 r))
          (fun d => x (ix4 0 0 n d)) (fun d => h (ix2 n d)) j := by
  unfold cell lin
  pointwise [k0_pay6, k0_pay4, k0_pay5]

/-- What week 1 stores is its new hidden state. -/
theorem week1_stored (v1 : FVec Ideal S16x384 .f32) (v9 : FVec Ideal S128x384 .f32) (v17 v25 : FVec Ideal S384 .f32) (h : FVec Ideal S100x128 .f32)
    (x : Vec Ideal S1x1x100x16 .f32) (n : Fin 100) (j : Fin 128) :
    k0_pay7 v25 h (k0_pay4 v1 v17 x) (k0_pay5 v9 h) (ix4 0 0 n j)
      = cell (fun d r => v1 (ix2 d r)) (fun d r => v9 (ix2 d r)) (fun r => v17 (ix1 r)) (fun r => v25 (ix1 r))
          (fun d => x (ix4 0 0 n d)) (fun d => h (ix2 n d)) j := by
  unfold cell lin
  pointwise [k0_pay7, k0_pay6, k0_pay4, k0_pay5]

/-- Week 2's new hidden state is the cell's. -/
theorem week2_apply (v1 : FVec Ideal S16x384 .f32) (v9 : FVec Ideal S128x384 .f32) (v17 v25 : FVec Ideal S384 .f32) (h : FVec Ideal S100x128 .f32)
    (x : Vec Ideal S1x1x100x16 .f32) (n : Fin 100) (j : Fin 128) :
    k0_pay12 h (k0_pay10 v1 v9 v17 v25 h x) (k0_pay11 v1 v9 v17 v25 h x) (ix2 n j)
      = cell (fun d r => v1 (ix2 d r)) (fun d r => v9 (ix2 d r)) (fun r => v17 (ix1 r)) (fun r => v25 (ix1 r))
          (fun d => x (ix4 0 0 n d)) (fun d => h (ix2 n d)) j := by
  unfold cell lin
  pointwise [k0_pay12, k0_pay10, k0_pay11, k0_pay8, k0_pay9]

/-- What week 2 stores is its new hidden state. -/
theorem week2_stored (v1 : FVec Ideal S16x384 .f32) (v9 : FVec Ideal S128x384 .f32) (v17 v25 : FVec Ideal S384 .f32) (h : FVec Ideal S100x128 .f32)
    (x : Vec Ideal S1x1x100x16 .f32) (n : Fin 100) (j : Fin 128) :
    k0_pay13 h (k0_pay10 v1 v9 v17 v25 h x) (k0_pay11 v1 v9 v17 v25 h x) (ix4 0 0 n j)
      = cell (fun d r => v1 (ix2 d r)) (fun d r => v9 (ix2 d r)) (fun r => v17 (ix1 r)) (fun r => v25 (ix1 r))
          (fun d => x (ix4 0 0 n d)) (fun d => h (ix2 n d)) j := by
  unfold cell lin
  pointwise [k0_pay13, k0_pay12, k0_pay10, k0_pay11, k0_pay8, k0_pay9]

/-- Week 3's new hidden state is the cell's. -/
theorem week3_apply (v1 : FVec Ideal S16x384 .f32) (v9 : FVec Ideal S128x384 .f32) (v17 v25 : FVec Ideal S384 .f32) (h : FVec Ideal S100x128 .f32)
    (x : Vec Ideal S1x1x100x16 .f32) (n : Fin 100) (j : Fin 128) :
    k0_pay14 v1 v9 v17 v25 h x (ix2 n j)
      = cell (fun d r => v1 (ix2 d r)) (fun d r => v9 (ix2 d r)) (fun r => v17 (ix1 r)) (fun r => v25 (ix1 r))
          (fun d => x (ix4 0 0 n d)) (fun d => h (ix2 n d)) j := by
  unfold cell lin
  pointwise [k0_pay14]

/-- What week 3 stores is its new hidden state. -/
theorem week3_stored (v1 : FVec Ideal S16x384 .f32) (v9 : FVec Ideal S128x384 .f32) (v17 v25 : FVec Ideal S384 .f32) (h : FVec Ideal S100x128 .f32)
    (x : Vec Ideal S1x1x100x16 .f32) (n : Fin 100) (j : Fin 128) :
    k0_pay15 v1 v9 v17 v25 h x (ix4 0 0 n j)
      = cell (fun d r => v1 (ix2 d r)) (fun d r => v9 (ix2 d r)) (fun r => v17 (ix1 r)) (fun r => v25 (ix1 r))
          (fun d => x (ix4 0 0 n d)) (fun d => h (ix2 n d)) j := by
  unfold cell lin
  pointwise [k0_pay15, k0_pay14]

/-- Week 0's row is the pooling of its hidden states. -/
theorem pool0_apply (hs : Vec Ideal S1x50x100x128 .f32) (w : Vec Ideal S1x50x50 .f32) (b : Vec Ideal S1x50x1 .f32) (n : Fin 100) (j : Fin 128) :
    k0_pay37 (k0_pay36 hs w b) (ix2 0 ⟨128 * n.val + j.val, by omega⟩)
      = pooled (fun t s => w (ix3 0 t s)) (fun t => b (ix3 0 t 0)) (fun t => hs (ix4 0 t n j)) := by
  have h1 : (128 * n.val + j.val) / 128 = n.val := by omega
  have h2 : (128 * n.val + j.val) % 128 = j.val := by omega
  unfold pooled top score
  pointwise [k0_pay37, k0_pay36]
  simp only [h1, h2, Fin.eta, neg_inf]

/-- Week 1's row is the pooling of its hidden states. -/
theorem pool1_apply (hs : Vec Ideal S1x50x100x128 .f32) (w : Vec Ideal S1x50x50 .f32) (b : Vec Ideal S1x50x1 .f32) (n : Fin 100) (j : Fin 128) :
    k0_pay38 hs w b (ix2 0 ⟨128 * n.val + j.val, by omega⟩)
      = pooled (fun t s => w (ix3 0 t s)) (fun t => b (ix3 0 t 0)) (fun t => hs (ix4 0 t n j)) := by
  have h1 : (128 * n.val + j.val) / 128 = n.val := by omega
  have h2 : (128 * n.val + j.val) % 128 = j.val := by omega
  unfold pooled top score
  pointwise [k0_pay38]
  simp only [h1, h2, Fin.eta, neg_inf]

/-- Week 2's row is the pooling of its hidden states. -/
theorem pool2_apply (hs : Vec Ideal S1x50x100x128 .f32) (w : Vec Ideal S1x50x50 .f32) (b : Vec Ideal S1x50x1 .f32) (n : Fin 100) (j : Fin 128) :
    k0_pay41 (k0_pay39 hs) (k0_pay40 hs w) b (ix2 0 ⟨128 * n.val + j.val, by omega⟩)
      = pooled (fun t s => w (ix3 0 t s)) (fun t => b (ix3 0 t 0)) (fun t => hs (ix4 0 t n j)) := by
  have h1 : (128 * n.val + j.val) / 128 = n.val := by omega
  have h2 : (128 * n.val + j.val) % 128 = j.val := by omega
  unfold pooled top score
  pointwise [k0_pay41, k0_pay40, k0_pay39]
  simp only [h1, h2, Fin.eta, neg_inf]

/-- Week 3's row is the pooling of its hidden states. -/
theorem pool3_apply (hs : Vec Ideal S1x50x100x128 .f32) (w : Vec Ideal S1x50x50 .f32) (b : Vec Ideal S1x50x1 .f32) (n : Fin 100) (j : Fin 128) :
    k0_pay1 (k0_pay42 hs w b) (ix2 0 ⟨128 * n.val + j.val, by omega⟩)
      = pooled (fun t s => w (ix3 0 t s)) (fun t => b (ix3 0 t 0)) (fun t => hs (ix4 0 t n j)) := by
  have h1 : (128 * n.val + j.val) / 128 = n.val := by omega
  have h2 : (128 * n.val + j.val) % 128 = j.val := by omega
  unfold pooled top score
  pointwise [k0_pay1, k0_pay42]
  simp only [h1, h2, Fin.eta, neg_inf]

theorem pay16_apply (v : Vec Ideal S1x16x384 .f32) (d : Fin 16) (r : Fin 384) : k0_pay16 v (ix2 d r) = v (ix3 0 d r) := by
  pointwise [k0_pay16]
theorem pay17_apply (v : Vec Ideal S1x16x384 .f32) (d : Fin 16) (r : Fin 384) : k0_pay17 v (ix2 d r) = v (ix3 0 d r) := by
  pointwise [k0_pay17]
theorem pay18_apply (v : Vec Ideal S1x16x384 .f32) (d : Fin 16) (r : Fin 384) : k0_pay18 v (ix2 d r) = v (ix3 0 d r) := by
  pointwise [k0_pay18]
theorem pay19_apply (v : Vec Ideal S1x16x384 .f32) (d : Fin 16) (r : Fin 384) : k0_pay19 v (ix2 d r) = v (ix3 0 d r) := by
  pointwise [k0_pay19]
theorem pay20_apply (v : Vec Ideal S1x128x384 .f32) (d : Fin 128) (r : Fin 384) : k0_pay20 v (ix2 d r) = v (ix3 0 d r) := by
  pointwise [k0_pay20]
theorem pay21_apply (v : Vec Ideal S1x128x384 .f32) (d : Fin 128) (r : Fin 384) : k0_pay21 v (ix2 d r) = v (ix3 0 d r) := by
  pointwise [k0_pay21]
theorem pay22_apply (v : Vec Ideal S1x128x384 .f32) (d : Fin 128) (r : Fin 384) : k0_pay22 v (ix2 d r) = v (ix3 0 d r) := by
  pointwise [k0_pay22]
theorem pay23_apply (v : Vec Ideal S1x128x384 .f32) (d : Fin 128) (r : Fin 384) : k0_pay23 v (ix2 d r) = v (ix3 0 d r) := by
  pointwise [k0_pay23]
theorem pay24_apply (v : Vec Ideal S1x384 .f32) (r : Fin 384) : k0_pay24 v (ix1 r) = v (ix2 0 r) := by
  pointwise [k0_pay24]
theorem pay25_apply (v : Vec Ideal S1x384 .f32) (r : Fin 384) : k0_pay25 v (ix1 r) = v (ix2 0 r) := by
  pointwise [k0_pay25]
theorem pay26_apply (v : Vec Ideal S1x384 .f32) (r : Fin 384) : k0_pay26 v (ix1 r) = v (ix2 0 r) := by
  pointwise [k0_pay26]
theorem pay27_apply (v : Vec Ideal S1x384 .f32) (r : Fin 384) : k0_pay27 v (ix1 r) = v (ix2 0 r) := by
  pointwise [k0_pay27]
theorem pay28_apply (v : Vec Ideal S1x384 .f32) (r : Fin 384) : k0_pay28 v (ix1 r) = v (ix2 0 r) := by
  pointwise [k0_pay28]
theorem pay29_apply (v : Vec Ideal S1x384 .f32) (r : Fin 384) : k0_pay29 v (ix1 r) = v (ix2 0 r) := by
  pointwise [k0_pay29]
theorem pay30_apply (v : Vec Ideal S1x384 .f32) (r : Fin 384) : k0_pay30 v (ix1 r) = v (ix2 0 r) := by
  pointwise [k0_pay30]
theorem pay31_apply (v : Vec Ideal S1x384 .f32) (r : Fin 384) : k0_pay31 v (ix1 r) = v (ix2 0 r) := by
  pointwise [k0_pay31]
theorem pay32_apply (n : Fin 100) (j : Fin 128) : k0_pay32 (F := Ideal) (ix2 n j) = 0 := by
  pointwise [k0_pay32]
theorem pay33_apply (n : Fin 100) (j : Fin 128) : k0_pay33 (F := Ideal) (ix2 n j) = 0 := by
  pointwise [k0_pay33]
theorem pay34_apply (n : Fin 100) (j : Fin 128) : k0_pay34 (F := Ideal) (ix2 n j) = 0 := by
  pointwise [k0_pay34]
theorem pay35_apply (n : Fin 100) (j : Fin 128) : k0_pay35 (F := Ideal) (ix2 n j) = 0 := by
  pointwise [k0_pay35]

end Cert.EncoderIdeal.Gen

end
-- ==== Proof.EncVal.lean ====
/- What the encoder's loop leaves: the carried states and the array of hidden states, as the shared recurrence. -/
module

public import proofs.«01_k».proof.Proof.EncIdealRun
public import proofs.«01_k».proof.Proof.EncCell
public import Idealize.ShloMosaic.Lib.Writes
public import Idealize.ShloMosaic.Lib.WritesUnit
public import Idealize.ShloMosaic.Lib.WholeRead

@[expose] public section

set_option maxRecDepth 16384

noncomputable section

namespace Cert.EncoderIdeal.Gen

open Idealize.ShloMosaic Idealize.ShloMosaic.TcCoe Cert.Spec

/-- Week `w`'s hidden state of node `n` after `k` days. -/
@[irreducible] def H (x0 : Vec Ideal S4x50x100x16 .f32) (x1 : Vec Ideal S4x16x384 .f32) (x2 : Vec Ideal S4x128x384 .f32) (x3 x4 : Vec Ideal S4x384 .f32)
    (w : Fin 4) (n : Fin 100) : ℕ → Fin 128 → EReal :=
  hid (fun d r => x1 (ix3 w d r)) (fun d r => x2 (ix3 w d r)) (fun r => x3 (ix2 w r)) (fun r => x4 (ix2 w r))
    (fun t d => if h : t < 50 then x0 (ix4 w ⟨t, h⟩ n d) else 0)

/-- What the encoder's result holds. -/
def encVal (x0 : Vec Ideal S4x50x100x16 .f32) (x1 : Vec Ideal S4x16x384 .f32) (x2 : Vec Ideal S4x128x384 .f32) (x3 x4 : Vec Ideal S4x384 .f32)
    (x5 : Vec Ideal S4x50x50 .f32) (x6 : Vec Ideal S4x50x1 .f32) (w : Fin 4) (n : Fin 100) (j : Fin 128) : EReal :=
  pooled (fun t s => x5 (ix3 w t s)) (fun t => x6 (ix3 w t 0)) (fun t => H x0 x1 x2 x3 x4 w n (t.val + 1) j)

variable (c : Dev nD) {arg0 : Memref sig .tc .vmem S4x50x100x16 .f32} (harg0 : arg0.IsWhole) {arg1 : Memref sig .tc .vmem S4x16x384 .f32} (harg1 : arg1.IsWhole) {arg2 : Memref sig .tc .vmem S4x128x384 .f32} (harg2 : arg2.IsWhole) {arg3 : Memref sig .tc .vmem S4x384 .f32} (harg3 : arg3.IsWhole) {arg4 : Memref sig .tc .vmem S4x384 .f32} (harg4 : arg4.IsWhole) {arg5 : Memref sig .tc .vmem S4x50x50 .f32} (harg5 : arg5.IsWhole) {arg6 : Memref sig .tc .vmem S4x50x1 .f32} (harg6 : arg6.IsWhole) {arg7 : Memref sig .tc .vmem S4x12800 .f32} (harg7 : arg7.IsWhole) {arg8 : Memref sig .tc .vmem S4x50x100x128 .f32} (harg8 : arg8.IsWhole)
    {x0 : Vec Ideal S4x50x100x16 .f32} {x1 : Vec Ideal S4x16x384 .f32} {x2 : Vec Ideal S4x128x384 .f32} {x3 : Vec Ideal S4x384 .f32} {x4 : Vec Ideal S4x384 .f32} {x5 : Vec Ideal S4x50x50 .f32} {x6 : Vec Ideal S4x50x1 .f32} {x7 : Vec Ideal S4x12800 .f32} {x8 : Vec Ideal S4x50x100x128 .f32}

/-- The loop's state before trip `i`: the four carried states and what the scratch array has been given. -/
abbrev lst (i : ℕ) := st_k0_t1 (F := Ideal) Variants.none c none arg0 harg0 arg1 harg1 arg2 harg2 arg3 harg3 arg4 harg4 arg5 harg5 arg6 harg6 arg7 harg7 arg8 harg8 (kernelRun.sl.r c arg1 harg1 x1) (kernelRun.sl.r_1 c arg1 harg1 x1) (kernelRun.sl.r_2 c arg1 harg1 x1) (kernelRun.sl.r_3 c arg1 harg1 x1) (kernelRun.sl.r_4 c arg2 harg2 x2) (kernelRun.sl.r_5 c arg2 harg2 x2) (kernelRun.sl.r_6 c arg2 harg2 x2) (kernelRun.sl.r_7 c arg2 harg2 x2) (kernelRun.sl.r_8 c arg3 harg3 x3) (kernelRun.sl.r_9 c arg3 harg3 x3) (kernelRun.sl.r_10 c arg3 harg3 x3) (kernelRun.sl.r_11 c arg3 harg3 x3) (kernelRun.sl.r_12 c arg4 harg4 x4) (View.readAt (Elt Ideal) arg4.view (Rect.unit (s := S4x384) ![1, 0] S1x384.size inb_S4x384_S1x384_1_0).toLoadRect (harg4.unread x4)) (View.readAt (Elt Ideal) arg4.view (Rect.unit (s := S4x384) ![2, 0] S1x384.size inb_S4x384_S1x384_2_0).toLoadRect (harg4.unread x4)) (View.readAt (Elt Ideal) arg4.view (Rect.unit (s := S4x384) ![3, 0] S1x384.size inb_S4x384_S1x384_3_0).toLoadRect (harg4.unread x4)) (harg0.unread x0) (k0_pay32, k0_pay33, k0_pay34, k0_pay35) i

/-- The inputs of week `w` and day `k`, as a trip loads them. -/
theorem day (w : Fin 4) (k : Fin 50) (off : Fin 4 → ℕ) (inb : ∀ a, off a + S1x1x100x16.size a ≤ S4x50x100x16.size a) (hoff : off = ![w.val, k.val, 0, 0])
    (n : Fin 100) (d : Fin 16) :
    (View.readAt (Elt Ideal) arg0.view (Rect.unit (s := S4x50x100x16) off S1x1x100x16.size inb).toLoadRect (harg0.unread x0)) (ix4 0 0 n d) = x0 (ix4 w k n d) := by
  subst hoff
  rw [harg0.readAt_unread]
  refine congrArg x0 (funext fun a => Fin.ext ?_)
  fin_cases a <;> simp <;> rfl

theorem wt1_0 (d : Fin 16) (r : Fin 384) : kernelRun.sl.r c arg1 harg1 x1 (ix2 d r) = x1 (ix3 0 d r) := by
  unfold kernelRun.sl.r
  rw [pay16_apply, harg1.readAt_unread]
  pointwise
theorem wt2_0 (d : Fin 128) (r : Fin 384) : kernelRun.sl.r_4 c arg2 harg2 x2 (ix2 d r) = x2 (ix3 0 d r) := by
  unfold kernelRun.sl.r_4
  rw [pay20_apply, harg2.readAt_unread]
  pointwise
theorem wt3_0 (r : Fin 384) : kernelRun.sl.r_8 c arg3 harg3 x3 (ix1 r) = x3 (ix2 0 r) := by
  unfold kernelRun.sl.r_8
  rw [pay24_apply, harg3.readAt_unread]
  pointwise
theorem wt4_0 (r : Fin 384) : (kernelRun.sl.r_12 c arg4 harg4 x4) (ix1 r) = x4 (ix2 0 r) := by
  unfold kernelRun.sl.r_12
  rw [pay28_apply, harg4.readAt_unread]
  pointwise
theorem wt1_1 (d : Fin 16) (r : Fin 384) : kernelRun.sl.r_1 c arg1 harg1 x1 (ix2 d r) = x1 (ix3 1 d r) := by
  unfold kernelRun.sl.r_1
  rw [pay17_apply, harg1.readAt_unread]
  pointwise
theorem wt2_1 (d : Fin 128) (r : Fin 384) : kernelRun.sl.r_5 c arg2 harg2 x2 (ix2 d r) = x2 (ix3 1 d r) := by
  unfold kernelRun.sl.r_5
  rw [pay21_apply, harg2.readAt_unread]
  pointwise
theorem wt3_1 (r : Fin 384) : kernelRun.sl.r_9 c arg3 harg3 x3 (ix1 r) = x3 (ix2 1 r) := by
  unfold kernelRun.sl.r_9
  rw [pay25_apply, harg3.readAt_unread]
  pointwise
theorem wt4_1 (r : Fin 384) : (k0_pay29 (View.readAt (Elt Ideal) arg4.view (Rect.unit (s := S4x384) ![1, 0] S1x384.size inb_S4x384_S1x384_1_0).toLoadRect (harg4.unread x4))) (ix1 r) = x4 (ix2 1 r) := by
  rw [pay29_apply, harg4.readAt_unread]
  pointwise
theorem wt1_2 (d : Fin 16) (r : Fin 384) : kernelRun.sl.r_2 c arg1 harg1 x1 (ix2 d r) = x1 (ix3 2 d r) := by
  unfold kernelRun.sl.r_2
  rw [pay18_apply, harg1.readAt_unread]
  pointwise
theorem wt2_2 (d : Fin 128) (r : Fin 384) : kernelRun.sl.r_6 c arg2 harg2 x2 (ix2 d r) = x2 (ix3 2 d r) := by
  unfold kernelRun.sl.r_6
  rw [pay22_apply, harg2.readAt_unread]
  pointwise
theorem wt3_2 (r : Fin 384) : kernelRun.sl.r_10 c arg3 harg3 x3 (ix1 r) = x3 (ix2 2 r) := by
  unfold kernelRun.sl.r_10
  rw [pay26_apply, harg3.readAt_unread]
  pointwise
theorem wt4_2 (r : Fin 384) : (k0_pay30 (View.readAt (Elt Ideal) arg4.view (Rect.unit (s := S4x384) ![2, 0] S1x384.size inb_S4x384_S1x384_2_0).toLoadRect (harg4.unread x4))) (ix1 r) = x4 (ix2 2 r) := by
  rw [pay30_apply, harg4.readAt_unread]
  pointwise
theorem wt1_3 (d : Fin 16) (r : Fin 384) : kernelRun.sl.r_3 c arg1 harg1 x1 (ix2 d r) = x1 (ix3 3 d r) := by
  unfold kernelRun.sl.r_3
  rw [pay19_apply, harg1.readAt_unread]
  pointwise
theorem wt2_3 (d : Fin 128) (r : Fin 384) : kernelRun.sl.r_7 c arg2 harg2 x2 (ix2 d r) = x2 (ix3 3 d r) := by
  unfold kernelRun.sl.r_7
  rw [pay23_apply, harg2.readAt_unread]
  pointwise
theorem wt3_3 (r : Fin 384) : kernelRun.sl.r_11 c arg3 harg3 x3 (ix1 r) = x3 (ix2 3 r) := by
  unfold kernelRun.sl.r_11
  rw [pay27_apply, harg3.readAt_unread]
  pointwise
theorem wt4_3 (r : Fin 384) : (k0_pay31 (View.readAt (Elt Ideal) arg4.view (Rect.unit (s := S4x384) ![3, 0] S1x384.size inb_S4x384_S1x384_3_0).toLoadRect (harg4.unread x4))) (ix1 r) = x4 (ix2 3 r) := by
  rw [pay31_apply, harg4.readAt_unread]
  pointwise

theorem trip_carried (k : Fin 50) (acc : FVec Ideal S100x128 .f32 × FVec Ideal S100x128 .f32 × FVec Ideal S100x128 .f32 × FVec Ideal S100x128 .f32) :
    (trip_k0_t1 (F := Ideal) Variants.none c none arg0 harg0 arg1 harg1 arg2 harg2 arg3 harg3 arg4 harg4 arg5 harg5 arg6 harg6 arg7 harg7 arg8 harg8 (kernelRun.sl.r c arg1 harg1 x1) (kernelRun.sl.r_1 c arg1 harg1 x1) (kernelRun.sl.r_2 c arg1 harg1 x1) (kernelRun.sl.r_3 c arg1 harg1 x1) (kernelRun.sl.r_4 c arg2 harg2 x2) (kernelRun.sl.r_5 c arg2 harg2 x2) (kernelRun.sl.r_6 c arg2 harg2 x2) (kernelRun.sl.r_7 c arg2 harg2 x2) (kernelRun.sl.r_8 c arg3 harg3 x3) (kernelRun.sl.r_9 c arg3 harg3 x3) (kernelRun.sl.r_10 c arg3 harg3 x3) (kernelRun.sl.r_11 c arg3 harg3 x3) (kernelRun.sl.r_12 c arg4 harg4 x4) (View.readAt (Elt Ideal) arg4.view (Rect.unit (s := S4x384) ![1, 0] S1x384.size inb_S4x384_S1x384_1_0).toLoadRect (harg4.unread x4)) (View.readAt (Elt Ideal) arg4.view (Rect.unit (s := S4x384) ![2, 0] S1x384.size inb_S4x384_S1x384_2_0).toLoadRect (harg4.unread x4)) (View.readAt (Elt Ideal) arg4.view (Rect.unit (s := S4x384) ![3, 0] S1x384.size inb_S4x384_S1x384_3_0).toLoadRect (harg4.unread x4)) (harg0.unread x0) k).1 acc
      = (k0_pay2 (kernelRun.sl.r c arg1 harg1 x1) (kernelRun.sl.r_4 c arg2 harg2 x2) (kernelRun.sl.r_8 c arg3 harg3 x3) (kernelRun.sl.r_12 c arg4 harg4 x4) acc.1 (View.readAt (Elt Ideal) arg0.view (Rect.unit (s := S4x50x100x16) (k0_off1 k) S1x1x100x16.size (k0_off1_inb k)).toLoadRect (harg0.unread x0)),
         k0_pay6 (k0_pay29 (View.readAt (Elt Ideal) arg4.view (Rect.unit (s := S4x384) ![1, 0] S1x384.size inb_S4x384_S1x384_1_0).toLoadRect (harg4.unread x4))) acc.2.1 (k0_pay4 (kernelRun.sl.r_1 c arg1 harg1 x1) (kernelRun.sl.r_9 c arg3 harg3 x3) (View.readAt (Elt Ideal) arg0.view (Rect.unit (s := S4x50x100x16) (k0_off3 k) S1x1x100x16.size (k0_off3_inb k)).toLoadRect (harg0.unread x0))) (k0_pay5 (kernelRun.sl.r_5 c arg2 harg2 x2) acc.2.1),
         k0_pay12 acc.2.2.1 (k0_pay10 (kernelRun.sl.r_2 c arg1 harg1 x1) (kernelRun.sl.r_6 c arg2 harg2 x2) (kernelRun.sl.r_10 c arg3 harg3 x3) (k0_pay30 (View.readAt (Elt Ideal) arg4.view (Rect.unit (s := S4x384) ![2, 0] S1x384.size inb_S4x384_S1x384_2_0).toLoadRect (harg4.unread x4))) acc.2.2.1 (View.readAt (Elt Ideal) arg0.view (Rect.unit (s := S4x50x100x16) (k0_off5 k) S1x1x100x16.size (k0_off5_inb k)).toLoadRect (harg0.unread x0))) (k0_pay11 (kernelRun.sl.r_2 c arg1 harg1 x1) (kernelRun.sl.r_6 c arg2 harg2 x2) (kernelRun.sl.r_10 c arg3 harg3 x3) (k0_pay30 (View.readAt (Elt Ideal) arg4.view (Rect.unit (s := S4x384) ![2, 0] S1x384.size inb_S4x384_S1x384_2_0).toLoadRect (harg4.unread x4))) acc.2.2.1 (View.readAt (Elt Ideal) arg0.view (Rect.unit (s := S4x50x100x16) (k0_off5 k) S1x1x100x16.size (k0_off5_inb k)).toLoadRect (harg0.unread x0))),
         k0_pay14 (kernelRun.sl.r_3 c arg1 harg1 x1) (kernelRun.sl.r_7 c arg2 harg2 x2) (kernelRun.sl.r_11 c arg3 harg3 x3) (k0_pay31 (View.readAt (Elt Ideal) arg4.view (Rect.unit (s := S4x384) ![3, 0] S1x384.size inb_S4x384_S1x384_3_0).toLoadRect (harg4.unread x4))) acc.2.2.2 (View.readAt (Elt Ideal) arg0.view (Rect.unit (s := S4x50x100x16) (k0_off7 k) S1x1x100x16.size (k0_off7_inb k)).toLoadRect (harg0.unread x0))) := by
  unfold trip_k0_t1
  rfl

theorem trip_stored (k : Fin 50) (acc : FVec Ideal S100x128 .f32 × FVec Ideal S100x128 .f32 × FVec Ideal S100x128 .f32 × FVec Ideal S100x128 .f32) :
    (trip_k0_t1 (F := Ideal) Variants.none c none arg0 harg0 arg1 harg1 arg2 harg2 arg3 harg3 arg4 harg4 arg5 harg5 arg6 harg6 arg7 harg7 arg8 harg8 (kernelRun.sl.r c arg1 harg1 x1) (kernelRun.sl.r_1 c arg1 harg1 x1) (kernelRun.sl.r_2 c arg1 harg1 x1) (kernelRun.sl.r_3 c arg1 harg1 x1) (kernelRun.sl.r_4 c arg2 harg2 x2) (kernelRun.sl.r_5 c arg2 harg2 x2) (kernelRun.sl.r_6 c arg2 harg2 x2) (kernelRun.sl.r_7 c arg2 harg2 x2) (kernelRun.sl.r_8 c arg3 harg3 x3) (kernelRun.sl.r_9 c arg3 harg3 x3) (kernelRun.sl.r_10 c arg3 harg3 x3) (kernelRun.sl.r_11 c arg3 harg3 x3) (kernelRun.sl.r_12 c arg4 harg4 x4) (View.readAt (Elt Ideal) arg4.view (Rect.unit (s := S4x384) ![1, 0] S1x384.size inb_S4x384_S1x384_1_0).toLoadRect (harg4.unread x4)) (View.readAt (Elt Ideal) arg4.view (Rect.unit (s := S4x384) ![2, 0] S1x384.size inb_S4x384_S1x384_2_0).toLoadRect (harg4.unread x4)) (View.readAt (Elt Ideal) arg4.view (Rect.unit (s := S4x384) ![3, 0] S1x384.size inb_S4x384_S1x384_3_0).toLoadRect (harg4.unread x4)) (harg0.unread x0) k).2.1 acc
      = [⟨Rect.unit (s := S4x50x100x128) (k0_off8 k) S1x1x100x128.size (k0_off8_inb k), k0_pay15 (kernelRun.sl.r_3 c arg1 harg1 x1) (kernelRun.sl.r_7 c arg2 harg2 x2) (kernelRun.sl.r_11 c arg3 harg3 x3) (k0_pay31 (View.readAt (Elt Ideal) arg4.view (Rect.unit (s := S4x384) ![3, 0] S1x384.size inb_S4x384_S1x384_3_0).toLoadRect (harg4.unread x4))) acc.2.2.2 (View.readAt (Elt Ideal) arg0.view (Rect.unit (s := S4x50x100x16) (k0_off7 k) S1x1x100x16.size (k0_off7_inb k)).toLoadRect (harg0.unread x0))⟩,
         ⟨Rect.unit (s := S4x50x100x128) (k0_off6 k) S1x1x100x128.size (k0_off6_inb k), k0_pay13 acc.2.2.1 (k0_pay10 (kernelRun.sl.r_2 c arg1 harg1 x1) (kernelRun.sl.r_6 c arg2 harg2 x2) (kernelRun.sl.r_10 c arg3 harg3 x3) (k0_pay30 (View.readAt (Elt Ideal) arg4.view (Rect.unit (s := S4x384) ![2, 0] S1x384.size inb_S4x384_S1x384_2_0).toLoadRect (harg4.unread x4))) acc.2.2.1 (View.readAt (Elt Ideal) arg0.view (Rect.unit (s := S4x50x100x16) (k0_off5 k) S1x1x100x16.size (k0_off5_inb k)).toLoadRect (harg0.unread x0))) (k0_pay11 (kernelRun.sl.r_2 c arg1 harg1 x1) (kernelRun.sl.r_6 c arg2 harg2 x2) (kernelRun.sl.r_10 c arg3 harg3 x3) (k0_pay30 (View.readAt (Elt Ideal) arg4.view (Rect.unit (s := S4x384) ![2, 0] S1x384.size inb_S4x384_S1x384_2_0).toLoadRect (harg4.unread x4))) acc.2.2.1 (View.readAt (Elt Ideal) arg0.view (Rect.unit (s := S4x50x100x16) (k0_off5 k) S1x1x100x16.size (k0_off5_inb k)).toLoadRect (harg0.unread x0)))⟩,
         ⟨Rect.unit (s := S4x50x100x128) (k0_off4 k) S1x1x100x128.size (k0_off4_inb k), k0_pay7 (k0_pay29 (View.readAt (Elt Ideal) arg4.view (Rect.unit (s := S4x384) ![1, 0] S1x384.size inb_S4x384_S1x384_1_0).toLoadRect (harg4.unread x4))) acc.2.1 (k0_pay4 (kernelRun.sl.r_1 c arg1 harg1 x1) (kernelRun.sl.r_9 c arg3 harg3 x3) (View.readAt (Elt Ideal) arg0.view (Rect.unit (s := S4x50x100x16) (k0_off3 k) S1x1x100x16.size (k0_off3_inb k)).toLoadRect (harg0.unread x0))) (k0_pay5 (kernelRun.sl.r_5 c arg2 harg2 x2) acc.2.1)⟩,
         ⟨Rect.unit (s := S4x50x100x128) (k0_off2 k) S1x1x100x128.size (k0_off2_inb k), k0_pay3 (kernelRun.sl.r c arg1 harg1 x1) (kernelRun.sl.r_4 c arg2 harg2 x2) (kernelRun.sl.r_8 c arg3 harg3 x3) (kernelRun.sl.r_12 c arg4 harg4 x4) acc.1 (View.readAt (Elt Ideal) arg0.view (Rect.unit (s := S4x50x100x16) (k0_off1 k) S1x1x100x16.size (k0_off1_inb k)).toLoadRect (harg0.unread x0))⟩] := by
  unfold trip_k0_t1
  rfl

theorem lst_succ (k : Fin 50) :
    (lst c harg0 harg1 harg2 harg3 harg4 harg5 harg6 harg7 harg8 (x0 := x0) (x1 := x1) (x2 := x2) (x3 := x3) (x4 := x4) (k.val + 1))
      = ((trip_k0_t1 (F := Ideal) Variants.none c none arg0 harg0 arg1 harg1 arg2 harg2 arg3 harg3 arg4 harg4 arg5 harg5 arg6 harg6 arg7 harg7 arg8 harg8 (kernelRun.sl.r c arg1 harg1 x1) (kernelRun.sl.r_1 c arg1 harg1 x1) (kernelRun.sl.r_2 c arg1 harg1 x1) (kernelRun.sl.r_3 c arg1 harg1 x1) (kernelRun.sl.r_4 c arg2 harg2 x2) (kernelRun.sl.r_5 c arg2 harg2 x2) (kernelRun.sl.r_6 c arg2 harg2 x2) (kernelRun.sl.r_7 c arg2 harg2 x2) (kernelRun.sl.r_8 c arg3 harg3 x3) (kernelRun.sl.r_9 c arg3 harg3 x3) (kernelRun.sl.r_10 c arg3 harg3 x3) (kernelRun.sl.r_11 c arg3 harg3 x3) (kernelRun.sl.r_12 c arg4 harg4 x4) (View.readAt (Elt Ideal) arg4.view (Rect.unit (s := S4x384) ![1, 0] S1x384.size inb_S4x384_S1x384_1_0).toLoadRect (harg4.unread x4)) (View.readAt (Elt Ideal) arg4.view (Rect.unit (s := S4x384) ![2, 0] S1x384.size inb_S4x384_S1x384_2_0).toLoadRect (harg4.unread x4)) (View.readAt (Elt Ideal) arg4.view (Rect.unit (s := S4x384) ![3, 0] S1x384.size inb_S4x384_S1x384_3_0).toLoadRect (harg4.unread x4)) (harg0.unread x0) k).1 (lst c harg0 harg1 harg2 harg3 harg4 harg5 harg6 harg7 harg8 (x0 := x0) (x1 := x1) (x2 := x2) (x3 := x3) (x4 := x4) k.val).1,
         (trip_k0_t1 (F := Ideal) Variants.none c none arg0 harg0 arg1 harg1 arg2 harg2 arg3 harg3 arg4 harg4 arg5 harg5 arg6 harg6 arg7 harg7 arg8 harg8 (kernelRun.sl.r c arg1 harg1 x1) (kernelRun.sl.r_1 c arg1 harg1 x1) (kernelRun.sl.r_2 c arg1 harg1 x1) (kernelRun.sl.r_3 c arg1 harg1 x1) (kernelRun.sl.r_4 c arg2 harg2 x2) (kernelRun.sl.r_5 c arg2 harg2 x2) (kernelRun.sl.r_6 c arg2 harg2 x2) (kernelRun.sl.r_7 c arg2 harg2 x2) (kernelRun.sl.r_8 c arg3 harg3 x3) (kernelRun.sl.r_9 c arg3 harg3 x3) (kernelRun.sl.r_10 c arg3 harg3 x3) (kernelRun.sl.r_11 c arg3 harg3 x3) (kernelRun.sl.r_12 c arg4 harg4 x4) (View.readAt (Elt Ideal) arg4.view (Rect.unit (s := S4x384) ![1, 0] S1x384.size inb_S4x384_S1x384_1_0).toLoadRect (harg4.unread x4)) (View.readAt (Elt Ideal) arg4.view (Rect.unit (s := S4x384) ![2, 0] S1x384.size inb_S4x384_S1x384_2_0).toLoadRect (harg4.unread x4)) (View.readAt (Elt Ideal) arg4.view (Rect.unit (s := S4x384) ![3, 0] S1x384.size inb_S4x384_S1x384_3_0).toLoadRect (harg4.unread x4)) (harg0.unread x0) k).2.1 (lst c harg0 harg1 harg2 harg3 harg4 harg5 harg6 harg7 harg8 (x0 := x0) (x1 := x1) (x2 := x2) (x3 := x3) (x4 := x4) k.val).1 ++ (lst c harg0 harg1 harg2 harg3 harg4 harg5 harg6 harg7 harg8 (x0 := x0) (x1 := x1) (x2 := x2) (x3 := x3) (x4 := x4) k.val).2) :=
  st_k0_t1_succ ..

theorem H_succ (w : Fin 4) (n : Fin 100) (k : Fin 50) :
    H x0 x1 x2 x3 x4 w n (k.val + 1)
      = cell (fun d r => x1 (ix3 w d r)) (fun d r => x2 (ix3 w d r)) (fun r => x3 (ix2 w r)) (fun r => x4 (ix2 w r))
          (fun d => x0 (ix4 w k n d)) (H x0 x1 x2 x3 x4 w n k.val) := by
  unfold H
  rw [hid]
  congr 1
  funext d
  exact dif_pos k.isLt

theorem step_0 (k : Fin 50) (h : FVec Ideal S100x128 .f32) (n : Fin 100) (hh : ∀ j : Fin 128, h (ix2 n j) = H x0 x1 x2 x3 x4 0 n k.val j) (j : Fin 128) :
    k0_pay2 (kernelRun.sl.r c arg1 harg1 x1) (kernelRun.sl.r_4 c arg2 harg2 x2) (kernelRun.sl.r_8 c arg3 harg3 x3) (kernelRun.sl.r_12 c arg4 harg4 x4) h (View.readAt (Elt Ideal) arg0.view (Rect.unit (s := S4x50x100x16) (k0_off1 k) S1x1x100x16.size (k0_off1_inb k)).toLoadRect (harg0.unread x0)) (ix2 n j) = H x0 x1 x2 x3 x4 0 n (k.val + 1) j := by
  rw [week0_apply, H_succ]
  exact cell_congr (fun d r => wt1_0 c harg1 d r) (fun d r => wt2_0 c harg2 d r) (fun r => wt3_0 c harg3 r) (fun r => wt4_0 c harg4 r) (fun d => day harg0 0 k _ _ (k0_off1_eq k) n d) hh j

theorem store_0 (k : Fin 50) (h : FVec Ideal S100x128 .f32) (n : Fin 100) (hh : ∀ j : Fin 128, h (ix2 n j) = H x0 x1 x2 x3 x4 0 n k.val j) (j : Fin 128) :
    k0_pay3 (kernelRun.sl.r c arg1 harg1 x1) (kernelRun.sl.r_4 c arg2 harg2 x2) (kernelRun.sl.r_8 c arg3 harg3 x3) (kernelRun.sl.r_12 c arg4 harg4 x4) h (View.readAt (Elt Ideal) arg0.view (Rect.unit (s := S4x50x100x16) (k0_off1 k) S1x1x100x16.size (k0_off1_inb k)).toLoadRect (harg0.unread x0)) (ix4 0 0 n j) = H x0 x1 x2 x3 x4 0 n (k.val + 1) j := by
  rw [week0_stored, H_succ]
  exact cell_congr (fun d r => wt1_0 c harg1 d r) (fun d r => wt2_0 c harg2 d r) (fun r => wt3_0 c harg3 r) (fun r => wt4_0 c harg4 r) (fun d => day harg0 0 k _ _ (k0_off1_eq k) n d) hh j

theorem step_1 (k : Fin 50) (h : FVec Ideal S100x128 .f32) (n : Fin 100) (hh : ∀ j : Fin 128, h (ix2 n j) = H x0 x1 x2 x3 x4 1 n k.val j) (j : Fin 128) :
    k0_pay6 (k0_pay29 (View.readAt (Elt Ideal) arg4.view (Rect.unit (s := S4x384) ![1, 0] S1x384.size inb_S4x384_S1x384_1_0).toLoadRect (harg4.unread x4))) h (k0_pay4 (kernelRun.sl.r_1 c arg1 harg1 x1) (kernelRun.sl.r_9 c arg3 harg3 x3) (View.readAt (Elt Ideal) arg0.view (Rect.unit (s := S4x50x100x16) (k0_off3 k) S1x1x100x16.size (k0_off3_inb k)).toLoadRect (harg0.unread x0))) (k0_pay5 (kernelRun.sl.r_5 c arg2 harg2 x2) h) (ix2 n j) = H x0 x1 x2 x3 x4 1 n (k.val + 1) j := by
  rw [week1_apply, H_succ]
  exact cell_congr (fun d r => wt1_1 c harg1 d r) (fun d r => wt2_1 c harg2 d r) (fun r => wt3_1 c harg3 r) (fun r => wt4_1 harg4 r) (fun d => day harg0 1 k _ _ (k0_off3_eq k) n d) hh j

theorem store_1 (k : Fin 50) (h : FVec Ideal S100x128 .f32) (n : Fin 100) (hh : ∀ j : Fin 128, h (ix2 n j) = H x0 x1 x2 x3 x4 1 n k.val j) (j : Fin 128) :
    k0_pay7 (k0_pay29 (View.readAt (Elt Ideal) arg4.view (Rect.unit (s := S4x384) ![1, 0] S1x384.size inb_S4x384_S1x384_1_0).toLoadRect (harg4.unread x4))) h (k0_pay4 (kernelRun.sl.r_1 c arg1 harg1 x1) (kernelRun.sl.r_9 c arg3 harg3 x3) (View.readAt (Elt Ideal) arg0.view (Rect.unit (s := S4x50x100x16) (k0_off3 k) S1x1x100x16.size (k0_off3_inb k)).toLoadRect (harg0.unread x0))) (k0_pay5 (kernelRun.sl.r_5 c arg2 harg2 x2) h) (ix4 0 0 n j) = H x0 x1 x2 x3 x4 1 n (k.val + 1) j := by
  rw [week1_stored, H_succ]
  exact cell_congr (fun d r => wt1_1 c harg1 d r) (fun d r => wt2_1 c harg2 d r) (fun r => wt3_1 c harg3 r) (fun r => wt4_1 harg4 r) (fun d => day harg0 1 k _ _ (k0_off3_eq k) n d) hh j

theorem step_2 (k : Fin 50) (h : FVec Ideal S100x128 .f32) (n : Fin 100) (hh : ∀ j : Fin 128, h (ix2 n j) = H x0 x1 x2 x3 x4 2 n k.val j) (j : Fin 128) :
    k0_pay12 h (k0_pay10 (kernelRun.sl.r_2 c arg1 harg1 x1) (kernelRun.sl.r_6 c arg2 harg2 x2) (kernelRun.sl.r_10 c arg3 harg3 x3) (k0_pay30 (View.readAt (Elt Ideal) arg4.view (Rect.unit (s := S4x384) ![2, 0] S1x384.size inb_S4x384_S1x384_2_0).toLoadRect (harg4.unread x4))) h (View.readAt (Elt Ideal) arg0.view (Rect.unit (s := S4x50x100x16) (k0_off5 k) S1x1x100x16.size (k0_off5_inb k)).toLoadRect (harg0.unread x0))) (k0_pay11 (kernelRun.sl.r_2 c arg1 harg1 x1) (kernelRun.sl.r_6 c arg2 harg2 x2) (kernelRun.sl.r_10 c arg3 harg3 x3) (k0_pay30 (View.readAt (Elt Ideal) arg4.view (Rect.unit (s := S4x384) ![2, 0] S1x384.size inb_S4x384_S1x384_2_0).toLoadRect (harg4.unread x4))) h (View.readAt (Elt Ideal) arg0.view (Rect.unit (s := S4x50x100x16) (k0_off5 k) S1x1x100x16.size (k0_off5_inb k)).toLoadRect (harg0.unread x0))) (ix2 n j) = H x0 x1 x2 x3 x4 2 n (k.val + 1) j := by
  rw [week2_apply, H_succ]
  exact cell_congr (fun d r => wt1_2 c harg1 d r) (fun d r => wt2_2 c harg2 d r) (fun r => wt3_2 c harg3 r) (fun r => wt4_2 harg4 r) (fun d => day harg0 2 k _ _ (k0_off5_eq k) n d) hh j

theorem store_2 (k : Fin 50) (h : FVec Ideal S100x128 .f32) (n : Fin 100) (hh : ∀ j : Fin 128, h (ix2 n j) = H x0 x1 x2 x3 x4 2 n k.val j) (j : Fin 128) :
    k0_pay13 h (k0_pay10 (kernelRun.sl.r_2 c arg1 harg1 x1) (kernelRun.sl.r_6 c arg2 harg2 x2) (kernelRun.sl.r_10 c arg3 harg3 x3) (k0_pay30 (View.readAt (Elt Ideal) arg4.view (Rect.unit (s := S4x384) ![2, 0] S1x384.size inb_S4x384_S1x384_2_0).toLoadRect (harg4.unread x4))) h (View.readAt (Elt Ideal) arg0.view (Rect.unit (s := S4x50x100x16) (k0_off5 k) S1x1x100x16.size (k0_off5_inb k)).toLoadRect (harg0.unread x0))) (k0_pay11 (kernelRun.sl.r_2 c arg1 harg1 x1) (kernelRun.sl.r_6 c arg2 harg2 x2) (kernelRun.sl.r_10 c arg3 harg3 x3) (k0_pay30 (View.readAt (Elt Ideal) arg4.view (Rect.unit (s := S4x384) ![2, 0] S1x384.size inb_S4x384_S1x384_2_0).toLoadRect (harg4.unread x4))) h (View.readAt (Elt Ideal) arg0.view (Rect.unit (s := S4x50x100x16) (k0_off5 k) S1x1x100x16.size (k0_off5_inb k)).toLoadRect (harg0.unread x0))) (ix4 0 0 n j) = H x0 x1 x2 x3 x4 2 n (k.val + 1) j := by
  rw [week2_stored, H_succ]
  exact cell_congr (fun d r => wt1_2 c harg1 d r) (fun d r => wt2_2 c harg2 d r) (fun r => wt3_2 c harg3 r) (fun r => wt4_2 harg4 r) (fun d => day harg0 2 k _ _ (k0_off5_eq k) n d) hh j

theorem step_3 (k : Fin 50) (h : FVec Ideal S100x128 .f32) (n : Fin 100) (hh : ∀ j : Fin 128, h (ix2 n j) = H x0 x1 x2 x3 x4 3 n k.val j) (j : Fin 128) :
    k0_pay14 (kernelRun.sl.r_3 c arg1 harg1 x1) (kernelRun.sl.r_7 c arg2 harg2 x2) (kernelRun.sl.r_11 c arg3 harg3 x3) (k0_pay31 (View.readAt (Elt Ideal) arg4.view (Rect.unit (s := S4x384) ![3, 0] S1x384.size inb_S4x384_S1x384_3_0).toLoadRect (harg4.unread x4))) h (View.readAt (Elt Ideal) arg0.view (Rect.unit (s := S4x50x100x16) (k0_off7 k) S1x1x100x16.size (k0_off7_inb k)).toLoadRect (harg0.unread x0)) (ix2 n j) = H x0 x1 x2 x3 x4 3 n (k.val + 1) j := by
  rw [week3_apply, H_succ]
  exact cell_congr (fun d r => wt1_3 c harg1 d r) (fun d r => wt2_3 c harg2 d r) (fun r => wt3_3 c harg3 r) (fun r => wt4_3 harg4 r) (fun d => day harg0 3 k _ _ (k0_off7_eq k) n d) hh j

theorem store_3 (k : Fin 50) (h : FVec Ideal S100x128 .f32) (n : Fin 100) (hh : ∀ j : Fin 128, h (ix2 n j) = H x0 x1 x2 x3 x4 3 n k.val j) (j : Fin 128) :
    k0_pay15 (kernelRun.sl.r_3 c arg1 harg1 x1) (kernelRun.sl.r_7 c arg2 harg2 x2) (kernelRun.sl.r_11 c arg3 harg3 x3) (k0_pay31 (View.readAt (Elt Ideal) arg4.view (Rect.unit (s := S4x384) ![3, 0] S1x384.size inb_S4x384_S1x384_3_0).toLoadRect (harg4.unread x4))) h (View.readAt (Elt Ideal) arg0.view (Rect.unit (s := S4x50x100x16) (k0_off7 k) S1x1x100x16.size (k0_off7_inb k)).toLoadRect (harg0.unread x0)) (ix4 0 0 n j) = H x0 x1 x2 x3 x4 3 n (k.val + 1) j := by
  rw [week3_stored, H_succ]
  exact cell_congr (fun d r => wt1_3 c harg1 d r) (fun d r => wt2_3 c harg2 d r) (fun r => wt3_3 c harg3 r) (fun r => wt4_3 harg4 r) (fun d => day harg0 3 k _ _ (k0_off7_eq k) n d) hh j

/-- Before trip `i` the carried states are the recurrence's. -/
theorem lst_carried : ∀ i : ℕ, i ≤ 50 → ∀ (n : Fin 100) (j : Fin 128),
    (lst c harg0 harg1 harg2 harg3 harg4 harg5 harg6 harg7 harg8 (x0 := x0) (x1 := x1) (x2 := x2) (x3 := x3) (x4 := x4) i).1.1 (ix2 n j) = H x0 x1 x2 x3 x4 0 n i j
      ∧ (lst c harg0 harg1 harg2 harg3 harg4 harg5 harg6 harg7 harg8 (x0 := x0) (x1 := x1) (x2 := x2) (x3 := x3) (x4 := x4) i).1.2.1 (ix2 n j) = H x0 x1 x2 x3 x4 1 n i j
      ∧ (lst c harg0 harg1 harg2 harg3 harg4 harg5 harg6 harg7 harg8 (x0 := x0) (x1 := x1) (x2 := x2) (x3 := x3) (x4 := x4) i).1.2.2.1 (ix2 n j) = H x0 x1 x2 x3 x4 2 n i j
      ∧ (lst c harg0 harg1 harg2 harg3 harg4 harg5 harg6 harg7 harg8 (x0 := x0) (x1 := x1) (x2 := x2) (x3 := x3) (x4 := x4) i).1.2.2.2 (ix2 n j) = H x0 x1 x2 x3 x4 3 n i j
  | 0, _, n, j => by
    unfold H
    exact ⟨pay32_apply n j, pay33_apply n j, pay34_apply n j, pay35_apply n j⟩
  | i + 1, hi, n, j => by
    have ih := lst_carried i (by omega)
    have e := lst_succ c harg0 harg1 harg2 harg3 harg4 harg5 harg6 harg7 harg8 (x0 := x0) (x1 := x1) (x2 := x2) (x3 := x3) (x4 := x4) ⟨i, by omega⟩
    rw [trip_carried] at e
    have e1 := congrArg Prod.fst e
    dsimp only at e1
    rw [e1]
    exact ⟨step_0 c harg0 harg1 harg2 harg3 harg4 ⟨i, by omega⟩ _ n (fun j => (ih n j).1) j, step_1 c harg0 harg1 harg2 harg3 harg4 ⟨i, by omega⟩ _ n (fun j => (ih n j).2.1) j, step_2 c harg0 harg1 harg2 harg3 harg4 ⟨i, by omega⟩ _ n (fun j => (ih n j).2.2.1) j,
      step_3 c harg0 harg1 harg2 harg3 harg4 ⟨i, by omega⟩ _ n (fun j => (ih n j).2.2.2) j⟩

theorem lst_succ_stored (k : Fin 50) :
    (lst c harg0 harg1 harg2 harg3 harg4 harg5 harg6 harg7 harg8 (x0 := x0) (x1 := x1) (x2 := x2) (x3 := x3) (x4 := x4) (k.val + 1)).2
      = [⟨Rect.unit (s := S4x50x100x128) (k0_off8 k) S1x1x100x128.size (k0_off8_inb k), k0_pay15 (kernelRun.sl.r_3 c arg1 harg1 x1) (kernelRun.sl.r_7 c arg2 harg2 x2) (kernelRun.sl.r_11 c arg3 harg3 x3) (k0_pay31 (View.readAt (Elt Ideal) arg4.view (Rect.unit (s := S4x384) ![3, 0] S1x384.size inb_S4x384_S1x384_3_0).toLoadRect (harg4.unread x4))) (lst c harg0 harg1 harg2 harg3 harg4 harg5 harg6 harg7 harg8 (x0 := x0) (x1 := x1) (x2 := x2) (x3 := x3) (x4 := x4) k.val).1.2.2.2 (View.readAt (Elt Ideal) arg0.view (Rect.unit (s := S4x50x100x16) (k0_off7 k) S1x1x100x16.size (k0_off7_inb k)).toLoadRect (harg0.unread x0))⟩,
         ⟨Rect.unit (s := S4x50x100x128) (k0_off6 k) S1x1x100x128.size (k0_off6_inb k), k0_pay13 (lst c harg0 harg1 harg2 harg3 harg4 harg5 harg6 harg7 harg8 (x0 := x0) (x1 := x1) (x2 := x2) (x3 := x3) (x4 := x4) k.val).1.2.2.1 (k0_pay10 (kernelRun.sl.r_2 c arg1 harg1 x1) (kernelRun.sl.r_6 c arg2 harg2 x2) (kernelRun.sl.r_10 c arg3 harg3 x3) (k0_pay30 (View.readAt (Elt Ideal) arg4.view (Rect.unit (s := S4x384) ![2, 0] S1x384.size inb_S4x384_S1x384_2_0).toLoadRect (harg4.unread x4))) (lst c harg0 harg1 harg2 harg3 harg4 harg5 harg6 harg7 harg8 (x0 := x0) (x1 := x1) (x2 := x2) (x3 := x3) (x4 := x4) k.val).1.2.2.1 (View.readAt (Elt Ideal) arg0.view (Rect.unit (s := S4x50x100x16) (k0_off5 k) S1x1x100x16.size (k0_off5_inb k)).toLoadRect (harg0.unread x0))) (k0_pay11 (kernelRun.sl.r_2 c arg1 harg1 x1) (kernelRun.sl.r_6 c arg2 harg2 x2) (kernelRun.sl.r_10 c arg3 harg3 x3) (k0_pay30 (View.readAt (Elt Ideal) arg4.view (Rect.unit (s := S4x384) ![2, 0] S1x384.size inb_S4x384_S1x384_2_0).toLoadRect (harg4.unread x4))) (lst c harg0 harg1 harg2 harg3 harg4 harg5 harg6 harg7 harg8 (x0 := x0) (x1 := x1) (x2 := x2) (x3 := x3) (x4 := x4) k.val).1.2.2.1 (View.readAt (Elt Ideal) arg0.view (Rect.unit (s := S4x50x100x16) (k0_off5 k) S1x1x100x16.size (k0_off5_inb k)).toLoadRect (harg0.unread x0)))⟩,
         ⟨Rect.unit (s := S4x50x100x128) (k0_off4 k) S1x1x100x128.size (k0_off4_inb k), k0_pay7 (k0_pay29 (View.readAt (Elt Ideal) arg4.view (Rect.unit (s := S4x384) ![1, 0] S1x384.size inb_S4x384_S1x384_1_0).toLoadRect (harg4.unread x4))) (lst c harg0 harg1 harg2 harg3 harg4 harg5 harg6 harg7 harg8 (x0 := x0) (x1 := x1) (x2 := x2) (x3 := x3) (x4 := x4) k.val).1.2.1 (k0_pay4 (kernelRun.sl.r_1 c arg1 harg1 x1) (kernelRun.sl.r_9 c arg3 harg3 x3) (View.readAt (Elt Ideal) arg0.view (Rect.unit (s := S4x50x100x16) (k0_off3 k) S1x1x100x16.size (k0_off3_inb k)).toLoadRect (harg0.unread x0))) (k0_pay5 (kernelRun.sl.r_5 c arg2 harg2 x2) (lst c harg0 harg1 harg2 harg3 harg4 harg5 harg6 harg7 harg8 (x0 := x0) (x1 := x1) (x2 := x2) (x3 := x3) (x4 := x4) k.val).1.2.1)⟩,
         ⟨Rect.unit (s := S4x50x100x128) (k0_off2 k) S1x1x100x128.size (k0_off2_inb k), k0_pay3 (kernelRun.sl.r c arg1 harg1 x1) (kernelRun.sl.r_4 c arg2 harg2 x2) (kernelRun.sl.r_8 c arg3 harg3 x3) (kernelRun.sl.r_12 c arg4 harg4 x4) (lst c harg0 harg1 harg2 harg3 harg4 harg5 harg6 harg7 harg8 (x0 := x0) (x1 := x1) (x2 := x2) (x3 := x3) (x4 := x4) k.val).1.1 (View.readAt (Elt Ideal) arg0.view (Rect.unit (s := S4x50x100x16) (k0_off1 k) S1x1x100x16.size (k0_off1_inb k)).toLoadRect (harg0.unread x0))⟩] ++ (lst c harg0 harg1 harg2 harg3 harg4 harg5 harg6 harg7 harg8 (x0 := x0) (x1 := x1) (x2 := x2) (x3 := x3) (x4 := x4) k.val).2 := by
  rw [lst_succ, trip_stored]

/-- Before trip `i` the scratch array holds the hidden states of the days before. -/
theorem lst_stored (f : arg8.view.ty.Contents (Elt Ideal)) : ∀ i : ℕ, i ≤ 50 → ∀ (w : Fin 4) (t : Fin 50) (n : Fin 100) (j : Fin 128), t.val < i →
    arg8.view.read (Elt Ideal) (arg8.view.writes (Elt Ideal) f (lst c harg0 harg1 harg2 harg3 harg4 harg5 harg6 harg7 harg8 (x0 := x0) (x1 := x1) (x2 := x2) (x3 := x3) (x4 := x4) i).2) (ix4 w t n j) = H x0 x1 x2 x3 x4 w n (t.val + 1) j
  | 0, _, w, t, n, j, ht => absurd ht (Nat.not_lt_zero _)
  | i + 1, hi, w, t, n, j, ht => by
    have ih := lst_stored f i (by omega)
    have hc := lst_carried c harg0 harg1 harg2 harg3 harg4 harg5 harg6 harg7 harg8 (x0 := x0) (x1 := x1) (x2 := x2) (x3 := x3) (x4 := x4) i (by omega)
    rw [lst_succ_stored c harg0 harg1 harg2 harg3 harg4 harg5 harg6 harg7 harg8 (x0 := x0) (x1 := x1) (x2 := x2) (x3 := x3) (x4 := x4) ⟨i, by omega⟩]
    by_cases hti : t.val = i
    · subst hti
      fin_cases w
      · refine (View.read_writes_cons_unit_of_not_mem _ _ _ _ _ _ (k0_off8_eq t) 0 (Or.inl (by simp))).trans ?_
        refine (View.read_writes_cons_unit_of_not_mem _ _ _ _ _ _ (k0_off6_eq t) 0 (Or.inl (by simp))).trans ?_
        refine (View.read_writes_cons_unit_of_not_mem _ _ _ _ _ _ (k0_off4_eq t) 0 (Or.inl (by simp))).trans ?_
        refine (View.read_writes_cons_unit_of_mem _ _ _ _ _ _ (ix4 0 0 n j) (k0_off2_eq t) (fun a => by fin_cases a <;> simp <;> rfl)).trans ?_
        exact store_0 c harg0 harg1 harg2 harg3 harg4 t _ n (fun j => (hc n j).1) j
      · refine (View.read_writes_cons_unit_of_not_mem _ _ _ _ _ _ (k0_off8_eq t) 0 (Or.inl (by simp))).trans ?_
        refine (View.read_writes_cons_unit_of_not_mem _ _ _ _ _ _ (k0_off6_eq t) 0 (Or.inl (by simp))).trans ?_
        refine (View.read_writes_cons_unit_of_mem _ _ _ _ _ _ (ix4 0 0 n j) (k0_off4_eq t) (fun a => by fin_cases a <;> simp <;> rfl)).trans ?_
        exact store_1 c harg0 harg1 harg2 harg3 harg4 t _ n (fun j => (hc n j).2.1) j
      · refine (View.read_writes_cons_unit_of_not_mem _ _ _ _ _ _ (k0_off8_eq t) 0 (Or.inl (by simp))).trans ?_
        refine (View.read_writes_cons_unit_of_mem _ _ _ _ _ _ (ix4 0 0 n j) (k0_off6_eq t) (fun a => by fin_cases a <;> simp <;> rfl)).trans ?_
        exact store_2 c harg0 harg1 harg2 harg3 harg4 t _ n (fun j => (hc n j).2.2.1) j
      · refine (View.read_writes_cons_unit_of_mem _ _ _ _ _ _ (ix4 0 0 n j) (k0_off8_eq t) (fun a => by fin_cases a <;> simp <;> rfl)).trans ?_
        exact store_3 c harg0 harg1 harg2 harg3 harg4 t _ n (fun j => (hc n j).2.2.2) j
    · have hlt : t.val < i := by omega
      rw [← ih w t n j hlt]
      refine (View.read_writes_cons_unit_of_not_mem _ _ _ _ _ _ (k0_off8_eq (⟨i, by omega⟩ : Fin 50)) 1 (Or.inl hlt)).trans ?_
      refine (View.read_writes_cons_unit_of_not_mem _ _ _ _ _ _ (k0_off6_eq (⟨i, by omega⟩ : Fin 50)) 1 (Or.inl hlt)).trans ?_
      refine (View.read_writes_cons_unit_of_not_mem _ _ _ _ _ _ (k0_off4_eq (⟨i, by omega⟩ : Fin 50)) 1 (Or.inl hlt)).trans ?_
      refine (View.read_writes_cons_unit_of_not_mem _ _ _ _ _ _ (k0_off2_eq (⟨i, by omega⟩ : Fin 50)) 1 (Or.inl hlt)).trans ?_
      rfl

end Cert.EncoderIdeal.Gen

end
-- ==== Proof.EncRes.lean ====
/- The encoder's result after one run of its body: each row is the pooling of the week's hidden states. -/
module

public import proofs.«01_k».proof.Proof.EncVal

@[expose] public section

set_option maxRecDepth 16384

noncomputable section

namespace Cert.EncoderIdeal.Gen

open Idealize.ShloMosaic Idealize.ShloMosaic.TcCoe Cert.Spec

/-- The result array as one function of the inputs. -/
def resVal (x0 : Vec Ideal S4x50x100x16 .f32) (x1 : Vec Ideal S4x16x384 .f32) (x2 : Vec Ideal S4x128x384 .f32) (x3 x4 : Vec Ideal S4x384 .f32)
    (x5 : Vec Ideal S4x50x50 .f32) (x6 : Vec Ideal S4x50x1 .f32) : Vec Ideal S4x12800 .f32 :=
  fun y => encVal x0 x1 x2 x3 x4 x5 x6 (y 0) ⟨(y 1).val / 128, by have := (y 1).isLt; change _ < 12800 at this; omega⟩ ⟨(y 1).val % 128, by omega⟩

variable (c : Dev nD) {arg0 : Memref sig .tc .vmem S4x50x100x16 .f32} (harg0 : arg0.IsWhole) {arg1 : Memref sig .tc .vmem S4x16x384 .f32} (harg1 : arg1.IsWhole) {arg2 : Memref sig .tc .vmem S4x128x384 .f32} (harg2 : arg2.IsWhole) {arg3 : Memref sig .tc .vmem S4x384 .f32} (harg3 : arg3.IsWhole) {arg4 : Memref sig .tc .vmem S4x384 .f32} (harg4 : arg4.IsWhole) {arg5 : Memref sig .tc .vmem S4x50x50 .f32} (harg5 : arg5.IsWhole) {arg6 : Memref sig .tc .vmem S4x50x1 .f32} (harg6 : arg6.IsWhole) {arg7 : Memref sig .tc .vmem S4x12800 .f32} (harg7 : arg7.IsWhole) {arg8 : Memref sig .tc .vmem S4x50x100x128 .f32} (harg8 : arg8.IsWhole)
    {x0 : Vec Ideal S4x50x100x16 .f32} {x1 : Vec Ideal S4x16x384 .f32} {x2 : Vec Ideal S4x128x384 .f32} {x3 : Vec Ideal S4x384 .f32} {x4 : Vec Ideal S4x384 .f32} {x5 : Vec Ideal S4x50x50 .f32} {x6 : Vec Ideal S4x50x1 .f32} {x7 : Vec Ideal S4x12800 .f32} {x8 : Vec Ideal S4x50x100x128 .f32}

/-- A week's part of the scratch, read back after the loop, holds its hidden states. -/
theorem slab (f : arg8.view.ty.Contents (Elt Ideal)) (w : Fin 4) (off : Fin 4 → ℕ) (inb : ∀ a, off a + S1x50x100x128.size a ≤ S4x50x100x128.size a)
    (hoff : off = ![w.val, 0, 0, 0]) (t : Fin 50) (n : Fin 100) (j : Fin 128) :
    (View.readAt (Elt Ideal) arg8.view (Rect.unit (s := S4x50x100x128) off S1x50x100x128.size inb).toLoadRect (arg8.view.writes (Elt Ideal) f (lst c harg0 harg1 harg2 harg3 harg4 harg5 harg6 harg7 harg8 (x0 := x0) (x1 := x1) (x2 := x2) (x3 := x3) (x4 := x4) 50).2)) (ix4 0 t n j) = H x0 x1 x2 x3 x4 w n (t.val + 1) j := by
  subst hoff
  rw [← lst_stored c harg0 harg1 harg2 harg3 harg4 harg5 harg6 harg7 harg8 f 50 (le_refl _) w t n j t.isLt]
  refine congrArg (arg8.view.read (Elt Ideal) (arg8.view.writes (Elt Ideal) f _)) (funext fun a => Fin.ext ?_)
  fin_cases a <;> simp <;> rfl

/-- A week's pooling weights, as the kernel reads them. -/
theorem attW (w : Fin 4) (off : Fin 3 → ℕ) (inb : ∀ a, off a + S1x50x50.size a ≤ S4x50x50.size a) (hoff : off = ![w.val, 0, 0]) (t s : Fin 50) :
    (View.readAt (Elt Ideal) arg5.view (Rect.unit (s := S4x50x50) off S1x50x50.size inb).toLoadRect (harg5.unread x5)) (ix3 0 t s) = x5 (ix3 w t s) := by
  subst hoff
  rw [harg5.readAt_unread]
  refine congrArg x5 (funext fun a => Fin.ext ?_)
  fin_cases a <;> simp <;> rfl

/-- Its biases. -/
theorem attb (w : Fin 4) (off : Fin 3 → ℕ) (inb : ∀ a, off a + S1x50x1.size a ≤ S4x50x1.size a) (hoff : off = ![w.val, 0, 0]) (t : Fin 50) :
    (View.readAt (Elt Ideal) arg6.view (Rect.unit (s := S4x50x1) off S1x50x1.size inb).toLoadRect (harg6.unread x6)) (ix3 0 t 0) = x6 (ix3 w t 0) := by
  subst hoff
  rw [harg6.readAt_unread]
  refine congrArg x6 (funext fun a => Fin.ext ?_)
  fin_cases a <;> simp <;> rfl

theorem trips_eq : Scf.trips k0_t1_loop.lb k0_t1_loop.ub k0_t1_loop.st = 50 := by decide +kernel

theorem resVal_apply (w : Fin 4) (n : Fin 100) (j : Fin 128) :
    resVal x0 x1 x2 x3 x4 x5 x6 (ix2 w ⟨128 * n.val + j.val, by omega⟩) = encVal x0 x1 x2 x3 x4 x5 x6 w n j := by
  have h1 : (128 * n.val + j.val) / 128 = n.val := by omega
  have h2 : (128 * n.val + j.val) % 128 = j.val := by omega
  show encVal x0 x1 x2 x3 x4 x5 x6 w ⟨(128 * n.val + j.val) / 128, _⟩ ⟨(128 * n.val + j.val) % 128, _⟩ = _
  congr 1 <;> exact Fin.ext (by assumption)

/-- One run of the body leaves the result array's value, whatever the result and the scratch held before. -/
theorem kernelRun_val : (kernelRun (F := Ideal) c arg0 harg0 arg1 harg1 arg2 harg2 arg3 harg3 arg4 harg4 arg5 harg5 arg6 harg6 arg7 harg7 arg8 harg8 x0 x1 x2 x3 x4 x5 x6 x7 x8).1 = resVal x0 x1 x2 x3 x4 x5 x6 := by
  funext y
  obtain ⟨w, q, rfl⟩ : ∃ (w : Fin 4) (q : Fin 12800), y = ix2 w q := ⟨y 0, y 1, by funext a; fin_cases a <;> rfl⟩
  obtain ⟨n, j, rfl⟩ : ∃ (n : Fin 100) (j : Fin 128), q = ⟨128 * n.val + j.val, by omega⟩ :=
    ⟨⟨q.val / 128, by omega⟩, ⟨q.val % 128, by omega⟩, Fin.ext (by show q.val = 128 * (q.val / 128) + q.val % 128; omega)⟩
  rw [resVal_apply]
  unfold kernelRun encVal
  fin_cases w
  · refine (View.read_writes_cons_unit_of_not_mem _ _ _ _ _ _ rfl 0 (Or.inl (by simp))).trans ?_
    refine (View.read_writes_cons_unit_of_not_mem _ _ _ _ _ _ rfl 0 (Or.inl (by simp))).trans ?_
    refine (View.read_writes_cons_unit_of_not_mem _ _ _ _ _ _ rfl 0 (Or.inl (by simp))).trans ?_
    refine (View.read_writes_cons_unit_of_mem _ _ _ _ _ _ (ix2 0 ⟨128 * n.val + j.val, by omega⟩) rfl (fun a => by fin_cases a <;> simp <;> rfl)).trans ?_
    unfold kernelRun.sl.r_13
    rw [pool0_apply]
    exact pooled_congr (fun t s => attW harg5 0 _ _ rfl t s) (fun t => attb harg6 0 _ _ rfl t) (fun t => slab c harg0 harg1 harg2 harg3 harg4 harg5 harg6 harg7 harg8 _ 0 _ _ rfl t n j)
  · refine (View.read_writes_cons_unit_of_not_mem _ _ _ _ _ _ rfl 0 (Or.inl (by simp))).trans ?_
    refine (View.read_writes_cons_unit_of_not_mem _ _ _ _ _ _ rfl 0 (Or.inl (by simp))).trans ?_
    refine (View.read_writes_cons_unit_of_mem _ _ _ _ _ _ (ix2 0 ⟨128 * n.val + j.val, by omega⟩) rfl (fun a => by fin_cases a <;> simp <;> rfl)).trans ?_
    unfold kernelRun.sl.v61
    rw [pool1_apply]
    exact pooled_congr (fun t s => attW harg5 1 _ _ rfl t s) (fun t => attb harg6 1 _ _ rfl t) (fun t => slab c harg0 harg1 harg2 harg3 harg4 harg5 harg6 harg7 harg8 _ 1 _ _ rfl t n j)
  · refine (View.read_writes_cons_unit_of_not_mem _ _ _ _ _ _ rfl 0 (Or.inl (by simp))).trans ?_
    refine (View.read_writes_cons_unit_of_mem _ _ _ _ _ _ (ix2 0 ⟨128 * n.val + j.val, by omega⟩) rfl (fun a => by fin_cases a <;> simp <;> rfl)).trans ?_
    unfold kernelRun.sl.r_14 kernelRun.sl.r_15
    rw [pool2_apply]
    exact pooled_congr (fun t s => attW harg5 2 _ _ rfl t s) (fun t => attb harg6 2 _ _ rfl t) (fun t => slab c harg0 harg1 harg2 harg3 harg4 harg5 harg6 harg7 harg8 _ 2 _ _ rfl t n j)
  · refine (View.read_writes_cons_unit_of_mem _ _ _ _ _ _ (ix2 0 ⟨128 * n.val + j.val, by omega⟩) rfl (fun a => by fin_cases a <;> simp <;> rfl)).trans ?_
    unfold kernelRun.sl.r_16
    rw [pool3_apply]
    exact pooled_congr (fun t s => attW harg5 3 _ _ rfl t s) (fun t => attb harg6 3 _ _ rfl t) (fun t => slab c harg0 harg1 harg2 harg3 harg4 harg5 harg6 harg7 harg8 _ 3 _ _ rfl t n j)

end Cert.EncoderIdeal.Gen

end
-- ==== Proof.EncIdealFrame.lean ====
/- The encoder's run with its constants named: every input ends as it began, and the result ends at the value the body's run
   leaves in it (`resVal`, of the blocks of the inputs). -/
module

public import proofs.«01_k».proof.Proof.EncRes
public import Idealize.ShloMosaic.Lib.Pipeline.FrameBody
public import Idealize.ShloMosaic.Lib.Pipeline.Frame
public import Idealize.ShloMosaic.Lib.Claim
public import Idealize.ShloMosaic.Lib.Pipeline.FrameValue
public import Idealize.ShloMosaic.Lib.Pipeline.ValueKit

@[expose] public section

set_option maxRecDepth 16384

noncomputable section

namespace Cert.EncoderIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The buffer that stages operand 0 at point `t`. -/
abbrev ms0_0 (t : Fin cfg0.N) : Memref sig .tc .vmem S4x50x100x16 .f32 := win0_0.stage (cfg0.slots t 0)
/-- The buffer that stages operand 1 at point `t`. -/
abbrev ms0_1 (t : Fin cfg0.N) : Memref sig .tc .vmem S4x16x384 .f32 := win0_1.stage (cfg0.slots t 1)
/-- The buffer that stages operand 2 at point `t`. -/
abbrev ms0_2 (t : Fin cfg0.N) : Memref sig .tc .vmem S4x128x384 .f32 := win0_2.stage (cfg0.slots t 2)
/-- The buffer that stages operand 3 at point `t`. -/
abbrev ms0_3 (t : Fin cfg0.N) : Memref sig .tc .vmem S4x384 .f32 := win0_3.stage (cfg0.slots t 3)
/-- The buffer that stages operand 4 at point `t`. -/
abbrev ms0_4 (t : Fin cfg0.N) : Memref sig .tc .vmem S4x384 .f32 := win0_4.stage (cfg0.slots t 4)
/-- The buffer that stages operand 5 at point `t`. -/
abbrev ms0_5 (t : Fin cfg0.N) : Memref sig .tc .vmem S4x50x50 .f32 := win0_5.stage (cfg0.slots t 5)
/-- The buffer that stages operand 6 at point `t`. -/
abbrev ms0_6 (t : Fin cfg0.N) : Memref sig .tc .vmem S4x50x1 .f32 := win0_6.stage (cfg0.slots t 6)
/-- The buffer that stages operand 7 at point `t`. -/
abbrev ms0_7 (t : Fin cfg0.N) : Memref sig .tc .vmem S4x12800 .f32 := win0_7.stage (cfg0.slots t 7)

/-- The scratch array. -/
abbrev scM0_0 : Memref sig .tc .vmem S4x50x100x128 .f32 := Memref.whole cc0_scratch0

/-- What the body may use beside its operands: the scratch array at some contents and the generator register. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- Before the body each operand's buffer holds its block; after it the result holds `resVal` of the blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => resVal (iblk m c 0 t) (iblk m c 1 t) (iblk m c 2 t) (iblk m c 3 t) (iblk m c 4 t) (iblk m c 5 t) (iblk m c 6 t)
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = resVal (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hv := kernelRun_val c (hstage0_0 0 : (ms0_0 t).IsWhole) (hstage0_1 0 : (ms0_1 t).IsWhole) (hstage0_2 0 : (ms0_2 t).IsWhole) (hstage0_3 0 : (ms0_3 t).IsWhole) (hstage0_4 0 : (ms0_4 t).IsWhole) (hstage0_5 0 : (ms0_5 t).IsWhole) (hstage0_6 0 : (ms0_6 t).IsWhole) (hstage0_7 0 : (ms0_7 t).IsWhole) (Memref.isWhole_whole cc0_scratch0) (x0 := iblk m c 0 t) (x1 := iblk m c 1 t) (x2 := iblk m c 2 t) (x3 := iblk m c 3 t) (x4 := iblk m c 4 t) (x5 := iblk m c 5 t) (x6 := iblk m c 6 t) (x7 := (dats m 0 c).before 7 t d7) (x8 := s0)
  iapply ((kernelRun c (ms0_0 t) (hstage0_0 0) (ms0_1 t) (hstage0_1 0) (ms0_2 t) (hstage0_2 0) (ms0_3 t) (hstage0_3 0) (ms0_4 t) (hstage0_4 0) (ms0_5 t) (hstage0_5 0) (ms0_6 t) (hstage0_6 0) (ms0_7 t) (hstage0_7 0) scM0_0 (Memref.isWhole_whole _) (iblk m c 0 t) (iblk m c 1 t) (iblk m c 2 t) (iblk m c 3 t) (iblk m c 4 t) (iblk m c 5 t) (iblk m c 6 t) ((dats m 0 c).before 7 t d7) s0).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [← hv]
  iexact H7

/-- The body the launch calls at point `t` is the body above. -/
theorem defs₀_row (t : Fin cfg0.N) :
    defs₀ (F := Ideal) .tc cfg0.body (cfg0.bodyArgs t (cfg0.slots t)) = bodyAt0 t := by
  unfold defs₀; rw [Defs.onTc_tc]

set_option maxHeartbeats 4000000 in
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 4000000 in
/-- The launch. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim: the arguments end as they began, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result array after the launch: `resVal` of the blocks at the grid's one point. -/
theorem arr_val (c : Dev nD) : (dats m 0 c).arrAt 7 (cfgs 0).N = resVal (iblk m c 0 t0_0) (iblk m c 1 t0_0) (iblk m c 2 t0_0) (iblk m c 3 t0_0) (iblk m c 4 t0_0) (iblk m c 5 t0_0) (iblk m c 6 t0_0) := by
  refine (dats m 0 c).arrAt_eq_of_after_last 7 t0_0 (by decide +kernel) _ fun j => ?_
  blk_simp
  rw [after0_7]

end Cert.EncoderIdeal.Gen

end
-- ==== Proof.EncRefLists.lean ====
/- The encoder reference's host operations as lists, stretch by stretch, and its program and its loop body as the chains
   of those stretches. -/
module

public import proofs.«01_k».proof.Proof.Gen.EncoderReferenceIdeal
public import Idealize.ShloMosaic.Lib.StableHlo.RunLoop
public import Idealize.ShloMosaic.Lib.Tactic

@[expose] public section

set_option maxRecDepth 16384

noncomputable section

namespace Cert.EncoderReferenceIdeal.Gen

open Idealize.ShloMosaic Idealize.ShloMosaic.TcCoe Idealize.ShloMosaic.Tactic Idealize.ShloMosaic.StableHlo
open Idealize.SL Idealize.SL.Sem

variable {F : FTy → Type} [FloatOps F]

/-- The contents of a buffer of shape `s` and element type `e`. -/
abbrev Arr (F : FTy → Type) (s : Shape) (e : EltTy) := (⟨s, e⟩ : BufTy).Contents (Elt F)

/-- 21 host operations of @main, in order. -/
abbrev hostOps0 : List (HloOp τ sig (Elt F)) :=
  [ unary main_arg0 main_v0 (broadcastInDim S1x100x50x16 ![1, 2, 3] bcast_S100x50x16_S1x100x50x16_1_2_3 : Arr F S100x50x16 .f32 → Arr F S1x100x50x16 .f32),
    unary main_arg1 main_v1 (broadcastInDim S1x100x50x16 ![1, 2, 3] bcast_S100x50x16_S1x100x50x16_1_2_3 : Arr F S100x50x16 .f32 → Arr F S1x100x50x16 .f32),
    unary main_arg2 main_v2 (broadcastInDim S1x100x50x16 ![1, 2, 3] bcast_S100x50x16_S1x100x50x16_1_2_3 : Arr F S100x50x16 .f32 → Arr F S1x100x50x16 .f32),
    unary main_arg3 main_v3 (broadcastInDim S1x100x50x16 ![1, 2, 3] bcast_S100x50x16_S1x100x50x16_1_2_3 : Arr F S100x50x16 .f32 → Arr F S1x100x50x16 .f32),
    nary ![main_v0, main_v1, main_v2, main_v3] main_v4 (fun u => (concatenate S4x100x50x16 0 [⟨S1x100x50x16, (u 0 : Arr F S1x100x50x16 .f32)⟩, ⟨S1x100x50x16, (u 1 : Arr F S1x100x50x16 .f32)⟩, ⟨S1x100x50x16, (u 2 : Arr F S1x100x50x16 .f32)⟩, ⟨S1x100x50x16, (u 3 : Arr F S1x100x50x16 .f32)⟩] concatenates_S1x100x50x16_S1x100x50x16_S1x100x50x16_S1x100x50x16_S4x100x50x16_d0 : Arr F S4x100x50x16 .f32)),
    unary main_v4 main_v5 ((transpose S4x50x100x16 [0, 2, 1, 3] · transposes_S4x100x50x16_S4x50x100x16_0_2_1_3) : Arr F S4x100x50x16 .f32 → Arr F S4x50x100x16 .f32),
    nullary main_cst (constant S_ .f32 0x00000000#32),
    unary main_cst main_v6 (broadcastInDim S100x128 ![] bcast_S_S100x128 : Arr F S_ .f32 → Arr F S100x128 .f32),
    unary main_v6 main_v7 (broadcastInDim S4x100x128 ![1, 2] bcast_S100x128_S4x100x128_1_2 : Arr F S100x128 .f32 → Arr F S4x100x128 .f32),
    unary main_v5 main_v8 ((transpose S50x4x100x16 [1, 0, 2, 3] · transposes_S4x50x100x16_S50x4x100x16_1_0_2_3) : Arr F S4x50x100x16 .f32 → Arr F S50x4x100x16 .f32),
    nullary main_cst_0 (constant S_ .f32 0x00000000#32),
    unary main_cst_0 main_v9 (broadcastInDim S50x4x100x128 ![] bcast_S_S50x4x100x128 : Arr F S_ .f32 → Arr F S50x4x100x128 .f32),
    nullary main_c (constantI S_ 32 0#32),
    unary main_v8 main_v10_0 id,
    unary main_arg4 main_v10_1 id,
    unary main_arg6 main_v10_2 id,
    unary main_arg5 main_v10_3 id,
    unary main_arg7 main_v10_4 id,
    unary main_c main_v10_5 id,
    unary main_v7 main_v10_6 id,
    unary main_v9 main_v10_7 id ]
theorem hostOps0_sub : (hostOps0 : List (HloOp τ sig (Elt F))).Forall fun op => op.bufs ⊆ tcRefs τ sig :=
  ⟨unary_bufs_sub .., unary_bufs_sub .., unary_bufs_sub .., unary_bufs_sub .., nary_bufs_sub .., unary_bufs_sub .., nullary_bufs_sub .., unary_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
/-- 27 host operations of @main, in order. -/
abbrev hostOps0_1 : List (HloOp τ sig (Elt F)) :=
  [ unary main_v10_7 main_v11 ((transpose S4x50x100x128 [1, 0, 2, 3] · transposes_S50x4x100x128_S4x50x100x128_1_0_2_3) : Arr F S50x4x100x128 .f32 → Arr F S4x50x100x128 .f32),
    unary main_v11 main_v12 ((transpose S4x100x50x128 [0, 2, 1, 3] · transposes_S4x50x100x128_S4x100x50x128_0_2_1_3) : Arr F S4x50x100x128 .f32 → Arr F S4x100x50x128 .f32),
    unary main_v12 main_v13 ((transpose S4x100x128x50 [0, 1, 3, 2] · transposes_S4x100x50x128_S4x100x128x50_0_1_3_2) : Arr F S4x100x50x128 .f32 → Arr F S4x100x128x50 .f32),
    unary main_arg8 main_v14 ((transpose S4x50x50 [0, 2, 1] · transposes_S4x50x50_S4x50x50_0_2_1) : Arr F S4x50x50 .f32 → Arr F S4x50x50 .f32),
    binary main_v13 main_v14 main_v15 ((fun l r => Host.dotGeneral dot_S4x100x128x50_S4x50x50_S4x100x128x50_3_1_12_2_0_0 none l r) : Arr F S4x100x128x50 .f32 → Arr F S4x50x50 .f32 → Arr F S4x100x128x50 .f32),
    unary main_arg9 main_v16 (broadcastInDim S4x1x1x50 ![0, 3] bcast_S4x50_S4x1x1x50_0_3 : Arr F S4x50 .f32 → Arr F S4x1x1x50 .f32),
    unary main_v16 main_v17 (broadcastInDim S4x100x128x50 ![0, 1, 2, 3] bcast_S4x1x1x50_S4x100x128x50_0_1_2_3 : Arr F S4x1x1x50 .f32 → Arr F S4x100x128x50 .f32),
    binary main_v15 main_v17 main_v18 (addf : Arr F S4x100x128x50 .f32 → Arr F S4x100x128x50 .f32 → Arr F S4x100x128x50 .f32),
    nullary main_cst_1 (constant S_ .f32 0xFF800000#32),
    binary main_v18 main_cst_1 main_v19 ((fun x v => Host.reduce FloatOps.maximumf x v reducesTo_S4x100x128x50_S4x100x128_d3 h_S_) : Arr F S4x100x128x50 .f32 → Arr F S_ .f32 → Arr F S4x100x128 .f32),
    nullary main_cst_2 (constant S_ .f32 0xFF800000#32),
    unary main_cst_2 main_v20 (broadcastInDim S4x100x128 ![] bcast_S_S4x100x128 : Arr F S_ .f32 → Arr F S4x100x128 .f32),
    binary main_v20 main_v19 main_v21 (maximumf : Arr F S4x100x128 .f32 → Arr F S4x100x128 .f32 → Arr F S4x100x128 .f32),
    unary main_v21 main_v22 (broadcastInDim S4x100x128x1 ![0, 1, 2] bcast_S4x100x128_S4x100x128x1_0_1_2 : Arr F S4x100x128 .f32 → Arr F S4x100x128x1 .f32),
    unary main_v22 main_v23 (broadcastInDim S4x100x128x50 ![0, 1, 2, 3] bcast_S4x100x128x1_S4x100x128x50_0_1_2_3 : Arr F S4x100x128x1 .f32 → Arr F S4x100x128x50 .f32),
    binary main_v18 main_v23 main_v24 (subf : Arr F S4x100x128x50 .f32 → Arr F S4x100x128x50 .f32 → Arr F S4x100x128x50 .f32),
    unary main_v24 main_v25 (Host.exp : Arr F S4x100x128x50 .f32 → Arr F S4x100x128x50 .f32),
    nullary main_cst_3 (constant S_ .f32 0x00000000#32),
    binary main_v25 main_cst_3 main_v26 ((fun x v => Host.reduceAdd x v reducesTo_S4x100x128x50_S4x100x128_d3 h_S_) : Arr F S4x100x128x50 .f32 → Arr F S_ .f32 → Arr F S4x100x128 .f32),
    unary main_v26 main_v27 (broadcastInDim S4x100x128x1 ![0, 1, 2] bcast_S4x100x128_S4x100x128x1_0_1_2 : Arr F S4x100x128 .f32 → Arr F S4x100x128x1 .f32),
    unary main_v27 main_v28 (broadcastInDim S4x100x128x50 ![0, 1, 2, 3] bcast_S4x100x128x1_S4x100x128x50_0_1_2_3 : Arr F S4x100x128x1 .f32 → Arr F S4x100x128x50 .f32),
    binary main_v25 main_v28 main_v29 (Host.divf : Arr F S4x100x128x50 .f32 → Arr F S4x100x128x50 .f32 → Arr F S4x100x128x50 .f32),
    unary main_v29 main_v30 ((transpose S4x100x50x128 [0, 1, 3, 2] · transposes_S4x100x128x50_S4x100x50x128_0_1_3_2) : Arr F S4x100x128x50 .f32 → Arr F S4x100x50x128 .f32),
    binary main_v30 main_v12 main_v31 (mulf : Arr F S4x100x50x128 .f32 → Arr F S4x100x50x128 .f32 → Arr F S4x100x50x128 .f32),
    nullary main_cst_4 (constant S_ .f32 0x00000000#32),
    binary main_v31 main_cst_4 main_v32 ((fun x v => Host.reduceAdd x v reducesTo_S4x100x50x128_S4x100x128_d2 h_S_) : Arr F S4x100x50x128 .f32 → Arr F S_ .f32 → Arr F S4x100x128 .f32),
    reshape main_v32 main_v33 (rfl : (.f32 : EltTy) = .f32) shapeCasts_S4x100x128_S4x12800 ]
theorem hostOps0_1_sub : (hostOps0_1 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub .., reshape_bufs_sub ..⟩
/-- These statements are the stretches below, in order. -/
theorem main_chain (c : Dev nD) : main (F := F) c = (Pipeline.chain
  [ seq hostOps0,
    HostLoop.enter 0,
    seq hostOps0_1 ] : Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons]
  chain_rfl

-- no `main_segs` (the loop-free kit's `Seg.run` equation) for this @main: it has a host loop; a certificate takes `main_chain` (Lib/Pipeline/RegionsLoop.lean)

/-- 5 host operations of @dynamic_index_in_dim (main_while0b_call0), in order. -/
abbrev while0Ops0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.unaryIndexed (.of main_v10_0 : TRef sig ⟨S50x4x100x16, .f32⟩) ![(.of main_v10_5 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩)] (.of main_while0b_call0_v0 : TRef sig ⟨S1x4x100x16, .f32⟩) (fun x i => Host.dynamicSlice S1x4x100x16 x (fun k => (i k (Shape.Idx.first h_S_)).toInt) sliceFits_S50x4x100x16_S1x4x100x16),
    TRef.reshape (.of main_while0b_call0_v0 : TRef sig ⟨S1x4x100x16, .f32⟩) (.of main_while0b_v34 : TRef sig ⟨S4x100x16, .f32⟩) (rfl : (.f32 : EltTy) = .f32) shapeCasts_S1x4x100x16_S4x100x16 ]
theorem while0Ops0_sub : (while0Ops0 : List (HloOp τ sig (Elt F))).Forall fun op => op.bufs ⊆ tcRefs τ sig :=
  ⟨nullary_bufs_sub .., nullary_bufs_sub .., nullary_bufs_sub .., unaryIndexed_bufs_sub .., reshape_bufs_sub ..⟩
/-- 43 host operations of host loop 0's body region, in order. -/
abbrev while0Ops0_1 : List (HloOp τ sig (Elt F)) :=
  ( unary main_v10_1 main_while0b_v35 ((transpose S4x16x384 [0, 2, 1] · transposes_S4x384x16_S4x16x384_0_2_1) : Arr F S4x384x16 .f32 → Arr F S4x16x384 .f32)
  :: binary main_while0b_v34 main_while0b_v35 main_while0b_v36 ((fun l r => Host.dotGeneral dot_S4x100x16_S4x16x384_S4x100x384_2_1_1_2_0_0 none l r) : Arr F S4x100x16 .f32 → Arr F S4x16x384 .f32 → Arr F S4x100x384 .f32)
  :: unary main_v10_2 main_while0b_v37 (broadcastInDim S4x1x384 ![0, 2] bcast_S4x384_S4x1x384_0_2 : Arr F S4x384 .f32 → Arr F S4x1x384 .f32)
  :: unary main_while0b_v37 main_while0b_v38 (broadcastInDim S4x100x384 ![0, 1, 2] bcast_S4x1x384_S4x100x384_0_1_2 : Arr F S4x1x384 .f32 → Arr F S4x100x384 .f32)
  :: binary main_while0b_v36 main_while0b_v38 main_while0b_v39 (addf : Arr F S4x100x384 .f32 → Arr F S4x100x384 .f32 → Arr F S4x100x384 .f32)
  :: unary main_v10_3 main_while0b_v40 ((transpose S4x128x384 [0, 2, 1] · transposes_S4x384x128_S4x128x384_0_2_1) : Arr F S4x384x128 .f32 → Arr F S4x128x384 .f32)
  :: binary main_v10_6 main_while0b_v40 main_while0b_v41 ((fun l r => Host.dotGeneral dot_S4x100x128_S4x128x384_S4x100x384_2_1_1_2_0_0 none l r) : Arr F S4x100x128 .f32 → Arr F S4x128x384 .f32 → Arr F S4x100x384 .f32)
  :: unary main_v10_4 main_while0b_v42 (broadcastInDim S4x1x384 ![0, 2] bcast_S4x384_S4x1x384_0_2 : Arr F S4x384 .f32 → Arr F S4x1x384 .f32)
  :: unary main_while0b_v42 main_while0b_v43 (broadcastInDim S4x100x384 ![0, 1, 2] bcast_S4x1x384_S4x100x384_0_1_2 : Arr F S4x1x384 .f32 → Arr F S4x100x384 .f32)
  :: binary main_while0b_v41 main_while0b_v43 main_while0b_v44 (addf : Arr F S4x100x384 .f32 → Arr F S4x100x384 .f32 → Arr F S4x100x384 .f32)
  :: unary main_while0b_v39 main_while0b_v45 ((extractStridedSlice S4x100x128 ![0, 0, 0] · slices_S4x100x384_S4x100x128_0_0_0) : Arr F S4x100x384 .f32 → Arr F S4x100x128 .f32)
  :: unary main_while0b_v39 main_while0b_v46 ((extractStridedSlice S4x100x128 ![0, 0, 128] · slices_S4x100x384_S4x100x128_0_0_128) : Arr F S4x100x384 .f32 → Arr F S4x100x128 .f32)
  :: unary main_while0b_v39 main_while0b_v47 ((extractStridedSlice S4x100x128 ![0, 0, 256] · slices_S4x100x384_S4x100x128_0_0_256) : Arr F S4x100x384 .f32 → Arr F S4x100x128 .f32)
  :: unary main_while0b_v44 main_while0b_v48 ((extractStridedSlice S4x100x128 ![0, 0, 0] · slices_S4x100x384_S4x100x128_0_0_0) : Arr F S4x100x384 .f32 → Arr F S4x100x128 .f32)
  :: unary main_while0b_v44 main_while0b_v49 ((extractStridedSlice S4x100x128 ![0, 0, 128] · slices_S4x100x384_S4x100x128_0_0_128) : Arr F S4x100x384 .f32 → Arr F S4x100x128 .f32)
  :: unary main_while0b_v44 main_while0b_v50 ((extractStridedSlice S4x100x128 ![0, 0, 256] · slices_S4x100x384_S4x100x128_0_0_256) : Arr F S4x100x384 .f32 → Arr F S4x100x128 .f32)
  :: binary main_while0b_v45 main_while0b_v48 main_while0b_v51 (addf : Arr F S4x100x128 .f32 → Arr F S4x100x128 .f32 → Arr F S4x100x128 .f32)
  :: unary main_while0b_v51 main_while0b_v52 (Host.negf : Arr F S4x100x128 .f32 → Arr F S4x100x128 .f32)
  :: unary main_while0b_v52 main_while0b_v53 (Host.exp : Arr F S4x100x128 .f32 → Arr F S4x100x128 .f32)
  :: nullary main_while0b_cst_12 (constant S_ .f32 0x3F800000#32)
  :: unary main_while0b_cst_12 main_while0b_v54 (broadcastInDim S4x100x128 ![] bcast_S_S4x100x128 : Arr F S_ .f32 → Arr F S4x100x128 .f32)
  :: binary main_while0b_v54 main_while0b_v53 main_while0b_v55 (addf : Arr F S4x100x128 .f32 → Arr F S4x100x128 .f32 → Arr F S4x100x128 .f32)
  :: nullary main_while0b_cst_13 (constant S_ .f32 0x3F800000#32)
  :: unary main_while0b_cst_13 main_while0b_v56 (broadcastInDim S4x100x128 ![] bcast_S_S4x100x128 : Arr F S_ .f32 → Arr F S4x100x128 .f32)
  :: binary main_while0b_v56 main_while0b_v55 main_while0b_v57 (Host.divf : Arr F S4x100x128 .f32 → Arr F S4x100x128 .f32 → Arr F S4x100x128 .f32)
  :: binary main_while0b_v46 main_while0b_v49 main_while0b_v58 (addf : Arr F S4x100x128 .f32 → Arr F S4x100x128 .f32 → Arr F S4x100x128 .f32)
  :: unary main_while0b_v58 main_while0b_v59 (Host.negf : Arr F S4x100x128 .f32 → Arr F S4x100x128 .f32)
  :: unary main_while0b_v59 main_while0b_v60 (Host.exp : Arr F S4x100x128 .f32 → Arr F S4x100x128 .f32)
  :: nullary main_while0b_cst_14 (constant S_ .f32 0x3F800000#32)
  :: unary main_while0b_cst_14 main_while0b_v61 (broadcastInDim S4x100x128 ![] bcast_S_S4x100x128 : Arr F S_ .f32 → Arr F S4x100x128 .f32)
  :: binary main_while0b_v61 main_while0b_v60 main_while0b_v62 (addf : Arr F S4x100x128 .f32 → Arr F S4x100x128 .f32 → Arr F S4x100x128 .f32)
  :: nullary main_while0b_cst_15 (constant S_ .f32 0x3F800000#32)
  :: unary main_while0b_cst_15 main_while0b_v63 (broadcastInDim S4x100x128 ![] bcast_S_S4x100x128 : Arr F S_ .f32 → Arr F S4x100x128 .f32)
  :: binary main_while0b_v63 main_while0b_v62 main_while0b_v64 (Host.divf : Arr F S4x100x128 .f32 → Arr F S4x100x128 .f32 → Arr F S4x100x128 .f32)
  :: binary main_while0b_v57 main_while0b_v50 main_while0b_v65 (mulf : Arr F S4x100x128 .f32 → Arr F S4x100x128 .f32 → Arr F S4x100x128 .f32)
  :: binary main_while0b_v47 main_while0b_v65 main_while0b_v66 (addf : Arr F S4x100x128 .f32 → Arr F S4x100x128 .f32 → Arr F S4x100x128 .f32)
  :: unary main_while0b_v66 main_while0b_v67 (Host.tanh : Arr F S4x100x128 .f32 → Arr F S4x100x128 .f32)
  :: nullary main_while0b_cst_16 (constant S_ .f32 0x3F800000#32)
  :: unary main_while0b_cst_16 main_while0b_v68 (broadcastInDim S4x100x128 ![] bcast_S_S4x100x128 : Arr F S_ .f32 → Arr F S4x100x128 .f32)
  :: binary main_while0b_v68 main_while0b_v64 main_while0b_v69 (subf : Arr F S4x100x128 .f32 → Arr F S4x100x128 .f32 → Arr F S4x100x128 .f32)
  :: binary main_while0b_v69 main_while0b_v67 main_while0b_v70 (mulf : Arr F S4x100x128 .f32 → Arr F S4x100x128 .f32 → Arr F S4x100x128 .f32)
  :: binary main_while0b_v64 main_v10_6 main_while0b_v71 (mulf : Arr F S4x100x128 .f32 → Arr F S4x100x128 .f32 → Arr F S4x100x128 .f32)
  :: binary main_while0b_v70 main_while0b_v71 main_while0b_v72 (addf : Arr F S4x100x128 .f32 → Arr F S4x100x128 .f32 → Arr F S4x100x128 .f32)
  :: [] )
theorem while0Ops0_1_sub : (while0Ops0_1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- 5 host operations of @dynamic_update_index_in_dim (main_while0b_call1), in order. -/
abbrev while0Ops0_2 : List (HloOp τ sig (Elt F)) :=
  [ TRef.unary (.of main_while0b_v72 : TRef sig ⟨S4x100x128, .f32⟩) (.of main_while0b_call1_v0 : TRef sig ⟨S1x4x100x128, .f32⟩) (broadcastInDim S1x4x100x128 ![1, 2, 3] bcast_S4x100x128_S1x4x100x128_1_2_3),
    TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.binaryIndexed (.of main_v10_7 : TRef sig ⟨S50x4x100x128, .f32⟩) (.of main_while0b_call1_v0 : TRef sig ⟨S1x4x100x128, .f32⟩) ![(.of main_v10_5 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_v73 : TRef sig ⟨S50x4x100x128, .f32⟩) (fun x u i => Host.dynamicUpdateSlice x u (fun k => (i k (Shape.Idx.first h_S_)).toInt) updateFits_S50x4x100x128_S1x4x100x128) ]
theorem while0Ops0_2_sub : (while0Ops0_2 : List (HloOp τ sig (Elt F))).Forall fun op => op.bufs ⊆ tcRefs τ sig :=
  ⟨unary_bufs_sub .., nullary_bufs_sub .., nullary_bufs_sub .., nullary_bufs_sub .., binaryIndexed_bufs_sub ..⟩
/-- 5 host operations of host loop 0's body region, in order. -/
abbrev while0Ops0_3 : List (HloOp τ sig (Elt F)) :=
  [ nullary main_while0b_c_17 (constantI S_ 32 1#32),
    binary main_v10_5 main_while0b_c_17 main_while0b_v74 (addi : Arr F S_ .i32 → Arr F S_ .i32 → Arr F S_ .i32),
    unary main_while0b_v74 main_v10_5 id,
    unary main_while0b_v72 main_v10_6 id,
    unary main_while0b_v73 main_v10_7 id ]
theorem while0Ops0_3_sub : (while0Ops0_3 : List (HloOp τ sig (Elt F))).Forall fun op => op.bufs ⊆ tcRefs τ sig :=
  ⟨nullary_bufs_sub .., binary_bufs_sub .., unary_bufs_sub .., unary_bufs_sub .., unary_bufs_sub ..⟩
/-- These statements are the stretches below, in order. -/
theorem while0_body_chain : main_while0_body (F := F) = (Pipeline.chain
  [ seq while0Ops0,
    seq while0Ops0_1,
    seq while0Ops0_2,
    seq while0Ops0_3 ] : Prog (TpuEff nD τ sig (Elt F) (HostLoop.Sig (Pipeline.Sig Λ₀ (Fin 0) fun p => (pcfgs (F := F) p).Adm) 1) .tc) PUnit) := by
  rewrite [Pipeline.chain_cons, chain_seq_cons, Pipeline.chain_cons, chain_seq_cons]
  chain_rfl

end Cert.EncoderReferenceIdeal.Gen

end
-- ==== Proof.EncRefRun.lean ====
/- The run of the encoder reference: its host operations with one counted loop between them. Every buffer ends at the fold of the
   operations over the launch contents, the loop being its body done as many times as it counts. -/
module

public import proofs.«01_k».proof.Proof.EncRefLists
public import Idealize.ShloMosaic.Lib.StableHlo.RunLoop
public import Idealize.ShloMosaic.Lib.StableHlo.RunClose
public import Idealize.ShloMosaic.Lib.Scf.ExitTest
public import Idealize.ShloMosaic.Lib.Scf.Counter
public import Idealize.ShloMosaic.Lib.Claim
public import Idealize.ShloMosaic.Lib.Tactic

@[expose] public section

set_option maxRecDepth 16384

noncomputable section

namespace Cert.EncoderReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

local notation "𝕄" => MT nD τ sig Unit (Elt F) ℕ (Option PUnit) ℕ

/-! ## The stretches -/

/-- The loop's test. -/
abbrev cond0 : List (HloOp τ sig (Elt F)) :=
  [ StableHlo.nullary main_while0c_c_12 (constantI S_ 32 50#32),
    StableHlo.binary main_v10_5 main_while0c_c_12 main_while0c_v34 (cmpi .slt : (⟨S_, .i32⟩ : BufTy).Contents (Elt F) → (⟨S_, .i32⟩ : BufTy).Contents (Elt F) → (⟨S_, .i1⟩ : BufTy).Contents (Elt F)) ]

/-- What runs before the loop. -/
abbrev preI : List (List (HloOp τ sig (Elt F))) := [hostOps0]
/-- The loop's body. -/
abbrev body0 : List (List (HloOp τ sig (Elt F))) := [while0Ops0, while0Ops0_1, while0Ops0_2, while0Ops0_3]
/-- What runs after the loop. -/
abbrev postI : List (List (HloOp τ sig (Elt F))) := [hostOps0_1]

theorem preI_plain : Plain (preI (F := F)) := .cons hostOps0_sub .nil
theorem body0_plain : Plain (body0 (F := F)) :=
  .cons while0Ops0_sub <| .cons while0Ops0_1_sub <| .cons while0Ops0_2_sub <| .cons while0Ops0_3_sub .nil
theorem postI_plain : Plain (postI (F := F)) := .cons hostOps0_1_sub .nil

/-! ## The loop's counter -/

/-- One trip of the loop adds one to its counter. -/
theorem trip0_ctr (X : Valuation τ sig (Elt F)) :
    afterL body0 (after cond0 X) (Proc.devRef .tc main_v10_5)
      = (addi (X (Proc.devRef .tc main_v10_5) : (⟨S_, .i32⟩ : BufTy).Contents (Elt F)) (constantI S_ 32 1#32) : (⟨S_, .i32⟩ : BufTy).Contents (Elt F)) := by
  simp only [afterL_cons, afterL_nil]
  after_results_simp_entrywise
  all_goals rfl

theorem atTrip0_ctr (W : Dev nD → Valuation τ sig (Elt F)) (h : ∀ c, W c (Proc.devRef .tc main_v10_5) = fun _ => (0#32 : BitVec 32)) (c : Dev nD) :
    ∀ k, atTrip cond0 body0 W k c (Proc.devRef .tc main_v10_5) = fun _ => Scf.iv 0#32 1#32 k
  | 0 => by rw [atTrip_zero, h c, Scf.iv_zero]
  | k + 1 => by
    rw [atTrip_succ, trip0_ctr, atTrip0_ctr W h c k, Scf.iv_succ]; rfl

/-! ## The set-up of a run with no kernel in it -/

/-- No pipeline, so nothing admitted. -/
abbrev adm : (p : Fin 0) → (pcfgs (F := F) p).Adm := fun p => p.elim0
/-- No pipeline, so no ticket. -/
abbrev tk : Fin 0 → Ticket (Ix := Unit) (Name := ℕ) (U := Option PUnit) (Lvl := ℕ) (nD := nD) (τ := τ) (pcfgs (F := F)) adm := fun j => j.elim0
abbrev noIx : GSem nD τ sig → Finset Unit := fun _ => ∅
abbrev noLv : GSem nD τ sig → Unit → ℕ := fun _ _ => 0
/-- What each core keeps beside its buffers. -/
abbrev Rw (c : Dev nD) : sProp 𝕄 := iprop(∃ W, owes (c : Thread nD τ) (0 : CellTallies nD τ sig Unit) W)

theorem cell_inj : Function.Injective (Pipeline.cellOf (nD := nD) (τ := τ) (Pipeline.pin (pcfgs (F := F)) adm)) :=
  fun k => k.1.elim0

set_option backward.isDefEq.respectTransparency.types false in
set_option backward.isDefEq.respectTransparency false in
/-- The loop's test, run before trip `k`, says whether `k` is below 50. -/
theorem cond0_spec (W : Dev nD → Valuation τ sig (Elt F)) (h : ∀ c, W c (Proc.devRef .tc main_v10_5) = fun _ => (0#32 : BitVec 32)) :
    LoopCond (pcfgs (F := F)) defs₀ Variants.none loops (Rw (F := F)) main_while0_cond cond0 body0 W 50 := fun k hk c bd => by
  have hctr := atTrip0_ctr W h c k
  unfold main_while0_cond
  simp only [bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 W k c) (Proc.devRef .tc main_v10_5) HostLoop.idx0)
        (HloOp.result _ (atTrip cond0 body0 W k c) (Proc.devRef .tc main_while0c_c_12) HostLoop.idx0) = 1#1) (k < 50)
    rw [StableHlo.nullary_result_ne _ _ _ _ (by decide), StableHlo.nullary_result, hctr]
    exact Scf.cmpi_slt_iv_ub_iff (lb := 0#32) (ub := 50#32) (st := 1#32) main_while0_ok hk
  isplitl [Hb]; · iexact Hb
  isplitl [Hh]; · rw [StableHlo.after_cons, StableHlo.after_cons, StableHlo.after_nil]; iexact Hh
  iexact HR

/-! ## What the buffers hold, stretch by stretch -/

variable (m : (ℓ : Loc nD τ sig) → Buf (Elt F) ℓ)

/-- At the loop's entry. -/
abbrev at0 (c : Dev nD) : Valuation τ sig (Elt F) := afterL preI (launchContents m c)
/-- After the loop. -/
abbrev at1 (c : Dev nD) : Valuation τ sig (Elt F) := after cond0 (atTrip cond0 body0 (at0 m) 50 c)
/-- At the end. -/
abbrev at2 (c : Dev nD) : Valuation τ sig (Elt F) := afterL postI (at1 m c)

theorem at0_ctr (c : Dev nD) : at0 m c (Proc.devRef .tc main_v10_5) = fun _ => (0#32 : BitVec 32) := by
  simp only [at0, afterL_cons, afterL_nil]
  after_results_simp_entrywise
  all_goals rfl

/-- The program as the launch's segments. -/
def segs : List (CSeg (pcfgs (F := F)) adm defs₀ Variants.none noIx noLv loops (tk (F := F))) :=
  segsOf _ _ _ _ _ _ _ _ (Rw (F := F)) preI preI_plain (launchContents m)
    ++ loopSeg _ _ _ _ _ _ _ _ 0 main_while0_cond main_while0_body rfl cond0 body0 body0_plain while0_body_chain 50 (at0 m) (Rw (F := F)) (cond0_spec (at0 m) (at0_ctr m))
      :: segsOf _ _ _ _ _ _ _ _ (Rw (F := F)) postI postI_plain (at1 m)

theorem segs_prog : (segs m).map CSeg.prog
    = ((preI (F := F)).map fun ops => (seq ops : Prog _ PUnit)) ++ HostLoop.enter 0 :: (postI.map fun ops => (seq ops : Prog _ PUnit)) := by
  unfold segs
  rw [List.map_append, List.map_cons, segsOf_prog, segsOf_prog]
  rfl

theorem main_segs (c : Dev nD) : main (F := F) c = Pipeline.chain ((segs m).map CSeg.prog) := by
  rw [segs_prog, main_chain]
  rfl

theorem segs_chains : CSeg.Chains (fun c => iprop(held (c : Thread nD τ) (ucRefs τ sig) (launchContents m c) ∗ Rw (F := F) c)) (segs m)
    (fun c => iprop(iprop(held (c : Thread nD τ) (ucRefs τ sig) (at2 m c)) ∗ ∃ W, owes (c : Thread nD τ) (0 : CellTallies nD τ sig Unit) W)) := by
  unfold segs
  exact CSeg.Chains.append (segsOf_chains _ _ _ _ _ _ _ _ (Rw (F := F)) preI preI_plain _)
    ⟨fun _ => .rfl, segsOf_chains _ _ _ _ _ _ _ _ (Rw (F := F)) postI postI_plain _⟩

/-- The run: the reference ends, and every buffer of its values ends at the fold `at2`. -/
theorem run_fold (ρ : Dev nD → PrngReg) : θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = at2 m c (Proc.devRef .tc b)) :=
  Pipeline.θ_run_regions_loop_kit (Ix := Unit) (Name := ℕ) (U := Option PUnit) (Lvl := ℕ) (J := Fin 0) (P := Fin 0) (Val := Elt F)
    (pcfgs (F := F)) adm cell_inj defs₀ Variants.none noIx noLv loops tk m ρ main
    (segs m)
    (fun c Q => by
      unfold CSeg.runL; rw [main_segs m c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rw (F := F) c))
    (Tₙ := fun c => iprop(held (c : Thread nD τ) (ucRefs τ sig) (at2 m c)))
    (hch := segs_chains m)
    (hinit := by
      refine Pipeline.initEach noIx noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = at2 m c b)
    (hfin := fun c s' => by
      unfold held
      iintro ⟨Hh, HSI⟩
      ihave Hr := (pointsTo_read_all (ucRefs τ sig) (fun b => ((c : Dev nD), b)) (fun b => at2 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.EncoderReferenceIdeal.Gen

end
-- ==== Proof.EncRefKeep.lean ====
/- Which buffers the encoder reference's stretches leave alone. Every stretch writes only buffers numbered from some point on, and
   the points grow along the program, so what is written once is kept to the end. -/
module

public import proofs.«01_k».proof.Proof.EncRefRun

@[expose] public section

set_option maxRecDepth 16384

noncomputable section

namespace Cert.EncoderReferenceIdeal.Gen

open Idealize.ShloMosaic Idealize.ShloMosaic.TcCoe Idealize.ShloMosaic.Tactic
open Idealize.SL Idealize.SL.Sem
open Idealize.ShloMosaic.StableHlo

variable {F : FTy → Type} [FloatOps F]

/-- Every operation of the line writes one buffer, numbered `lo` or above. -/
def Over (lo : ℕ) (ops : List (HloOp τ sig (Elt F))) : Prop :=
  ops.Forall fun op => ∃ r : Ref sig .tc, op.writes = {Proc.devRef (τ := τ) .tc r} ∧ lo ≤ r.idx.val

theorem Over.mono {lo lo' : ℕ} {ops : List (HloOp τ sig (Elt F))} (h : Over lo ops) (hl : lo' ≤ lo) : Over lo' ops :=
  List.Forall.imp (fun _ ⟨r, hr, hi⟩ => ⟨r, hr, hl.trans hi⟩) h

theorem Over.keep {lo : ℕ} {ops : List (HloOp τ sig (Elt F))} (h : Over lo ops) (V : Valuation τ sig (Elt F)) {r : Ref sig .tc}
    (hr : r.idx.val < lo) : after ops V (Proc.devRef .tc r) = V (Proc.devRef .tc r) :=
  after_of_forall_not_mem ops V fun op hop hb => by
    obtain ⟨y, hy, hi⟩ := (List.forall_iff_forall_mem.mp h) op hop
    rw [hy, Finset.mem_singleton] at hb
    exact absurd (Proc.devRef_injective _ hb ▸ hi) (by omega)

theorem Over.keepL {lo : ℕ} {items : List (List (HloOp τ sig (Elt F)))} (h : ∀ ops ∈ items, Over lo ops) (V : Valuation τ sig (Elt F))
    {r : Ref sig .tc} (hr : r.idx.val < lo) : afterL items V (Proc.devRef .tc r) = V (Proc.devRef .tc r) := by
  induction items generalizing V with
  | nil => rfl
  | cons ops items ih =>
    rw [afterL_cons, ih (fun o ho => h o (List.mem_cons_of_mem _ ho)), (h ops List.mem_cons_self).keep V hr]

theorem Over.keepTrip {lo : ℕ} {condOps : List (HloOp τ sig (Elt F))} {bodyI : List (List (HloOp τ sig (Elt F)))} (hc : Over lo condOps)
    (hb : ∀ ops ∈ bodyI, Over lo ops) (W : Dev nD → Valuation τ sig (Elt F)) {r : Ref sig .tc} (hr : r.idx.val < lo) (c : Dev nD) :
    ∀ k, atTrip condOps bodyI W k c (Proc.devRef .tc r) = W c (Proc.devRef .tc r)
  | 0 => by rw [atTrip_zero]
  | k + 1 => by rw [atTrip_succ, Over.keepL hb _ hr, hc.keep _ hr, keepTrip hc hb W hr c k]

theorem cond0_over : Over 31 (cond0 (F := F)) := by
  unfold Over
  simp only [List.forall_cons, List.Forall]
  repeat' first | exact ⟨_, rfl, by decide⟩ | refine And.intro ?_ ?_
  all_goals trivial

theorem hostOps0_over : Over 10 (hostOps0 (F := F)) := by
  unfold Over
  simp only [List.forall_cons, List.Forall]
  repeat' first | exact ⟨_, rfl, by decide⟩ | refine And.intro ?_ ?_
  all_goals trivial

theorem hostOps0_1_over : Over 88 (hostOps0_1 (F := F)) := by
  unfold Over
  simp only [List.forall_cons, List.Forall]
  repeat' first | exact ⟨_, rfl, by decide⟩ | refine And.intro ?_ ?_
  all_goals trivial

theorem while0Ops0_over : Over 33 (while0Ops0 (F := F)) := by
  unfold Over
  simp only [List.forall_cons, List.Forall]
  repeat' first | exact ⟨_, rfl, by decide⟩ | refine And.intro ?_ ?_
  all_goals trivial

theorem while0Ops0_1_over : Over 38 (while0Ops0_1 (F := F)) := by
  unfold Over
  simp only [List.forall_cons, List.Forall]
  repeat' first | exact ⟨_, rfl, by decide⟩ | refine And.intro ?_ ?_
  all_goals trivial

theorem while0Ops0_2_over : Over 81 (while0Ops0_2 (F := F)) := by
  unfold Over
  simp only [List.forall_cons, List.Forall]
  repeat' first | exact ⟨_, rfl, by decide⟩ | refine And.intro ?_ ?_
  all_goals trivial

theorem while0Ops0_3_over : Over 28 (while0Ops0_3 (F := F)) := by
  unfold Over
  simp only [List.forall_cons, List.Forall]
  repeat' first | exact ⟨_, rfl, by decide⟩ | refine And.intro ?_ ?_
  all_goals trivial

theorem preI_over : ∀ ops ∈ preI (F := F), Over 10 ops := by
  simp only [List.mem_cons, List.not_mem_nil, or_false, forall_eq]
  exact hostOps0_over
theorem body0_over : ∀ ops ∈ body0 (F := F), Over 28 ops := by
  simp only [List.mem_cons, List.not_mem_nil, or_false, forall_eq_or_imp, forall_eq]
  exact ⟨while0Ops0_over.mono (by decide), while0Ops0_1_over.mono (by decide), while0Ops0_2_over.mono (by decide), while0Ops0_3_over⟩
theorem postI_over : ∀ ops ∈ postI (F := F), Over 88 ops := by
  simp only [List.mem_cons, List.not_mem_nil, or_false, forall_eq]
  exact hostOps0_1_over

variable (m : (ℓ : Loc nD τ sig) → Buf (Elt F) ℓ)

/-- The loop leaves what came before it. -/
theorem at1_keep (c : Dev nD) {r : Ref sig .tc} (hr : r.idx.val < 28) : at1 m c (Proc.devRef .tc r) = at0 m c (Proc.devRef .tc r) := by
  unfold at1
  rw [(cond0_over.mono (by decide : 28 ≤ 31)).keep _ hr, Over.keepTrip (cond0_over.mono (by decide : 28 ≤ 31)) body0_over _ hr]

/-- An argument is what it was at the launch, at every stage. -/
theorem at0_arg (c : Dev nD) {r : Ref sig .tc} (hr : r.idx.val < 10) : at0 m c (Proc.devRef .tc r) = launchContents m c (Proc.devRef .tc r) :=
  Over.keepL preI_over _ hr
theorem at1_arg (c : Dev nD) {r : Ref sig .tc} (hr : r.idx.val < 10) : at1 m c (Proc.devRef .tc r) = launchContents m c (Proc.devRef .tc r) := by
  rw [at1_keep m c (by omega), at0_arg m c hr]
theorem at2_arg (c : Dev nD) {r : Ref sig .tc} (hr : r.idx.val < 10) : at2 m c (Proc.devRef .tc r) = launchContents m c (Proc.devRef .tc r) := by
  unfold at2
  rw [Over.keepL postI_over _ (by omega), at1_arg m c hr]

/-- The encoder reference runs, and every argument ends as it was at the launch. -/
theorem frame (ρ : Dev nD → PrngReg) : θ_run defs (onTc (τ := τ) (main (F := F))) ⟨m, fun _ => 0, ρ⟩ (fun r => ∀ c : Dev nD,
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  θ_run_mono (run_fold m ρ) fun r h c => ⟨(h c main_arg0 rfl).trans (at2_arg m c (by decide)),
    (h c main_arg1 rfl).trans (at2_arg m c (by decide)),
    (h c main_arg2 rfl).trans (at2_arg m c (by decide)),
    (h c main_arg3 rfl).trans (at2_arg m c (by decide)),
    (h c main_arg4 rfl).trans (at2_arg m c (by decide)),
    (h c main_arg5 rfl).trans (at2_arg m c (by decide)),
    (h c main_arg6 rfl).trans (at2_arg m c (by decide)),
    (h c main_arg7 rfl).trans (at2_arg m c (by decide)),
    (h c main_arg8 rfl).trans (at2_arg m c (by decide)),
    (h c main_arg9 rfl).trans (at2_arg m c (by decide))⟩

end Cert.EncoderReferenceIdeal.Gen

end
-- ==== Proof.SpecEnc.lean ====
/- The encoder's result as the mathematics of its ten arguments: for each week, the hidden states of the gated recurrent
   cell along the days, pooled by attention. -/
module

public import proofs.«01_k».proof.Proof.Spec

@[expose] public section

noncomputable section

namespace Cert.Spec

theorem hid_congr {D : ℕ} {wi wi' : Fin D → Fin 384 → EReal} {wh wh' : Fin 128 → Fin 384 → EReal} {bi bi' bh bh' : Fin 384 → EReal}
    {x x' : ℕ → Fin D → EReal} (e1 : ∀ d r, wi d r = wi' d r) (e2 : ∀ d r, wh d r = wh' d r)
    (e3 : ∀ r, bi r = bi' r) (e4 : ∀ r, bh r = bh' r) (e5 : ∀ t d, x t d = x' t d) : hid wi wh bi bh x = hid wi' wh' bi' bh' x' := by
  rw [funext fun d => funext (e1 d), funext fun d => funext (e2 d), funext e3, funext e4, funext fun t => funext (e5 t)]

/-- Week `w`'s encoding of node `n`, feature `j`: `x w` the week's inputs by node, day and channel; `wi`, `wh`, `bi`, `bh` the
    cell's weights and biases; `aw`, `ab` the attention's. -/
def enc (x : Fin 4 → Fin 100 → Fin 50 → Fin 16 → EReal) (wi : Fin 4 → Fin 384 → Fin 16 → EReal) (wh : Fin 4 → Fin 384 → Fin 128 → EReal)
    (bi bh : Fin 4 → Fin 384 → EReal) (aw : Fin 4 → Fin 50 → Fin 50 → EReal) (ab : Fin 4 → Fin 50 → EReal)
    (w : Fin 4) (n : Fin 100) (j : Fin 128) : EReal :=
  pooled (aw w) (ab w) fun t =>
    hid (fun d r => wi w r d) (fun d r => wh w r d) (bi w) (bh w) (fun t d => if h : t < 50 then x w n ⟨t, h⟩ d else 0) (t.val + 1) j

end Cert.Spec

end
-- ==== Proof.EncIn.lean ====
/- What the encoder's launch finds in its operands: the weeks stacked and transposed, the weights transposed, the biases as given. -/
module

public import proofs.«01_k».proof.Proof.EncIdealFrame
public import proofs.«01_k».proof.Proof.SpecEnc
public import Idealize.ShloMosaic.Lib.StableHlo.RunClose

@[expose] public section

set_option maxRecDepth 16384

noncomputable section

namespace Cert.EncoderIdeal.Gen

open Idealize.ShloMosaic Idealize.ShloMosaic.TcCoe Idealize.ShloMosaic.Tactic
open Idealize.ShloMosaic.StableHlo Cert.Spec

variable (m : (ℓ : Loc nD τ sig) → Buf (Elt Ideal) ℓ) (c : Dev nD)

theorem in1 (w : Fin 4) (d : Fin 16) (r : Fin 384) :
    (iblk m c 1 t0_0 : Vec Ideal S4x16x384 .f32) (ix3 w d r) = (m ((c.tc : Thread nD τ).loc main_arg4) : Vec Ideal S4x384x16 .f32) (ix3 w r d) := by
  blk_point [iblk, V]
  all_goals (simp; rfl)

theorem in2 (w : Fin 4) (d : Fin 128) (r : Fin 384) :
    (iblk m c 2 t0_0 : Vec Ideal S4x128x384 .f32) (ix3 w d r) = (m ((c.tc : Thread nD τ).loc main_arg5) : Vec Ideal S4x384x128 .f32) (ix3 w r d) := by
  blk_point [iblk, V]
  all_goals (simp; rfl)

theorem in3 (w : Fin 4) (r : Fin 384) :
    (iblk m c 3 t0_0 : Vec Ideal S4x384 .f32) (ix2 w r) = (m ((c.tc : Thread nD τ).loc main_arg6) : Vec Ideal S4x384 .f32) (ix2 w r) := by
  blk_point [iblk, V]
  all_goals (simp; rfl)

theorem in4 (w : Fin 4) (r : Fin 384) :
    (iblk m c 4 t0_0 : Vec Ideal S4x384 .f32) (ix2 w r) = (m ((c.tc : Thread nD τ).loc main_arg7) : Vec Ideal S4x384 .f32) (ix2 w r) := by
  blk_point [iblk, V]
  all_goals (simp; rfl)

theorem in5 (w : Fin 4) (t s : Fin 50) :
    (iblk m c 5 t0_0 : Vec Ideal S4x50x50 .f32) (ix3 w t s) = (m ((c.tc : Thread nD τ).loc main_arg8) : Vec Ideal S4x50x50 .f32) (ix3 w t s) := by
  blk_point [iblk, V]
  all_goals (simp; rfl)

theorem in6 (w : Fin 4) (t : Fin 50) :
    (iblk m c 6 t0_0 : Vec Ideal S4x50x1 .f32) (ix3 w t 0) = (m ((c.tc : Thread nD τ).loc main_arg9) : Vec Ideal S4x50 .f32) (ix2 w t) := by
  blk_point [iblk, V]
  all_goals (simp; rfl)

/-- The only block of the first operand is the operand. -/
theorem read0 (X : Vec Ideal S4x50x100x16 .f32) (w : Fin 4) (t : Fin 50) (n : Fin 100) (d : Fin 16) :
    (((cfg0.win 0).blk t0_0).view.read (Elt Ideal) X : Vec Ideal S4x50x100x16 .f32) (ix4 w t n d) = X (ix4 w t n d) := by
  blk_point []
  all_goals (simp; rfl)

theorem weeks (w : Fin 4) (t : Fin 50) (n : Fin 100) (d : Fin 16) :
    (V m c main_v5 : Vec Ideal S4x50x100x16 .f32) (ix4 w t n d)
      = (![(m ((c.tc : Thread nD τ).loc main_arg0) : Vec Ideal S100x50x16 .f32), m ((c.tc : Thread nD τ).loc main_arg1),
          m ((c.tc : Thread nD τ).loc main_arg2), m ((c.tc : Thread nD τ).loc main_arg3)] : Fin 4 → Vec Ideal S100x50x16 .f32) w (ix3 n t d) := by
  simp only [V]
  after_results_simp_entrywise

  fin_cases w
  all_goals pointwise
  all_goals after_results_simp_entrywise
  all_goals pointwise

theorem in0 (w : Fin 4) (t : Fin 50) (n : Fin 100) (d : Fin 16) :
    (iblk m c 0 t0_0 : Vec Ideal S4x50x100x16 .f32) (ix4 w t n d)
      = (![(m ((c.tc : Thread nD τ).loc main_arg0) : Vec Ideal S100x50x16 .f32), m ((c.tc : Thread nD τ).loc main_arg1),
          m ((c.tc : Thread nD τ).loc main_arg2), m ((c.tc : Thread nD τ).loc main_arg3)] : Fin 4 → Vec Ideal S100x50x16 .f32) w (ix3 n t d) :=
  (read0 (V m c main_v5) w t n d).trans (weeks m c w t n d)

/-- The kernel's result is the encoding of its arguments. -/
theorem result (w : Fin 4) (n : Fin 100) (j : Fin 128) :
    (resVal (iblk m c 0 t0_0) (iblk m c 1 t0_0) (iblk m c 2 t0_0) (iblk m c 3 t0_0) (iblk m c 4 t0_0) (iblk m c 5 t0_0) (iblk m c 6 t0_0) :
        Vec Ideal S4x12800 .f32) (ix2 w ⟨128 * n.val + j.val, by omega⟩)
      = enc (fun w n t d => (![(m ((c.tc : Thread nD τ).loc main_arg0) : Vec Ideal S100x50x16 .f32), m ((c.tc : Thread nD τ).loc main_arg1),
            m ((c.tc : Thread nD τ).loc main_arg2), m ((c.tc : Thread nD τ).loc main_arg3)] : Fin 4 → Vec Ideal S100x50x16 .f32) w (ix3 n t d))
          (fun w r d => (m ((c.tc : Thread nD τ).loc main_arg4) : Vec Ideal S4x384x16 .f32) (ix3 w r d))
          (fun w r d => (m ((c.tc : Thread nD τ).loc main_arg5) : Vec Ideal S4x384x128 .f32) (ix3 w r d))
          (fun w r => (m ((c.tc : Thread nD τ).loc main_arg6) : Vec Ideal S4x384 .f32) (ix2 w r))
          (fun w r => (m ((c.tc : Thread nD τ).loc main_arg7) : Vec Ideal S4x384 .f32) (ix2 w r))
          (fun w t s => (m ((c.tc : Thread nD τ).loc main_arg8) : Vec Ideal S4x50x50 .f32) (ix3 w t s))
          (fun w t => (m ((c.tc : Thread nD τ).loc main_arg9) : Vec Ideal S4x50 .f32) (ix2 w t)) w n j := by
  rw [resVal_apply]
  unfold encVal
  refine pooled_congr (fun t s => in5 m c w t s) (fun t => in6 m c w t) fun t => ?_
  unfold H
  refine congrFun (congrFun (hid_congr (fun d r => in1 m c w d r) (fun d r => in2 m c w d r) (fun r => in3 m c w r) (fun r => in4 m c w r)
    fun t d => ?_) _) _
  by_cases h : t < 50
  · rw [dif_pos h, dif_pos h]; exact in0 m c w ⟨t, h⟩ n d
  · rw [dif_neg h, dif_neg h]

end Cert.EncoderIdeal.Gen

end
-- ==== Proof.EncRefVal.lean ====
/- What the encoder reference computes: one trip of its loop is one cell step of every week. -/
module

public import proofs.«01_k».proof.Proof.EncRefKeep
public import proofs.«01_k».proof.Proof.Spec

@[expose] public section

set_option maxRecDepth 16384

noncomputable section

namespace Cert.EncoderReferenceIdeal.Gen

open Idealize.ShloMosaic Idealize.ShloMosaic.TcCoe Idealize.ShloMosaic.Tactic
open Idealize.ShloMosaic.StableHlo Cert.Spec

/-- The cell of a trip, from the buffers its lines read. -/
theorem cell_val (V : Valuation τ sig (Elt Ideal)) (w : Fin 4) (n : Fin 100) (j : Fin 128) :
    (after while0Ops0_1 V (Proc.devRef .tc main_while0b_v72) : (⟨S4x100x128, .f32⟩ : BufTy).Contents (Elt Ideal)) (ix3 w n j)
      = cell (fun d r => (V (Proc.devRef .tc main_v10_1) : (⟨S4x384x16, .f32⟩ : BufTy).Contents (Elt Ideal)) (ix3 w r d))
          (fun d r => (V (Proc.devRef .tc main_v10_3) : (⟨S4x384x128, .f32⟩ : BufTy).Contents (Elt Ideal)) (ix3 w r d))
          (fun r => (V (Proc.devRef .tc main_v10_2) : (⟨S4x384, .f32⟩ : BufTy).Contents (Elt Ideal)) (ix2 w r))
          (fun r => (V (Proc.devRef .tc main_v10_4) : (⟨S4x384, .f32⟩ : BufTy).Contents (Elt Ideal)) (ix2 w r))
          (fun d => (V (Proc.devRef .tc main_while0b_v34) : (⟨S4x100x16, .f32⟩ : BufTy).Contents (Elt Ideal)) (ix3 w n d))
          (fun d => (V (Proc.devRef .tc main_v10_6) : (⟨S4x100x128, .f32⟩ : BufTy).Contents (Elt Ideal)) (ix3 w n d)) j := by
  after_results_simp_entrywise
  unfold cell lin Ideal.logistic
  pointwise

end Cert.EncoderReferenceIdeal.Gen

end
-- ==== Proof.EncRefPost.lean ====
/- What the encoder reference computes: what follows its loop is the pooling of every week's hidden states. -/
module

public import proofs.«01_k».proof.Proof.EncRefKeep
public import proofs.«01_k».proof.Proof.Spec

@[expose] public section

set_option maxRecDepth 16384

noncomputable section

namespace Cert.EncoderReferenceIdeal.Gen

open Idealize.ShloMosaic Idealize.ShloMosaic.TcCoe Idealize.ShloMosaic.Tactic
open Idealize.ShloMosaic.StableHlo Cert.Spec

theorem neg_inf : Ideal.ofBits .f32 0xFF800000#32 = ⊥ := by
  simp [Ideal.ofBits, Ideal.ieee]

/-- The pooling with each product of the score the other way round. -/
theorem pooled_comm {n : ℕ} (w : Fin n → Fin n → EReal) (b h : Fin n → EReal) :
    pooled w b h = ∑ t, Ideal.div (Ideal.exp ((∑ s, h s * w t s) + b t - Finset.univ.fold max ⊥ fun t => (∑ s, h s * w t s) + b t))
      (∑ t, Ideal.exp ((∑ s, h s * w t s) + b t - Finset.univ.fold max ⊥ fun t => (∑ s, h s * w t s) + b t)) * h t := by
  have e : score w b h = fun t => (∑ s, h s * w t s) + b t := funext fun t => by
    unfold score; exact congrArg (· + b t) (Finset.sum_congr rfl fun s _ => mul_comm _ _)
  unfold pooled top
  rw [e]

/-- What the lines after the loop leave in the result. -/
theorem post_val (V : Valuation τ sig (Elt Ideal)) (w : Fin 4) (n : Fin 100) (j : Fin 128) :
    (after hostOps0_1 V (Proc.devRef .tc main_v33) : (⟨S4x12800, .f32⟩ : BufTy).Contents (Elt Ideal)) (ix2 w ⟨128 * n.val + j.val, by omega⟩)
      = pooled (fun t s => (V (Proc.devRef .tc main_arg8) : (⟨S4x50x50, .f32⟩ : BufTy).Contents (Elt Ideal)) (ix3 w t s))
          (fun t => (V (Proc.devRef .tc main_arg9) : (⟨S4x50, .f32⟩ : BufTy).Contents (Elt Ideal)) (ix2 w t))
          (fun t => (V (Proc.devRef .tc main_v10_7) : (⟨S50x4x100x128, .f32⟩ : BufTy).Contents (Elt Ideal)) (ix4 t w n j)) := by
  have h1 : (128 * n.val + j.val) / 128 = n.val := by omega
  have h2 : (128 * n.val + j.val) % 128 = j.val := by omega
  after_results_simp_entrywise
  rw [pooled_comm]
  pointwise
  simp only [h1, h2, Fin.eta, neg_inf, max_eq_right bot_le]

end Cert.EncoderReferenceIdeal.Gen

end
-- ==== Proof.EncRefLoop.lean ====
/- The encoder reference's loop: before trip `k` the carried hidden state is the one after `k` rows, and rows below `k` of the
   sequence it builds hold the states stored so far. -/
module

public import proofs.«01_k».proof.Proof.EncRefKeep
public import proofs.«01_k».proof.Proof.Spec
public import Idealize.ShloMosaic.Lib.DynamicIndex
public import Idealize.ShloMosaic.Lib.WordCmp

@[expose] public section

set_option maxRecDepth 16384

noncomputable section

namespace Cert.EncoderReferenceIdeal.Gen

open Idealize.ShloMosaic Idealize.ShloMosaic.TcCoe Idealize.ShloMosaic.Tactic
open Idealize.ShloMosaic.StableHlo Cert.Spec

theorem iv_toInt : ∀ k : Fin 50, (Scf.iv (0#32) 1#32 k.val).toInt = (k.val : ℤ) := by decide

/-- A slice of one row, read as that row. -/
theorem slice_row (x : FVec Ideal S50x4x100x16 .f32) (k : Fin 50) (st : Fin 4 → ℤ) (hs : ∀ a, st a = ((![k.val, 0, 0, 0] : Fin 4 → ℕ) a : ℤ))
    (w : Fin 4) (n : Fin 100) (d : Fin 16) :
    shapeCast S4x100x16 (Host.dynamicSlice S1x4x100x16 x st sliceFits_S50x4x100x16_S1x4x100x16) shapeCasts_S1x4x100x16_S4x100x16 (ix3 w n d)
      = x (ix4 k w n d) := by
  rw [Host.dynamicSlice_eq_extractStridedSlice S1x4x100x16 x st ![k.val, 0, 0, 0] _
    ⟨rfl, by have := k.isLt; intro a; fin_cases a <;> simp <;> omega⟩ hs]
  pointwise

/-- One row replaced, read at any row. -/
theorem update_row (x : FVec Ideal S50x4x100x128 .f32) (u : FVec Ideal S4x100x128 .f32) (k : Fin 50) (st : Fin 4 → ℤ)
    (hs : ∀ a, st a = ((![k.val, 0, 0, 0] : Fin 4 → ℕ) a : ℤ)) (t : Fin 50) (w : Fin 4) (n : Fin 100) (j : Fin 128) :
    Host.dynamicUpdateSlice x (broadcastInDim S1x4x100x128 ![1, 2, 3] bcast_S4x100x128_S1x4x100x128_1_2_3 u) st
        updateFits_S50x4x100x128_S1x4x100x128 (ix4 t w n j)
      = if t = k then u (ix3 w n j) else x (ix4 t w n j) := by
  rw [Idealize.ShloMosaic.Host.dynamicUpdateSlice_apply]
  have e : ∀ a, Host.clampedStart S50x4x100x128 S1x4x100x128 updateFits_S50x4x100x128_S1x4x100x128.1 st a = (![k.val, 0, 0, 0] : Fin 4 → ℕ) a :=
    fun a => Host.clampedStart_of_le _ st a _ (hs a) (by have := k.isLt; fin_cases a <;> simp <;> omega)
  by_cases h : t = k
  · subst h
    rw [dif_pos (by intro a; rw [e]; fin_cases a <;> simp <;> omega), if_pos rfl]
    pointwise
    simp [e]
  · rw [dif_neg (by intro hin; have := hin 0; rw [e] at this; exact h (Fin.ext (by simp at this; omega))), if_neg h]

/-- The row of a trip. -/
theorem row_val (V : Valuation τ sig (Elt Ideal)) (k : Fin 50)
    (hk : V (Proc.devRef .tc main_v10_5) = fun _ => Scf.iv (0#32 : BitVec 32) 1#32 k.val) (w : Fin 4) (n : Fin 100) (d : Fin 16) :
    (after while0Ops0 V (Proc.devRef .tc main_while0b_v34) : (⟨S4x100x16, .f32⟩ : BufTy).Contents (Elt Ideal)) (ix3 w n d)
      = (V (Proc.devRef .tc main_v10_0) : (⟨S50x4x100x16, .f32⟩ : BufTy).Contents (Elt Ideal)) (ix4 k w n d) := by
  have hi := iv_toInt k
  after_results_simp_entrywise
  refine slice_row (V (Proc.devRef .tc main_v10_0)) k _ (fun a => ?_) w n d
  rw [hk]
  fin_cases a
  · exact hi
  all_goals rfl

/-- The sequence after a trip: its row `k` is the new state, its other rows are as before. -/
theorem seq_val (V : Valuation τ sig (Elt Ideal)) (k : Fin 50)
    (hk : V (Proc.devRef .tc main_v10_5) = fun _ => Scf.iv (0#32 : BitVec 32) 1#32 k.val) (t : Fin 50) (w : Fin 4) (n : Fin 100) (j : Fin 128) :
    (after while0Ops0_2 V (Proc.devRef .tc main_while0b_v73) : (⟨S50x4x100x128, .f32⟩ : BufTy).Contents (Elt Ideal)) (ix4 t w n j)
      = if t = k then (V (Proc.devRef .tc main_while0b_v72) : (⟨S4x100x128, .f32⟩ : BufTy).Contents (Elt Ideal)) (ix3 w n j)
        else (V (Proc.devRef .tc main_v10_7) : (⟨S50x4x100x128, .f32⟩ : BufTy).Contents (Elt Ideal)) (ix4 t w n j) := by
  have hi := iv_toInt k
  after_results_simp_entrywise
  refine update_row (V (Proc.devRef .tc main_v10_7)) (V (Proc.devRef .tc main_while0b_v72)) k _ (fun a => ?_) t w n j
  rw [hk]
  fin_cases a
  · exact hi
  all_goals rfl

end Cert.EncoderReferenceIdeal.Gen

end
-- ==== Proof.EncRefFold.lean ====
/- The encoder reference's result: every week's hidden states from its loop, pooled. -/
module

public import proofs.«01_k».proof.Proof.EncRefVal
public import proofs.«01_k».proof.Proof.EncRefPost
public import proofs.«01_k».proof.Proof.EncRefLoop

@[expose] public section

set_option maxRecDepth 16384

noncomputable section

namespace Cert.EncoderReferenceIdeal.Gen

open Idealize.ShloMosaic Idealize.ShloMosaic.TcCoe Idealize.ShloMosaic.Tactic
open Idealize.ShloMosaic.StableHlo Cert.Spec

/-- Week `w`'s hidden state of node `n` after `k` days, from the buffers the loop reads. -/
def hidden (X : Valuation τ sig (Elt Ideal)) (w : Fin 4) (n : Fin 100) : ℕ → Fin 128 → EReal :=
  hid (fun d r => (X (Proc.devRef .tc main_v10_1) : (⟨S4x384x16, .f32⟩ : BufTy).Contents (Elt Ideal)) (ix3 w r d))
    (fun d r => (X (Proc.devRef .tc main_v10_3) : (⟨S4x384x128, .f32⟩ : BufTy).Contents (Elt Ideal)) (ix3 w r d))
    (fun r => (X (Proc.devRef .tc main_v10_2) : (⟨S4x384, .f32⟩ : BufTy).Contents (Elt Ideal)) (ix2 w r))
    (fun r => (X (Proc.devRef .tc main_v10_4) : (⟨S4x384, .f32⟩ : BufTy).Contents (Elt Ideal)) (ix2 w r))
    (fun t d => if h : t < 50 then (X (Proc.devRef .tc main_v10_0) : (⟨S50x4x100x16, .f32⟩ : BufTy).Contents (Elt Ideal)) (ix4 ⟨t, h⟩ w n d) else 0)

theorem hidden_succ (X : Valuation τ sig (Elt Ideal)) (w : Fin 4) (n : Fin 100) (k : Fin 50) :
    hidden X w n (k.val + 1)
      = cell (fun d r => (X (Proc.devRef .tc main_v10_1) : (⟨S4x384x16, .f32⟩ : BufTy).Contents (Elt Ideal)) (ix3 w r d))
          (fun d r => (X (Proc.devRef .tc main_v10_3) : (⟨S4x384x128, .f32⟩ : BufTy).Contents (Elt Ideal)) (ix3 w r d))
          (fun r => (X (Proc.devRef .tc main_v10_2) : (⟨S4x384, .f32⟩ : BufTy).Contents (Elt Ideal)) (ix2 w r))
          (fun r => (X (Proc.devRef .tc main_v10_4) : (⟨S4x384, .f32⟩ : BufTy).Contents (Elt Ideal)) (ix2 w r))
          (fun d => (X (Proc.devRef .tc main_v10_0) : (⟨S50x4x100x16, .f32⟩ : BufTy).Contents (Elt Ideal)) (ix4 k w n d))
          (hidden X w n k.val) := by
  unfold hidden
  rw [hid]
  congr 1
  funext d
  rw [dif_pos k.isLt]

/-- A trip's new state: the cell on the carried state and on the trip's row. -/
theorem trip_state (V : Valuation τ sig (Elt Ideal)) (k : Fin 50)
    (hk : V (Proc.devRef .tc main_v10_5) = fun _ => Scf.iv (0#32 : BitVec 32) 1#32 k.val) (w : Fin 4) (n : Fin 100) (j : Fin 128) :
    (after while0Ops0_1 (after while0Ops0 V) (Proc.devRef .tc main_while0b_v72) : (⟨S4x100x128, .f32⟩ : BufTy).Contents (Elt Ideal)) (ix3 w n j)
      = cell (fun d r => (V (Proc.devRef .tc main_v10_1) : (⟨S4x384x16, .f32⟩ : BufTy).Contents (Elt Ideal)) (ix3 w r d))
          (fun d r => (V (Proc.devRef .tc main_v10_3) : (⟨S4x384x128, .f32⟩ : BufTy).Contents (Elt Ideal)) (ix3 w r d))
          (fun r => (V (Proc.devRef .tc main_v10_2) : (⟨S4x384, .f32⟩ : BufTy).Contents (Elt Ideal)) (ix2 w r))
          (fun r => (V (Proc.devRef .tc main_v10_4) : (⟨S4x384, .f32⟩ : BufTy).Contents (Elt Ideal)) (ix2 w r))
          (fun d => (V (Proc.devRef .tc main_v10_0) : (⟨S50x4x100x16, .f32⟩ : BufTy).Contents (Elt Ideal)) (ix4 k w n d))
          (fun d => (V (Proc.devRef .tc main_v10_6) : (⟨S4x100x128, .f32⟩ : BufTy).Contents (Elt Ideal)) (ix3 w n d)) j := by
  rw [cell_val, while0Ops0_over.keep V (r := main_v10_1) (by decide), while0Ops0_over.keep V (r := main_v10_2) (by decide),
    while0Ops0_over.keep V (r := main_v10_3) (by decide), while0Ops0_over.keep V (r := main_v10_4) (by decide),
    while0Ops0_over.keep V (r := main_v10_6) (by decide)]
  exact cell_congr (fun _ _ => rfl) (fun _ _ => rfl) (fun _ => rfl) (fun _ => rfl) (fun d => row_val V k hk w n d) (fun _ => rfl) j

/-- The last lines of a trip carry the new state and the new sequence over. -/
theorem carry_state (V : Valuation τ sig (Elt Ideal)) :
    after while0Ops0_3 V (Proc.devRef .tc main_v10_6) = V (Proc.devRef .tc main_while0b_v72) := by
  after_results_simp_entrywise
  all_goals rfl
theorem carry_seq (V : Valuation τ sig (Elt Ideal)) :
    after while0Ops0_3 V (Proc.devRef .tc main_v10_7) = V (Proc.devRef .tc main_while0b_v73) := by
  after_results_simp_entrywise
  all_goals rfl

/-- A trip, as a whole. -/
theorem trip_h (V : Valuation τ sig (Elt Ideal)) :
    afterL body0 V (Proc.devRef .tc main_v10_6) = after while0Ops0_1 (after while0Ops0 V) (Proc.devRef .tc main_while0b_v72) := by
  rw [afterL_cons, afterL_cons, afterL_cons, afterL_cons, afterL_nil, carry_state, while0Ops0_2_over.keep _ (by decide)]

theorem trip_seq (V : Valuation τ sig (Elt Ideal)) (k : Fin 50)
    (hk : V (Proc.devRef .tc main_v10_5) = fun _ => Scf.iv (0#32 : BitVec 32) 1#32 k.val) (t : Fin 50) (w : Fin 4) (n : Fin 100) (j : Fin 128) :
    (afterL body0 V (Proc.devRef .tc main_v10_7) : (⟨S50x4x100x128, .f32⟩ : BufTy).Contents (Elt Ideal)) (ix4 t w n j)
      = if t = k then (after while0Ops0_1 (after while0Ops0 V) (Proc.devRef .tc main_while0b_v72) : (⟨S4x100x128, .f32⟩ : BufTy).Contents (Elt Ideal)) (ix3 w n j)
        else (V (Proc.devRef .tc main_v10_7) : (⟨S50x4x100x128, .f32⟩ : BufTy).Contents (Elt Ideal)) (ix4 t w n j) := by
  rw [afterL_cons, afterL_cons, afterL_cons, afterL_cons, afterL_nil, carry_seq,
    seq_val _ k (by rw [while0Ops0_1_over.keep _ (by decide), while0Ops0_over.keep _ (by decide), hk]),
    while0Ops0_1_over.keep _ (r := main_v10_7) (by decide), while0Ops0_over.keep _ (r := main_v10_7) (by decide)]

/-- Before trip `k`: the carried state is the one after `k` days, and the rows below `k` hold the states after their days. -/
theorem loop_inv (W : Dev nD → Valuation τ sig (Elt Ideal)) (h0 : ∀ c, W c (Proc.devRef .tc main_v10_5) = fun _ => (0#32 : BitVec 32))
    (hz : ∀ c (w : Fin 4) (n : Fin 100) (j : Fin 128), (W c (Proc.devRef .tc main_v10_6) : (⟨S4x100x128, .f32⟩ : BufTy).Contents (Elt Ideal)) (ix3 w n j) = (0 : EReal))
    (c : Dev nD) (w : Fin 4) (n : Fin 100) (j : Fin 128) : ∀ k, k ≤ 50 →
    (∀ j : Fin 128, (atTrip cond0 body0 W k c (Proc.devRef .tc main_v10_6) : (⟨S4x100x128, .f32⟩ : BufTy).Contents (Elt Ideal)) (ix3 w n j) = hidden (W c) w n k j)
    ∧ ∀ t : Fin 50, t.val < k → (atTrip cond0 body0 W k c (Proc.devRef .tc main_v10_7) : (⟨S50x4x100x128, .f32⟩ : BufTy).Contents (Elt Ideal)) (ix4 t w n j) = hidden (W c) w n (t.val + 1) j
  | 0, _ => ⟨fun j => by rw [atTrip_zero, hz]; rfl, fun t ht => absurd ht (by omega)⟩
  | k + 1, hk => by
    obtain ⟨ih1, ih2⟩ := loop_inv W h0 hz c w n j k (by omega)
    have hk' : k < 50 := by omega
    have kc : ∀ {r : Ref sig .tc}, r.idx.val < 31 → after cond0 (atTrip cond0 body0 W k c) (Proc.devRef .tc r) = atTrip cond0 body0 W k c (Proc.devRef .tc r) :=
      fun hr => cond0_over.keep _ hr
    have kt : ∀ {r : Ref sig .tc}, r.idx.val < 28 → atTrip cond0 body0 W k c (Proc.devRef .tc r) = W c (Proc.devRef .tc r) :=
      fun hr => Over.keepTrip (cond0_over.mono (by decide : 28 ≤ 31)) body0_over _ hr _ _
    have hctr : after cond0 (atTrip cond0 body0 W k c) (Proc.devRef .tc main_v10_5) = fun _ => Scf.iv (0#32 : BitVec 32) 1#32 (⟨k, hk'⟩ : Fin 50).val := by
      rw [kc (by decide), atTrip0_ctr W h0 c k]
    have hs : ∀ j : Fin 128, (after while0Ops0_1 (after while0Ops0 (after cond0 (atTrip cond0 body0 W k c))) (Proc.devRef .tc main_while0b_v72) : (⟨S4x100x128, .f32⟩ : BufTy).Contents (Elt Ideal)) (ix3 w n j)
        = hidden (W c) w n (k + 1) j := fun j => by
      rw [trip_state _ ⟨k, hk'⟩ hctr, kc (by decide), kc (by decide), kc (by decide), kc (by decide), kc (by decide), kc (by decide),
        kt (by decide), kt (by decide), kt (by decide), kt (by decide), kt (by decide)]
      refine Eq.trans ?_ (congrFun (hidden_succ (W c) w n ⟨k, hk'⟩) j).symm
      exact cell_congr (fun _ _ => rfl) (fun _ _ => rfl) (fun _ => rfl) (fun _ => rfl) (fun _ => rfl) (fun d => ih1 d) j
    refine ⟨fun j => ?_, fun t ht => ?_⟩
    · rw [atTrip_succ, trip_h]; exact hs j
    · rw [atTrip_succ, trip_seq _ ⟨k, hk'⟩ hctr]
      by_cases e : t = ⟨k, hk'⟩
      · rw [if_pos e, hs j, e]
      · rw [if_neg e, kc (by decide)]
        exact ih2 t (by have : t.val ≠ k := fun h => e (Fin.ext h); omega)

variable (m : (ℓ : Loc nD τ sig) → Buf (Elt Ideal) ℓ)

theorem at0_zero (c : Dev nD) (w : Fin 4) (n : Fin 100) (j : Fin 128) :
    (at0 m c (Proc.devRef .tc main_v10_6) : (⟨S4x100x128, .f32⟩ : BufTy).Contents (Elt Ideal)) (ix3 w n j) = (0 : EReal) := by
  simp only [at0, afterL_cons, afterL_nil]
  after_results_simp_entrywise
  simp only [id_eq]
  pointwise

/-- The result, at every index. -/
theorem at2_val (c : Dev nD) (w : Fin 4) (n : Fin 100) (j : Fin 128) :
    (at2 m c (Proc.devRef .tc main_v33) : (⟨S4x12800, .f32⟩ : BufTy).Contents (Elt Ideal)) (ix2 w ⟨128 * n.val + j.val, by omega⟩)
      = pooled (fun t s => (launchContents m c (Proc.devRef .tc main_arg8) : (⟨S4x50x50, .f32⟩ : BufTy).Contents (Elt Ideal)) (ix3 w t s))
          (fun t => (launchContents m c (Proc.devRef .tc main_arg9) : (⟨S4x50, .f32⟩ : BufTy).Contents (Elt Ideal)) (ix2 w t))
          (fun t => hidden (at0 m c) w n (t.val + 1) j) := by
  unfold at2
  rw [afterL_cons, afterL_nil, post_val, at1_arg m c (by decide), at1_arg m c (by decide)]
  refine pooled_congr (fun _ _ => rfl) (fun _ => rfl) fun t => ?_
  unfold at1
  rw [cond0_over.keep _ (by decide)]
  exact (loop_inv (at0 m) (at0_ctr m) (at0_zero m) c w n j 50 le_rfl).2 t t.isLt

end Cert.EncoderReferenceIdeal.Gen

end
-- ==== Proof.EncRefIn.lean ====
/- What the reference's loop finds in its buffers, and its result as the mathematics of the arguments. -/
module

public import proofs.«01_k».proof.Proof.EncRefFold
public import proofs.«01_k».proof.Proof.SpecEnc
public import Idealize.ShloMosaic.Lib.StableHlo.RunClose

@[expose] public section

set_option maxRecDepth 16384

noncomputable section

namespace Cert.EncoderReferenceIdeal.Gen

open Idealize.ShloMosaic Idealize.ShloMosaic.TcCoe Idealize.ShloMosaic.Tactic
open Idealize.ShloMosaic.StableHlo Cert.Spec

variable (m : (ℓ : Loc nD τ sig) → Buf (Elt Ideal) ℓ) (c : Dev nD)

theorem in1 (w : Fin 4) (d : Fin 16) (r : Fin 384) :
    (at0 m c (Proc.devRef .tc main_v10_1) : (⟨S4x384x16, .f32⟩ : BufTy).Contents (Elt Ideal)) (ix3 w r d)
      = (m ((c.tc : Thread nD τ).loc main_arg4) : (⟨S4x384x16, .f32⟩ : BufTy).Contents (Elt Ideal)) (ix3 w r d) := by
  simp only [at0, afterL_cons, afterL_nil]
  after_results_simp_entrywise
  rfl

theorem in2 (w : Fin 4) (d : Fin 128) (r : Fin 384) :
    (at0 m c (Proc.devRef .tc main_v10_3) : (⟨S4x384x128, .f32⟩ : BufTy).Contents (Elt Ideal)) (ix3 w r d)
      = (m ((c.tc : Thread nD τ).loc main_arg5) : (⟨S4x384x128, .f32⟩ : BufTy).Contents (Elt Ideal)) (ix3 w r d) := by
  simp only [at0, afterL_cons, afterL_nil]
  after_results_simp_entrywise
  rfl

theorem in3 (w : Fin 4) (r : Fin 384) :
    (at0 m c (Proc.devRef .tc main_v10_2) : (⟨S4x384, .f32⟩ : BufTy).Contents (Elt Ideal)) (ix2 w r)
      = (m ((c.tc : Thread nD τ).loc main_arg6) : (⟨S4x384, .f32⟩ : BufTy).Contents (Elt Ideal)) (ix2 w r) := by
  simp only [at0, afterL_cons, afterL_nil]
  after_results_simp_entrywise
  rfl

theorem in4 (w : Fin 4) (r : Fin 384) :
    (at0 m c (Proc.devRef .tc main_v10_4) : (⟨S4x384, .f32⟩ : BufTy).Contents (Elt Ideal)) (ix2 w r)
      = (m ((c.tc : Thread nD τ).loc main_arg7) : (⟨S4x384, .f32⟩ : BufTy).Contents (Elt Ideal)) (ix2 w r) := by
  simp only [at0, afterL_cons, afterL_nil]
  after_results_simp_entrywise
  rfl

theorem in0 (w : Fin 4) (t : Fin 50) (n : Fin 100) (d : Fin 16) :
    (at0 m c (Proc.devRef .tc main_v10_0) : (⟨S50x4x100x16, .f32⟩ : BufTy).Contents (Elt Ideal)) (ix4 t w n d)
      = (![(m ((c.tc : Thread nD τ).loc main_arg0) : Vec Ideal S100x50x16 .f32), m ((c.tc : Thread nD τ).loc main_arg1),
          m ((c.tc : Thread nD τ).loc main_arg2), m ((c.tc : Thread nD τ).loc main_arg3)] : Fin 4 → Vec Ideal S100x50x16 .f32) w (ix3 n t d) := by
  simp only [at0, afterL_cons, afterL_nil]
  after_results_simp_entrywise
  simp only [id_eq]
  fin_cases w
  all_goals pointwise
  all_goals after_results_simp_entrywise
  all_goals pointwise

/-- The reference's result is the encoding of its arguments. -/
theorem result (w : Fin 4) (n : Fin 100) (j : Fin 128) :
    (at2 m c (Proc.devRef .tc main_v33) : (⟨S4x12800, .f32⟩ : BufTy).Contents (Elt Ideal)) (ix2 w ⟨128 * n.val + j.val, by omega⟩)
      = enc (fun w n t d => (![(m ((c.tc : Thread nD τ).loc main_arg0) : Vec Ideal S100x50x16 .f32), m ((c.tc : Thread nD τ).loc main_arg1),
            m ((c.tc : Thread nD τ).loc main_arg2), m ((c.tc : Thread nD τ).loc main_arg3)] : Fin 4 → Vec Ideal S100x50x16 .f32) w (ix3 n t d))
          (fun w r d => (m ((c.tc : Thread nD τ).loc main_arg4) : Vec Ideal S4x384x16 .f32) (ix3 w r d))
          (fun w r d => (m ((c.tc : Thread nD τ).loc main_arg5) : Vec Ideal S4x384x128 .f32) (ix3 w r d))
          (fun w r => (m ((c.tc : Thread nD τ).loc main_arg6) : Vec Ideal S4x384 .f32) (ix2 w r))
          (fun w r => (m ((c.tc : Thread nD τ).loc main_arg7) : Vec Ideal S4x384 .f32) (ix2 w r))
          (fun w t s => (m ((c.tc : Thread nD τ).loc main_arg8) : Vec Ideal S4x50x50 .f32) (ix3 w t s))
          (fun w t => (m ((c.tc : Thread nD τ).loc main_arg9) : Vec Ideal S4x50 .f32) (ix2 w t)) w n j := by
  refine (at2_val m c w n j).trans (pooled_congr (fun t s => rfl) (fun t => rfl) fun t => ?_)
  refine congrFun (congrFun (hid_congr (fun d r => in1 m c w d r) (fun d r => in2 m c w d r) (fun r => in3 m c w r) (fun r => in4 m c w r)
    fun t d => ?_) _) _
  by_cases h : t < 50
  · rw [dif_pos h, dif_pos h]; exact in0 m c w ⟨t, h⟩ n d
  · rw [dif_neg h, dif_neg h]

end Cert.EncoderReferenceIdeal.Gen

end
-- ==== Proof.EncAlg.lean ====
/- The encoder's slice and its reference end with equal results: both are the encoding of the arguments. -/
module

public import proofs.«01_k».proof.Defs
public import proofs.«01_k».proof.Proof.EncIn
public import proofs.«01_k».proof.Proof.EncRefIn

@[expose] public section

set_option maxRecDepth 16384

noncomputable section

namespace Cert.EncoderIdeal.Gen

open Idealize.ShloMosaic Idealize.ShloMosaic.TcCoe Idealize.SL.Sem Cert.Spec

/-- The result array, as a value of the launch's blocks. -/
def out (m : (ℓ : Loc nD τ sig) → Buf (Elt Ideal) ℓ) (c : Dev nD) : Vec Ideal S4x12800 .f32 :=
  resVal (iblk m c 0 t0_0) (iblk m c 1 t0_0) (iblk m c 2 t0_0) (iblk m c 3 t0_0) (iblk m c 4 t0_0) (iblk m c 5 t0_0) (iblk m c 6 t0_0)

/-- The kernel runs, its result is `out` and its arguments end as they began. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v9) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1.1 c).1 7).trans (arr_val m c), h.2.1 c⟩)
    (θ_run_and (run_main m ρ) (frame m ρ))

end Cert.EncoderIdeal.Gen

namespace Cert.EncoderReferenceIdeal.Gen

open Idealize.ShloMosaic Idealize.ShloMosaic.TcCoe Idealize.SL.Sem

/-- The reference runs, its result is the fold's and its arguments end as they began. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v33) = at2 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h.1 c main_v33 rfl, h.2 c⟩) (θ_run_and (run_fold m ρ) (frame m ρ))

end Cert.EncoderReferenceIdeal.Gen

namespace Cert.Proof

open Idealize.ShloMosaic Idealize.ShloMosaic.TcCoe Idealize.SL.Sem

/-- From memories that agree on the arguments, the two results agree at every index. -/
theorem enc_results (m : (ℓ : Loc EncoderIdeal.nD EncoderIdeal.τ EncoderIdeal.sig) → Buf (Elt Ideal) ℓ)
    (m' : (ℓ : Loc EncoderReferenceIdeal.nD EncoderReferenceIdeal.τ EncoderReferenceIdeal.sig) → Buf (Elt Ideal) ℓ) (c : Dev EncoderIdeal.nD)
    (h : m' ((c.tc : Thread EncoderReferenceIdeal.nD EncoderReferenceIdeal.τ).loc EncoderReferenceIdeal.main_arg0) = m ((c.tc : Thread EncoderIdeal.nD EncoderIdeal.τ).loc EncoderIdeal.main_arg0)
      ∧ m' ((c.tc : Thread EncoderReferenceIdeal.nD EncoderReferenceIdeal.τ).loc EncoderReferenceIdeal.main_arg1) = m ((c.tc : Thread EncoderIdeal.nD EncoderIdeal.τ).loc EncoderIdeal.main_arg1)
      ∧ m' ((c.tc : Thread EncoderReferenceIdeal.nD EncoderReferenceIdeal.τ).loc EncoderReferenceIdeal.main_arg2) = m ((c.tc : Thread EncoderIdeal.nD EncoderIdeal.τ).loc EncoderIdeal.main_arg2)
      ∧ m' ((c.tc : Thread EncoderReferenceIdeal.nD EncoderReferenceIdeal.τ).loc EncoderReferenceIdeal.main_arg3) = m ((c.tc : Thread EncoderIdeal.nD EncoderIdeal.τ).loc EncoderIdeal.main_arg3)
      ∧ m' ((c.tc : Thread EncoderReferenceIdeal.nD EncoderReferenceIdeal.τ).loc EncoderReferenceIdeal.main_arg4) = m ((c.tc : Thread EncoderIdeal.nD EncoderIdeal.τ).loc EncoderIdeal.main_arg4)
      ∧ m' ((c.tc : Thread EncoderReferenceIdeal.nD EncoderReferenceIdeal.τ).loc EncoderReferenceIdeal.main_arg5) = m ((c.tc : Thread EncoderIdeal.nD EncoderIdeal.τ).loc EncoderIdeal.main_arg5)
      ∧ m' ((c.tc : Thread EncoderReferenceIdeal.nD EncoderReferenceIdeal.τ).loc EncoderReferenceIdeal.main_arg6) = m ((c.tc : Thread EncoderIdeal.nD EncoderIdeal.τ).loc EncoderIdeal.main_arg6)
      ∧ m' ((c.tc : Thread EncoderReferenceIdeal.nD EncoderReferenceIdeal.τ).loc EncoderReferenceIdeal.main_arg7) = m ((c.tc : Thread EncoderIdeal.nD EncoderIdeal.τ).loc EncoderIdeal.main_arg7)
      ∧ m' ((c.tc : Thread EncoderReferenceIdeal.nD EncoderReferenceIdeal.τ).loc EncoderReferenceIdeal.main_arg8) = m ((c.tc : Thread EncoderIdeal.nD EncoderIdeal.τ).loc EncoderIdeal.main_arg8)
      ∧ m' ((c.tc : Thread EncoderReferenceIdeal.nD EncoderReferenceIdeal.τ).loc EncoderReferenceIdeal.main_arg9) = m ((c.tc : Thread EncoderIdeal.nD EncoderIdeal.τ).loc EncoderIdeal.main_arg9)) :
    (EncoderReferenceIdeal.Gen.at2 m' c (Proc.devRef .tc EncoderReferenceIdeal.main_v33) : Vec Ideal EncoderIdeal.S4x12800 .f32)
      = EncoderIdeal.Gen.out m c := by
  obtain ⟨h0, h1, h2, h3, h4, h5, h6, h7, h8, h9⟩ := h
  funext i
  obtain ⟨w, q, rfl⟩ : ∃ (w : Fin 4) (q : Fin 12800), i = ix2 w q := ⟨i 0, i 1, by funext k; fin_cases k <;> rfl⟩
  obtain ⟨n, j, rfl⟩ : ∃ (n : Fin 100) (j : Fin 128), q = ⟨128 * n.val + j.val, by omega⟩ :=
    ⟨⟨q.val / 128, by omega⟩, ⟨q.val % 128, by omega⟩, Fin.ext (by simp; omega)⟩
  refine (EncoderReferenceIdeal.Gen.result m' c w n j).trans (Eq.trans ?_ (EncoderIdeal.Gen.result m c w n j).symm)
  rw [h0, h1, h2, h3, h4, h5, h6, h7, h8, h9]

theorem encoder_algebraic : algebraic_EncoderIdeal_EncoderReferenceIdeal (hEncoderIdeal := EncoderIdeal.Gen.facts)
    (hEncoderReferenceIdeal := EncoderReferenceIdeal.Gen.facts) := fun m g m' g' _ hargs =>
  ⟨fun c => EncoderIdeal.Gen.out m c, EncoderIdeal.Gen.run_out m g,
    (θ_run _ _ _).mono (fun _ h c => ⟨(h c).1.trans (enc_results m m' c (hargs c)), (h c).2⟩) (EncoderReferenceIdeal.Gen.run_out m' g')⟩

end Cert.Proof

end
-- ==== Proof.SpecFus.lean ====
/- The fusion's two results as the mathematics of its nine arguments: node by node, a rectified linear layer over the node's
   embedding, its category's and its inner one side by side, then two linear heads, one of them through the logistic. -/
module

public import proofs.«01_k».proof.Proof.Spec

@[expose] public section

noncomputable section

namespace Cert.Spec

open Idealize.ShloMosaic

/-- The category of a node: twenty nodes to each. -/
def cat (n : Fin 100) : Fin 5 := ⟨n.val / 20, by omega⟩

/-- The fused feature `j` of node `n`: `W` the layer's weights over the three parts, `b` its bias. -/
def fused (wav : Fin 100 → Fin 128 → EReal) (cv : Fin 5 → Fin 128 → EReal) (inner : Fin 100 → Fin 128 → EReal) (W : Fin 128 → Fin 384 → EReal)
    (b : Fin 128 → EReal) (n : Fin 100) (j : Fin 128) : EReal :=
  max ((∑ k : Fin 128, wav n k * W j ⟨k, by omega⟩) + (∑ k : Fin 128, cv (cat n) k * W j ⟨128 + k, by omega⟩)
    + (∑ k : Fin 128, inner n k * W j ⟨256 + k, by omega⟩) + b j) 0

/-- A head over the fused features of a node. -/
def head (f : Fin 128 → EReal) (w : Fin 128 → EReal) (b : EReal) : EReal := (∑ j : Fin 128, f j * w j) + b

theorem sum_thirds (f : Fin 384 → EReal) :
    ∑ x, f x = (∑ k : Fin 128, f ⟨k, by omega⟩) + (∑ k : Fin 128, f ⟨128 + k, by omega⟩) + ∑ k : Fin 128, f ⟨256 + k, by omega⟩ :=
  (Fin.sum_univ_add (a := 256) (b := 128) f).trans
    (congrArg (· + _) (Fin.sum_univ_add (a := 128) (b := 128) fun k => f (Fin.castAdd 128 k)))

end Cert.Spec

end
-- ==== Proof.FusVal.lean ====
/- The fusion kernel's arithmetic read at an index: the one-hot product picks the node's category, the linear layer over the
   three parts side by side is the sum of the three parts' layers. -/
module

public import proofs.«01_k».proof.Proof.Gen.FusionIdeal.Value
public import proofs.«01_k».proof.Proof.SpecFus
public import Idealize.ShloMosaic.Lib.StableHlo.RunClose
public import Idealize.ShloMosaic.Lib.WholeRead

@[expose] public section

set_option maxRecDepth 16384

noncomputable section

namespace Cert.FusionIdeal.Gen

open Idealize.ShloMosaic Idealize.ShloMosaic.TcCoe Idealize.ShloMosaic.Tactic Cert.Spec

/-- The kernel's test of a node against a category, as a number: one where the node is of the category, zero elsewhere. -/
theorem of_category (n : Fin 100) (k : Fin 5) :
    BitVec.setWidth 32 (IntOp.cmpi CmpIPredicate.eq
      (Scalar.select
        (IntOp.andi
          (IntOp.cmpi CmpIPredicate.ne
            (IntOp.subi (BitVec.setWidth 32 (IntOp.cmpi CmpIPredicate.sgt (BitVec.ofNat 32 n.val) 0#32))
              (BitVec.setWidth 32 (IntOp.cmpi CmpIPredicate.slt (BitVec.ofNat 32 n.val) 0#32)))
            (Scalar.subi (Scalar.extui (Scalar.cmpi CmpIPredicate.sgt 20#32 0#32)) (Scalar.extui (Scalar.cmpi CmpIPredicate.slt 20#32 0#32))))
          (IntOp.cmpi CmpIPredicate.ne (IntOp.remsi ArithUnit.vector (BitVec.ofNat 32 n.val) 20#32) 0#32))
        (IntOp.subi (IntOp.divsi ArithUnit.vector (BitVec.ofNat 32 n.val) 20#32) 1#32)
        (IntOp.divsi ArithUnit.vector (BitVec.ofNat 32 n.val) 20#32))
      (BitVec.ofNat 32 k.val)) = if k = cat n then 1#32 else 0#32 := by
  revert n k
  decide +kernel

/-- The product with the tests is the category's row. -/
theorem pick (n : Fin 100) (f : Fin 5 → EReal) :
    ∑ k, (FloatOps.sitofp (F := Ideal) FTy.f32 (if k = cat n then 1#32 else 0#32) : EReal) * f k = f (cat n) := by
  rw [Finset.sum_eq_single (cat n) (fun k _ h => by rw [if_neg h]; simp [FloatOps.sitofp]) (fun h => (h (Finset.mem_univ _)).elim), if_pos rfl]
  simp [FloatOps.sitofp]

/-- The layer before its rectifier. -/
theorem pre_apply (x0 : Vec Ideal S100x128 .f32) (x1 : Vec Ideal S5x128 .f32) (x2 : Vec Ideal S100x128 .f32) (x3 : Vec Ideal S384x128 .f32)
    (x4 : Vec Ideal S1x128 .f32) (n : Fin 100) (j : Fin 128) :
    k0_pay4 x0 x1 x2 x3 x4 (ix2 n j)
      = (∑ k : Fin 128, x0 (ix2 n k) * x3 (ix2 ⟨k, by omega⟩ j)) + (∑ k : Fin 128, x1 (ix2 (cat n) k) * x3 (ix2 ⟨128 + k, by omega⟩ j))
          + (∑ k : Fin 128, x2 (ix2 n k) * x3 (ix2 ⟨256 + k, by omega⟩ j)) + x4 (ix2 0 j) := by
  pointwise [k0_pay4]
  refine congrArg (· + _) ((sum_thirds _).trans (congrArg₂ (· + ·) (congrArg₂ (· + ·) (Finset.sum_congr rfl fun k _ => ?_) (Finset.sum_congr rfl fun k _ => ?_)) (Finset.sum_congr rfl fun k _ => ?_)))
  · exact congrArg (· * _) (dif_pos k.isLt)
  · refine congrArg (· * _) ((dif_neg (by simp)).trans ((dif_pos (by simp)).trans ?_))
    simp only [of_category]
    refine (pick n _).trans ?_
    simp
  · refine congrArg (· * _) ((dif_neg (by simp; omega)).trans ((dif_neg (by simp; omega)).trans ?_))
    exact congrArg (fun i => x2 (ix2 n i)) (Fin.ext (by simp; omega))

theorem relu_apply (v : FVec Ideal S100x128 .f32) (n : Fin 100) (j : Fin 128) : k0_pay1 v (ix2 n j) = max (v (ix2 n j)) 0 := by
  pointwise [k0_pay1]

/-- The first head. -/
theorem reg_apply (v : FVec Ideal S100x128 .f32) (w : Vec Ideal S128x1 .f32) (b : Vec Ideal S1x1 .f32) (n : Fin 100) :
    k0_pay2 v w b (ix2 n 0) = head (fun j => max (v (ix2 n j)) 0) (fun j => w (ix2 j 0)) (b (ix2 0 0)) := by
  unfold head
  pointwise [k0_pay2]
  simp only [relu_apply]

/-- The second head, through the logistic. -/
theorem cls_apply (v : FVec Ideal S100x128 .f32) (w : Vec Ideal S128x1 .f32) (b : Vec Ideal S1x1 .f32) (n : Fin 100) :
    k0_pay3 v w b (ix2 n 0) = Ideal.logistic (head (fun j => max (v (ix2 n j)) 0) (fun j => w (ix2 j 0)) (b (ix2 0 0))) := by
  unfold head
  pointwise [k0_pay3]
  simp only [relu_apply]

theorem zeros : (![0, 0] : Fin 2 → Nat) = fun _ => 0 := funext fun a => by fin_cases a <;> rfl

theorem out_reg (x0 : Vec Ideal S100x128 .f32) (x1 : Vec Ideal S5x128 .f32) (x2 : Vec Ideal S100x128 .f32) (x3 : Vec Ideal S384x128 .f32) (x4 : Vec Ideal S1x128 .f32)
    (x5 : Vec Ideal S128x1 .f32) (x6 : Vec Ideal S1x1 .f32) (x7 : Vec Ideal S128x1 .f32) (x8 : Vec Ideal S1x1 .f32) :
    out0_9 x0 x1 x2 x3 x4 x5 x6 x7 x8 = k0_pay2 (k0_pay4 x0 x1 x2 x3 x4) x5 x6 := by
  unfold out0_9 k0_pay5
  rw [View.canon_unit_zero zeros]
  simp only [View.ld_unit_zero (S := S100x128) zeros, View.ld_unit_zero (S := S5x128) zeros, View.ld_unit_zero (S := S384x128) zeros,
    View.ld_unit_zero (S := S1x128) zeros, View.ld_unit_zero (S := S128x1) zeros, View.ld_unit_zero (S := S1x1) zeros]

theorem out_cls (x0 : Vec Ideal S100x128 .f32) (x1 : Vec Ideal S5x128 .f32) (x2 : Vec Ideal S100x128 .f32) (x3 : Vec Ideal S384x128 .f32) (x4 : Vec Ideal S1x128 .f32)
    (x5 : Vec Ideal S128x1 .f32) (x6 : Vec Ideal S1x1 .f32) (x7 : Vec Ideal S128x1 .f32) (x8 : Vec Ideal S1x1 .f32) :
    out0_10 x0 x1 x2 x3 x4 x5 x6 x7 x8 = k0_pay3 (k0_pay4 x0 x1 x2 x3 x4) x7 x8 := by
  unfold out0_10 k0_pay5
  rw [View.canon_unit_zero zeros]
  simp only [View.ld_unit_zero (S := S100x128) zeros, View.ld_unit_zero (S := S5x128) zeros, View.ld_unit_zero (S := S384x128) zeros,
    View.ld_unit_zero (S := S1x128) zeros, View.ld_unit_zero (S := S128x1) zeros, View.ld_unit_zero (S := S1x1) zeros]

end Cert.FusionIdeal.Gen

end
-- ==== Proof.FusRef.lean ====
/- The fusion reference's two results read at a node. -/
module

public import proofs.«01_k».proof.Proof.Gen.FusionReferenceIdeal.Run
public import proofs.«01_k».proof.Proof.SpecFus
public import Idealize.ShloMosaic.Lib.StableHlo.RunClose

@[expose] public section

set_option maxRecDepth 16384

noncomputable section

namespace Cert.FusionReferenceIdeal.Gen

open Idealize.ShloMosaic Idealize.ShloMosaic.TcCoe Idealize.ShloMosaic.Tactic Cert.Spec

variable (a0 : Vec Ideal S100x128 .f32) (a1 : Vec Ideal S5x128 .f32) (a2 : Vec Ideal S100x128 .f32) (a3 : Vec Ideal S128x384 .f32) (a4 : Vec Ideal S128 .f32)

/-- The fused features, category by category. -/
def mixed : FVec Ideal S5x20x128 .f32 :=
  maximumf (addf (Host.dotGeneral (φ₁ := .f32) (φ₂ := .f32) dot_S5x20x384_S384x128_S5x20x128_2_0_01_1_n_n none
      (concatenate S5x20x384 2 [⟨S5x20x128, (shapeCast _ a0 shapeCasts_S100x128_S5x20x128 : Vec Ideal S5x20x128 .f32)⟩,
        ⟨S5x20x128, (broadcastInDim S5x20x128 ![0, 1, 2] bcast_S5x1x128_S5x20x128_0_1_2 (broadcastInDim S5x1x128 ![0, 2] bcast_S5x128_S5x1x128_0_2 a1) : Vec Ideal S5x20x128 .f32)⟩,
        ⟨S5x20x128, (shapeCast _ a2 shapeCasts_S100x128_S5x20x128 : Vec Ideal S5x20x128 .f32)⟩] concatenates_S5x20x128_S5x20x128_S5x20x128_S5x20x384_d2 : Vec Ideal S5x20x384 .f32)
      (transpose S384x128 [1, 0] a3 transposes_S128x384_S384x128_1_0 : Vec Ideal S384x128 .f32))
    (broadcastInDim S5x20x128 ![0, 1, 2] bcast_S1x1x128_S5x20x128_0_1_2 (broadcastInDim S1x1x128 ![2] bcast_S128_S1x1x128_2 a4) : Vec Ideal S5x20x128 .f32))
    (broadcastInDim S5x20x128 ![] bcast_S_S5x20x128 (constant (F := Ideal) S_ .f32 0x00000000#32) : Vec Ideal S5x20x128 .f32)

theorem mixed_apply (p : Fin 5) (q : Fin 20) (j : Fin 128) :
    mixed a0 a1 a2 a3 a4 (ix3 p q j)
      = fused (fun n k => a0 (ix2 n k)) (fun p k => a1 (ix2 p k)) (fun n k => a2 (ix2 n k)) (fun j k => a3 (ix2 j k)) (fun j => a4 (ix1 j)) ⟨20 * p.val + q.val, by omega⟩ j := by
  unfold fused
  have hcat : cat ⟨20 * p.val + q.val, by omega⟩ = p := Fin.ext (by show (20 * p.val + q.val) / 20 = p.val; omega)
  rw [hcat]
  pointwise [mixed]
  refine congrArg (fun s => max (s + _) (0 : EReal)) ((sum_thirds _).trans (congrArg₂ (· + ·) (congrArg₂ (· + ·) (Finset.sum_congr rfl fun k _ => ?_) (Finset.sum_congr rfl fun k _ => ?_)) (Finset.sum_congr rfl fun k _ => ?_)))
  · refine congrArg (· * _) ((dif_pos k.isLt).trans ?_)
    exact congrArg₂ (fun i k => a0 (ix2 i k)) (Fin.ext (by simp only [Nat.mul_comm])) rfl
  · refine congrArg (· * _) ((dif_neg (by simp)).trans ((dif_pos (by simp)).trans ?_))
    exact congrArg (fun k => a1 (ix2 p k)) (Fin.ext (by simp))
  · refine congrArg (· * _) ((dif_neg (by simp; omega)).trans ((dif_neg (by simp; omega)).trans ?_))
    exact congrArg₂ (fun i k => a2 (ix2 i k)) (Fin.ext (by simp only [Nat.mul_comm])) (Fin.ext (by simp; omega))

variable (w : Vec Ideal S1x128 .f32) (b : Vec Ideal S1 .f32)

/-- A head of the reference, category by category. -/
def heads : FVec Ideal S5x20x1 .f32 :=
  addf (Host.dotGeneral (φ₁ := .f32) (φ₂ := .f32) dot_S5x20x128_S128x1_S5x20x1_2_0_01_1_n_n none (mixed a0 a1 a2 a3 a4)
      (transpose S128x1 [1, 0] w transposes_S1x128_S128x1_1_0 : Vec Ideal S128x1 .f32))
    (broadcastInDim S5x20x1 ![0, 1, 2] bcast_S1x1x1_S5x20x1_0_1_2 (broadcastInDim S1x1x1 ![2] bcast_S1_S1x1x1_2 b) : Vec Ideal S5x20x1 .f32)

theorem heads_apply (p : Fin 5) (q : Fin 20) :
    heads a0 a1 a2 a3 a4 w b (ix3 p q 0)
      = head (fun j => fused (fun n k => a0 (ix2 n k)) (fun p k => a1 (ix2 p k)) (fun n k => a2 (ix2 n k)) (fun j k => a3 (ix2 j k)) (fun j => a4 (ix1 j)) ⟨20 * p.val + q.val, by omega⟩ j)
          (fun j => w (ix2 0 j)) (b (ix1 0)) := by
  unfold head
  pointwise [heads]
  simp only [mixed_apply]

theorem reg_apply (n : Fin 100) :
    (shapeCast _ (heads a0 a1 a2 a3 a4 w b) shapeCasts_S5x20x1_S100x1 : Vec Ideal S100x1 .f32) (ix2 n 0)
      = head (fused (fun n k => a0 (ix2 n k)) (fun p k => a1 (ix2 p k)) (fun n k => a2 (ix2 n k)) (fun j k => a3 (ix2 j k)) (fun j => a4 (ix1 j)) n)
          (fun j => w (ix2 0 j)) (b (ix1 0)) := by
  pointwise
  refine (heads_apply a0 a1 a2 a3 a4 w b _ _).trans ?_
  exact congrArg (fun n => head (fused (fun n k => a0 (ix2 n k)) (fun p k => a1 (ix2 p k)) (fun n k => a2 (ix2 n k)) (fun j k => a3 (ix2 j k)) (fun j => a4 (ix1 j)) n)
    (fun j => w (ix2 0 j)) (b (ix1 0))) (Fin.ext (Nat.div_add_mod n.val 20))

theorem cls_apply (n : Fin 100) :
    (shapeCast _ (Host.divf (broadcastInDim S5x20x1 ![] bcast_S_S5x20x1 (constant (F := Ideal) S_ .f32 0x3F800000#32)) (addf (broadcastInDim S5x20x1 ![] bcast_S_S5x20x1 (constant (F := Ideal) S_ .f32 0x3F800000#32)) (Host.exp (Host.negf (heads a0 a1 a2 a3 a4 w b))))) shapeCasts_S5x20x1_S100x1 : Vec Ideal S100x1 .f32) (ix2 n 0)
      = Ideal.logistic (head (fused (fun n k => a0 (ix2 n k)) (fun p k => a1 (ix2 p k)) (fun n k => a2 (ix2 n k)) (fun j k => a3 (ix2 j k)) (fun j => a4 (ix1 j)) n)
          (fun j => w (ix2 0 j)) (b (ix1 0))) := by
  unfold Ideal.logistic
  rw [← reg_apply]
  pointwise

end Cert.FusionReferenceIdeal.Gen

end
-- ==== Proof.FusAlg.lean ====
/- The fusion's slice and its reference end with equal results: both are the two heads over the fused features. -/
module

public import proofs.«01_k».proof.Defs
public import proofs.«01_k».proof.Proof.FusVal
public import proofs.«01_k».proof.Proof.FusRef
public import Idealize.ShloMosaic.Lib.Pipeline.FrameValue
public import Idealize.ShloMosaic.Lib.Pipeline.ValueKit

@[expose] public section

set_option maxRecDepth 16384

noncomputable section

namespace Cert.FusionIdeal.Gen

open Idealize.ShloMosaic Idealize.ShloMosaic.TcCoe Idealize.ShloMosaic.Tactic Idealize.SL.Sem Cert.Spec

variable (m : (ℓ : Loc nD τ sig) → Buf (Elt Ideal) ℓ) (c : Dev nD)

theorem in0 (n : Fin 100) (k : Fin 128) : (iblk m c 0 t0_0 : Vec Ideal S100x128 .f32) (ix2 n k) = (m ((c.tc : Thread nD τ).loc main_arg0) : Vec Ideal S100x128 .f32) (ix2 n k) := by
  blk_point [iblk, V]
  all_goals (simp; rfl)
theorem in1 (p : Fin 5) (k : Fin 128) : (iblk m c 1 t0_0 : Vec Ideal S5x128 .f32) (ix2 p k) = (m ((c.tc : Thread nD τ).loc main_arg1) : Vec Ideal S5x128 .f32) (ix2 p k) := by
  blk_point [iblk, V]
  all_goals (simp; rfl)
theorem in2 (n : Fin 100) (k : Fin 128) : (iblk m c 2 t0_0 : Vec Ideal S100x128 .f32) (ix2 n k) = (m ((c.tc : Thread nD τ).loc main_arg2) : Vec Ideal S100x128 .f32) (ix2 n k) := by
  blk_point [iblk, V]
  all_goals (simp; rfl)
theorem in3 (k : Fin 384) (j : Fin 128) : (iblk m c 3 t0_0 : Vec Ideal S384x128 .f32) (ix2 k j) = (m ((c.tc : Thread nD τ).loc main_arg3) : Vec Ideal S128x384 .f32) (ix2 j k) := by
  blk_point [iblk, V]
  all_goals (simp; rfl)
theorem in4 (j : Fin 128) : (iblk m c 4 t0_0 : Vec Ideal S1x128 .f32) (ix2 0 j) = (m ((c.tc : Thread nD τ).loc main_arg4) : Vec Ideal S128 .f32) (ix1 j) := by
  blk_point [iblk, V]
  all_goals (simp; rfl)
theorem in5 (j : Fin 128) : (iblk m c 5 t0_0 : Vec Ideal S128x1 .f32) (ix2 j 0) = (m ((c.tc : Thread nD τ).loc main_arg5) : Vec Ideal S1x128 .f32) (ix2 0 j) := by
  blk_point [iblk, V]
  all_goals (simp; rfl)
theorem in6  : (iblk m c 6 t0_0 : Vec Ideal S1x1 .f32) (ix2 0 0) = (m ((c.tc : Thread nD τ).loc main_arg6) : Vec Ideal S1 .f32) (ix1 0) := by
  blk_point [iblk, V]
  all_goals (simp; rfl)
theorem in7 (j : Fin 128) : (iblk m c 7 t0_0 : Vec Ideal S128x1 .f32) (ix2 j 0) = (m ((c.tc : Thread nD τ).loc main_arg7) : Vec Ideal S1x128 .f32) (ix2 0 j) := by
  blk_point [iblk, V]
  all_goals (simp; rfl)
theorem in8  : (iblk m c 8 t0_0 : Vec Ideal S1x1 .f32) (ix2 0 0) = (m ((c.tc : Thread nD τ).loc main_arg8) : Vec Ideal S1 .f32) (ix1 0) := by
  blk_point [iblk, V]
  all_goals (simp; rfl)

/-- The first result array, as a value of the launch's blocks. -/
def reg : Vec Ideal S100x1 .f32 := out0_9 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)
/-- The second. -/
def cls : Vec Ideal S100x1 .f32 := out0_10 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)

theorem arr_reg : (dats m 0 c).arrAt 9 cfg0.N = reg m c := by
  refine (dats m 0 c).arrAt_eq_of_after_last 9 t0_0 (by decide +kernel) _ fun j => ?_
  blk_simp
  rw [after0_9]
  rfl
theorem arr_cls : (dats m 0 c).arrAt 10 cfg0.N = cls m c := by
  refine (dats m 0 c).arrAt_eq_of_after_last 10 t0_0 (by decide +kernel) _ fun j => ?_
  blk_simp
  rw [after0_10]
  rfl

/-- The fused features, from the launch's blocks. -/
theorem fused_apply (n : Fin 100) (j : Fin 128) :
    max (k0_pay4 (iblk m c 0 t0_0) (iblk m c 1 t0_0) (iblk m c 2 t0_0) (iblk m c 3 t0_0) (iblk m c 4 t0_0) (ix2 n j)) 0
      = fused (fun n k => (m ((c.tc : Thread nD τ).loc main_arg0) : Vec Ideal S100x128 .f32) (ix2 n k)) (fun p k => (m ((c.tc : Thread nD τ).loc main_arg1) : Vec Ideal S5x128 .f32) (ix2 p k)) (fun n k => (m ((c.tc : Thread nD τ).loc main_arg2) : Vec Ideal S100x128 .f32) (ix2 n k))
          (fun j k => (m ((c.tc : Thread nD τ).loc main_arg3) : Vec Ideal S128x384 .f32) (ix2 j k)) (fun j => (m ((c.tc : Thread nD τ).loc main_arg4) : Vec Ideal S128 .f32) (ix1 j)) n j := by
  rw [pre_apply]
  simp only [in0, in1, in2, in3, in4]
  rfl

theorem reg_val (n : Fin 100) :
    reg m c (ix2 n 0) = head (fused (fun n k => (m ((c.tc : Thread nD τ).loc main_arg0) : Vec Ideal S100x128 .f32) (ix2 n k)) (fun p k => (m ((c.tc : Thread nD τ).loc main_arg1) : Vec Ideal S5x128 .f32) (ix2 p k)) (fun n k => (m ((c.tc : Thread nD τ).loc main_arg2) : Vec Ideal S100x128 .f32) (ix2 n k))
          (fun j k => (m ((c.tc : Thread nD τ).loc main_arg3) : Vec Ideal S128x384 .f32) (ix2 j k)) (fun j => (m ((c.tc : Thread nD τ).loc main_arg4) : Vec Ideal S128 .f32) (ix1 j)) n) (fun j => (m ((c.tc : Thread nD τ).loc main_arg5) : Vec Ideal S1x128 .f32) (ix2 0 j)) ((m ((c.tc : Thread nD τ).loc main_arg6) : Vec Ideal S1 .f32) (ix1 0)) := by
  unfold reg
  rw [out_reg, reg_apply]
  simp only [fused_apply, in5, in6]

theorem cls_val (n : Fin 100) :
    cls m c (ix2 n 0) = Ideal.logistic (head (fused (fun n k => (m ((c.tc : Thread nD τ).loc main_arg0) : Vec Ideal S100x128 .f32) (ix2 n k)) (fun p k => (m ((c.tc : Thread nD τ).loc main_arg1) : Vec Ideal S5x128 .f32) (ix2 p k)) (fun n k => (m ((c.tc : Thread nD τ).loc main_arg2) : Vec Ideal S100x128 .f32) (ix2 n k))
          (fun j k => (m ((c.tc : Thread nD τ).loc main_arg3) : Vec Ideal S128x384 .f32) (ix2 j k)) (fun j => (m ((c.tc : Thread nD τ).loc main_arg4) : Vec Ideal S128 .f32) (ix1 j)) n) (fun j => (m ((c.tc : Thread nD τ).loc main_arg7) : Vec Ideal S1x128 .f32) (ix2 0 j)) ((m ((c.tc : Thread nD τ).loc main_arg8) : Vec Ideal S1 .f32) (ix1 0))) := by
  unfold cls
  rw [out_cls, cls_apply]
  simp only [fused_apply, in7, in8]

/-- The kernel runs, its results are `reg` and `cls` and its arguments end as they began. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v6_0) = reg m c
      ∧ r.2.mem ((c.tc : Thread nD τ).loc main_v6_1) = cls m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (arr_reg m c), (h c).2.1.trans (arr_cls m c), (h c).2.2⟩) (Value.run_blocks m ρ)

end Cert.FusionIdeal.Gen

namespace Cert.Proof

open Idealize.ShloMosaic Idealize.ShloMosaic.TcCoe Idealize.SL.Sem

theorem fusion_algebraic : algebraic_FusionIdeal_FusionReferenceIdeal (hFusionIdeal := FusionIdeal.Gen.facts)
    (hFusionReferenceIdeal := FusionReferenceIdeal.Gen.facts) := fun m g m' g' _ hargs =>
  ⟨fun c => FusionIdeal.Gen.reg m c, fun c => FusionIdeal.Gen.cls m c, FusionIdeal.Gen.run_out m g,
    (θ_run _ _ _).mono (fun _ h c => by
      obtain ⟨h0, h1, h2, h3, h4, h5, h6, h7, h8⟩ := hargs c
      refine ⟨(h c).1.trans ?_, (h c).2.1.trans ?_, (h c).2.2⟩
      · funext y
        obtain ⟨n, rfl⟩ : ∃ n : Fin 100, y = ix2 n 0 := ⟨y 0, by
          funext k; fin_cases k
          · rfl
          · exact Fin.ext (Nat.lt_one_iff.1 (y 1).isLt)⟩
        refine (FusionReferenceIdeal.Gen.reg_apply _ _ _ _ _ _ _ n).trans (Eq.trans ?_ (FusionIdeal.Gen.reg_val m c n).symm)
        rw [h0, h1, h2, h3, h4, h5, h6]
      · funext y
        obtain ⟨n, rfl⟩ : ∃ n : Fin 100, y = ix2 n 0 := ⟨y 0, by
          funext k; fin_cases k
          · rfl
          · exact Fin.ext (Nat.lt_one_iff.1 (y 1).isLt)⟩
        refine (FusionReferenceIdeal.Gen.cls_apply _ _ _ _ _ _ _ n).trans (Eq.trans ?_ (FusionIdeal.Gen.cls_val m c n).symm)
        rw [h0, h1, h2, h3, h4, h7, h8]) (FusionReferenceIdeal.Value.run (F := Ideal) m' g')⟩

end Cert.Proof

end
-- ==== Proof.RecFrame.lean ====
/- The recurrence's run as it stands: every input ends as it began; nothing is said of the result. -/
module

public import proofs.«01_k».proof.Proof.RecRun
public import Idealize.ShloMosaic.Lib.Pipeline.FrameBody
public import Idealize.ShloMosaic.Lib.Pipeline.Frame
public import Idealize.ShloMosaic.Lib.Claim

@[expose] public section

set_option maxRecDepth 16384

noncomputable section

namespace Cert.Recurrence.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer that stages operand 0 at point `t`. -/
abbrev ms0_0 (t : Fin cfg0.N) : Memref sig .tc .vmem S4x12800 .f32 := win0_0.stage (cfg0.slots t 0)
/-- The buffer that stages operand 1 at point `t`. -/
abbrev ms0_1 (t : Fin cfg0.N) : Memref sig .tc .vmem S128x384 .f32 := win0_1.stage (cfg0.slots t 1)
/-- The buffer that stages operand 2 at point `t`. -/
abbrev ms0_2 (t : Fin cfg0.N) : Memref sig .tc .vmem S128x384 .f32 := win0_2.stage (cfg0.slots t 2)
/-- The buffer that stages operand 3 at point `t`. -/
abbrev ms0_3 (t : Fin cfg0.N) : Memref sig .tc .vmem S1x384 .f32 := win0_3.stage (cfg0.slots t 3)
/-- The buffer that stages operand 4 at point `t`. -/
abbrev ms0_4 (t : Fin cfg0.N) : Memref sig .tc .vmem S1x384 .f32 := win0_4.stage (cfg0.slots t 4)
/-- The buffer that stages operand 5 at point `t`. -/
abbrev ms0_5 (t : Fin cfg0.N) : Memref sig .tc .smem S4x4 .f32 := win0_5.stage (cfg0.slots t 5)
/-- The buffer that stages operand 6 at point `t`. -/
abbrev ms0_6 (t : Fin cfg0.N) : Memref sig .tc .smem S4 .f32 := win0_6.stage (cfg0.slots t 6)
/-- The buffer that stages operand 7 at point `t`. -/
abbrev ms0_7 (t : Fin cfg0.N) : Memref sig .tc .vmem S100x128 .f32 := win0_7.stage (cfg0.slots t 7)

/-- The scratch array. -/
abbrev scM0_0 : Memref sig .tc .vmem S416x128 .f32 := Memref.whole cc0_scratch0

/-- What the body may use beside its operands: the scratch array at some contents and the generator register. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- The one result, of which nothing is said. -/
def forgets0 : Fin 8 → Bool := fun w => w.val == 7

/-- Before the body each operand's buffer holds its block; after it the result is not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun c (ms0_0 t) (hstage0_0 0) (ms0_1 t) (hstage0_1 0) (ms0_2 t) (hstage0_2 0) (ms0_3 t) (hstage0_3 0) (ms0_4 t) (hstage0_4 0) (ms0_5 t) (hstage0_5 0) (ms0_6 t) (hstage0_6 0) (ms0_7 t) (hstage0_7 0) scM0_0 (Memref.isWhole_whole _) (iblk m c 0 t) (iblk m c 1 t) (iblk m c 2 t) (iblk m c 3 t) (iblk m c 4 t) (iblk m c 5 t) (iblk m c 6 t) d7 s0).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists _; iexact H7

/-- The body the launch calls at point `t` is the body above. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : BodyObligation (dats m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 4000000 in
/-- The launch. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
      have h0 := (Pipeline.RDat.FramePost.arr_in h c 0 rfl).trans ((A_eq m c 0).trans (V_main_arg0 m c))
      have h5 := (Pipeline.RDat.FramePost.arr_in h c 5 rfl).trans ((A_eq m c 5).trans (V_main_arg5 m c))
      have h6 := (Pipeline.RDat.FramePost.arr_in h c 6 rfl).trans ((A_eq m c 6).trans (V_main_arg6 m c))
      exact ⟨h0,
        ((h c).2 main_arg1 (Pipeline.mem_restRefs_of main_arg1 (by decide) (by decide))).trans (V_main_arg1 m c),
        ((h c).2 main_arg2 (Pipeline.mem_restRefs_of main_arg2 (by decide) (by decide))).trans (V_main_arg2 m c),
        ((h c).2 main_arg3 (Pipeline.mem_restRefs_of main_arg3 (by decide) (by decide))).trans (V_main_arg3 m c),
        ((h c).2 main_arg4 (Pipeline.mem_restRefs_of main_arg4 (by decide) (by decide))).trans (V_main_arg4 m c), h5, h6⟩)
    ((θ_run defs _ _).mono (fun _ h => h.1) (run_main m ρ))

/-- The frame claim: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main m ρ))

end Cert.Recurrence.Gen

end
-- ==== Proof.RecRefLists.lean ====
/- The recurrence reference's host operations as lists, stretch by stretch, and its program and its loop body as the chains
   of those stretches. -/
module

public import proofs.«01_k».proof.Proof.Gen.RecurrenceReferenceIdeal
public import Idealize.ShloMosaic.Lib.StableHlo.RunLoop
public import Idealize.ShloMosaic.Lib.Tactic

@[expose] public section

set_option maxRecDepth 16384

noncomputable section

namespace Cert.RecurrenceReferenceIdeal.Gen

open Idealize.ShloMosaic Idealize.ShloMosaic.TcCoe Idealize.ShloMosaic.Tactic Idealize.ShloMosaic.StableHlo
open Idealize.SL Idealize.SL.Sem

variable {F : FTy → Type} [FloatOps F]

/-- The contents of a buffer of shape `s` and element type `e`. -/
abbrev Arr (F : FTy → Type) (s : Shape) (e : EltTy) := (⟨s, e⟩ : BufTy).Contents (Elt F)

/-- 15 host operations of @main, in order. -/
abbrev hostOps0 : List (HloOp τ sig (Elt F)) :=
  [ reshape main_arg0 main_v0 (rfl : (.f32 : EltTy) = .f32) shapeCasts_S4x12800_S4x100x128,
    unary main_v0 main_v1 ((transpose S100x4x128 [1, 0, 2] · transposes_S4x100x128_S100x4x128_1_0_2) : Arr F S4x100x128 .f32 → Arr F S100x4x128 .f32),
    nullary main_cst (constant S_ .f32 0x00000000#32),
    unary main_cst main_v2 (broadcastInDim S4x128 ![] bcast_S_S4x128 : Arr F S_ .f32 → Arr F S4x128 .f32),
    nullary main_cst_0 (constant S_ .f32 0x00000000#32),
    unary main_cst_0 main_v3 (broadcastInDim S100x4x128 ![] bcast_S_S100x4x128 : Arr F S_ .f32 → Arr F S100x4x128 .f32),
    nullary main_c (constantI S_ 32 0#32),
    unary main_v1 main_v4_0 id,
    unary main_arg1 main_v4_1 id,
    unary main_arg3 main_v4_2 id,
    unary main_arg2 main_v4_3 id,
    unary main_arg4 main_v4_4 id,
    unary main_c main_v4_5 id,
    unary main_v2 main_v4_6 id,
    unary main_v3 main_v4_7 id ]
theorem hostOps0_sub : (hostOps0 : List (HloOp τ sig (Elt F))).Forall fun op => op.bufs ⊆ tcRefs τ sig :=
  ⟨reshape_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
/-- 24 host operations of @main, in order. -/
abbrev hostOps0_1 : List (HloOp τ sig (Elt F)) :=
  [ unary main_v4_7 main_v5 ((transpose S100x128x4 [0, 2, 1] · transposes_S100x4x128_S100x128x4_0_2_1) : Arr F S100x4x128 .f32 → Arr F S100x128x4 .f32),
    unary main_arg5 main_v6 ((transpose S4x4 [1, 0] · transposes_S4x4_S4x4_1_0) : Arr F S4x4 .f32 → Arr F S4x4 .f32),
    binary main_v5 main_v6 main_v7 ((fun l r => Host.dotGeneral dot_S100x128x4_S4x4_S100x128x4_2_0_01_1_n_n none l r) : Arr F S100x128x4 .f32 → Arr F S4x4 .f32 → Arr F S100x128x4 .f32),
    unary main_arg6 main_v8 (broadcastInDim S1x1x4 ![2] bcast_S4_S1x1x4_2 : Arr F S4 .f32 → Arr F S1x1x4 .f32),
    unary main_v8 main_v9 (broadcastInDim S100x128x4 ![0, 1, 2] bcast_S1x1x4_S100x128x4_0_1_2 : Arr F S1x1x4 .f32 → Arr F S100x128x4 .f32),
    binary main_v7 main_v9 main_v10 (addf : Arr F S100x128x4 .f32 → Arr F S100x128x4 .f32 → Arr F S100x128x4 .f32),
    nullary main_cst_1 (constant S_ .f32 0xFF800000#32),
    binary main_v10 main_cst_1 main_v11 ((fun x v => Host.reduce FloatOps.maximumf x v reducesTo_S100x128x4_S100x128_d2 h_S_) : Arr F S100x128x4 .f32 → Arr F S_ .f32 → Arr F S100x128 .f32),
    nullary main_cst_2 (constant S_ .f32 0xFF800000#32),
    unary main_cst_2 main_v12 (broadcastInDim S100x128 ![] bcast_S_S100x128 : Arr F S_ .f32 → Arr F S100x128 .f32),
    binary main_v12 main_v11 main_v13 (maximumf : Arr F S100x128 .f32 → Arr F S100x128 .f32 → Arr F S100x128 .f32),
    unary main_v13 main_v14 (broadcastInDim S100x128x1 ![0, 1] bcast_S100x128_S100x128x1_0_1 : Arr F S100x128 .f32 → Arr F S100x128x1 .f32),
    unary main_v14 main_v15 (broadcastInDim S100x128x4 ![0, 1, 2] bcast_S100x128x1_S100x128x4_0_1_2 : Arr F S100x128x1 .f32 → Arr F S100x128x4 .f32),
    binary main_v10 main_v15 main_v16 (subf : Arr F S100x128x4 .f32 → Arr F S100x128x4 .f32 → Arr F S100x128x4 .f32),
    unary main_v16 main_v17 (Host.exp : Arr F S100x128x4 .f32 → Arr F S100x128x4 .f32),
    nullary main_cst_3 (constant S_ .f32 0x00000000#32),
    binary main_v17 main_cst_3 main_v18 ((fun x v => Host.reduceAdd x v reducesTo_S100x128x4_S100x128_d2 h_S_) : Arr F S100x128x4 .f32 → Arr F S_ .f32 → Arr F S100x128 .f32),
    unary main_v18 main_v19 (broadcastInDim S100x128x1 ![0, 1] bcast_S100x128_S100x128x1_0_1 : Arr F S100x128 .f32 → Arr F S100x128x1 .f32),
    unary main_v19 main_v20 (broadcastInDim S100x128x4 ![0, 1, 2] bcast_S100x128x1_S100x128x4_0_1_2 : Arr F S100x128x1 .f32 → Arr F S100x128x4 .f32),
    binary main_v17 main_v20 main_v21 (Host.divf : Arr F S100x128x4 .f32 → Arr F S100x128x4 .f32 → Arr F S100x128x4 .f32),
    unary main_v21 main_v22 ((transpose S100x4x128 [0, 2, 1] · transposes_S100x128x4_S100x4x128_0_2_1) : Arr F S100x128x4 .f32 → Arr F S100x4x128 .f32),
    binary main_v22 main_v4_7 main_v23 (mulf : Arr F S100x4x128 .f32 → Arr F S100x4x128 .f32 → Arr F S100x4x128 .f32),
    nullary main_cst_4 (constant S_ .f32 0x00000000#32),
    binary main_v23 main_cst_4 main_v24 ((fun x v => Host.reduceAdd x v reducesTo_S100x4x128_S100x128_d1 h_S_) : Arr F S100x4x128 .f32 → Arr F S_ .f32 → Arr F S100x128 .f32) ]
theorem hostOps0_1_sub : (hostOps0_1 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., nullary_bufs_sub .., binary_bufs_sub ..⟩
/-- These statements are the stretches below, in order. -/
theorem main_chain (c : Dev nD) : main (F := F) c = (Pipeline.chain
  [ seq hostOps0,
    HostLoop.enter 0,
    seq hostOps0_1 ] : Prog (TpuEff nD τ sig (Elt F) (HostLoop.Sig (Pipeline.Sig Λ₀ (Fin 0) fun p => (pcfgs (F := F) p).Adm) 1) .tc) PUnit) := by
  rewrite [chain_seq_cons, Pipeline.chain_cons, chain_seq_cons]
  chain_rfl

-- no `main_segs` (the loop-free kit's `Seg.run` equation) for this @main: it has a host loop; a certificate takes `main_chain` (Lib/Pipeline/RegionsLoop.lean)

/-- 4 host operations of @dynamic_index_in_dim (main_while0b_call0), in order. -/
abbrev while0Ops0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.unaryIndexed (.of main_v4_0 : TRef sig ⟨S100x4x128, .f32⟩) ![(.of main_v4_5 : TRef sig ⟨S_, .i32⟩), (.of main_while0b_call0_c : TRef sig ⟨S_, .i32⟩), (.of main_while0b_call0_c_0 : TRef sig ⟨S_, .i32⟩)] (.of main_while0b_call0_v0 : TRef sig ⟨S1x4x128, .f32⟩) (fun x i => Host.dynamicSlice S1x4x128 x (fun k => (i k (Shape.Idx.first h_S_)).toInt) sliceFits_S100x4x128_S1x4x128),
    TRef.reshape (.of main_while0b_call0_v0 : TRef sig ⟨S1x4x128, .f32⟩) (.of main_while0b_v25 : TRef sig ⟨S4x128, .f32⟩) (rfl : (.f32 : EltTy) = .f32) shapeCasts_S1x4x128_S4x128 ]
theorem while0Ops0_sub : (while0Ops0 : List (HloOp τ sig (Elt F))).Forall fun op => op.bufs ⊆ tcRefs τ sig :=
  ⟨nullary_bufs_sub .., nullary_bufs_sub .., unaryIndexed_bufs_sub .., reshape_bufs_sub ..⟩
/-- 43 host operations of host loop 0's body region, in order. -/
abbrev while0Ops0_1 : List (HloOp τ sig (Elt F)) :=
  ( unary main_v4_1 main_while0b_v26 ((transpose S128x384 [1, 0] · transposes_S384x128_S128x384_1_0) : Arr F S384x128 .f32 → Arr F S128x384 .f32)
  :: binary main_while0b_v25 main_while0b_v26 main_while0b_v27 ((fun l r => Host.dotGeneral dot_S4x128_S128x384_S4x384_1_0_0_1_n_n none l r) : Arr F S4x128 .f32 → Arr F S128x384 .f32 → Arr F S4x384 .f32)
  :: unary main_v4_2 main_while0b_v28 (broadcastInDim S1x384 ![1] bcast_S384_S1x384_1 : Arr F S384 .f32 → Arr F S1x384 .f32)
  :: unary main_while0b_v28 main_while0b_v29 (broadcastInDim S4x384 ![0, 1] bcast_S1x384_S4x384_0_1 : Arr F S1x384 .f32 → Arr F S4x384 .f32)
  :: binary main_while0b_v27 main_while0b_v29 main_while0b_v30 (addf : Arr F S4x384 .f32 → Arr F S4x384 .f32 → Arr F S4x384 .f32)
  :: unary main_v4_3 main_while0b_v31 ((transpose S128x384 [1, 0] · transposes_S384x128_S128x384_1_0) : Arr F S384x128 .f32 → Arr F S128x384 .f32)
  :: binary main_v4_6 main_while0b_v31 main_while0b_v32 ((fun l r => Host.dotGeneral dot_S4x128_S128x384_S4x384_1_0_0_1_n_n none l r) : Arr F S4x128 .f32 → Arr F S128x384 .f32 → Arr F S4x384 .f32)
  :: unary main_v4_4 main_while0b_v33 (broadcastInDim S1x384 ![1] bcast_S384_S1x384_1 : Arr F S384 .f32 → Arr F S1x384 .f32)
  :: unary main_while0b_v33 main_while0b_v34 (broadcastInDim S4x384 ![0, 1] bcast_S1x384_S4x384_0_1 : Arr F S1x384 .f32 → Arr F S4x384 .f32)
  :: binary main_while0b_v32 main_while0b_v34 main_while0b_v35 (addf : Arr F S4x384 .f32 → Arr F S4x384 .f32 → Arr F S4x384 .f32)
  :: unary main_while0b_v30 main_while0b_v36 ((extractStridedSlice S4x128 ![0, 0] · slices_S4x384_S4x128_0_0) : Arr F S4x384 .f32 → Arr F S4x128 .f32)
  :: unary main_while0b_v30 main_while0b_v37 ((extractStridedSlice S4x128 ![0, 128] · slices_S4x384_S4x128_0_128) : Arr F S4x384 .f32 → Arr F S4x128 .f32)
  :: unary main_while0b_v30 main_while0b_v38 ((extractStridedSlice S4x128 ![0, 256] · slices_S4x384_S4x128_0_256) : Arr F S4x384 .f32 → Arr F S4x128 .f32)
  :: unary main_while0b_v35 main_while0b_v39 ((extractStridedSlice S4x128 ![0, 0] · slices_S4x384_S4x128_0_0) : Arr F S4x384 .f32 → Arr F S4x128 .f32)
  :: unary main_while0b_v35 main_while0b_v40 ((extractStridedSlice S4x128 ![0, 128] · slices_S4x384_S4x128_0_128) : Arr F S4x384 .f32 → Arr F S4x128 .f32)
  :: unary main_while0b_v35 main_while0b_v41 ((extractStridedSlice S4x128 ![0, 256] · slices_S4x384_S4x128_0_256) : Arr F S4x384 .f32 → Arr F S4x128 .f32)
  :: binary main_while0b_v36 main_while0b_v39 main_while0b_v42 (addf : Arr F S4x128 .f32 → Arr F S4x128 .f32 → Arr F S4x128 .f32)
  :: unary main_while0b_v42 main_while0b_v43 (Host.negf : Arr F S4x128 .f32 → Arr F S4x128 .f32)
  :: unary main_while0b_v43 main_while0b_v44 (Host.exp : Arr F S4x128 .f32 → Arr F S4x128 .f32)
  :: nullary main_while0b_cst_12 (constant S_ .f32 0x3F800000#32)
  :: unary main_while0b_cst_12 main_while0b_v45 (broadcastInDim S4x128 ![] bcast_S_S4x128 : Arr F S_ .f32 → Arr F S4x128 .f32)
  :: binary main_while0b_v45 main_while0b_v44 main_while0b_v46 (addf : Arr F S4x128 .f32 → Arr F S4x128 .f32 → Arr F S4x128 .f32)
  :: nullary main_while0b_cst_13 (constant S_ .f32 0x3F800000#32)
  :: unary main_while0b_cst_13 main_while0b_v47 (broadcastInDim S4x128 ![] bcast_S_S4x128 : Arr F S_ .f32 → Arr F S4x128 .f32)
  :: binary main_while0b_v47 main_while0b_v46 main_while0b_v48 (Host.divf : Arr F S4x128 .f32 → Arr F S4x128 .f32 → Arr F S4x128 .f32)
  :: binary main_while0b_v37 main_while0b_v40 main_while0b_v49 (addf : Arr F S4x128 .f32 → Arr F S4x128 .f32 → Arr F S4x128 .f32)
  :: unary main_while0b_v49 main_while0b_v50 (Host.negf : Arr F S4x128 .f32 → Arr F S4x128 .f32)
  :: unary main_while0b_v50 main_while0b_v51 (Host.exp : Arr F S4x128 .f32 → Arr F S4x128 .f32)
  :: nullary main_while0b_cst_14 (constant S_ .f32 0x3F800000#32)
  :: unary main_while0b_cst_14 main_while0b_v52 (broadcastInDim S4x128 ![] bcast_S_S4x128 : Arr F S_ .f32 → Arr F S4x128 .f32)
  :: binary main_while0b_v52 main_while0b_v51 main_while0b_v53 (addf : Arr F S4x128 .f32 → Arr F S4x128 .f32 → Arr F S4x128 .f32)
  :: nullary main_while0b_cst_15 (constant S_ .f32 0x3F800000#32)
  :: unary main_while0b_cst_15 main_while0b_v54 (broadcastInDim S4x128 ![] bcast_S_S4x128 : Arr F S_ .f32 → Arr F S4x128 .f32)
  :: binary main_while0b_v54 main_while0b_v53 main_while0b_v55 (Host.divf : Arr F S4x128 .f32 → Arr F S4x128 .f32 → Arr F S4x128 .f32)
  :: binary main_while0b_v48 main_while0b_v41 main_while0b_v56 (mulf : Arr F S4x128 .f32 → Arr F S4x128 .f32 → Arr F S4x128 .f32)
  :: binary main_while0b_v38 main_while0b_v56 main_while0b_v57 (addf : Arr F S4x128 .f32 → Arr F S4x128 .f32 → Arr F S4x128 .f32)
  :: unary main_while0b_v57 main_while0b_v58 (Host.tanh : Arr F S4x128 .f32 → Arr F S4x128 .f32)
  :: nullary main_while0b_cst_16 (constant S_ .f32 0x3F800000#32)
  :: unary main_while0b_cst_16 main_while0b_v59 (broadcastInDim S4x128 ![] bcast_S_S4x128 : Arr F S_ .f32 → Arr F S4x128 .f32)
  :: binary main_while0b_v59 main_while0b_v55 main_while0b_v60 (subf : Arr F S4x128 .f32 → Arr F S4x128 .f32 → Arr F S4x128 .f32)
  :: binary main_while0b_v60 main_while0b_v58 main_while0b_v61 (mulf : Arr F S4x128 .f32 → Arr F S4x128 .f32 → Arr F S4x128 .f32)
  :: binary main_while0b_v55 main_v4_6 main_while0b_v62 (mulf : Arr F S4x128 .f32 → Arr F S4x128 .f32 → Arr F S4x128 .f32)
  :: binary main_while0b_v61 main_while0b_v62 main_while0b_v63 (addf : Arr F S4x128 .f32 → Arr F S4x128 .f32 → Arr F S4x128 .f32)
  :: [] )
theorem while0Ops0_1_sub : (while0Ops0_1 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub ..⟩
/-- 4 host operations of @dynamic_update_index_in_dim (main_while0b_call1), in order. -/
abbrev while0Ops0_2 : List (HloOp τ sig (Elt F)) :=
  [ TRef.unary (.of main_while0b_v63 : TRef sig ⟨S4x128, .f32⟩) (.of main_while0b_call1_v0 : TRef sig ⟨S1x4x128, .f32⟩) (broadcastInDim S1x4x128 ![1, 2] bcast_S4x128_S1x4x128_1_2),
    TRef.nullary (.of main_while0b_call1_c : TRef sig ⟨S_, .i32⟩) (constantI S_ 32 0#32),
    TRef.nullary (.of main_while0b_call1_c_0 : TRef sig ⟨S_, .i32⟩) (constantI S_ 32 0#32),
    TRef.binaryIndexed (.of main_v4_7 : TRef sig ⟨S100x4x128, .f32⟩) (.of main_while0b_call1_v0 : TRef sig ⟨S1x4x128, .f32⟩) ![(.of main_v4_5 : TRef sig ⟨S_, .i32⟩), (.of main_while0b_call1_c : TRef sig ⟨S_, .i32⟩), (.of main_while0b_call1_c_0 : TRef sig ⟨S_, .i32⟩)] (.of main_while0b_v64 : TRef sig ⟨S100x4x128, .f32⟩) (fun x u i => Host.dynamicUpdateSlice x u (fun k => (i k (Shape.Idx.first h_S_)).toInt) updateFits_S100x4x128_S1x4x128) ]
theorem while0Ops0_2_sub : (while0Ops0_2 : List (HloOp τ sig (Elt F))).Forall fun op => op.bufs ⊆ tcRefs τ sig :=
  ⟨unary_bufs_sub .., nullary_bufs_sub .., nullary_bufs_sub .., binaryIndexed_bufs_sub ..⟩
/-- 5 host operations of host loop 0's body region, in order. -/
abbrev while0Ops0_3 : List (HloOp τ sig (Elt F)) :=
  [ nullary main_while0b_c_17 (constantI S_ 32 1#32),
    binary main_v4_5 main_while0b_c_17 main_while0b_v65 (addi : Arr F S_ .i32 → Arr F S_ .i32 → Arr F S_ .i32),
    unary main_while0b_v65 main_v4_5 id,
    unary main_while0b_v63 main_v4_6 id,
    unary main_while0b_v64 main_v4_7 id ]
theorem while0Ops0_3_sub : (while0Ops0_3 : List (HloOp τ sig (Elt F))).Forall fun op => op.bufs ⊆ tcRefs τ sig :=
  ⟨nullary_bufs_sub .., binary_bufs_sub .., unary_bufs_sub .., unary_bufs_sub .., unary_bufs_sub ..⟩
/-- These statements are the stretches below, in order. -/
theorem while0_body_chain : main_while0_body (F := F) = (Pipeline.chain
  [ seq while0Ops0,
    seq while0Ops0_1,
    seq while0Ops0_2,
    seq while0Ops0_3 ] : Prog (TpuEff nD τ sig (Elt F) (HostLoop.Sig (Pipeline.Sig Λ₀ (Fin 0) fun p => (pcfgs (F := F) p).Adm) 1) .tc) PUnit) := by
  rewrite [Pipeline.chain_cons, chain_seq_cons, Pipeline.chain_cons, chain_seq_cons]
  chain_rfl

end Cert.RecurrenceReferenceIdeal.Gen

end
-- ==== Proof.RecRefRun.lean ====
/- The run of the recurrence reference: its host operations with one counted loop between them. Every buffer ends at the fold of the
   operations over the launch contents, the loop being its body done as many times as it counts. -/
module

public import proofs.«01_k».proof.Proof.RecRefLists
public import Idealize.ShloMosaic.Lib.StableHlo.RunLoop
public import Idealize.ShloMosaic.Lib.StableHlo.RunClose
public import Idealize.ShloMosaic.Lib.Scf.ExitTest
public import Idealize.ShloMosaic.Lib.Scf.Counter
public import Idealize.ShloMosaic.Lib.Claim
public import Idealize.ShloMosaic.Lib.Tactic

@[expose] public section

set_option maxRecDepth 16384

noncomputable section

namespace Cert.RecurrenceReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

local notation "𝕄" => MT nD τ sig Unit (Elt F) ℕ (Option PUnit) ℕ

/-! ## The stretches -/

/-- The loop's test. -/
abbrev cond0 : List (HloOp τ sig (Elt F)) :=
  [ StableHlo.nullary main_while0c_c_12 (constantI S_ 32 100#32),
    StableHlo.binary main_v4_5 main_while0c_c_12 main_while0c_v25 (cmpi .slt : (⟨S_, .i32⟩ : BufTy).Contents (Elt F) → (⟨S_, .i32⟩ : BufTy).Contents (Elt F) → (⟨S_, .i1⟩ : BufTy).Contents (Elt F)) ]

/-- What runs before the loop. -/
abbrev preI : List (List (HloOp τ sig (Elt F))) := [hostOps0]
/-- The loop's body. -/
abbrev body0 : List (List (HloOp τ sig (Elt F))) := [while0Ops0, while0Ops0_1, while0Ops0_2, while0Ops0_3]
/-- What runs after the loop. -/
abbrev postI : List (List (HloOp τ sig (Elt F))) := [hostOps0_1]

theorem preI_plain : Plain (preI (F := F)) := .cons hostOps0_sub .nil
theorem body0_plain : Plain (body0 (F := F)) :=
  .cons while0Ops0_sub <| .cons while0Ops0_1_sub <| .cons while0Ops0_2_sub <| .cons while0Ops0_3_sub .nil
theorem postI_plain : Plain (postI (F := F)) := .cons hostOps0_1_sub .nil

/-! ## The loop's counter -/

/-- One trip of the loop adds one to its counter. -/
theorem trip0_ctr (X : Valuation τ sig (Elt F)) :
    afterL body0 (after cond0 X) (Proc.devRef .tc main_v4_5)
      = (addi (X (Proc.devRef .tc main_v4_5) : (⟨S_, .i32⟩ : BufTy).Contents (Elt F)) (constantI S_ 32 1#32) : (⟨S_, .i32⟩ : BufTy).Contents (Elt F)) := by
  simp only [afterL_cons, afterL_nil]
  after_results_simp_entrywise
  all_goals rfl

theorem atTrip0_ctr (W : Dev nD → Valuation τ sig (Elt F)) (h : ∀ c, W c (Proc.devRef .tc main_v4_5) = fun _ => (0#32 : BitVec 32)) (c : Dev nD) :
    ∀ k, atTrip cond0 body0 W k c (Proc.devRef .tc main_v4_5) = fun _ => Scf.iv 0#32 1#32 k
  | 0 => by rw [atTrip_zero, h c, Scf.iv_zero]
  | k + 1 => by
    rw [atTrip_succ, trip0_ctr, atTrip0_ctr W h c k, Scf.iv_succ]; rfl

/-! ## The set-up of a run with no kernel in it -/

/-- No pipeline, so nothing admitted. -/
abbrev adm : (p : Fin 0) → (pcfgs (F := F) p).Adm := fun p => p.elim0
/-- No pipeline, so no ticket. -/
abbrev tk : Fin 0 → Ticket (Ix := Unit) (Name := ℕ) (U := Option PUnit) (Lvl := ℕ) (nD := nD) (τ := τ) (pcfgs (F := F)) adm := fun j => j.elim0
abbrev noIx : GSem nD τ sig → Finset Unit := fun _ => ∅
abbrev noLv : GSem nD τ sig → Unit → ℕ := fun _ _ => 0
/-- What each core keeps beside its buffers. -/
abbrev Rw (c : Dev nD) : sProp 𝕄 := iprop(∃ W, owes (c : Thread nD τ) (0 : CellTallies nD τ sig Unit) W)

theorem cell_inj : Function.Injective (Pipeline.cellOf (nD := nD) (τ := τ) (Pipeline.pin (pcfgs (F := F)) adm)) :=
  fun k => k.1.elim0

set_option backward.isDefEq.respectTransparency.types false in
set_option backward.isDefEq.respectTransparency false in
/-- The loop's test, run before trip `k`, says whether `k` is below 100. -/
theorem cond0_spec (W : Dev nD → Valuation τ sig (Elt F)) (h : ∀ c, W c (Proc.devRef .tc main_v4_5) = fun _ => (0#32 : BitVec 32)) :
    LoopCond (pcfgs (F := F)) defs₀ Variants.none loops (Rw (F := F)) main_while0_cond cond0 body0 W 100 := fun k hk c bd => by
  have hctr := atTrip0_ctr W h c k
  unfold main_while0_cond
  simp only [bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0 W k c) (Proc.devRef .tc main_v4_5) HostLoop.idx0)
        (HloOp.result _ (atTrip cond0 body0 W k c) (Proc.devRef .tc main_while0c_c_12) HostLoop.idx0) = 1#1) (k < 100)
    rw [StableHlo.nullary_result_ne _ _ _ _ (by decide), StableHlo.nullary_result, hctr]
    exact Scf.cmpi_slt_iv_ub_iff (lb := 0#32) (ub := 100#32) (st := 1#32) main_while0_ok hk
  isplitl [Hb]; · iexact Hb
  isplitl [Hh]; · rw [StableHlo.after_cons, StableHlo.after_cons, StableHlo.after_nil]; iexact Hh
  iexact HR

/-! ## What the buffers hold, stretch by stretch -/

variable (m : (ℓ : Loc nD τ sig) → Buf (Elt F) ℓ)

/-- At the loop's entry. -/
abbrev at0 (c : Dev nD) : Valuation τ sig (Elt F) := afterL preI (launchContents m c)
/-- After the loop. -/
abbrev at1 (c : Dev nD) : Valuation τ sig (Elt F) := after cond0 (atTrip cond0 body0 (at0 m) 100 c)
/-- At the end. -/
abbrev at2 (c : Dev nD) : Valuation τ sig (Elt F) := afterL postI (at1 m c)

theorem at0_ctr (c : Dev nD) : at0 m c (Proc.devRef .tc main_v4_5) = fun _ => (0#32 : BitVec 32) := by
  simp only [at0, afterL_cons, afterL_nil]
  after_results_simp_entrywise
  all_goals rfl

/-- The program as the launch's segments. -/
def segs : List (CSeg (pcfgs (F := F)) adm defs₀ Variants.none noIx noLv loops (tk (F := F))) :=
  segsOf _ _ _ _ _ _ _ _ (Rw (F := F)) preI preI_plain (launchContents m)
    ++ loopSeg _ _ _ _ _ _ _ _ 0 main_while0_cond main_while0_body rfl cond0 body0 body0_plain while0_body_chain 100 (at0 m) (Rw (F := F)) (cond0_spec (at0 m) (at0_ctr m))
      :: segsOf _ _ _ _ _ _ _ _ (Rw (F := F)) postI postI_plain (at1 m)

theorem segs_prog : (segs m).map CSeg.prog
    = ((preI (F := F)).map fun ops => (seq ops : Prog _ PUnit)) ++ HostLoop.enter 0 :: (postI.map fun ops => (seq ops : Prog _ PUnit)) := by
  unfold segs
  rw [List.map_append, List.map_cons, segsOf_prog, segsOf_prog]
  rfl

theorem main_segs (c : Dev nD) : main (F := F) c = Pipeline.chain ((segs m).map CSeg.prog) := by
  rw [segs_prog, main_chain]
  rfl

theorem segs_chains : CSeg.Chains (fun c => iprop(held (c : Thread nD τ) (ucRefs τ sig) (launchContents m c) ∗ Rw (F := F) c)) (segs m)
    (fun c => iprop(iprop(held (c : Thread nD τ) (ucRefs τ sig) (at2 m c)) ∗ ∃ W, owes (c : Thread nD τ) (0 : CellTallies nD τ sig Unit) W)) := by
  unfold segs
  exact CSeg.Chains.append (segsOf_chains _ _ _ _ _ _ _ _ (Rw (F := F)) preI preI_plain _)
    ⟨fun _ => .rfl, segsOf_chains _ _ _ _ _ _ _ _ (Rw (F := F)) postI postI_plain _⟩

/-- The run: the reference ends, and every buffer of its values ends at the fold `at2`. -/
theorem run_fold (ρ : Dev nD → PrngReg) : θ_run defs (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = at2 m c (Proc.devRef .tc b)) :=
  Pipeline.θ_run_regions_loop_kit (Ix := Unit) (Name := ℕ) (U := Option PUnit) (Lvl := ℕ) (J := Fin 0) (P := Fin 0) (Val := Elt F)
    (pcfgs (F := F)) adm cell_inj defs₀ Variants.none noIx noLv loops tk m ρ main
    (segs m)
    (fun c Q => by
      unfold CSeg.runL; rw [main_segs m c])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rw (F := F) c))
    (Tₙ := fun c => iprop(held (c : Thread nD τ) (ucRefs τ sig) (at2 m c)))
    (hch := segs_chains m)
    (hinit := by
      refine Pipeline.initEach noIx noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = at2 m c b)
    (hfin := fun c s' => by
      unfold held
      iintro ⟨Hh, HSI⟩
      ihave Hr := (pointsTo_read_all (ucRefs τ sig) (fun b => ((c : Dev nD), b)) (fun b => at2 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.RecurrenceReferenceIdeal.Gen

end
-- ==== Proof.RecRefKeep.lean ====
/- Which buffers the recurrence reference's stretches leave alone. Every stretch writes only buffers numbered from some point on, and
   the points grow along the program, so what is written once is kept to the end. -/
module

public import proofs.«01_k».proof.Proof.RecRefRun

@[expose] public section

set_option maxRecDepth 16384

noncomputable section

namespace Cert.RecurrenceReferenceIdeal.Gen

open Idealize.ShloMosaic Idealize.ShloMosaic.TcCoe Idealize.ShloMosaic.Tactic
open Idealize.SL Idealize.SL.Sem
open Idealize.ShloMosaic.StableHlo

variable {F : FTy → Type} [FloatOps F]

/-- Every operation of the line writes one buffer, numbered `lo` or above. -/
def Over (lo : ℕ) (ops : List (HloOp τ sig (Elt F))) : Prop :=
  ops.Forall fun op => ∃ r : Ref sig .tc, op.writes = {Proc.devRef (τ := τ) .tc r} ∧ lo ≤ r.idx.val

theorem Over.mono {lo lo' : ℕ} {ops : List (HloOp τ sig (Elt F))} (h : Over lo ops) (hl : lo' ≤ lo) : Over lo' ops :=
  List.Forall.imp (fun _ ⟨r, hr, hi⟩ => ⟨r, hr, hl.trans hi⟩) h

theorem Over.keep {lo : ℕ} {ops : List (HloOp τ sig (Elt F))} (h : Over lo ops) (V : Valuation τ sig (Elt F)) {r : Ref sig .tc}
    (hr : r.idx.val < lo) : after ops V (Proc.devRef .tc r) = V (Proc.devRef .tc r) :=
  after_of_forall_not_mem ops V fun op hop hb => by
    obtain ⟨y, hy, hi⟩ := (List.forall_iff_forall_mem.mp h) op hop
    rw [hy, Finset.mem_singleton] at hb
    exact absurd (Proc.devRef_injective _ hb ▸ hi) (by omega)

theorem Over.keepL {lo : ℕ} {items : List (List (HloOp τ sig (Elt F)))} (h : ∀ ops ∈ items, Over lo ops) (V : Valuation τ sig (Elt F))
    {r : Ref sig .tc} (hr : r.idx.val < lo) : afterL items V (Proc.devRef .tc r) = V (Proc.devRef .tc r) := by
  induction items generalizing V with
  | nil => rfl
  | cons ops items ih =>
    rw [afterL_cons, ih (fun o ho => h o (List.mem_cons_of_mem _ ho)), (h ops List.mem_cons_self).keep V hr]

theorem Over.keepTrip {lo : ℕ} {condOps : List (HloOp τ sig (Elt F))} {bodyI : List (List (HloOp τ sig (Elt F)))} (hc : Over lo condOps)
    (hb : ∀ ops ∈ bodyI, Over lo ops) (W : Dev nD → Valuation τ sig (Elt F)) {r : Ref sig .tc} (hr : r.idx.val < lo) (c : Dev nD) :
    ∀ k, atTrip condOps bodyI W k c (Proc.devRef .tc r) = W c (Proc.devRef .tc r)
  | 0 => by rw [atTrip_zero]
  | k + 1 => by rw [atTrip_succ, Over.keepL hb _ hr, hc.keep _ hr, keepTrip hc hb W hr c k]

theorem cond0_over : Over 22 (cond0 (F := F)) := by
  unfold Over
  simp only [List.forall_cons, List.Forall]
  repeat' first | exact ⟨_, rfl, by decide⟩ | refine And.intro ?_ ?_
  all_goals trivial

theorem hostOps0_over : Over 7 (hostOps0 (F := F)) := by
  unfold Over
  simp only [List.forall_cons, List.Forall]
  repeat' first | exact ⟨_, rfl, by decide⟩ | refine And.intro ?_ ?_
  all_goals trivial

theorem hostOps0_1_over : Over 77 (hostOps0_1 (F := F)) := by
  unfold Over
  simp only [List.forall_cons, List.Forall]
  repeat' first | exact ⟨_, rfl, by decide⟩ | refine And.intro ?_ ?_
  all_goals trivial

theorem while0Ops0_over : Over 24 (while0Ops0 (F := F)) := by
  unfold Over
  simp only [List.forall_cons, List.Forall]
  repeat' first | exact ⟨_, rfl, by decide⟩ | refine And.intro ?_ ?_
  all_goals trivial

theorem while0Ops0_1_over : Over 28 (while0Ops0_1 (F := F)) := by
  unfold Over
  simp only [List.forall_cons, List.Forall]
  repeat' first | exact ⟨_, rfl, by decide⟩ | refine And.intro ?_ ?_
  all_goals trivial

theorem while0Ops0_2_over : Over 71 (while0Ops0_2 (F := F)) := by
  unfold Over
  simp only [List.forall_cons, List.Forall]
  repeat' first | exact ⟨_, rfl, by decide⟩ | refine And.intro ?_ ?_
  all_goals trivial

theorem while0Ops0_3_over : Over 19 (while0Ops0_3 (F := F)) := by
  unfold Over
  simp only [List.forall_cons, List.Forall]
  repeat' first | exact ⟨_, rfl, by decide⟩ | refine And.intro ?_ ?_
  all_goals trivial

theorem preI_over : ∀ ops ∈ preI (F := F), Over 7 ops := by
  simp only [List.mem_cons, List.not_mem_nil, or_false, forall_eq]
  exact hostOps0_over
theorem body0_over : ∀ ops ∈ body0 (F := F), Over 19 ops := by
  simp only [List.mem_cons, List.not_mem_nil, or_false, forall_eq_or_imp, forall_eq]
  exact ⟨while0Ops0_over.mono (by decide), while0Ops0_1_over.mono (by decide), while0Ops0_2_over.mono (by decide), while0Ops0_3_over⟩
theorem postI_over : ∀ ops ∈ postI (F := F), Over 77 ops := by
  simp only [List.mem_cons, List.not_mem_nil, or_false, forall_eq]
  exact hostOps0_1_over

variable (m : (ℓ : Loc nD τ sig) → Buf (Elt F) ℓ)

/-- The loop leaves what came before it. -/
theorem at1_keep (c : Dev nD) {r : Ref sig .tc} (hr : r.idx.val < 19) : at1 m c (Proc.devRef .tc r) = at0 m c (Proc.devRef .tc r) := by
  unfold at1
  rw [(cond0_over.mono (by decide : 19 ≤ 22)).keep _ hr, Over.keepTrip (cond0_over.mono (by decide : 19 ≤ 22)) body0_over _ hr]

/-- An argument is what it was at the launch, at every stage. -/
theorem at0_arg (c : Dev nD) {r : Ref sig .tc} (hr : r.idx.val < 7) : at0 m c (Proc.devRef .tc r) = launchContents m c (Proc.devRef .tc r) :=
  Over.keepL preI_over _ hr
theorem at1_arg (c : Dev nD) {r : Ref sig .tc} (hr : r.idx.val < 7) : at1 m c (Proc.devRef .tc r) = launchContents m c (Proc.devRef .tc r) := by
  rw [at1_keep m c (by omega), at0_arg m c hr]
theorem at2_arg (c : Dev nD) {r : Ref sig .tc} (hr : r.idx.val < 7) : at2 m c (Proc.devRef .tc r) = launchContents m c (Proc.devRef .tc r) := by
  unfold at2
  rw [Over.keepL postI_over _ (by omega), at1_arg m c hr]

/-- The recurrence reference runs, and every argument ends as it was at the launch. -/
theorem frame (ρ : Dev nD → PrngReg) : θ_run defs (onTc (τ := τ) (main (F := F))) ⟨m, fun _ => 0, ρ⟩ (fun r => ∀ c : Dev nD,
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  θ_run_mono (run_fold m ρ) fun r h c => ⟨(h c main_arg0 rfl).trans (at2_arg m c (by decide)),
    (h c main_arg1 rfl).trans (at2_arg m c (by decide)),
    (h c main_arg2 rfl).trans (at2_arg m c (by decide)),
    (h c main_arg3 rfl).trans (at2_arg m c (by decide)),
    (h c main_arg4 rfl).trans (at2_arg m c (by decide)),
    (h c main_arg5 rfl).trans (at2_arg m c (by decide)),
    (h c main_arg6 rfl).trans (at2_arg m c (by decide))⟩

end Cert.RecurrenceReferenceIdeal.Gen

end
-- ==== Proof.RecIdealRun.lean ====
/- The recurrence's body run once: what it leaves in its result, as a function of its inputs and of what the result and the
   scratch array held before. -/
module

public import proofs.«01_k».proof.Proof.Gen.RecurrenceIdeal.Frame
public import proofs.«01_k».proof.Proof.Gen.RecurrenceIdeal.Skeleton
public import proofs.«01_k».proof.Proof.Gen.RecurrenceIdeal.Loops
public import Idealize.ShloMosaic.Lib.Claim

@[expose] public section

set_option maxRecDepth 16384

noncomputable section

namespace Cert.RecurrenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run: on whole arrays, the inputs at their contents, the result and the scratch at any contents, the body
    runs to its end, leaves the inputs as they were and the result at the value named here. -/
@[irreducible] def kernelRun (c : Dev nD) (arg0 : Memref sig .tc .vmem S4x12800 .f32) (harg0 : arg0.IsWhole) (arg1 : Memref sig .tc .vmem S128x384 .f32) (harg1 : arg1.IsWhole) (arg2 : Memref sig .tc .vmem S128x384 .f32) (harg2 : arg2.IsWhole) (arg3 : Memref sig .tc .vmem S1x384 .f32) (harg3 : arg3.IsWhole) (arg4 : Memref sig .tc .vmem S1x384 .f32) (harg4 : arg4.IsWhole) (arg5 : Memref sig .tc .smem S4x4 .f32) (harg5 : arg5.IsWhole) (arg6 : Memref sig .tc .smem S4 .f32) (harg6 : arg6.IsWhole) (arg7 : Memref sig .tc .vmem S100x128 .f32) (harg7 : arg7.IsWhole) (arg8 : Memref sig .tc .vmem S416x128 .f32) (harg8 : arg8.IsWhole)
    (x0 : Vec F S4x12800 .f32) (x1 : Vec F S128x384 .f32) (x2 : Vec F S128x384 .f32) (x3 : Vec F S1x384 .f32) (x4 : Vec F S1x384 .f32) (x5 : Vec F S4x4 .f32) (x6 : Vec F S4 .f32) (x7 : Vec F S100x128 .f32) (x8 : Vec F S416x128 .f32) :
      { d7 : Vec F S100x128 .f32 //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare d7 ∗ (∃ d, owns (c : Thread nD τ) arg8 fullShare d)) -∗ K ⟨⟩))
          ⊢ wp frame (wpE (defs₀ (F := F)) Variants.none c none) E (cc0__recurrence_kernel arg0 harg0 arg1 harg1 arg2 harg2 arg3 harg3 arg4 harg4 arg5 harg5 arg6 harg6 arg7 harg7 arg8 harg8) K } := by
    refine ⟨?_, fun E K => ?run⟩
    case run =>
      simp only [cc0__recurrence_kernel_eq_skeleton]; unfold cc0__recurrence_kernel_skel
      simp only [k0_part2_eq_skeleton, k0_part3_eq_skeleton, k0_part4_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
      obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
      sl_exec
      sl_step
      iapply Hk
      isplitl [H0]
      · iexists _; isplitr; · ipureintro; exact harg0.read_unread _
        iexact H0
      isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; swap; · iexact H7
        ipureintro; rfl
      iexists _, _; isplitr; swap; · iexact H8
      ipureintro; rfl

end Cert.RecurrenceIdeal.Gen

end
-- ==== Proof.RecCell.lean ====
/- The recurrence kernel's arithmetic read at an index: each row of a trip's state is the shared cell's, the result the shared
   pooling of the four weeks' states. -/
module

public import proofs.«01_k».proof.Proof.Gen.RecurrenceIdeal.Skeleton
public import proofs.«01_k».proof.Proof.Spec

@[expose] public section

set_option maxRecDepth 16384

noncomputable section

namespace Cert.Spec

/-- The largest of four scores. -/
theorem top_four (w : Fin 4 → Fin 4 → EReal) (b h : Fin 4 → EReal) :
    top w b h = max (max (score w b h 0) (score w b h 1)) (max (score w b h 2) (score w b h 3)) := by
  change Finset.univ.sup (score w b h) = _
  refine le_antisymm (Finset.sup_le fun i _ => ?_) (max_le (max_le ?_ ?_) (max_le ?_ ?_))
  · fin_cases i <;> simp
  all_goals exact Finset.le_sup (Finset.mem_univ _)

end Cert.Spec

namespace Cert.RecurrenceIdeal.Gen

open Idealize.ShloMosaic Idealize.ShloMosaic.TcCoe Cert.Spec

/-- Week `w`'s new hidden state is the cell's. -/
theorem cell_apply (wi wh : FVec Ideal S128x384 .f32) (bi bh : FVec Ideal S1x384 .f32) (h x : FVec Ideal S4x128 .f32) (w : Fin 4) (j : Fin 128) :
    k0_pay2 (k0_pay6 wi) (k0_pay7 wh) (k0_pay8 bi) (k0_pay9 bh) h x (ix2 w j)
      = cell (fun d r => wi (ix2 d r)) (fun d r => wh (ix2 d r)) (fun r => bi (ix2 0 r)) (fun r => bh (ix2 0 r))
          (fun d => x (ix2 w d)) (fun d => h (ix2 w d)) j := by
  unfold cell lin
  pointwise [k0_pay2, k0_pay6, k0_pay7, k0_pay8, k0_pay9]

theorem row0 (wi wh : FVec Ideal S128x384 .f32) (bi bh : FVec Ideal S1x384 .f32) (h x : FVec Ideal S4x128 .f32) (j : Fin 128) :
    k0_pay3 wi wh bi bh h x (ix2 0 j) = k0_pay2 wi wh bi bh h x (ix2 0 j) := by
  pointwise [k0_pay3]
theorem row1 (wi wh : FVec Ideal S128x384 .f32) (bi bh : FVec Ideal S1x384 .f32) (h x : FVec Ideal S4x128 .f32) (j : Fin 128) :
    k0_pay4 wi wh bi bh h x (ix2 0 j) = k0_pay2 wi wh bi bh h x (ix2 1 j) := by
  pointwise [k0_pay4]
theorem row2 (wi wh : FVec Ideal S128x384 .f32) (bi bh : FVec Ideal S1x384 .f32) (h x : FVec Ideal S4x128 .f32) (j : Fin 128) :
    k0_pay5 wi wh bi bh h x (ix2 0 j) = k0_pay2 wi wh bi bh h x (ix2 2 j) := by
  pointwise [k0_pay5]
theorem row3 (v : FVec Ideal S4x128 .f32) (j : Fin 128) : k0_pay11 v (ix2 0 j) = v (ix2 3 j) := by
  pointwise [k0_pay11]
theorem zero_apply (w : Fin 4) (j : Fin 128) : k0_pay10 (F := Ideal) (ix2 w j) = 0 := by
  pointwise [k0_pay10]

/-- What the kernel stores is the pooling of the four weeks' states. -/
theorem pool_apply (h0 h1 h2 h3 : FVec Ideal S100x128 .f32) (a00 a01 a02 a03 a10 a11 a12 a13 a20 a21 a22 a23 a30 a31 a32 a33 b0 b1 b2 b3 : EReal) (t : Fin 100) (j : Fin 128) :
    k0_pay1 (F := Ideal) h3 (k0_pay24 h0 h1 h2 h3 (k0_pay14 h3 (k0_pay12 h0 h1 h2 a00 a01 a02) (k0_pay13 a03) b0) (k0_pay15 h0 h1 h2 h3 a10 a11 a12 a13 b1)
        (k0_pay16 h0 h1 h2 a20 a21 a22) (k0_pay17 a23) b2 a30 a31 a32 a33 b3)
       (k0_pay25 h0 h1 h2 h3 (k0_pay14 h3 (k0_pay12 h0 h1 h2 a00 a01 a02) (k0_pay13 a03) b0) (k0_pay15 h0 h1 h2 h3 a10 a11 a12 a13 b1)
        (k0_pay16 h0 h1 h2 a20 a21 a22) (k0_pay17 a23) b2 a30 a31 a32 a33 b3)
       (k0_pay26 h0 h1 h2 h3 (k0_pay14 h3 (k0_pay12 h0 h1 h2 a00 a01 a02) (k0_pay13 a03) b0) (k0_pay15 h0 h1 h2 h3 a10 a11 a12 a13 b1)
        (k0_pay16 h0 h1 h2 a20 a21 a22) (k0_pay17 a23) b2 a30 a31 a32 a33 b3)
       (k0_pay27 h0 h1 h2 h3 (k0_pay14 h3 (k0_pay12 h0 h1 h2 a00 a01 a02) (k0_pay13 a03) b0) (k0_pay15 h0 h1 h2 h3 a10 a11 a12 a13 b1)
        (k0_pay16 h0 h1 h2 a20 a21 a22) (k0_pay17 a23) b2 a30 a31 a32 a33 b3)
       (ix2 t j)
      = pooled (fun s w => (![![a00, a01, a02, a03], ![a10, a11, a12, a13], ![a20, a21, a22, a23], ![a30, a31, a32, a33]] : Fin 4 → Fin 4 → EReal) s w)
          (![b0, b1, b2, b3] : Fin 4 → EReal) (fun w => ![h0 (ix2 t j), h1 (ix2 t j), h2 (ix2 t j), h3 (ix2 t j)] w) := by
  unfold pooled
  simp only [top_four, Fin.sum_univ_four]
  unfold score
  simp only [Fin.sum_univ_four]
  pointwise [k0_pay1, k0_pay12, k0_pay13, k0_pay14, k0_pay15, k0_pay16, k0_pay17, k0_pay18, k0_pay19, k0_pay20, k0_pay21, k0_pay22, k0_pay23, k0_pay24, k0_pay25, k0_pay26, k0_pay27]

end Cert.RecurrenceIdeal.Gen

end
-- ==== Proof.RecVal.lean ====
/- What the recurrence's loop leaves: the carried states and the array of hidden states, as the shared recurrence. -/
module

public import proofs.«01_k».proof.Proof.RecIdealRun
public import proofs.«01_k».proof.Proof.RecCell
public import Idealize.ShloMosaic.Lib.Writes
public import Idealize.ShloMosaic.Lib.WritesUnit
public import Idealize.ShloMosaic.Lib.WholeRead

@[expose] public section

set_option maxRecDepth 16384

noncomputable section

namespace Cert.RecurrenceIdeal.Gen

open Idealize.ShloMosaic Idealize.ShloMosaic.TcCoe Cert.Spec

/-- Week `w`'s hidden state after `k` stocks. -/
@[irreducible] def H (x0 : Vec Ideal S4x12800 .f32) (x1 x2 : Vec Ideal S128x384 .f32) (x3 x4 : Vec Ideal S1x384 .f32) (w : Fin 4) : ℕ → Fin 128 → EReal :=
  hid (fun d r => x1 (ix2 d r)) (fun d r => x2 (ix2 d r)) (fun r => x3 (ix2 0 r)) (fun r => x4 (ix2 0 r))
    (fun t d => if h : t < 100 then x0 (ix2 w ⟨128 * t + d.val, by omega⟩) else 0)

/-- What the recurrence's result holds. -/
def recVal (x0 : Vec Ideal S4x12800 .f32) (x1 x2 : Vec Ideal S128x384 .f32) (x3 x4 : Vec Ideal S1x384 .f32) (x5 : Vec Ideal S4x4 .f32)
    (x6 : Vec Ideal S4 .f32) (t : Fin 100) (j : Fin 128) : EReal :=
  pooled (fun s w => x5 (ix2 s w)) (fun s => x6 (ix1 s)) (fun w => H x0 x1 x2 x3 x4 w (t.val + 1) j)

/-- The scratch array's row of week `w` and stock `t`. -/
def row (w : Fin 4) (t : Fin 100) : Fin 416 := ⟨104 * w.val + t.val, by omega⟩

variable (c : Dev nD) {arg0 : Memref sig .tc .vmem S4x12800 .f32} (harg0 : arg0.IsWhole) {arg1 : Memref sig .tc .vmem S128x384 .f32} (harg1 : arg1.IsWhole) {arg2 : Memref sig .tc .vmem S128x384 .f32} (harg2 : arg2.IsWhole) {arg3 : Memref sig .tc .vmem S1x384 .f32} (harg3 : arg3.IsWhole) {arg4 : Memref sig .tc .vmem S1x384 .f32} (harg4 : arg4.IsWhole) {arg5 : Memref sig .tc .smem S4x4 .f32} (harg5 : arg5.IsWhole) {arg6 : Memref sig .tc .smem S4 .f32} (harg6 : arg6.IsWhole) {arg7 : Memref sig .tc .vmem S100x128 .f32} (harg7 : arg7.IsWhole) {arg8 : Memref sig .tc .vmem S416x128 .f32} (harg8 : arg8.IsWhole)
    (x0 : Vec Ideal S4x12800 .f32) (x1 x2 : Vec Ideal S128x384 .f32) (x3 x4 : Vec Ideal S1x384 .f32)

/-- The loop's state before trip `i`: the carried state and what the scratch array has been given. -/
abbrev lst (i : ℕ) := st_k0_t1 (F := Ideal) Variants.none c none arg0 harg0 arg1 harg1 arg2 harg2 arg3 harg3 arg4 harg4 arg5 harg5 arg6 harg6 arg7 harg7 arg8 harg8 x1 x2 x3 x4 (harg0.unread x0) k0_pay10 i

/-- Trip `k` loads stock `k`'s columns. -/
theorem stock (k : Fin 100) (w : Fin 4) (d : Fin 128) :
    (View.readAt (Elt Ideal) arg0.view (Rect.unit (s := S4x12800) (k0_off1 k) S4x128.size (k0_off1_inb k)).toLoadRect (harg0.unread x0)) (ix2 w d)
      = x0 (ix2 w ⟨128 * k.val + d.val, by omega⟩) := by
  rw [harg0.readAt_unread]
  refine congrArg x0 (funext fun a => Fin.ext ?_)
  refine (congrArg (· + 1 * ((ix2 w d : S4x128.Idx) a).val) (congrFun (k0_off1_eq k) a)).trans ?_
  fin_cases a <;> simp <;> rfl

theorem trip_carried (k : Fin 100) (acc : FVec Ideal S4x128 .f32) :
    (trip_k0_t1 (F := Ideal) Variants.none c none arg0 harg0 arg1 harg1 arg2 harg2 arg3 harg3 arg4 harg4 arg5 harg5 arg6 harg6 arg7 harg7 arg8 harg8 x1 x2 x3 x4 (harg0.unread x0) k).1 acc = k0_pay2 (k0_pay6 x1) (k0_pay7 x2) (k0_pay8 x3) (k0_pay9 x4) acc (View.readAt (Elt Ideal) arg0.view (Rect.unit (s := S4x12800) (k0_off1 k) S4x128.size (k0_off1_inb k)).toLoadRect (harg0.unread x0)) := by
  unfold trip_k0_t1
  rfl

theorem trip_stored (k : Fin 100) (acc : FVec Ideal S4x128 .f32) :
    (trip_k0_t1 (F := Ideal) Variants.none c none arg0 harg0 arg1 harg1 arg2 harg2 arg3 harg3 arg4 harg4 arg5 harg5 arg6 harg6 arg7 harg7 arg8 harg8 x1 x2 x3 x4 (harg0.unread x0) k).2.1 acc
      = [⟨Rect.unit (s := S416x128) (k0_off2 k 312#32) S1x128.size (k0_off2_inb k 3), k0_pay11 (k0_pay2 (k0_pay6 x1) (k0_pay7 x2) (k0_pay8 x3) (k0_pay9 x4) acc (View.readAt (Elt Ideal) arg0.view (Rect.unit (s := S4x12800) (k0_off1 k) S4x128.size (k0_off1_inb k)).toLoadRect (harg0.unread x0)))⟩,
         ⟨Rect.unit (s := S416x128) (k0_off2 k 208#32) S1x128.size (k0_off2_inb k 2), k0_pay5 (k0_pay6 x1) (k0_pay7 x2) (k0_pay8 x3) (k0_pay9 x4) acc (View.readAt (Elt Ideal) arg0.view (Rect.unit (s := S4x12800) (k0_off1 k) S4x128.size (k0_off1_inb k)).toLoadRect (harg0.unread x0))⟩,
         ⟨Rect.unit (s := S416x128) (k0_off2 k 104#32) S1x128.size (k0_off2_inb k 1), k0_pay4 (k0_pay6 x1) (k0_pay7 x2) (k0_pay8 x3) (k0_pay9 x4) acc (View.readAt (Elt Ideal) arg0.view (Rect.unit (s := S4x12800) (k0_off1 k) S4x128.size (k0_off1_inb k)).toLoadRect (harg0.unread x0))⟩,
         ⟨Rect.unit (s := S416x128) (k0_off2 k 0#32) S1x128.size (k0_off2_inb k 0), k0_pay3 (k0_pay6 x1) (k0_pay7 x2) (k0_pay8 x3) (k0_pay9 x4) acc (View.readAt (Elt Ideal) arg0.view (Rect.unit (s := S4x12800) (k0_off1 k) S4x128.size (k0_off1_inb k)).toLoadRect (harg0.unread x0))⟩] := by
  unfold trip_k0_t1
  rfl

theorem lst_succ (k : Fin 100) :
    (lst c harg0 harg1 harg2 harg3 harg4 harg5 harg6 harg7 harg8 x0 x1 x2 x3 x4 (k.val + 1))
      = ((trip_k0_t1 (F := Ideal) Variants.none c none arg0 harg0 arg1 harg1 arg2 harg2 arg3 harg3 arg4 harg4 arg5 harg5 arg6 harg6 arg7 harg7 arg8 harg8 x1 x2 x3 x4 (harg0.unread x0) k).1 (lst c harg0 harg1 harg2 harg3 harg4 harg5 harg6 harg7 harg8 x0 x1 x2 x3 x4 k.val).1, (trip_k0_t1 (F := Ideal) Variants.none c none arg0 harg0 arg1 harg1 arg2 harg2 arg3 harg3 arg4 harg4 arg5 harg5 arg6 harg6 arg7 harg7 arg8 harg8 x1 x2 x3 x4 (harg0.unread x0) k).2.1 (lst c harg0 harg1 harg2 harg3 harg4 harg5 harg6 harg7 harg8 x0 x1 x2 x3 x4 k.val).1 ++ (lst c harg0 harg1 harg2 harg3 harg4 harg5 harg6 harg7 harg8 x0 x1 x2 x3 x4 k.val).2) :=
  st_k0_t1_succ ..

/-- One trip takes each week's state one stock further. -/
theorem step (k : Fin 100) (h : FVec Ideal S4x128 .f32) (w : Fin 4) (hh : ∀ j : Fin 128, h (ix2 w j) = H x0 x1 x2 x3 x4 w k.val j) (j : Fin 128) :
    k0_pay2 (k0_pay6 x1) (k0_pay7 x2) (k0_pay8 x3) (k0_pay9 x4) h (View.readAt (Elt Ideal) arg0.view (Rect.unit (s := S4x12800) (k0_off1 k) S4x128.size (k0_off1_inb k)).toLoadRect (harg0.unread x0)) (ix2 w j) = H x0 x1 x2 x3 x4 w (k.val + 1) j := by
  rw [cell_apply]
  unfold H at hh ⊢
  rw [hid]
  refine cell_congr (fun _ _ => rfl) (fun _ _ => rfl) (fun _ => rfl) (fun _ => rfl) (fun d => ?_) hh j
  rw [dif_pos k.isLt]
  exact stock harg0 x0 k w d

/-- Before trip `i` the carried states are the recurrence's. -/
theorem lst_carried : ∀ i : ℕ, i ≤ 100 → ∀ (w : Fin 4) (j : Fin 128), (lst c harg0 harg1 harg2 harg3 harg4 harg5 harg6 harg7 harg8 x0 x1 x2 x3 x4 i).1 (ix2 w j) = H x0 x1 x2 x3 x4 w i j
  | 0, _, w, j => by
    unfold H
    exact zero_apply w j
  | i + 1, hi, w, j => by
    have e := lst_succ c harg0 harg1 harg2 harg3 harg4 harg5 harg6 harg7 harg8 x0 x1 x2 x3 x4 ⟨i, by omega⟩
    rw [trip_carried] at e
    have e1 := congrArg Prod.fst e
    dsimp only at e1
    rw [e1]
    exact step harg0 x0 x1 x2 x3 x4 ⟨i, by omega⟩ _ w (fun j => lst_carried i (by omega) w j) j

section
variable {c}

/-- A row stored for another week, or for a later stock, leaves a row as it was. -/
theorem past (f : arg8.view.ty.Contents (Elt Ideal)) (L : List (View.Piece (Elt Ideal) S416x128 .f32)) (k : Fin 100) (r : Fin 4) (p : Vec Ideal S1x128 .f32)
    (w : Fin 4) (t : Fin 100) (j : Fin 128) (h : w ≠ r ∨ t.val < k.val) :
    arg8.view.read (Elt Ideal) (arg8.view.writes (Elt Ideal) f (⟨Rect.unit (s := S416x128) (k0_off2 k (BitVec.ofNat 32 (104 * r.val))) S1x128.size (k0_off2_inb k r), p⟩ :: L)) (ix2 (row w t) j)
      = arg8.view.read (Elt Ideal) (arg8.view.writes (Elt Ideal) f L) (ix2 (row w t) j) := by
  refine View.read_writes_cons_unit_of_not_mem _ _ _ _ _ _ (k0_off2_eq k r) 0 ?_
  show 104 * w.val + t.val < 104 * r.val + k.val ∨ 104 * r.val + k.val + 1 ≤ 104 * w.val + t.val
  have : w.val = r.val → ¬ w ≠ r := fun e h => h (Fin.ext e)
  have hk := k.isLt
  rcases h with h | h <;> omega

/-- A row stored is read back. -/
theorem hit (f : arg8.view.ty.Contents (Elt Ideal)) (L : List (View.Piece (Elt Ideal) S416x128 .f32)) (w : Fin 4) (t : Fin 100) (p : Vec Ideal S1x128 .f32) (j : Fin 128) :
    arg8.view.read (Elt Ideal) (arg8.view.writes (Elt Ideal) f (⟨Rect.unit (s := S416x128) (k0_off2 t (BitVec.ofNat 32 (104 * w.val))) S1x128.size (k0_off2_inb t w), p⟩ :: L)) (ix2 (row w t) j)
      = p (ix2 0 j) := by
  refine (View.read_writes_cons_unit_of_mem _ _ _ _ _ _ (ix2 0 j) (k0_off2_eq t w) (fun a => ?_)).trans rfl
  fin_cases a
  · rfl
  · exact (Nat.zero_add _).symm

end

/-- Before trip `i` the scratch array holds the hidden states of the stocks before. -/
theorem lst_stored (f : arg8.view.ty.Contents (Elt Ideal)) : ∀ i : ℕ, i ≤ 100 → ∀ (w : Fin 4) (t : Fin 100) (j : Fin 128), t.val < i →
    arg8.view.read (Elt Ideal) (arg8.view.writes (Elt Ideal) f (lst c harg0 harg1 harg2 harg3 harg4 harg5 harg6 harg7 harg8 x0 x1 x2 x3 x4 i).2) (ix2 (row w t) j) = H x0 x1 x2 x3 x4 w (t.val + 1) j
  | 0, _, w, t, j, ht => absurd ht (Nat.not_lt_zero _)
  | i + 1, hi, w, t, j, ht => by
    have ih := lst_stored f i (by omega) w t j
    have hc := lst_carried c harg0 harg1 harg2 harg3 harg4 harg5 harg6 harg7 harg8 x0 x1 x2 x3 x4 i (by omega) w
    rw [lst_succ c harg0 harg1 harg2 harg3 harg4 harg5 harg6 harg7 harg8 x0 x1 x2 x3 x4 ⟨i, by omega⟩, trip_stored]
    dsimp only [List.cons_append, List.nil_append]
    by_cases hti : t.val = i
    · subst hti
      refine Eq.trans ?_ (step harg0 x0 x1 x2 x3 x4 t _ w hc j)
      fin_cases w
      · exact (past f _ t 3 _ 0 t j (Or.inl (by decide))).trans ((past f _ t 2 _ 0 t j (Or.inl (by decide))).trans
          ((past f _ t 1 _ 0 t j (Or.inl (by decide))).trans ((hit f _ 0 t _ j).trans (row0 ..))))
      · exact (past f _ t 3 _ 1 t j (Or.inl (by decide))).trans ((past f _ t 2 _ 1 t j (Or.inl (by decide))).trans
          ((hit f _ 1 t _ j).trans (row1 ..)))
      · exact (past f _ t 3 _ 2 t j (Or.inl (by decide))).trans ((hit f _ 2 t _ j).trans (row2 ..))
      · exact (hit f _ 3 t _ j).trans (row3 ..)
    · have hlt : t.val < i := by omega
      exact (past f _ ⟨i, by omega⟩ 3 _ w t j (Or.inr hlt)).trans ((past f _ ⟨i, by omega⟩ 2 _ w t j (Or.inr hlt)).trans
        ((past f _ ⟨i, by omega⟩ 1 _ w t j (Or.inr hlt)).trans ((past f _ ⟨i, by omega⟩ 0 _ w t j (Or.inr hlt)).trans (ih hlt))))

end Cert.RecurrenceIdeal.Gen

end
-- ==== Proof.RecRes.lean ====
/- The recurrence's result after one run of its body: each row is the pooling of the four weeks' hidden states. -/
module

public import proofs.«01_k».proof.Proof.RecVal

@[expose] public section

set_option maxRecDepth 16384

noncomputable section

namespace Cert.RecurrenceIdeal.Gen

open Idealize.ShloMosaic Idealize.ShloMosaic.TcCoe Cert.Spec

/-- The result array as one function of the inputs. -/
def resVal (x0 : Vec Ideal S4x12800 .f32) (x1 x2 : Vec Ideal S128x384 .f32) (x3 x4 : Vec Ideal S1x384 .f32) (x5 : Vec Ideal S4x4 .f32)
    (x6 : Vec Ideal S4 .f32) : Vec Ideal S100x128 .f32 :=
  fun y => recVal x0 x1 x2 x3 x4 x5 x6 (y 0) (y 1)

theorem zeros : (![0, 0] : Fin 2 → Nat) = fun _ => 0 := funext fun a => by fin_cases a <;> rfl

theorem trips_eq : Scf.trips k0_t1_loop.lb k0_t1_loop.ub k0_t1_loop.st = 100 := by decide +kernel

variable (c : Dev nD) {arg0 : Memref sig .tc .vmem S4x12800 .f32} (harg0 : arg0.IsWhole) {arg1 : Memref sig .tc .vmem S128x384 .f32} (harg1 : arg1.IsWhole) {arg2 : Memref sig .tc .vmem S128x384 .f32} (harg2 : arg2.IsWhole) {arg3 : Memref sig .tc .vmem S1x384 .f32} (harg3 : arg3.IsWhole) {arg4 : Memref sig .tc .vmem S1x384 .f32} (harg4 : arg4.IsWhole) {arg5 : Memref sig .tc .smem S4x4 .f32} (harg5 : arg5.IsWhole) {arg6 : Memref sig .tc .smem S4 .f32} (harg6 : arg6.IsWhole) {arg7 : Memref sig .tc .vmem S100x128 .f32} (harg7 : arg7.IsWhole) {arg8 : Memref sig .tc .vmem S416x128 .f32} (harg8 : arg8.IsWhole)
    {x0 : Vec Ideal S4x12800 .f32} {x1 : Vec Ideal S128x384 .f32} {x2 : Vec Ideal S128x384 .f32} {x3 : Vec Ideal S1x384 .f32} {x4 : Vec Ideal S1x384 .f32} {x5 : Vec Ideal S4x4 .f32} {x6 : Vec Ideal S4 .f32} {x7 : Vec Ideal S100x128 .f32} {x8 : Vec Ideal S416x128 .f32}

/-- A week's rows, read back after the loop, hold its hidden states. -/
theorem slab (f : arg8.view.ty.Contents (Elt Ideal)) (w : Fin 4) (off : Fin 2 → ℕ) (inb : ∀ a, off a + S100x128.size a ≤ S416x128.size a)
    (hoff : off = ![104 * w.val, 0]) (t : Fin 100) (j : Fin 128) :
    (View.readAt (Elt Ideal) arg8.view (Rect.unit (s := S416x128) off S100x128.size inb).toLoadRect (arg8.view.writes (Elt Ideal) f
        (st_k0_t1 (F := Ideal) Variants.none c none arg0 harg0 arg1 harg1 arg2 harg2 arg3 harg3 arg4 harg4 arg5 harg5 arg6 harg6 arg7 harg7 arg8 harg8 (View.readAt (Elt Ideal) arg1.view (Rect.unit (s := S128x384) ![0, 0] S128x384.size inb_S128x384_S128x384_0_0).toLoadRect (harg1.unread x1)) (View.readAt (Elt Ideal) arg2.view (Rect.unit (s := S128x384) ![0, 0] S128x384.size inb_S128x384_S128x384_0_0).toLoadRect (harg2.unread x2)) (View.readAt (Elt Ideal) arg3.view (Rect.unit (s := S1x384) ![0, 0] S1x384.size inb_S1x384_S1x384_0_0).toLoadRect (harg3.unread x3)) (View.readAt (Elt Ideal) arg4.view (Rect.unit (s := S1x384) ![0, 0] S1x384.size inb_S1x384_S1x384_0_0).toLoadRect (harg4.unread x4)) (harg0.unread x0) k0_pay10 (Scf.trips k0_t1_loop.lb k0_t1_loop.ub k0_t1_loop.st)).2)) (ix2 t j)
      = H x0 x1 x2 x3 x4 w (t.val + 1) j := by
  subst hoff
  simp only [View.readAt_eq_ld arg1.view, View.readAt_eq_ld arg2.view, View.readAt_eq_ld arg3.view, View.readAt_eq_ld arg4.view, harg1.read_unread, harg2.read_unread, harg3.read_unread, harg4.read_unread, View.ld_unit_zero (S := S128x384) zeros, View.ld_unit_zero (S := S1x384) zeros]
  rw [trips_eq, ← lst_stored c harg0 harg1 harg2 harg3 harg4 harg5 harg6 harg7 harg8 x0 x1 x2 x3 x4 f 100 (le_refl _) w t j t.isLt]
  refine congrArg (arg8.view.read (Elt Ideal) (arg8.view.writes (Elt Ideal) f _)) (funext fun a => Fin.ext ?_)
  fin_cases a
  · exact congrArg (104 * w.val + ·) (Nat.one_mul _)
  · exact (Nat.zero_add _).trans (Nat.one_mul _)

/-- One of the pooling's weights, as the kernel reads it. -/
theorem weight (s w : Fin 4) (off : Fin 2 → ℕ) (inb : ∀ a, off a + S1x1.size a ≤ S4x4.size a) (hoff : off = ![s.val, w.val]) (h) :
    View.readAt (Elt Ideal) arg5.view (Rect.unit (s := S4x4) off S1x1.size inb).toLoadRect (harg5.unread x5) (Shape.Idx.first h) = x5 (ix2 s w) := by
  subst hoff
  rw [harg5.readAt_unread]
  refine congrArg x5 (funext fun a => Fin.ext ?_)
  fin_cases a <;> rfl

/-- One of its biases. -/
theorem bias (s : Fin 4) (off : Fin 1 → ℕ) (inb : ∀ a, off a + S1.size a ≤ S4.size a) (hoff : off = ![s.val]) (h) :
    View.readAt (Elt Ideal) arg6.view (Rect.unit (s := S4) off S1.size inb).toLoadRect (harg6.unread x6) (Shape.Idx.first h) = x6 (ix1 s) := by
  subst hoff
  rw [harg6.readAt_unread]
  refine congrArg x6 (funext fun a => Fin.ext ?_)
  fin_cases a <;> rfl

set_option maxHeartbeats 2000000 in
/-- One run of the body leaves the result array's value, whatever the result and the scratch held before. -/
theorem kernelRun_val : (kernelRun (F := Ideal) c arg0 harg0 arg1 harg1 arg2 harg2 arg3 harg3 arg4 harg4 arg5 harg5 arg6 harg6 arg7 harg7 arg8 harg8 x0 x1 x2 x3 x4 x5 x6 x7 x8).1 = resVal x0 x1 x2 x3 x4 x5 x6 := by
  funext y
  obtain ⟨t, j, rfl⟩ : ∃ (t : Fin 100) (j : Fin 128), y = ix2 t j := ⟨y 0, y 1, by funext a; fin_cases a <;> rfl⟩
  show _ = recVal x0 x1 x2 x3 x4 x5 x6 t j
  unfold kernelRun recVal
  refine (View.read_writes_cons_unit_of_mem _ _ _ _ _ _ (ix2 t j) rfl (fun a => by fin_cases a <;> exact (Nat.zero_add _).symm)).trans ?_
  refine (pool_apply ..).trans ?_
  refine pooled_congr (fun s w => ?_) (fun s => ?_) (fun w => ?_)
  · fin_cases s <;> fin_cases w <;> simp only [Fin.zero_eta, Fin.mk_one, Fin.reduceFinMk, Fin.isValue, Matrix.cons_val] <;> exact weight (x5 := x5) harg5 _ _ _ _ (by rfl) _
  · fin_cases s <;> simp only [Fin.zero_eta, Fin.mk_one, Fin.reduceFinMk, Fin.isValue, Matrix.cons_val] <;> exact bias (x6 := x6) harg6 _ _ _ (by rfl) _
  · fin_cases w <;> simp only [Fin.zero_eta, Fin.mk_one, Fin.reduceFinMk, Fin.isValue, Matrix.cons_val] <;> exact slab c harg0 harg1 harg2 harg3 harg4 harg5 harg6 harg7 harg8 _ _ _ _ (by rfl) t j

end Cert.RecurrenceIdeal.Gen

end
-- ==== Proof.RecIdealFrame.lean ====
/- The recurrence's run with its constants named: every input ends as it began, and the result ends at the value the body's run
   leaves in it (`resVal`, of the blocks of the inputs). -/
module

public import proofs.«01_k».proof.Proof.RecRes
public import Idealize.ShloMosaic.Lib.Pipeline.FrameBody
public import Idealize.ShloMosaic.Lib.Pipeline.Frame
public import Idealize.ShloMosaic.Lib.Claim
public import Idealize.ShloMosaic.Lib.Pipeline.FrameValue
public import Idealize.ShloMosaic.Lib.Pipeline.ValueKit

@[expose] public section

set_option maxRecDepth 16384

noncomputable section

namespace Cert.RecurrenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The buffer that stages operand 0 at point `t`. -/
abbrev ms0_0 (t : Fin cfg0.N) : Memref sig .tc .vmem S4x12800 .f32 := win0_0.stage (cfg0.slots t 0)
/-- The buffer that stages operand 1 at point `t`. -/
abbrev ms0_1 (t : Fin cfg0.N) : Memref sig .tc .vmem S128x384 .f32 := win0_1.stage (cfg0.slots t 1)
/-- The buffer that stages operand 2 at point `t`. -/
abbrev ms0_2 (t : Fin cfg0.N) : Memref sig .tc .vmem S128x384 .f32 := win0_2.stage (cfg0.slots t 2)
/-- The buffer that stages operand 3 at point `t`. -/
abbrev ms0_3 (t : Fin cfg0.N) : Memref sig .tc .vmem S1x384 .f32 := win0_3.stage (cfg0.slots t 3)
/-- The buffer that stages operand 4 at point `t`. -/
abbrev ms0_4 (t : Fin cfg0.N) : Memref sig .tc .vmem S1x384 .f32 := win0_4.stage (cfg0.slots t 4)
/-- The buffer that stages operand 5 at point `t`. -/
abbrev ms0_5 (t : Fin cfg0.N) : Memref sig .tc .smem S4x4 .f32 := win0_5.stage (cfg0.slots t 5)
/-- The buffer that stages operand 6 at point `t`. -/
abbrev ms0_6 (t : Fin cfg0.N) : Memref sig .tc .smem S4 .f32 := win0_6.stage (cfg0.slots t 6)
/-- The buffer that stages operand 7 at point `t`. -/
abbrev ms0_7 (t : Fin cfg0.N) : Memref sig .tc .vmem S100x128 .f32 := win0_7.stage (cfg0.slots t 7)

/-- The scratch array. -/
abbrev scM0_0 : Memref sig .tc .vmem S416x128 .f32 := Memref.whole cc0_scratch0

/-- What the body may use beside its operands: the scratch array at some contents and the generator register. -/
theorem PhiA0_eq (c : Dev nD) :
    (Pipeline.ΦA spec0 c : sProp 𝕄)
      = iprop((∃ d, owns (c : Thread nD τ) scM0_0 fullShare d) ∗ (∃ r, prngReg c r)) := by
  unfold Pipeline.ΦA; rw [scopedRest0_eq]; simp only [scM0_0, owns_whole]; try rfl

/-- Before the body each operand's buffer holds its block; after it the result holds `resVal` of the blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => resVal (iblk m c 0 t) (iblk m c 1 t) (iblk m c 2 t) (iblk m c 3 t) (iblk m c 4 t) (iblk m c 5 t) (iblk m c 6 t)
    | ⟨_ + 8, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = resVal (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨%s0, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hv := kernelRun_val c (hstage0_0 0 : (ms0_0 t).IsWhole) (hstage0_1 0 : (ms0_1 t).IsWhole) (hstage0_2 0 : (ms0_2 t).IsWhole) (hstage0_3 0 : (ms0_3 t).IsWhole) (hstage0_4 0 : (ms0_4 t).IsWhole) (hstage0_5 0 : (ms0_5 t).IsWhole) (hstage0_6 0 : (ms0_6 t).IsWhole) (hstage0_7 0 : (ms0_7 t).IsWhole) (Memref.isWhole_whole cc0_scratch0) (x0 := iblk m c 0 t) (x1 := iblk m c 1 t) (x2 := iblk m c 2 t) (x3 := iblk m c 3 t) (x4 := iblk m c 4 t) (x5 := iblk m c 5 t) (x6 := iblk m c 6 t) (x7 := (dats m 0 c).before 7 t d7) (x8 := s0)
  iapply ((kernelRun c (ms0_0 t) (hstage0_0 0) (ms0_1 t) (hstage0_1 0) (ms0_2 t) (hstage0_2 0) (ms0_3 t) (hstage0_3 0) (ms0_4 t) (hstage0_4 0) (ms0_5 t) (hstage0_5 0) (ms0_6 t) (hstage0_6 0) (ms0_7 t) (hstage0_7 0) scM0_0 (Memref.isWhole_whole _) (iblk m c 0 t) (iblk m c 1 t) (iblk m c 2 t) (iblk m c 3 t) (iblk m c 4 t) (iblk m c 5 t) (iblk m c 6 t) ((dats m 0 c).before 7 t d7) s0).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  iintro ⟨H0, H1, H2, H3, H4, H5, H6, H7, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  rw [← hv]
  iexact H7

/-- The body the launch calls at point `t` is the body above. -/
theorem defs₀_row (t : Fin cfg0.N) :
    defs₀ (F := Ideal) .tc cfg0.body (cfg0.bodyArgs t (cfg0.slots t)) = bodyAt0 t := by
  unfold defs₀; rw [Defs.onTc_tc]

set_option maxHeartbeats 4000000 in
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 4000000 in
/-- The launch. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim: the arguments end as they began, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result array after the launch: `resVal` of the blocks at the grid's one point. -/
theorem arr_val (c : Dev nD) : (dats m 0 c).arrAt 7 (cfgs 0).N = resVal (iblk m c 0 t0_0) (iblk m c 1 t0_0) (iblk m c 2 t0_0) (iblk m c 3 t0_0) (iblk m c 4 t0_0) (iblk m c 5 t0_0) (iblk m c 6 t0_0) := by
  refine (dats m 0 c).arrAt_eq_of_after_last 7 t0_0 (by decide +kernel) _ fun j => ?_
  blk_simp
  rw [after0_7]

end Cert.RecurrenceIdeal.Gen

end
-- ==== Proof.SpecRec.lean ====
/- The recurrence's result as the mathematics of its seven arguments: for each week, the hidden states of the gated
   recurrent cell along the stocks; for each stock, the four weeks' states pooled by attention. -/
module

public import proofs.«01_k».proof.Proof.SpecEnc

@[expose] public section

noncomputable section

namespace Cert.Spec

/-- Stock `t`'s feature `j`: `x w` week `w`'s inputs by stock and channel; `wi`, `wh`, `bi`, `bh` the cell's weights and
    biases, the same for every week; `aw`, `ab` the attention's. -/
def recur (x : Fin 4 → Fin 100 → Fin 128 → EReal) (wi wh : Fin 384 → Fin 128 → EReal) (bi bh : Fin 384 → EReal)
    (aw : Fin 4 → Fin 4 → EReal) (ab : Fin 4 → EReal) (t : Fin 100) (j : Fin 128) : EReal :=
  pooled aw ab fun w =>
    hid (fun d r => wi r d) (fun d r => wh r d) bi bh (fun t d => if h : t < 100 then x w ⟨t, h⟩ d else 0) (t.val + 1) j

end Cert.Spec

end
-- ==== Proof.RecIn.lean ====
/- What the recurrence's launch finds in its operands: the weights transposed, the biases as rows, the rest as given. -/
module

public import proofs.«01_k».proof.Proof.RecIdealFrame
public import proofs.«01_k».proof.Proof.SpecRec
public import Idealize.ShloMosaic.Lib.StableHlo.RunClose

@[expose] public section

set_option maxRecDepth 16384

noncomputable section

namespace Cert.RecurrenceIdeal.Gen

open Idealize.ShloMosaic Idealize.ShloMosaic.TcCoe Idealize.ShloMosaic.Tactic
open Idealize.ShloMosaic.StableHlo Cert.Spec

variable (m : (ℓ : Loc nD τ sig) → Buf (Elt Ideal) ℓ) (c : Dev nD)

theorem in0 (w : Fin 4) (q : Fin 12800) :
    (iblk m c 0 t0_0 : Vec Ideal S4x12800 .f32) (ix2 w q) = (m ((c.tc : Thread nD τ).loc main_arg0) : Vec Ideal S4x12800 .f32) (ix2 w q) := by
  blk_point [iblk, V]
  all_goals (simp; rfl)

theorem in1 (d : Fin 128) (r : Fin 384) :
    (iblk m c 1 t0_0 : Vec Ideal S128x384 .f32) (ix2 d r) = (m ((c.tc : Thread nD τ).loc main_arg1) : Vec Ideal S384x128 .f32) (ix2 r d) := by
  blk_point [iblk, V]
  all_goals (simp; rfl)

theorem in2 (d : Fin 128) (r : Fin 384) :
    (iblk m c 2 t0_0 : Vec Ideal S128x384 .f32) (ix2 d r) = (m ((c.tc : Thread nD τ).loc main_arg2) : Vec Ideal S384x128 .f32) (ix2 r d) := by
  blk_point [iblk, V]
  all_goals (simp; rfl)

theorem in3 (r : Fin 384) :
    (iblk m c 3 t0_0 : Vec Ideal S1x384 .f32) (ix2 0 r) = (m ((c.tc : Thread nD τ).loc main_arg3) : Vec Ideal S384 .f32) (ix1 r) := by
  blk_point [iblk, V]
  all_goals (simp; rfl)

theorem in4 (r : Fin 384) :
    (iblk m c 4 t0_0 : Vec Ideal S1x384 .f32) (ix2 0 r) = (m ((c.tc : Thread nD τ).loc main_arg4) : Vec Ideal S384 .f32) (ix1 r) := by
  blk_point [iblk, V]
  all_goals (simp; rfl)

theorem in5 (s w : Fin 4) :
    (iblk m c 5 t0_0 : Vec Ideal S4x4 .f32) (ix2 s w) = (m ((c.tc : Thread nD τ).loc main_arg5) : Vec Ideal S4x4 .f32) (ix2 s w) := by
  blk_point [iblk, V]
  all_goals (simp; rfl)

theorem in6 (s : Fin 4) :
    (iblk m c 6 t0_0 : Vec Ideal S4 .f32) (ix1 s) = (m ((c.tc : Thread nD τ).loc main_arg6) : Vec Ideal S4 .f32) (ix1 s) := by
  blk_point [iblk, V]
  all_goals (simp; rfl)

/-- The kernel's result is the recurrence of its arguments. -/
theorem result (t : Fin 100) (j : Fin 128) :
    (resVal (iblk m c 0 t0_0) (iblk m c 1 t0_0) (iblk m c 2 t0_0) (iblk m c 3 t0_0) (iblk m c 4 t0_0) (iblk m c 5 t0_0) (iblk m c 6 t0_0) :
        Vec Ideal S100x128 .f32) (ix2 t j)
      = recur (fun w t d => (m ((c.tc : Thread nD τ).loc main_arg0) : Vec Ideal S4x12800 .f32) (ix2 w ⟨128 * t.val + d.val, by omega⟩))
          (fun r d => (m ((c.tc : Thread nD τ).loc main_arg1) : Vec Ideal S384x128 .f32) (ix2 r d))
          (fun r d => (m ((c.tc : Thread nD τ).loc main_arg2) : Vec Ideal S384x128 .f32) (ix2 r d))
          (fun r => (m ((c.tc : Thread nD τ).loc main_arg3) : Vec Ideal S384 .f32) (ix1 r))
          (fun r => (m ((c.tc : Thread nD τ).loc main_arg4) : Vec Ideal S384 .f32) (ix1 r))
          (fun s w => (m ((c.tc : Thread nD τ).loc main_arg5) : Vec Ideal S4x4 .f32) (ix2 s w))
          (fun s => (m ((c.tc : Thread nD τ).loc main_arg6) : Vec Ideal S4 .f32) (ix1 s)) t j := by
  show recVal _ _ _ _ _ _ _ t j = _
  unfold recVal
  refine pooled_congr (fun s w => in5 m c s w) (fun s => in6 m c s) fun w => ?_
  unfold H
  refine congrFun (congrFun (hid_congr (fun d r => in1 m c d r) (fun d r => in2 m c d r) (fun r => in3 m c r) (fun r => in4 m c r)
    fun t d => ?_) _) _
  by_cases h : t < 100
  · rw [dif_pos h, dif_pos h]; exact in0 m c w _
  · rw [dif_neg h, dif_neg h]

end Cert.RecurrenceIdeal.Gen

end
-- ==== Proof.RecRefVal.lean ====
/- What the recurrence reference computes: one trip of its loop is one cell step of every week. -/
module

public import proofs.«01_k».proof.Proof.RecRefKeep
public import proofs.«01_k».proof.Proof.Spec

@[expose] public section

set_option maxRecDepth 16384

noncomputable section

namespace Cert.RecurrenceReferenceIdeal.Gen

open Idealize.ShloMosaic Idealize.ShloMosaic.TcCoe Idealize.ShloMosaic.Tactic
open Idealize.ShloMosaic.StableHlo Cert.Spec

/-- The cell of a trip, from the buffers its lines read. -/
theorem cell_val (V : Valuation τ sig (Elt Ideal)) (w : Fin 4) (j : Fin 128) :
    (after while0Ops0_1 V (Proc.devRef .tc main_while0b_v63) : (⟨S4x128, .f32⟩ : BufTy).Contents (Elt Ideal)) (ix2 w j)
      = cell (fun d r => (V (Proc.devRef .tc main_v4_1) : (⟨S384x128, .f32⟩ : BufTy).Contents (Elt Ideal)) (ix2 r d))
          (fun d r => (V (Proc.devRef .tc main_v4_3) : (⟨S384x128, .f32⟩ : BufTy).Contents (Elt Ideal)) (ix2 r d))
          (fun r => (V (Proc.devRef .tc main_v4_2) : (⟨S384, .f32⟩ : BufTy).Contents (Elt Ideal)) (ix1 r))
          (fun r => (V (Proc.devRef .tc main_v4_4) : (⟨S384, .f32⟩ : BufTy).Contents (Elt Ideal)) (ix1 r))
          (fun d => (V (Proc.devRef .tc main_while0b_v25) : (⟨S4x128, .f32⟩ : BufTy).Contents (Elt Ideal)) (ix2 w d))
          (fun d => (V (Proc.devRef .tc main_v4_6) : (⟨S4x128, .f32⟩ : BufTy).Contents (Elt Ideal)) (ix2 w d)) j := by
  after_results_simp_entrywise
  unfold cell lin Ideal.logistic
  pointwise

end Cert.RecurrenceReferenceIdeal.Gen

end
-- ==== Proof.RecRefPost.lean ====
/- What the recurrence reference computes: what follows its loop is the pooling of every week's hidden states. -/
module

public import proofs.«01_k».proof.Proof.RecRefKeep
public import proofs.«01_k».proof.Proof.EncRefPost
public import proofs.«01_k».proof.Proof.Spec

@[expose] public section

set_option maxRecDepth 16384

noncomputable section

namespace Cert.RecurrenceReferenceIdeal.Gen

open Idealize.ShloMosaic Idealize.ShloMosaic.TcCoe Idealize.ShloMosaic.Tactic
open Idealize.ShloMosaic.StableHlo Cert.Spec

/-- What the lines after the loop leave in the result. -/
theorem post_val (V : Valuation τ sig (Elt Ideal)) (t : Fin 100) (j : Fin 128) :
    (after hostOps0_1 V (Proc.devRef .tc main_v24) : (⟨S100x128, .f32⟩ : BufTy).Contents (Elt Ideal)) (ix2 t j)
      = pooled (fun s w => (V (Proc.devRef .tc main_arg5) : (⟨S4x4, .f32⟩ : BufTy).Contents (Elt Ideal)) (ix2 s w))
          (fun s => (V (Proc.devRef .tc main_arg6) : (⟨S4, .f32⟩ : BufTy).Contents (Elt Ideal)) (ix1 s))
          (fun w => (V (Proc.devRef .tc main_v4_7) : (⟨S100x4x128, .f32⟩ : BufTy).Contents (Elt Ideal)) (ix3 t w j)) := by
  after_results_simp_entrywise
  rw [Cert.EncoderReferenceIdeal.Gen.pooled_comm]
  pointwise
  simp only [Cert.EncoderReferenceIdeal.Gen.neg_inf, max_eq_right bot_le]

end Cert.RecurrenceReferenceIdeal.Gen

end
-- ==== Proof.RecRefLoop.lean ====
/- The recurrence reference's loop: before trip `k` the carried hidden state is the one after `k` rows, and rows below `k` of the
   sequence it builds hold the states stored so far. -/
module

public import proofs.«01_k».proof.Proof.RecRefKeep
public import proofs.«01_k».proof.Proof.Spec
public import Idealize.ShloMosaic.Lib.DynamicIndex
public import Idealize.ShloMosaic.Lib.WordCmp

@[expose] public section

set_option maxRecDepth 16384

noncomputable section

namespace Cert.RecurrenceReferenceIdeal.Gen

open Idealize.ShloMosaic Idealize.ShloMosaic.TcCoe Idealize.ShloMosaic.Tactic
open Idealize.ShloMosaic.StableHlo Cert.Spec

theorem iv_toInt : ∀ k : Fin 100, (Scf.iv (0#32) 1#32 k.val).toInt = (k.val : ℤ) := by decide

/-- A slice of one row, read as that row. -/
theorem slice_row (x : FVec Ideal S100x4x128 .f32) (k : Fin 100) (st : Fin 3 → ℤ) (hs : ∀ a, st a = ((![k.val, 0, 0] : Fin 3 → ℕ) a : ℤ))
    (w : Fin 4) (d : Fin 128) :
    shapeCast S4x128 (Host.dynamicSlice S1x4x128 x st sliceFits_S100x4x128_S1x4x128) shapeCasts_S1x4x128_S4x128 (ix2 w d)
      = x (ix3 k w d) := by
  rw [Host.dynamicSlice_eq_extractStridedSlice S1x4x128 x st ![k.val, 0, 0] _
    ⟨rfl, by have := k.isLt; intro a; fin_cases a <;> simp <;> omega⟩ hs]
  pointwise

/-- One row replaced, read at any row. -/
theorem update_row (x : FVec Ideal S100x4x128 .f32) (u : FVec Ideal S4x128 .f32) (k : Fin 100) (st : Fin 3 → ℤ)
    (hs : ∀ a, st a = ((![k.val, 0, 0] : Fin 3 → ℕ) a : ℤ)) (t : Fin 100) (w : Fin 4) (j : Fin 128) :
    Host.dynamicUpdateSlice x (broadcastInDim S1x4x128 ![1, 2] bcast_S4x128_S1x4x128_1_2 u) st
        updateFits_S100x4x128_S1x4x128 (ix3 t w j)
      = if t = k then u (ix2 w j) else x (ix3 t w j) := by
  rw [Idealize.ShloMosaic.Host.dynamicUpdateSlice_apply]
  have e : ∀ a, Host.clampedStart S100x4x128 S1x4x128 updateFits_S100x4x128_S1x4x128.1 st a = (![k.val, 0, 0] : Fin 3 → ℕ) a :=
    fun a => Host.clampedStart_of_le _ st a _ (hs a) (by have := k.isLt; fin_cases a <;> simp <;> omega)
  by_cases h : t = k
  · subst h
    rw [dif_pos (by intro a; rw [e]; fin_cases a <;> simp <;> omega), if_pos rfl]
    pointwise
    simp [e]
  · rw [dif_neg (by intro hin; have := hin 0; rw [e] at this; exact h (Fin.ext (by simp at this; omega))), if_neg h]

/-- The row of a trip. -/
theorem row_val (V : Valuation τ sig (Elt Ideal)) (k : Fin 100)
    (hk : V (Proc.devRef .tc main_v4_5) = fun _ => Scf.iv (0#32 : BitVec 32) 1#32 k.val) (w : Fin 4) (d : Fin 128) :
    (after while0Ops0 V (Proc.devRef .tc main_while0b_v25) : (⟨S4x128, .f32⟩ : BufTy).Contents (Elt Ideal)) (ix2 w d)
      = (V (Proc.devRef .tc main_v4_0) : (⟨S100x4x128, .f32⟩ : BufTy).Contents (Elt Ideal)) (ix3 k w d) := by
  have hi := iv_toInt k
  after_results_simp_entrywise
  refine slice_row (V (Proc.devRef .tc main_v4_0)) k _ (fun a => ?_) w d
  rw [hk]
  fin_cases a
  · exact hi
  all_goals rfl

/-- The sequence after a trip: its row `k` is the new state, its other rows are as before. -/
theorem seq_val (V : Valuation τ sig (Elt Ideal)) (k : Fin 100)
    (hk : V (Proc.devRef .tc main_v4_5) = fun _ => Scf.iv (0#32 : BitVec 32) 1#32 k.val) (t : Fin 100) (w : Fin 4) (j : Fin 128) :
    (after while0Ops0_2 V (Proc.devRef .tc main_while0b_v64) : (⟨S100x4x128, .f32⟩ : BufTy).Contents (Elt Ideal)) (ix3 t w j)
      = if t = k then (V (Proc.devRef .tc main_while0b_v63) : (⟨S4x128, .f32⟩ : BufTy).Contents (Elt Ideal)) (ix2 w j)
        else (V (Proc.devRef .tc main_v4_7) : (⟨S100x4x128, .f32⟩ : BufTy).Contents (Elt Ideal)) (ix3 t w j) := by
  have hi := iv_toInt k
  after_results_simp_entrywise
  refine update_row (V (Proc.devRef .tc main_v4_7)) (V (Proc.devRef .tc main_while0b_v63)) k _ (fun a => ?_) t w j
  rw [hk]
  fin_cases a
  · exact hi
  all_goals rfl

end Cert.RecurrenceReferenceIdeal.Gen

end
-- ==== Proof.RecRefFold.lean ====
/- The recurrence reference's result: every week's hidden states from its loop, pooled. -/
module

public import proofs.«01_k».proof.Proof.RecRefVal
public import proofs.«01_k».proof.Proof.RecRefPost
public import proofs.«01_k».proof.Proof.RecRefLoop

@[expose] public section

set_option maxRecDepth 16384

noncomputable section

namespace Cert.RecurrenceReferenceIdeal.Gen

open Idealize.ShloMosaic Idealize.ShloMosaic.TcCoe Idealize.ShloMosaic.Tactic
open Idealize.ShloMosaic.StableHlo Cert.Spec

/-- Week `w`'s hidden state of node `n` after `k` days, from the buffers the loop reads. -/
def hidden (X : Valuation τ sig (Elt Ideal)) (w : Fin 4) : ℕ → Fin 128 → EReal :=
  hid (fun d r => (X (Proc.devRef .tc main_v4_1) : (⟨S384x128, .f32⟩ : BufTy).Contents (Elt Ideal)) (ix2 r d))
    (fun d r => (X (Proc.devRef .tc main_v4_3) : (⟨S384x128, .f32⟩ : BufTy).Contents (Elt Ideal)) (ix2 r d))
    (fun r => (X (Proc.devRef .tc main_v4_2) : (⟨S384, .f32⟩ : BufTy).Contents (Elt Ideal)) (ix1 r))
    (fun r => (X (Proc.devRef .tc main_v4_4) : (⟨S384, .f32⟩ : BufTy).Contents (Elt Ideal)) (ix1 r))
    (fun t d => if h : t < 100 then (X (Proc.devRef .tc main_v4_0) : (⟨S100x4x128, .f32⟩ : BufTy).Contents (Elt Ideal)) (ix3 ⟨t, h⟩ w d) else 0)

theorem hidden_succ (X : Valuation τ sig (Elt Ideal)) (w : Fin 4) (k : Fin 100) :
    hidden X w (k.val + 1)
      = cell (fun d r => (X (Proc.devRef .tc main_v4_1) : (⟨S384x128, .f32⟩ : BufTy).Contents (Elt Ideal)) (ix2 r d))
          (fun d r => (X (Proc.devRef .tc main_v4_3) : (⟨S384x128, .f32⟩ : BufTy).Contents (Elt Ideal)) (ix2 r d))
          (fun r => (X (Proc.devRef .tc main_v4_2) : (⟨S384, .f32⟩ : BufTy).Contents (Elt Ideal)) (ix1 r))
          (fun r => (X (Proc.devRef .tc main_v4_4) : (⟨S384, .f32⟩ : BufTy).Contents (Elt Ideal)) (ix1 r))
          (fun d => (X (Proc.devRef .tc main_v4_0) : (⟨S100x4x128, .f32⟩ : BufTy).Contents (Elt Ideal)) (ix3 k w d))
          (hidden X w k.val) := by
  unfold hidden
  rw [hid]
  congr 1
  funext d
  rw [dif_pos k.isLt]

/-- A trip's new state: the cell on the carried state and on the trip's row. -/
theorem trip_state (V : Valuation τ sig (Elt Ideal)) (k : Fin 100)
    (hk : V (Proc.devRef .tc main_v4_5) = fun _ => Scf.iv (0#32 : BitVec 32) 1#32 k.val) (w : Fin 4) (j : Fin 128) :
    (after while0Ops0_1 (after while0Ops0 V) (Proc.devRef .tc main_while0b_v63) : (⟨S4x128, .f32⟩ : BufTy).Contents (Elt Ideal)) (ix2 w j)
      = cell (fun d r => (V (Proc.devRef .tc main_v4_1) : (⟨S384x128, .f32⟩ : BufTy).Contents (Elt Ideal)) (ix2 r d))
          (fun d r => (V (Proc.devRef .tc main_v4_3) : (⟨S384x128, .f32⟩ : BufTy).Contents (Elt Ideal)) (ix2 r d))
          (fun r => (V (Proc.devRef .tc main_v4_2) : (⟨S384, .f32⟩ : BufTy).Contents (Elt Ideal)) (ix1 r))
          (fun r => (V (Proc.devRef .tc main_v4_4) : (⟨S384, .f32⟩ : BufTy).Contents (Elt Ideal)) (ix1 r))
          (fun d => (V (Proc.devRef .tc main_v4_0) : (⟨S100x4x128, .f32⟩ : BufTy).Contents (Elt Ideal)) (ix3 k w d))
          (fun d => (V (Proc.devRef .tc main_v4_6) : (⟨S4x128, .f32⟩ : BufTy).Contents (Elt Ideal)) (ix2 w d)) j := by
  rw [cell_val, while0Ops0_over.keep V (r := main_v4_1) (by decide), while0Ops0_over.keep V (r := main_v4_2) (by decide),
    while0Ops0_over.keep V (r := main_v4_3) (by decide), while0Ops0_over.keep V (r := main_v4_4) (by decide),
    while0Ops0_over.keep V (r := main_v4_6) (by decide)]
  exact cell_congr (fun _ _ => rfl) (fun _ _ => rfl) (fun _ => rfl) (fun _ => rfl) (fun d => row_val V k hk w d) (fun _ => rfl) j

/-- The last lines of a trip carry the new state and the new sequence over. -/
theorem carry_state (V : Valuation τ sig (Elt Ideal)) :
    after while0Ops0_3 V (Proc.devRef .tc main_v4_6) = V (Proc.devRef .tc main_while0b_v63) := by
  after_results_simp_entrywise
  all_goals rfl
theorem carry_seq (V : Valuation τ sig (Elt Ideal)) :
    after while0Ops0_3 V (Proc.devRef .tc main_v4_7) = V (Proc.devRef .tc main_while0b_v64) := by
  after_results_simp_entrywise
  all_goals rfl

/-- A trip, as a whole. -/
theorem trip_h (V : Valuation τ sig (Elt Ideal)) :
    afterL body0 V (Proc.devRef .tc main_v4_6) = after while0Ops0_1 (after while0Ops0 V) (Proc.devRef .tc main_while0b_v63) := by
  rw [afterL_cons, afterL_cons, afterL_cons, afterL_cons, afterL_nil, carry_state, while0Ops0_2_over.keep _ (by decide)]

theorem trip_seq (V : Valuation τ sig (Elt Ideal)) (k : Fin 100)
    (hk : V (Proc.devRef .tc main_v4_5) = fun _ => Scf.iv (0#32 : BitVec 32) 1#32 k.val) (t : Fin 100) (w : Fin 4) (j : Fin 128) :
    (afterL body0 V (Proc.devRef .tc main_v4_7) : (⟨S100x4x128, .f32⟩ : BufTy).Contents (Elt Ideal)) (ix3 t w j)
      = if t = k then (after while0Ops0_1 (after while0Ops0 V) (Proc.devRef .tc main_while0b_v63) : (⟨S4x128, .f32⟩ : BufTy).Contents (Elt Ideal)) (ix2 w j)
        else (V (Proc.devRef .tc main_v4_7) : (⟨S100x4x128, .f32⟩ : BufTy).Contents (Elt Ideal)) (ix3 t w j) := by
  rw [afterL_cons, afterL_cons, afterL_cons, afterL_cons, afterL_nil, carry_seq,
    seq_val _ k (by rw [while0Ops0_1_over.keep _ (by decide), while0Ops0_over.keep _ (by decide), hk]),
    while0Ops0_1_over.keep _ (r := main_v4_7) (by decide), while0Ops0_over.keep _ (r := main_v4_7) (by decide)]

/-- Before trip `k`: the carried state is the one after `k` days, and the rows below `k` hold the states after their days. -/
theorem loop_inv (W : Dev nD → Valuation τ sig (Elt Ideal)) (h0 : ∀ c, W c (Proc.devRef .tc main_v4_5) = fun _ => (0#32 : BitVec 32))
    (hz : ∀ c (w : Fin 4) (j : Fin 128), (W c (Proc.devRef .tc main_v4_6) : (⟨S4x128, .f32⟩ : BufTy).Contents (Elt Ideal)) (ix2 w j) = (0 : EReal))
    (c : Dev nD) (w : Fin 4) (j : Fin 128) : ∀ k, k ≤ 100 →
    (∀ j : Fin 128, (atTrip cond0 body0 W k c (Proc.devRef .tc main_v4_6) : (⟨S4x128, .f32⟩ : BufTy).Contents (Elt Ideal)) (ix2 w j) = hidden (W c) w k j)
    ∧ ∀ t : Fin 100, t.val < k → (atTrip cond0 body0 W k c (Proc.devRef .tc main_v4_7) : (⟨S100x4x128, .f32⟩ : BufTy).Contents (Elt Ideal)) (ix3 t w j) = hidden (W c) w (t.val + 1) j
  | 0, _ => ⟨fun j => by rw [atTrip_zero, hz]; rfl, fun t ht => absurd ht (by omega)⟩
  | k + 1, hk => by
    obtain ⟨ih1, ih2⟩ := loop_inv W h0 hz c w j k (by omega)
    have hk' : k < 100 := by omega
    have kc : ∀ {r : Ref sig .tc}, r.idx.val < 22 → after cond0 (atTrip cond0 body0 W k c) (Proc.devRef .tc r) = atTrip cond0 body0 W k c (Proc.devRef .tc r) :=
      fun hr => cond0_over.keep _ hr
    have kt : ∀ {r : Ref sig .tc}, r.idx.val < 19 → atTrip cond0 body0 W k c (Proc.devRef .tc r) = W c (Proc.devRef .tc r) :=
      fun hr => Over.keepTrip (cond0_over.mono (by decide : 19 ≤ 22)) body0_over _ hr _ _
    have hctr : after cond0 (atTrip cond0 body0 W k c) (Proc.devRef .tc main_v4_5) = fun _ => Scf.iv (0#32 : BitVec 32) 1#32 (⟨k, hk'⟩ : Fin 100).val := by
      rw [kc (by decide), atTrip0_ctr W h0 c k]
    have hs : ∀ j : Fin 128, (after while0Ops0_1 (after while0Ops0 (after cond0 (atTrip cond0 body0 W k c))) (Proc.devRef .tc main_while0b_v63) : (⟨S4x128, .f32⟩ : BufTy).Contents (Elt Ideal)) (ix2 w j)
        = hidden (W c) w (k + 1) j := fun j => by
      rw [trip_state _ ⟨k, hk'⟩ hctr, kc (by decide), kc (by decide), kc (by decide), kc (by decide), kc (by decide), kc (by decide),
        kt (by decide), kt (by decide), kt (by decide), kt (by decide), kt (by decide)]
      refine Eq.trans ?_ (congrFun (hidden_succ (W c) w ⟨k, hk'⟩) j).symm
      exact cell_congr (fun _ _ => rfl) (fun _ _ => rfl) (fun _ => rfl) (fun _ => rfl) (fun _ => rfl) (fun d => ih1 d) j
    refine ⟨fun j => ?_, fun t ht => ?_⟩
    · rw [atTrip_succ, trip_h]; exact hs j
    · rw [atTrip_succ, trip_seq _ ⟨k, hk'⟩ hctr]
      by_cases e : t = ⟨k, hk'⟩
      · rw [if_pos e, hs j, e]
      · rw [if_neg e, kc (by decide)]
        exact ih2 t (by have : t.val ≠ k := fun h => e (Fin.ext h); omega)

variable (m : (ℓ : Loc nD τ sig) → Buf (Elt Ideal) ℓ)

theorem at0_zero (c : Dev nD) (w : Fin 4) (j : Fin 128) :
    (at0 m c (Proc.devRef .tc main_v4_6) : (⟨S4x128, .f32⟩ : BufTy).Contents (Elt Ideal)) (ix2 w j) = (0 : EReal) := by
  simp only [at0, afterL_cons, afterL_nil]
  after_results_simp_entrywise
  simp only [id_eq]
  pointwise

/-- The result, at every index. -/
theorem at2_val (c : Dev nD) (t : Fin 100) (j : Fin 128) :
    (at2 m c (Proc.devRef .tc main_v24) : (⟨S100x128, .f32⟩ : BufTy).Contents (Elt Ideal)) (ix2 t j)
      = pooled (fun s w => (launchContents m c (Proc.devRef .tc main_arg5) : (⟨S4x4, .f32⟩ : BufTy).Contents (Elt Ideal)) (ix2 s w))
          (fun s => (launchContents m c (Proc.devRef .tc main_arg6) : (⟨S4, .f32⟩ : BufTy).Contents (Elt Ideal)) (ix1 s))
          (fun w => hidden (at0 m c) w (t.val + 1) j) := by
  unfold at2
  rw [afterL_cons, afterL_nil, post_val, at1_arg m c (by decide), at1_arg m c (by decide)]
  refine pooled_congr (fun _ _ => rfl) (fun _ => rfl) fun w => ?_
  unfold at1
  rw [cond0_over.keep _ (by decide)]
  exact (loop_inv (at0 m) (at0_ctr m) (at0_zero m) c w j 100 le_rfl).2 t t.isLt

end Cert.RecurrenceReferenceIdeal.Gen

end
-- ==== Proof.RecRefIn.lean ====
/- What the reference's loop finds in its buffers, and its result as the mathematics of the arguments. -/
module

public import proofs.«01_k».proof.Proof.RecRefFold
public import proofs.«01_k».proof.Proof.SpecRec
public import Idealize.ShloMosaic.Lib.StableHlo.RunClose

@[expose] public section

set_option maxRecDepth 16384

noncomputable section

namespace Cert.RecurrenceReferenceIdeal.Gen

open Idealize.ShloMosaic Idealize.ShloMosaic.TcCoe Idealize.ShloMosaic.Tactic
open Idealize.ShloMosaic.StableHlo Cert.Spec

variable (m : (ℓ : Loc nD τ sig) → Buf (Elt Ideal) ℓ) (c : Dev nD)

theorem in1 (d : Fin 128) (r : Fin 384) :
    (at0 m c (Proc.devRef .tc main_v4_1) : (⟨S384x128, .f32⟩ : BufTy).Contents (Elt Ideal)) (ix2 r d)
      = (m ((c.tc : Thread nD τ).loc main_arg1) : (⟨S384x128, .f32⟩ : BufTy).Contents (Elt Ideal)) (ix2 r d) := by
  simp only [at0, afterL_cons, afterL_nil]
  after_results_simp_entrywise
  rfl

theorem in2 (d : Fin 128) (r : Fin 384) :
    (at0 m c (Proc.devRef .tc main_v4_3) : (⟨S384x128, .f32⟩ : BufTy).Contents (Elt Ideal)) (ix2 r d)
      = (m ((c.tc : Thread nD τ).loc main_arg2) : (⟨S384x128, .f32⟩ : BufTy).Contents (Elt Ideal)) (ix2 r d) := by
  simp only [at0, afterL_cons, afterL_nil]
  after_results_simp_entrywise
  rfl

theorem in3 (r : Fin 384) :
    (at0 m c (Proc.devRef .tc main_v4_2) : (⟨S384, .f32⟩ : BufTy).Contents (Elt Ideal)) (ix1 r)
      = (m ((c.tc : Thread nD τ).loc main_arg3) : (⟨S384, .f32⟩ : BufTy).Contents (Elt Ideal)) (ix1 r) := by
  simp only [at0, afterL_cons, afterL_nil]
  after_results_simp_entrywise
  rfl

theorem in4 (r : Fin 384) :
    (at0 m c (Proc.devRef .tc main_v4_4) : (⟨S384, .f32⟩ : BufTy).Contents (Elt Ideal)) (ix1 r)
      = (m ((c.tc : Thread nD τ).loc main_arg4) : (⟨S384, .f32⟩ : BufTy).Contents (Elt Ideal)) (ix1 r) := by
  simp only [at0, afterL_cons, afterL_nil]
  after_results_simp_entrywise
  rfl

theorem in0 (w : Fin 4) (t : Fin 100) (d : Fin 128) :
    (at0 m c (Proc.devRef .tc main_v4_0) : (⟨S100x4x128, .f32⟩ : BufTy).Contents (Elt Ideal)) (ix3 t w d)
      = (m ((c.tc : Thread nD τ).loc main_arg0) : (⟨S4x12800, .f32⟩ : BufTy).Contents (Elt Ideal)) (ix2 w ⟨128 * t.val + d.val, by omega⟩) := by
  simp only [at0, afterL_cons, afterL_nil]
  after_results_simp_entrywise
  simp only [id_eq]
  pointwise
  simp only [Nat.mul_comm t.val 128]

/-- The reference's result is the recurrence of its arguments. -/
theorem result (t : Fin 100) (j : Fin 128) :
    (at2 m c (Proc.devRef .tc main_v24) : (⟨S100x128, .f32⟩ : BufTy).Contents (Elt Ideal)) (ix2 t j)
      = recur (fun w t d => (m ((c.tc : Thread nD τ).loc main_arg0) : Vec Ideal S4x12800 .f32) (ix2 w ⟨128 * t.val + d.val, by omega⟩))
          (fun r d => (m ((c.tc : Thread nD τ).loc main_arg1) : Vec Ideal S384x128 .f32) (ix2 r d))
          (fun r d => (m ((c.tc : Thread nD τ).loc main_arg2) : Vec Ideal S384x128 .f32) (ix2 r d))
          (fun r => (m ((c.tc : Thread nD τ).loc main_arg3) : Vec Ideal S384 .f32) (ix1 r))
          (fun r => (m ((c.tc : Thread nD τ).loc main_arg4) : Vec Ideal S384 .f32) (ix1 r))
          (fun s w => (m ((c.tc : Thread nD τ).loc main_arg5) : Vec Ideal S4x4 .f32) (ix2 s w))
          (fun s => (m ((c.tc : Thread nD τ).loc main_arg6) : Vec Ideal S4 .f32) (ix1 s)) t j := by
  refine (at2_val m c t j).trans (pooled_congr (fun t s => rfl) (fun t => rfl) fun w => ?_)
  refine congrFun (congrFun (hid_congr (fun d r => in1 m c d r) (fun d r => in2 m c d r) (fun r => in3 m c r) (fun r => in4 m c r)
    fun t d => ?_) _) _
  by_cases h : t < 100
  · rw [dif_pos h, dif_pos h]; exact in0 m c w ⟨t, h⟩ d
  · rw [dif_neg h, dif_neg h]

end Cert.RecurrenceReferenceIdeal.Gen

end
-- ==== Proof.RecAlg.lean ====
/- The recurrence's slice and its reference end with equal results: both are the recurrence of the arguments. -/
module

public import proofs.«01_k».proof.Defs
public import proofs.«01_k».proof.Proof.RecIn
public import proofs.«01_k».proof.Proof.RecRefIn

@[expose] public section

set_option maxRecDepth 16384

noncomputable section

namespace Cert.RecurrenceIdeal.Gen

open Idealize.ShloMosaic Idealize.ShloMosaic.TcCoe Idealize.SL.Sem Cert.Spec

/-- The result array, as a value of the launch's blocks. -/
def out (m : (ℓ : Loc nD τ sig) → Buf (Elt Ideal) ℓ) (c : Dev nD) : Vec Ideal S100x128 .f32 :=
  resVal (iblk m c 0 t0_0) (iblk m c 1 t0_0) (iblk m c 2 t0_0) (iblk m c 3 t0_0) (iblk m c 4 t0_0) (iblk m c 5 t0_0) (iblk m c 6 t0_0)

/-- The kernel runs, its result is `out` and its arguments end as they began. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1.1 c).1 7).trans (arr_val m c), h.2.1 c⟩)
    (θ_run_and (run_main m ρ) (frame m ρ))

end Cert.RecurrenceIdeal.Gen

namespace Cert.RecurrenceReferenceIdeal.Gen

open Idealize.ShloMosaic Idealize.ShloMosaic.TcCoe Idealize.SL.Sem

/-- The reference runs, its result is the fold's and its arguments end as they began. -/
theorem run_out (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v24) = at2 m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h.1 c main_v24 rfl, h.2 c⟩) (θ_run_and (run_fold m ρ) (frame m ρ))

end Cert.RecurrenceReferenceIdeal.Gen

namespace Cert.Proof

open Idealize.ShloMosaic Idealize.ShloMosaic.TcCoe Idealize.SL.Sem

/-- From memories that agree on the arguments, the two results agree at every index. -/
theorem rec_results (m : (ℓ : Loc RecurrenceIdeal.nD RecurrenceIdeal.τ RecurrenceIdeal.sig) → Buf (Elt Ideal) ℓ)
    (m' : (ℓ : Loc RecurrenceReferenceIdeal.nD RecurrenceReferenceIdeal.τ RecurrenceReferenceIdeal.sig) → Buf (Elt Ideal) ℓ) (c : Dev RecurrenceIdeal.nD)
    (h : m' ((c.tc : Thread RecurrenceReferenceIdeal.nD RecurrenceReferenceIdeal.τ).loc RecurrenceReferenceIdeal.main_arg0) = m ((c.tc : Thread RecurrenceIdeal.nD RecurrenceIdeal.τ).loc RecurrenceIdeal.main_arg0)
      ∧ m' ((c.tc : Thread RecurrenceReferenceIdeal.nD RecurrenceReferenceIdeal.τ).loc RecurrenceReferenceIdeal.main_arg1) = m ((c.tc : Thread RecurrenceIdeal.nD RecurrenceIdeal.τ).loc RecurrenceIdeal.main_arg1)
      ∧ m' ((c.tc : Thread RecurrenceReferenceIdeal.nD RecurrenceReferenceIdeal.τ).loc RecurrenceReferenceIdeal.main_arg2) = m ((c.tc : Thread RecurrenceIdeal.nD RecurrenceIdeal.τ).loc RecurrenceIdeal.main_arg2)
      ∧ m' ((c.tc : Thread RecurrenceReferenceIdeal.nD RecurrenceReferenceIdeal.τ).loc RecurrenceReferenceIdeal.main_arg3) = m ((c.tc : Thread RecurrenceIdeal.nD RecurrenceIdeal.τ).loc RecurrenceIdeal.main_arg3)
      ∧ m' ((c.tc : Thread RecurrenceReferenceIdeal.nD RecurrenceReferenceIdeal.τ).loc RecurrenceReferenceIdeal.main_arg4) = m ((c.tc : Thread RecurrenceIdeal.nD RecurrenceIdeal.τ).loc RecurrenceIdeal.main_arg4)
      ∧ m' ((c.tc : Thread RecurrenceReferenceIdeal.nD RecurrenceReferenceIdeal.τ).loc RecurrenceReferenceIdeal.main_arg5) = m ((c.tc : Thread RecurrenceIdeal.nD RecurrenceIdeal.τ).loc RecurrenceIdeal.main_arg5)
      ∧ m' ((c.tc : Thread RecurrenceReferenceIdeal.nD RecurrenceReferenceIdeal.τ).loc RecurrenceReferenceIdeal.main_arg6) = m ((c.tc : Thread RecurrenceIdeal.nD RecurrenceIdeal.τ).loc RecurrenceIdeal.main_arg6)) :
    (RecurrenceReferenceIdeal.Gen.at2 m' c (Proc.devRef .tc RecurrenceReferenceIdeal.main_v24) : Vec Ideal RecurrenceIdeal.S100x128 .f32)
      = RecurrenceIdeal.Gen.out m c := by
  obtain ⟨h0, h1, h2, h3, h4, h5, h6⟩ := h
  funext i
  obtain ⟨t, j, rfl⟩ : ∃ (t : Fin 100) (j : Fin 128), i = ix2 t j := ⟨i 0, i 1, by funext k; fin_cases k <;> rfl⟩
  refine (RecurrenceReferenceIdeal.Gen.result m' c t j).trans (Eq.trans ?_ (RecurrenceIdeal.Gen.result m c t j).symm)
  rw [h0, h1, h2, h3, h4, h5, h6]

theorem recurrence_algebraic : algebraic_RecurrenceIdeal_RecurrenceReferenceIdeal (hRecurrenceIdeal := RecurrenceIdeal.Gen.facts)
    (hRecurrenceReferenceIdeal := RecurrenceReferenceIdeal.Gen.facts) := fun m g m' g' _ hargs =>
  ⟨fun c => RecurrenceIdeal.Gen.out m c, RecurrenceIdeal.Gen.run_out m g,
    (θ_run _ _ _).mono (fun _ h c => ⟨(h c).1.trans (rec_results m m' c (hargs c)), (h c).2⟩) (RecurrenceReferenceIdeal.Gen.run_out m' g')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Encoder
public import proofs.«01_k».proof.Proof.Gen.EncoderIdeal
public import proofs.«01_k».proof.Proof.Gen.EncoderReferenceIdeal
public import proofs.«01_k».proof.Proof.Gen.Fusion.Frame
public import proofs.«01_k».proof.Proof.Gen.FusionIdeal.Value
public import proofs.«01_k».proof.Proof.Gen.FusionReferenceIdeal.Run
public import proofs.«01_k».proof.Proof.Gen.Recurrence
public import proofs.«01_k».proof.Proof.Gen.RecurrenceIdeal
public import proofs.«01_k».proof.Proof.Gen.RecurrenceReferenceIdeal
public import proofs.«01_k».proof.Proof.KernelFrame
public import proofs.«01_k».proof.Proof.IdealFrame
public import proofs.«01_k».proof.Proof.RefKeep
public import proofs.«01_k».proof.Proof.EncFrame
public import proofs.«01_k».proof.Proof.EncIdealFrame
public import proofs.«01_k».proof.Proof.EncRefKeep
public import proofs.«01_k».proof.Proof.EncAlg
public import proofs.«01_k».proof.Proof.FusAlg
public import proofs.«01_k».proof.Proof.RecFrame
public import proofs.«01_k».proof.Proof.RecRefKeep
public import proofs.«01_k».proof.Proof.RecAlg
public import Idealize.ShloMosaic.Adequacy
public import Idealize.ShloMosaic.Init
public import Idealize.ShloMosaic.Lib.Quiescent

@[expose] public section

noncomputable section

namespace Cert.Proof

open Idealize.ShloMosaic Idealize.SL.Sem

/-- The two constants the idealization names: the mask is minus infinity, the slope a tenth. -/
theorem preserves : preserves_Kernel_KernelIdeal :=
  ⟨IdealRules.named_const.statement Cert.KernelIdeal.κ "mask" .f32 0xF149F2CA#32 ⊥ rfl,
    IdealRules.named_const.statement Cert.KernelIdeal.κ "tenth" .f32 0x3DCCCCCD#32 ((10⁻¹ : ℝ) : EReal) rfl⟩

/-- The whole reference has no semaphore. -/
theorem reference_no_sem : ∀ _ : SemLoc Cert.ReferenceIdeal.sig, False := by decide

/-- The encoder's reference has no semaphore. -/
theorem encoder_reference_no_sem : ∀ _ : SemLoc Cert.EncoderReferenceIdeal.sig, False := by decide

/-- Nor has the recurrence's. -/
theorem recurrence_reference_no_sem : ∀ _ : SemLoc Cert.RecurrenceReferenceIdeal.sig, False := by decide

theorem claim : Cert.Claim :=
  ⟨Cert.Kernel.Gen.facts, Cert.KernelIdeal.Gen.facts, Cert.ReferenceIdeal.Gen.facts, Cert.Encoder.Gen.facts, Cert.EncoderIdeal.Gen.facts,
    Cert.EncoderReferenceIdeal.Gen.facts, Cert.Fusion.Gen.facts, Cert.FusionIdeal.Gen.facts, Cert.FusionReferenceIdeal.Gen.facts,
    Cert.Recurrence.Gen.facts, Cert.RecurrenceIdeal.Gen.facts, Cert.RecurrenceReferenceIdeal.Gen.facts,
    fun m ρ _ => Cert.Kernel.Gen.frame m ρ,
    fun m ρ _ => Cert.KernelIdeal.Gen.frame m ρ,
    fun m ρ _ => (θ_run _ _ _).mono (fun _ h => ⟨h, funext fun g => (reference_no_sem g.2).elim⟩) (Cert.ReferenceIdeal.Gen.frame m ρ),
    fun m ρ _ => Cert.Encoder.Gen.frame m ρ,
    fun m ρ _ => Cert.EncoderIdeal.Gen.frame m ρ,
    fun m ρ _ => (θ_run _ _ _).mono (fun _ h => ⟨h, funext fun g => (encoder_reference_no_sem g.2).elim⟩) (Cert.EncoderReferenceIdeal.Gen.frame m ρ),
    fun m ρ _ => Cert.Fusion.Gen.frame m ρ,
    fun m ρ _ => Cert.FusionIdeal.Gen.frame m ρ,
    fun m ρ _ => (θ_run _ _ _).mono (fun r h => ⟨fun c => (h c).2.2, sem_eq_zero_of_no_sems (by decide) r.2⟩)
      (Cert.FusionReferenceIdeal.Value.run (F := Ideal) m ρ),
    fun m ρ _ => Cert.Recurrence.Gen.frame m ρ,
    fun m ρ _ => Cert.RecurrenceIdeal.Gen.frame m ρ,
    fun m ρ _ => (θ_run _ _ _).mono (fun _ h => ⟨h, funext fun g => (recurrence_reference_no_sem g.2).elim⟩) (Cert.RecurrenceReferenceIdeal.Gen.frame m ρ),
    preserves, trivial, encoder_algebraic, trivial, fusion_algebraic, trivial, recurrence_algebraic⟩

end Cert.Proof

end
